-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel5_Kernel5Ideal : Prop :=
  IdealRules.named_const.Statement Cert.Kernel5Ideal.κ "gelu_ck" .f32 0x3D122279#32 ((80338380498831 / 2251799813685248 : ℝ) : EReal)
  ∧ IdealRules.named_const.Statement Cert.Kernel5Ideal.κ "gelu_3ck" .f32 0x3DDB33B6#32 ((241015141496493 / 2251799813685248 : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_6) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8208x3600 : Shape := ⟨2, ![8208, 3600]⟩
abbrev S8208x512 : Shape := ⟨2, ![8208, 512]⟩
abbrev S_ : Shape := ⟨0, ![]⟩

class Facts : Prop where
  bcast_S_S8208x3600 : S_.BroadcastsInDim S8208x3600 (![] : Fin 0 → Fin S8208x3600.rank)
  bcast_S_S8208x512 : S_.BroadcastsInDim S8208x512 (![] : Fin 0 → Fin S8208x512.rank)

variable [Facts]

def fn {F : FTy → Type} [FloatOps F] (main_arg0 : FVec F S8208x3600 .f32) (main_arg1 : FVec F S8208x512 .f32) : IVec S8208x3600 1 × IVec S8208x512 1 :=
  let main_v0 : FVec F S8208x3600 .f32 := Host.absf main_arg0
  let main_cst : FVec F S_ .f32 := constant S_ .f32 0x7F800000#32
  let main_v1 : FVec F S8208x3600 .f32 := broadcastInDim S8208x3600 ![] bcast_S_S8208x3600 main_cst
  let main_v2 : IVec S8208x3600 1 := cmpf .olt main_v0 main_v1
  let main_v3 : FVec F S8208x512 .f32 := Host.absf main_arg1
  let main_cst_0 : FVec F S_ .f32 := constant S_ .f32 0x7F800000#32
  let main_v4 : FVec F S8208x512 .f32 := broadcastInDim S8208x512 ![] bcast_S_S8208x512 main_cst_0
  let main_v5 : IVec S8208x512 1 := cmpf .olt main_v3 main_v4
  (main_v2, main_v5)
-- ==== Pre_finite5.lean ====
abbrev S8208x5632 : Shape := ⟨2, ![8208, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8208x1024 : Shape := ⟨2, ![8208, 1024]⟩
abbrev S_ : Shape := ⟨0, ![]⟩

class Facts : Prop where
  bcast_S_S8208x5632 : S_.BroadcastsInDim S8208x5632 (![] : Fin 0 → Fin S8208x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S8208x1024 : S_.BroadcastsInDim S8208x1024 (![] : Fin 0 → Fin S8208x1024.rank)

variable [Facts]

def fn {F : FTy → Type} [FloatOps F] (main_arg0 : FVec F S8208x5632 .f32) (main_arg1 : FVec F S1024x5632 .f32) (main_arg2 : FVec F S3x5632 .f32) (main_arg3 : FVec F S5632 .f32) (main_arg4 : FVec F S2816x1024 .f32) (main_arg5 : FVec F S8208x1024 .f32) : IVec S8208x5632 1 × IVec S3x5632 1 × IVec S5632 1 × IVec S2816x1024 1 × IVec S8208x1024 1 :=
  let main_v0 : FVec F S8208x5632 .f32 := Host.absf main_arg0
  let main_cst : FVec F S_ .f32 := constant S_ .f32 0x7F800000#32
  let main_v1 : FVec F S8208x5632 .f32 := broadcastInDim S8208x5632 ![] bcast_S_S8208x5632 main_cst
  let main_v2 : IVec S8208x5632 1 := cmpf .olt main_v0 main_v1
  let main_v3 : FVec F S3x5632 .f32 := Host.absf main_arg2
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg3
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8208x1024 .f32 := Host.absf main_arg5
  let main_cst_3 : FVec F S_ .f32 := constant S_ .f32 0x7F800000#32
  let main_v13 : FVec F S8208x1024 .f32 := broadcastInDim S8208x1024 ![] bcast_S_S8208x1024 main_cst_3
  let main_v14 : IVec S8208x1024 1 := cmpf .olt main_v12 main_v13
  (main_v2, main_v5, main_v8, main_v11, main_v14)
-- ==== Kernel.lean ====
abbrev S8208x3600 : Shape := ⟨2, ![8208, 3600]⟩
abbrev S8208x512 : Shape := ⟨2, ![8208, 512]⟩
abbrev S_ : Shape := ⟨0, ![]⟩
abbrev S8320x3600 : Shape := ⟨2, ![8320, 3600]⟩
abbrev S8320x240 : Shape := ⟨2, ![8320, 240]⟩
abbrev S8320x2048 : Shape := ⟨2, ![8320, 2048]⟩
abbrev S8320x512 : Shape := ⟨2, ![8320, 512]⟩
abbrev S8320x1024 : Shape := ⟨2, ![8320, 1024]⟩
abbrev S8320x16 : Shape := ⟨2, ![8320, 16]⟩
abbrev S8320x3840 : Shape := ⟨2, ![8320, 3840]⟩
abbrev S8320 : Shape := ⟨1, ![8320]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x8x128 : Shape := ⟨3, ![4, 8, 128]⟩
abbrev S4x65x128x128 : Shape := ⟨4, ![4, 65, 128, 128]⟩
abbrev S640x512 : Shape := ⟨2, ![640, 512]⟩
abbrev S640x128 : Shape := ⟨2, ![640, 128]⟩
abbrev S4x5x128x128 : Shape := ⟨4, ![4, 5, 128, 128]⟩
abbrev S1x1x128x128 : Shape := ⟨4, ![1, 1, 128, 128]⟩
abbrev S1x8x128 : Shape := ⟨3, ![1, 8, 128]⟩
abbrev S8x128 : Shape := ⟨2, ![8, 128]⟩
abbrev S8320x1536 : Shape := ⟨2, ![8320, 1536]⟩
abbrev S640x1536 : Shape := ⟨2, ![640, 1536]⟩

abbrev nBuf : Space → Nat
  | .hbm => 102
  | .vmem => 40
  | .smem => 0
  | _ => 0

abbrev bufTy : (tb : Table) → Fin (tcTables nBuf tb) → BufTy
  | .hbm, ⟨0, _⟩ => ⟨S8208x3600, .f32⟩
  | .hbm, ⟨1, _⟩ => ⟨S8208x512, .f32⟩
  | .hbm, ⟨2, _⟩ => ⟨S_, .i32⟩
  | .hbm, ⟨3, _⟩ => ⟨S_, .f32⟩
  | .hbm, ⟨4, _⟩ => ⟨S8320x3600, .f32⟩
  | .hbm, ⟨5, _⟩ => ⟨S_, .f32⟩
  | .hbm, ⟨6, _⟩ => ⟨S8320x240, .f32⟩
  | .hbm, ⟨7, _⟩ => ⟨S8320x2048, .f32⟩
  | .hbm, ⟨8, _⟩ => ⟨S8320x512, .f32⟩
  | .hbm, ⟨9, _⟩ => ⟨S8320x1024, .f32⟩
  | .hbm, ⟨10, _⟩ => ⟨S8320x16, .f32⟩
  | .hbm, ⟨11, _⟩ => ⟨S8320x3840, .f32⟩
  | .hbm, ⟨12, _⟩ => ⟨S_, .i32⟩
  | .hbm, ⟨13, _⟩ => ⟨S_, .f32⟩
  | .hbm, ⟨14, _⟩ => ⟨S8320x512, .f32⟩
  | .hbm, ⟨15, _⟩ => ⟨S8320, .f32⟩
  | .hbm, ⟨16, _⟩ => ⟨S_, .f32⟩
  | .hbm, ⟨17, _⟩ => ⟨S8320, .f32⟩
  | .hbm, ⟨18, _⟩ => ⟨S8320, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S8320x1, .f32⟩
  | .hbm, ⟨28, _⟩ => ⟨S1x64, .f32⟩
  | .hbm, ⟨29, _⟩ => ⟨S8320x64, .f32⟩
  | .hbm, ⟨30, _⟩ => ⟨S8320x64, .f32⟩
  | .hbm, ⟨31, _⟩ => ⟨S8320x64, .f32⟩
  | .hbm, ⟨32, _⟩ => ⟨S8320x64, .f32⟩
  | .hbm, ⟨33, _⟩ => ⟨S8320x64, .f32⟩
  | .hbm, ⟨34, _⟩ => ⟨S8320x128, .f32⟩
  | .hbm, ⟨35, _⟩ => ⟨S8320x64, .f32⟩
  | .hbm, ⟨36, _⟩ => ⟨S8320x128, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S128, .f32⟩
  | .hbm, ⟨49, _⟩ => ⟨S128x1, .f32⟩
  | .hbm, ⟨50, _⟩ => ⟨S1x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S_, .f32⟩
  | .hbm, ⟨55, _⟩ => ⟨S128x128, .f32⟩
  | .hbm, ⟨56, _⟩ => ⟨S128x128, .i1⟩
  | .hbm, ⟨57, _⟩ => ⟨S4x1x1, .f32⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S4x128x128, .f32⟩
  | .hbm, ⟨63, _⟩ => ⟨S4x128x128, .f32⟩
  | .hbm, ⟨64, _⟩ => ⟨S4x128x128, .f32⟩
  | .hbm, ⟨65, _⟩ => ⟨S4x128x128, .f32⟩
  | .hbm, ⟨66, _⟩ => ⟨S_, .f32⟩
  | .hbm, ⟨67, _⟩ => ⟨S_, .f32⟩
  | .hbm, ⟨68, _⟩ => ⟨S4x128x128, .i1⟩
  | .hbm, ⟨69, _⟩ => ⟨S4x128x128, .f32⟩
  | .hbm, ⟨70, _⟩ => ⟨S4x128x128, .f32⟩
  | .hbm, ⟨71, _⟩ => ⟨S4x1, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S4x128, .f32⟩
  | .hbm, ⟨77, _⟩ => ⟨S4x128, .f32⟩
  | .hbm, ⟨78, _⟩ => ⟨S4x128, .f32⟩
  | .hbm, ⟨79, _⟩ => ⟨S4x128, .f32⟩
  | .hbm, ⟨80, _⟩ => ⟨S4x1, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S4x128, .f32⟩
  | .hbm, ⟨86, _⟩ => ⟨S4x128, .f32⟩
  | .hbm, ⟨87, _⟩ => ⟨S4x128, .f32⟩
  | .hbm, ⟨88, _⟩ => ⟨S4x128, .f32⟩
  | .hbm, ⟨89, _⟩ => ⟨S_, .f32⟩
  | .hbm, ⟨90, _⟩ => ⟨S4, .f32⟩
  | .hbm, ⟨91, _⟩ => ⟨S4, .f32⟩
  | .hbm, ⟨92, _⟩ => ⟨S4, .f32⟩
  | .hbm, ⟨93, _⟩ => ⟨S4x128x1, .f32⟩
  | .hbm, ⟨94, _⟩ => ⟨S4x128x128, .f32⟩
  | .hbm, ⟨95, _⟩ => ⟨S4x128x1, .f32⟩
  | .hbm, ⟨96, _⟩ => ⟨S4x128x128, .f32⟩
  | .hbm, ⟨97, _⟩ => ⟨S4x1x1, .f32⟩
  | .hbm, ⟨98, _⟩ => ⟨S4x8x128, .f32⟩
  | .hbm, ⟨99, _⟩ => ⟨S8320x512, .f32⟩
  | .hbm, ⟨100, _⟩ => ⟨S4x65x128x128, .f32⟩
  | .hbm, ⟨101, _⟩ => ⟨S8320x1536, .bf16⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x512, .f32⟩
  | .local _ .vmem, ⟨5, _⟩ => ⟨S640x512, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x8x128, .f32⟩
  | .local _ .vmem, ⟨14, _⟩ => ⟨S640x512, .f32⟩
  | .local _ .vmem, ⟨15, _⟩ => ⟨S640x512, .f32⟩
  | .local _ .vmem, ⟨16, _⟩ => ⟨S4x5x128x128, .f32⟩
  | .local _ .vmem, ⟨17, _⟩ => ⟨S4x5x128x128, .f32⟩
  | .local _ .vmem, ⟨18, _⟩ => ⟨S4x128x128, .f32⟩
  | .local _ .vmem, ⟨19, _⟩ => ⟨S640x512, .f32⟩
  | .local _ .vmem, ⟨20, _⟩ => ⟨S640x512, .f32⟩
  | .local _ .vmem, ⟨21, _⟩ => ⟨S640x512, .f32⟩
  | .local _ .vmem, ⟨22, _⟩ => ⟨S640x512, .f32⟩
  | .local _ .vmem, ⟨23, _⟩ => ⟨S640x512, .f32⟩
  | .local _ .vmem, ⟨24, _⟩ => ⟨S640x512, .f32⟩
  | .local _ .vmem, ⟨25, _⟩ => ⟨S640x512, .f32⟩
  | .local _ .vmem, ⟨26, _⟩ => ⟨S640x512, .f32⟩
  | .local _ .vmem, ⟨27, _⟩ => ⟨S4x5x128x128, .f32⟩
  | .local _ .vmem, ⟨28, _⟩ => ⟨S4x5x128x128, .f32⟩
  | .local _ .vmem, ⟨29, _⟩ => ⟨S640x128, .f32⟩
  | .local _ .vmem, ⟨30, _⟩ => ⟨S640x128, .f32⟩
  | .local _ .vmem, ⟨31, _⟩ => ⟨S640x128, .f32⟩
  | .local _ .vmem, ⟨32, _⟩ => ⟨S640x128, .f32⟩
  | .local _ .vmem, ⟨33, _⟩ => ⟨S4x128x128, .f32⟩
  | .local _ .vmem, ⟨34, _⟩ => ⟨S4x128x128, .f32⟩
  | .local _ .vmem, ⟨35, _⟩ => ⟨S4x128x128, .f32⟩
  | .local _ .vmem, ⟨36, _⟩ => ⟨S4x8x128, .f32⟩
  | .local _ .vmem, ⟨37, _⟩ => ⟨S640x1536, .bf16⟩
  | .local _ .vmem, ⟨38, _⟩ => ⟨S640x1536, .bf16⟩
  | .local _ .vmem, ⟨39, _⟩ => ⟨S4x128x128, .f32⟩
  | _, _ => ⟨S8208x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77_0 : Ref sig .tc := ⟨.hbm, 99, rfl⟩
abbrev main_v77_1 : Ref sig .tc := ⟨.hbm, 100, rfl⟩
abbrev main_v78 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_1 : BitVec 32 := 0#32
  let c5_i32 : BitVec 32 := 5#32
  let v3 : BitVec 32 := Scalar.addi c0_i32_1 c5_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c128_i32 : BitVec 32 := 128#32
  let v4 : BitVec 32 := Scalar.muli arg13 c128_i32
  v4
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v4 : BitVec 32 := Scalar.muli arg13 c128_i32
  let v5 : BitVec 32 := v4
  let v6 : Index := Scalar.indexCast v5
  let c0 : Index := 0#32
  ![v6.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v4 : BitVec 32 := Scalar.muli arg13 c128_i32
  let v5 : BitVec 32 := v4
  let v12 : Index := Scalar.indexCast v5
  let c0_4 : Index := 0#32
  ![v12.toNat, 0]
def k0_off3 (k0_t1 : Fin k0_t1_loop.trips) : Fin 4 → Nat :=
  let c0_11 : Index := 0#32
  let c0_i32_1 : BitVec 32 := 0#32
  let c1_i32 : BitVec 32 := 1#32
  let arg13 : BitVec 32 := Scf.iv c0_i32_1 c1_i32 k0_t1
  let v36 : Index := Scalar.indexCast arg13
  let c0_12 : Index := 0#32
  let c0_13 : Index := 0#32
  ![0, v36.toNat, 0, 0]
def k0_off4 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v4 : BitVec 32 := Scalar.muli arg13 c128_i32
  let v5 : BitVec 32 := v4
  let v68 : Index := Scalar.indexCast v5
  let c128 : Index := 128#32
  ![v68.toNat, 128]
def k0_off5 (k0_t1 : Fin k0_t1_loop.trips) : Fin 4 → Nat :=
  let c1_41 : Index := 1#32
  let c0_i32_1 : BitVec 32 := 0#32
  let c1_i32 : BitVec 32 := 1#32
  let arg13 : BitVec 32 := Scf.iv c0_i32_1 c1_i32 k0_t1
  let v92 : Index := Scalar.indexCast arg13
  let c0_42 : Index := 0#32
  let c0_43 : Index := 0#32
  ![1, v92.toNat, 0, 0]
def k0_off6 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v4 : BitVec 32 := Scalar.muli arg13 c128_i32
  let v5 : BitVec 32 := v4
  let v124 : Index := Scalar.indexCast v5
  let c256 : Index := 256#32
  ![v124.toNat, 256]
def k0_off7 (k0_t1 : Fin k0_t1_loop.trips) : Fin 4 → Nat :=
  let c2_71 : Index := 2#32
  let c0_i32_1 : BitVec 32 := 0#32
  let c1_i32 : BitVec 32 := 1#32
  let arg13 : BitVec 32 := Scf.iv c0_i32_1 c1_i32 k0_t1
  let v148 : Index := Scalar.indexCast arg13
  let c0_72 : Index := 0#32
  let c0_73 : Index := 0#32
  ![2, v148.toNat, 0, 0]
def k0_off8 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v4 : BitVec 32 := Scalar.muli arg13 c128_i32
  let v5 : BitVec 32 := v4
  let v180 : Index := Scalar.indexCast v5
  let c384 : Index := 384#32
  ![v180.toNat, 384]
def k0_off9 (k0_t1 : Fin k0_t1_loop.trips) : Fin 4 → Nat :=
  let c3_101 : Index := 3#32
  let c0_i32_1 : BitVec 32 := 0#32
  let c1_i32 : BitVec 32 := 1#32
  let arg13 : BitVec 32 := Scf.iv c0_i32_1 c1_i32 k0_t1
  let v204 : Index := Scalar.indexCast arg13
  let c0_102 : Index := 0#32
  let c0_103 : Index := 0#32
  ![3, v204.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x5x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![13], ![false]⟩

@[reducible] def k1_t1_loop : Scf.Loop 32 :=
  let c0_i32_1 : BitVec 32 := 0#32
  let c5_i32 : BitVec 32 := 5#32
  let v3 : BitVec 32 := Scalar.addi c0_i32_1 c5_i32
  let c1_i32 : BitVec 32 := 1#32
  ⟨c0_i32_1, v3, c1_i32⟩
def k1_mult1 (k1_t1 : Fin k1_t1_loop.trips) : BitVec 32 :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  v5
def k1_off1 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v7 : Index := Scalar.indexCast v6
  let c0 : Index := 0#32
  ![v7.toNat, 0]
def k1_off2 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v19 : Index := Scalar.indexCast v6
  let c0_13 : Index := 0#32
  ![v19.toNat, 0]
def k1_off3 (k1_t1 : Fin k1_t1_loop.trips) : Fin 4 → Nat :=
  let c0_18 : Index := 0#32
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let v49 : Index := Scalar.indexCast v4
  let c0_19 : Index := 0#32
  let c0_20 : Index := 0#32
  ![0, v49.toNat, 0, 0]
def k1_off4 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v87 : Index := Scalar.indexCast v6
  let c0_40 : Index := 0#32
  ![v87.toNat, 0]
def k1_off5 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v96 : Index := Scalar.indexCast v6
  let c512 : Index := 512#32
  ![v96.toNat, 512]
def k1_off6 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v99 : Index := Scalar.indexCast v6
  let c1024 : Index := 1024#32
  ![v99.toNat, 1024]
def k1_off7 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v107 : Index := Scalar.indexCast v6
  let c128 : Index := 128#32
  ![v107.toNat, 128]
def k1_off8 (k1_t1 : Fin k1_t1_loop.trips) : Fin 4 → Nat :=
  let c1_57 : Index := 1#32
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let v137 : Index := Scalar.indexCast v4
  let c0_58 : Index := 0#32
  let c0_59 : Index := 0#32
  ![1, v137.toNat, 0, 0]
def k1_off9 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v175 : Index := Scalar.indexCast v6
  let c128_79 : Index := 128#32
  ![v175.toNat, 128]
def k1_off10 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v184 : Index := Scalar.indexCast v6
  let c640 : Index := 640#32
  ![v184.toNat, 640]
def k1_off11 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v187 : Index := Scalar.indexCast v6
  let c1152 : Index := 1152#32
  ![v187.toNat, 1152]
def k1_off12 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v195 : Index := Scalar.indexCast v6
  let c256 : Index := 256#32
  ![v195.toNat, 256]
def k1_off13 (k1_t1 : Fin k1_t1_loop.trips) : Fin 4 → Nat :=
  let c2_96 : Index := 2#32
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let v225 : Index := Scalar.indexCast v4
  let c0_97 : Index := 0#32
  let c0_98 : Index := 0#32
  ![2, v225.toNat, 0, 0]
def k1_off14 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v263 : Index := Scalar.indexCast v6
  let c256_118 : Index := 256#32
  ![v263.toNat, 256]
def k1_off15 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v272 : Index := Scalar.indexCast v6
  let c768 : Index := 768#32
  ![v272.toNat, 768]
def k1_off16 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v275 : Index := Scalar.indexCast v6
  let c1280 : Index := 1280#32
  ![v275.toNat, 1280]
def k1_off17 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v283 : Index := Scalar.indexCast v6
  let c384 : Index := 384#32
  ![v283.toNat, 384]
def k1_off18 (k1_t1 : Fin k1_t1_loop.trips) : Fin 4 → Nat :=
  let c3_135 : Index := 3#32
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let v313 : Index := Scalar.indexCast v4
  let c0_136 : Index := 0#32
  let c0_137 : Index := 0#32
  ![3, v313.toNat, 0, 0]
def k1_off19 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v351 : Index := Scalar.indexCast v6
  let c384_157 : Index := 384#32
  ![v351.toNat, 384]
def k1_off20 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v360 : Index := Scalar.indexCast v6
  let c896 : Index := 896#32
  ![v360.toNat, 896]
def k1_off21 (k1_t1 : Fin k1_t1_loop.trips) : Fin 2 → Nat :=
  let c4_i32 : BitVec 32 := 4#32
  let c0_i32_1 : BitVec 32 := 0#32
  let c1_i32 : BitVec 32 := 1#32
  let arg14 : BitVec 32 := Scf.iv c0_i32_1 c1_i32 k1_t1
  let v4 : BitVec 32 := Scalar.subi c4_i32 arg14
  let c128_i32 : BitVec 32 := 128#32
  let v5 : BitVec 32 := Scalar.muli v4 c128_i32
  let v6 : BitVec 32 := v5
  let v363 : Index := Scalar.indexCast v6
  let c1408 : Index := 1408#32
  ![v363.toNat, 1408]
def cc1_transform_0 (i : grid1.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c12_i32 : BitVec 32 := 12#32
  let v0 : BitVec 32 := Scalar.subi c12_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c12_i32 : BitVec 32 := 12#32
  let v0 : BitVec 32 := Scalar.subi c12_i32 arg0
  let c2_i32 : BitVec 32 := 2#32
  let c0_i32 : BitVec 32 := 0#32
  ![v0.toNat, c2_i32.toNat]

def cc1_transform_3 (i : grid1.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc1_transform_4 (i : grid1.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_5 (i : grid1.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

abbrev stage1_0 : Fin 2 → Memref sig .tc .vmem S640x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S640x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x5x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S640x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S640x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S640x1536 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S8208x3600 : Shape := ⟨2, ![8208, 3600]⟩
abbrev S8208x512 : Shape := ⟨2, ![8208, 512]⟩
abbrev S8208 : Shape := ⟨1, ![8208]⟩
abbrev S8208x4x128 : Shape := ⟨3, ![8208, 4, 128]⟩
abbrev S64 : Shape := ⟨1, ![64]⟩
abbrev S_ : Shape := ⟨0, ![]⟩
abbrev S8208x1 : Shape := ⟨2, ![8208, 1]⟩
abbrev S1x64 : Shape := ⟨2, ![1, 64]⟩
abbrev S8208x64 : Shape := ⟨2, ![8208, 64]⟩
abbrev S8208x1x64 : Shape := ⟨3, ![8208, 1, 64]⟩
abbrev S8208x4x64 : Shape := ⟨3, ![8208, 4, 64]⟩
abbrev S4 : Shape := ⟨1, ![4]⟩
abbrev S1x8208 : Shape := ⟨2, ![1, 8208]⟩
abbrev S8208x8208 : Shape := ⟨2, ![8208, 8208]⟩
abbrev S4x1x1 : Shape := ⟨3, ![4, 1, 1]⟩
abbrev S1x8208x8208 : Shape := ⟨3, ![1, 8208, 8208]⟩
abbrev S4x8208x8208 : Shape := ⟨3, ![4, 8208, 8208]⟩
abbrev S4x128x8208 : Shape := ⟨3, ![4, 128, 8208]⟩
abbrev S8320x512 : Shape := ⟨2, ![8320, 512]⟩
abbrev S4x8208x128 : Shape := ⟨3, ![4, 8208, 128]⟩
abbrev S8208x1536 : Shape := ⟨2, ![8208, 1536]⟩
abbrev S8320x1536 : Shape := ⟨2, ![8320, 1536]⟩

abbrev nBuf : Space → Nat
  | .hbm => 178
  | .vmem => 0
  | .smem => 0
  | _ => 0

abbrev hbmTy0_0 (i : Nat) : BufTy := match i % 128 with
  | 0 => ⟨S8208x3600, .f32⟩
  | 1 => ⟨S8208x512, .f32⟩
  | 2 => ⟨S8208, .f32⟩
  | 3 => ⟨S8208x512, .f32⟩
  | 4 => ⟨S8208x4x128, .f32⟩
  | 5 => ⟨S8208x512, .f32⟩
  | 6 => ⟨S8208x4x128, .f32⟩
  | 7 => ⟨S8208x512, .f32⟩
  | 8 => ⟨S8208x4x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S8208x1, .f32⟩
  | 18 => ⟨S1x64, .f32⟩
  | 19 => ⟨S8208x64, .f32⟩
  | 20 => ⟨S8208x64, .f32⟩
  | 21 => ⟨S8208x64, .f32⟩
  | 22 => ⟨S8208x64, .f32⟩
  | 23 => ⟨S8208x1x64, .f32⟩
  | 24 => ⟨S8208x64, .f32⟩
  | 25 => ⟨S8208x1x64, .f32⟩
  | 26 => ⟨S8208x4x64, .f32⟩
  | 27 => ⟨S8208x4x64, .f32⟩
  | 28 => ⟨S8208x4x64, .f32⟩
  | 29 => ⟨S8208x4x64, .f32⟩
  | 30 => ⟨S8208x4x64, .f32⟩
  | 31 => ⟨S8208x4x64, .f32⟩
  | 32 => ⟨S8208x4x64, .f32⟩
  | 33 => ⟨S8208x4x64, .f32⟩
  | 34 => ⟨S8208x4x64, .f32⟩
  | 35 => ⟨S8208x4x64, .f32⟩
  | 36 => ⟨S8208x4x64, .f32⟩
  | 37 => ⟨S8208x4x64, .f32⟩
  | 38 => ⟨S8208x4x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S8208x1, .f32⟩
  | 48 => ⟨S1x64, .f32⟩
  | 49 => ⟨S8208x64, .f32⟩
  | 50 => ⟨S8208x64, .f32⟩
  | 51 => ⟨S8208x64, .f32⟩
  | 52 => ⟨S8208x64, .f32⟩
  | 53 => ⟨S8208x1x64, .f32⟩
  | 54 => ⟨S8208x64, .f32⟩
  | 55 => ⟨S8208x1x64, .f32⟩
  | 56 => ⟨S8208x4x64, .f32⟩
  | 57 => ⟨S8208x4x64, .f32⟩
  | 58 => ⟨S8208x4x64, .f32⟩
  | 59 => ⟨S8208x4x64, .f32⟩
  | 60 => ⟨S8208x4x64, .f32⟩
  | 61 => ⟨S8208x4x64, .f32⟩
  | 62 => ⟨S8208x4x64, .f32⟩
  | 63 => ⟨S8208x4x64, .f32⟩
  | 64 => ⟨S8208x4x64, .f32⟩
  | 65 => ⟨S8208x4x64, .f32⟩
  | 66 => ⟨S8208x4x64, .f32⟩
  | 67 => ⟨S8208x4x64, .f32⟩
  | 68 => ⟨S8208x4x128, .f32⟩
  | 69 => ⟨S_, .f32⟩
  | 70 => ⟨S8208x4x128, .f32⟩
  | 71 => ⟨S8208x4x128, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S8208x1, .f32⟩
  | 84 => ⟨S1x8208, .f32⟩
  | 85 => ⟨S8208x8208, .f32⟩
  | 86 => ⟨S8208x8208, .f32⟩
  | 87 => ⟨S8208x8208, .f32⟩
  | 88 => ⟨S_, .f32⟩
  | 89 => ⟨S8208x8208, .f32⟩
  | 90 => ⟨S8208x8208, .i1⟩
  | 91 => ⟨S4x1x1, .f32⟩
  | 92 => ⟨S_, .f32⟩
  | 93 => ⟨S8208x8208, .f32⟩
  | 94 => ⟨S8208x8208, .f32⟩
  | 95 => ⟨S1x8208x8208, .f32⟩
  | 96 => ⟨S4x8208x8208, .f32⟩
  | 97 => ⟨S4x8208x8208, .f32⟩
  | 98 => ⟨S4x8208x8208, .f32⟩
  | 99 => ⟨S4x8208x8208, .f32⟩
  | 100 => ⟨S_, .f32⟩
  | 101 => ⟨S_, .f32⟩
  | 102 => ⟨S4x8208x8208, .i1⟩
  | 103 => ⟨S4x8208x8208, .f32⟩
  | 104 => ⟨S4x8208x8208, .f32⟩
  | 105 => ⟨S4x8208x8208, .f32⟩
  | 106 => ⟨S4x8208x8208, .f32⟩
  | 107 => ⟨S4x128x8208, .f32⟩
  | 108 => ⟨S8208x4x128, .f32⟩
  | 109 => ⟨S8208x512, .f32⟩
  | 110 => ⟨S_, .i32⟩
  | 111 => ⟨S_, .f32⟩
  | 112 => ⟨S8320x512, .f32⟩
  | 113 => ⟨S8208x4x128, .f32⟩
  | 114 => ⟨S4x128x8208, .f32⟩
  | 115 => ⟨S4x8208x8208, .f32⟩
  | 116 => ⟨S4x128x8208, .f32⟩
  | 117 => ⟨S8208x4x128, .f32⟩
  | 118 => ⟨S4x8208x8208, .f32⟩
  | 119 => ⟨S4x8208x128, .f32⟩
  | 120 => ⟨S8208x4x128, .f32⟩
  | 121 => ⟨S4x8208x128, .f32⟩
  | 122 => ⟨S8208x4x128, .f32⟩
  | 123 => ⟨S_, .f32⟩
  | 124 => ⟨S8208x4x128, .f32⟩
  | 125 => ⟨S8208x4x128, .f32⟩
  | 126 => ⟨S8208x4x64, .f32⟩
  | 127 => ⟨S8208x4x64, .f32⟩
  | _ => ⟨S8208x3600, .f32⟩

abbrev hbmTy0_1 (i : Nat) : BufTy := match i % 128 with
  | 0 => ⟨S8208x4x64, .f32⟩
  | 1 => ⟨S8208x4x64, .f32⟩
  | 2 => ⟨S8208x4x64, .f32⟩
  | 3 => ⟨S8208x4x64, .f32⟩
  | 4 => ⟨S8208x4x64, .f32⟩
  | 5 => ⟨S8208x4x64, .f32⟩
  | 6 => ⟨S8208x4x64, .f32⟩
  | 7 => ⟨S8208x4x64, .f32⟩
  | 8 => ⟨S8208x4x64, .f32⟩
  | 9 => ⟨S8208x4x64, .f32⟩
  | 10 => ⟨S8208x4x64, .f32⟩
  | 11 => ⟨S_, .f32⟩
  | 12 => ⟨S8208x4x128, .f32⟩
  | 13 => ⟨S_, .f32⟩
  | 14 => ⟨S8208x4x128, .f32⟩
  | 15 => ⟨S8208x4x128, .f32⟩
  | 16 => ⟨S8208x4x64, .f32⟩
  | 17 => ⟨S8208x4x64, .f32⟩
  | 18 => ⟨S8208x4x64, .f32⟩
  | 19 => ⟨S8208x4x64, .f32⟩
  | 20 => ⟨S8208x4x64, .f32⟩
  | 21 => ⟨S8208x4x64, .f32⟩
  | 22 => ⟨S8208x4x64, .f32⟩
  | 23 => ⟨S8208x4x64, .f32⟩
  | 24 => ⟨S8208x4x64, .f32⟩
  | 25 => ⟨S8208x4x64, .f32⟩
  | 26 => ⟨S8208x4x64, .f32⟩
  | 27 => ⟨S8208x4x64, .f32⟩
  | 28 => ⟨S8208x4x64, .f32⟩
  | 29 => ⟨S_, .f32⟩
  | 30 => ⟨S8208x4x128, .f32⟩
  | 31 => ⟨S_, .f32⟩
  | 32 => ⟨S8208x4x128, .f32⟩
  | 33 => ⟨S8208x4x128, .f32⟩
  | 34 => ⟨S8208x512, .f32⟩
  | 35 => ⟨S_, .f32⟩
  | 36 => ⟨S8208x3600, .f32⟩
  | 37 => ⟨S8208x512, .f32⟩
  | 38 => ⟨S_, .f32⟩
  | 39 => ⟨S8208x3600, .f32⟩
  | 40 => ⟨S8208x3600, .f32⟩
  | 41 => ⟨S8208x512, .f32⟩
  | 42 => ⟨S_, .f32⟩
  | 43 => ⟨S8208x3600, .f32⟩
  | 44 => ⟨S8208x3600, .f32⟩
  | 45 => ⟨S8208x1536, .f32⟩
  | 46 => ⟨S_, .i32⟩
  | 47 => ⟨S_, .f32⟩
  | 48 => ⟨S8320x1536, .f32⟩
  | 49 => ⟨S8320x1536, .bf16⟩
  | _ => ⟨S8208x3600, .f32⟩

abbrev hbmTy (i : Nat) : BufTy := match i / 128 with
  | 0 => hbmTy0_0 i
  | 1 => hbmTy0_1 i
  | _ => ⟨S8208x3600, .f32⟩

abbrev bufTy : (tb : Table) → Fin (tcTables nBuf tb) → BufTy
  | .hbm, ⟨i, _⟩ => hbmTy i
  | _, _ => ⟨S8208x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst_3 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_4 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_cst_6 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_7 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_8 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_9 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_c : Ref sig .tc := ⟨.hbm, 110, rfl⟩
abbrev main_call1_v0 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_10 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_11 : Ref sig .tc := ⟨.hbm, 139, rfl⟩
abbrev main_v120 : Ref sig .tc := ⟨.hbm, 140, rfl⟩
abbrev main_cst_12 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_13 : Ref sig .tc := ⟨.hbm, 157, rfl⟩
abbrev main_v136 : Ref sig .tc := ⟨.hbm, 158, rfl⟩
abbrev main_cst_14 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_15 : Ref sig .tc := ⟨.hbm, 163, rfl⟩
abbrev main_v140 : Ref sig .tc := ⟨.hbm, 164, rfl⟩
abbrev main_v141 : Ref sig .tc := ⟨.hbm, 165, rfl⟩
abbrev main_cst_16 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_cst_17 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_c_18 : Ref sig .tc := ⟨.hbm, 174, rfl⟩
abbrev main_call2_v0 : Ref sig .tc := ⟨.hbm, 175, rfl⟩
abbrev main_v148 : Ref sig .tc := ⟨.hbm, 176, rfl⟩
abbrev main_v149 : Ref sig .tc := ⟨.hbm, 177, rfl⟩

abbrev nD : Nat := 1
abbrev τ : Topo := Topo.v7x

variable {F : FTy → Type} [FloatOps F]
-- ==== Kernel2.lean ====
abbrev S8208x2816 : Shape := ⟨2, ![8208, 2816]⟩
abbrev S8208x1024 : Shape := ⟨2, ![8208, 1024]⟩
abbrev S_ : Shape := ⟨0, ![]⟩
abbrev S8320x2816 : Shape := ⟨2, ![8320, 2816]⟩
abbrev S8320x1024 : Shape := ⟨2, ![8320, 1024]⟩
abbrev S2816x1024 : Shape := ⟨2, ![2816, 1024]⟩
abbrev S1664x2816 : Shape := ⟨2, ![1664, 2816]⟩
abbrev S1664x512 : Shape := ⟨2, ![1664, 512]⟩
abbrev S2816x512 : Shape := ⟨2, ![2816, 512]⟩

abbrev nBuf : Space → Nat
  | .hbm => 11
  | .vmem => 6
  | .smem => 0
  | _ => 0

abbrev bufTy : (tb : Table) → Fin (tcTables nBuf tb) → BufTy
  | .hbm, ⟨0, _⟩ => ⟨S8208x2816, .f32⟩
  | .hbm, ⟨1, _⟩ => ⟨S8208x1024, .f32⟩
  | .hbm, ⟨2, _⟩ => ⟨S_, .i32⟩
  | .hbm, ⟨3, _⟩ => ⟨S_, .f32⟩
  | .hbm, ⟨4, _⟩ => ⟨S8320x2816, .f32⟩
  | .hbm, ⟨5, _⟩ => ⟨S8320x2816, .bf16⟩
  | .hbm, ⟨6, _⟩ => ⟨S_, .i32⟩
  | .hbm, ⟨7, _⟩ => ⟨S_, .f32⟩
  | .hbm, ⟨8, _⟩ => ⟨S8320x1024, .f32⟩
  | .hbm, ⟨9, _⟩ => ⟨S8320x1024, .bf16⟩
  | .hbm, ⟨10, _⟩ => ⟨S2816x1024, .f32⟩
  | .local _ .vmem, ⟨0, _⟩ => ⟨S1664x2816, .bf16⟩
  | .local _ .vmem, ⟨1, _⟩ => ⟨S1664x2816, .bf16⟩
  | .local _ .vmem, ⟨2, _⟩ => ⟨S1664x512, .bf16⟩
  | .local _ .vmem, ⟨3, _⟩ => ⟨S1664x512, .bf16⟩
  | .local _ .vmem, ⟨4, _⟩ => ⟨S2816x512, .f32⟩
  | .local _ .vmem, ⟨5, _⟩ => ⟨S2816x512, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8208x2816 : Shape := ⟨2, ![8208, 2816]⟩
abbrev S8208x1024 : Shape := ⟨2, ![8208, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S8208x1024, .f32⟩
  | .hbm, ⟨2, _⟩ => ⟨S_, .f32⟩
  | .hbm, ⟨3, _⟩ => ⟨S2816x1024, .f32⟩
  | .hbm, ⟨4, _⟩ => ⟨S8208x1024, .f32⟩
  | .hbm, ⟨5, _⟩ => ⟨S1024x2816, .f32⟩
  | .hbm, ⟨6, _⟩ => ⟨S2816x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8208x3600 : Shape := ⟨2, ![8208, 3600]⟩
abbrev S1024x3600 : Shape := ⟨2, ![1024, 3600]⟩
abbrev S_ : Shape := ⟨0, ![]⟩
abbrev S8320x3600 : Shape := ⟨2, ![8320, 3600]⟩
abbrev S8320x240 : Shape := ⟨2, ![8320, 240]⟩
abbrev S8320x2048 : Shape := ⟨2, ![8320, 2048]⟩
abbrev S8320x512 : Shape := ⟨2, ![8320, 512]⟩
abbrev S8320x1024 : Shape := ⟨2, ![8320, 1024]⟩
abbrev S8320x16 : Shape := ⟨2, ![8320, 16]⟩
abbrev S8320x3840 : Shape := ⟨2, ![8320, 3840]⟩
abbrev S1024x240 : Shape := ⟨2, ![1024, 240]⟩
abbrev S1024x2048 : Shape := ⟨2, ![1024, 2048]⟩
abbrev S1024x512 : Shape := ⟨2, ![1024, 512]⟩
abbrev S1024x1024 : Shape := ⟨2, ![1024, 1024]⟩
abbrev S1024x16 : Shape := ⟨2, ![1024, 16]⟩
abbrev S1024x3840 : Shape := ⟨2, ![1024, 3840]⟩
abbrev S8320x1536 : Shape := ⟨2, ![8320, 1536]⟩
abbrev S8320x1280 : Shape := ⟨2, ![8320, 1280]⟩
abbrev S1024x1536 : Shape := ⟨2, ![1024, 1536]⟩
abbrev S1024x1280 : Shape := ⟨2, ![1024, 1280]⟩
abbrev S640x1536 : Shape := ⟨2, ![640, 1536]⟩
abbrev S640x1024 : Shape := ⟨2, ![640, 1024]⟩
abbrev S640x1280 : Shape := ⟨2, ![640, 1280]⟩

abbrev nBuf : Space → Nat
  | .hbm => 28
  | .vmem => 11
  | .smem => 0
  | _ => 0

abbrev bufTy : (tb : Table) → Fin (tcTables nBuf tb) → BufTy
  | .hbm, ⟨0, _⟩ => ⟨S8208x3600, .f32⟩
  | .hbm, ⟨1, _⟩ => ⟨S1024x3600, .f32⟩
  | .hbm, ⟨2, _⟩ => ⟨S_, .i32⟩
  | .hbm, ⟨3, _⟩ => ⟨S_, .f32⟩
  | .hbm, ⟨4, _⟩ => ⟨S8320x3600, .f32⟩
  | .hbm, ⟨5, _⟩ => ⟨S_, .f32⟩
  | .hbm, ⟨6, _⟩ => ⟨S8320x240, .f32⟩
  | .hbm, ⟨7, _⟩ => ⟨S8320x2048, .f32⟩
  | .hbm, ⟨8, _⟩ => ⟨S8320x512, .f32⟩
  | .hbm, ⟨9, _⟩ => ⟨S8320x1024, .f32⟩
  | .hbm, ⟨10, _⟩ => ⟨S8320x16, .f32⟩
  | .hbm, ⟨11, _⟩ => ⟨S8320x3840, .f32⟩
  | .hbm, ⟨12, _⟩ => ⟨S8320x3840, .bf16⟩
  | .hbm, ⟨13, _⟩ => ⟨S_, .f32⟩
  | .hbm, ⟨14, _⟩ => ⟨S1024x240, .f32⟩
  | .hbm, ⟨15, _⟩ => ⟨S1024x2048, .f32⟩
  | .hbm, ⟨16, _⟩ => ⟨S1024x512, .f32⟩
  | .hbm, ⟨17, _⟩ => ⟨S1024x1024, .f32⟩
  | .hbm, ⟨18, _⟩ => ⟨S1024x16, .f32⟩
  | .hbm, ⟨19, _⟩ => ⟨S1024x3840, .f32⟩
  | .hbm, ⟨20, _⟩ => ⟨S1024x3840, .bf16⟩
  | .hbm, ⟨21, _⟩ => ⟨S8320x1536, .bf16⟩
  | .hbm, ⟨22, _⟩ => ⟨S8320x1024, .bf16⟩
  | .hbm, ⟨23, _⟩ => ⟨S8320x1280, .bf16⟩
  | .hbm, ⟨24, _⟩ => ⟨S1024x1536, .bf16⟩
  | .hbm, ⟨25, _⟩ => ⟨S1024x1024, .bf16⟩
  | .hbm, ⟨26, _⟩ => ⟨S1024x1280, .bf16⟩
  | .hbm, ⟨27, _⟩ => ⟨S8320x1024, .f32⟩
  | .local _ .vmem, ⟨0, _⟩ => ⟨S640x1536, .bf16⟩
  | .local _ .vmem, ⟨1, _⟩ => ⟨S640x1536, .bf16⟩
  | .local _ .vmem, ⟨2, _⟩ => ⟨S640x1024, .bf16⟩
  | .local _ .vmem, ⟨3, _⟩ => ⟨S640x1024, .bf16⟩
  | .local _ .vmem, ⟨4, _⟩ => ⟨S640x1280, .bf16⟩
  | .local _ .vmem, ⟨5, _⟩ => ⟨S640x1280, .bf16⟩
  | .local _ .vmem, ⟨6, _⟩ => ⟨S1024x1536, .bf16⟩
  | .local _ .vmem, ⟨7, _⟩ => ⟨S1024x1024, .bf16⟩
  | .local _ .vmem, ⟨8, _⟩ => ⟨S1024x1280, .bf16⟩
  | .local _ .vmem, ⟨9, _⟩ => ⟨S640x1024, .f32⟩
  | .local _ .vmem, ⟨10, _⟩ => ⟨S640x1024, .f32⟩
  | _, _ => ⟨S8208x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8208x3600 : Shape := ⟨2, ![8208, 3600]⟩
abbrev S1024x3600 : Shape := ⟨2, ![1024, 3600]⟩
abbrev S_ : Shape := ⟨0, ![]⟩
abbrev S8208x1024 : Shape := ⟨2, ![8208, 1024]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8208x3600, .f32⟩
  | .hbm, ⟨1, _⟩ => ⟨S1024x3600, .f32⟩
  | .hbm, ⟨2, _⟩ => ⟨S_, .f32⟩
  | .hbm, ⟨3, _⟩ => ⟨S8208x1024, .f32⟩
  | .hbm, ⟨4, _⟩ => ⟨S8208x3600, .f32⟩
  | .hbm, ⟨5, _⟩ => ⟨S8208x1024, .f32⟩
  | .hbm, ⟨6, _⟩ => ⟨S_, .i32⟩
  | .hbm, ⟨7, _⟩ => ⟨S_, .f32⟩
  | .hbm, ⟨8, _⟩ => ⟨S8320x1024, .f32⟩
  | _, _ => ⟨S8208x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel6.lean ====
abbrev S8208x1024 : Shape := ⟨2, ![8208, 1024]⟩
abbrev S8208x1536 : Shape := ⟨2, ![8208, 1536]⟩
abbrev S_ : Shape := ⟨0, ![]⟩
abbrev S8320x1024 : Shape := ⟨2, ![8320, 1024]⟩
abbrev S8320x1536 : Shape := ⟨2, ![8320, 1536]⟩
abbrev S1024x1536 : Shape := ⟨2, ![1024, 1536]⟩
abbrev S1664x1024 : Shape := ⟨2, ![1664, 1024]⟩
abbrev S1664x1536 : Shape := ⟨2, ![1664, 1536]⟩

abbrev nBuf : Space → Nat
  | .hbm => 11
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S8208x1536, .f32⟩
  | .hbm, ⟨2, _⟩ => ⟨S_, .i32⟩
  | .hbm, ⟨3, _⟩ => ⟨S_, .f32⟩
  | .hbm, ⟨4, _⟩ => ⟨S8320x1024, .f32⟩
  | .hbm, ⟨5, _⟩ => ⟨S8320x1024, .bf16⟩
  | .hbm, ⟨6, _⟩ => ⟨S_, .i32⟩
  | .hbm, ⟨7, _⟩ => ⟨S_, .f32⟩
  | .hbm, ⟨8, _⟩ => ⟨S8320x1536, .f32⟩
  | .hbm, ⟨9, _⟩ => ⟨S8320x1536, .bf16⟩
  | .hbm, ⟨10, _⟩ => ⟨S1024x1536, .f32⟩
  | .local _ .vmem, ⟨0, _⟩ => ⟨S1664x1024, .bf16⟩
  | .local _ .vmem, ⟨1, _⟩ => ⟨S1664x1024, .bf16⟩
  | .local _ .vmem, ⟨2, _⟩ => ⟨S1664x1536, .bf16⟩
  | .local _ .vmem, ⟨3, _⟩ => ⟨S1664x1536, .bf16⟩
  | .local _ .vmem, ⟨4, _⟩ => ⟨S1024x1536, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8208x1024 : Shape := ⟨2, ![8208, 1024]⟩
abbrev S8208x1536 : Shape := ⟨2, ![8208, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1536, .f32⟩
  | .hbm, ⟨2, _⟩ => ⟨S_, .f32⟩
  | .hbm, ⟨3, _⟩ => ⟨S1024x1536, .f32⟩
  | .hbm, ⟨4, _⟩ => ⟨S8208x1536, .f32⟩
  | .hbm, ⟨5, _⟩ => ⟨S1536x1024, .f32⟩
  | .hbm, ⟨6, _⟩ => ⟨S1024x1536, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8208x1024 : Shape := ⟨2, ![8208, 1024]⟩
abbrev S_ : Shape := ⟨0, ![]⟩
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 11
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .i32⟩
  | .hbm, ⟨3, _⟩ => ⟨S_, .f32⟩
  | .hbm, ⟨4, _⟩ => ⟨S8320x1024, .f32⟩
  | .hbm, ⟨5, _⟩ => ⟨S8320x1024, .bf16⟩
  | .hbm, ⟨6, _⟩ => ⟨S_, .i32⟩
  | .hbm, ⟨7, _⟩ => ⟨S_, .f32⟩
  | .hbm, ⟨8, _⟩ => ⟨S8320x1024, .f32⟩
  | .hbm, ⟨9, _⟩ => ⟨S8320x1024, .bf16⟩
  | .hbm, ⟨10, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8208x1024 : Shape := ⟨2, ![8208, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .f32⟩
  | .hbm, ⟨3, _⟩ => ⟨S1024x1024, .f32⟩
  | .hbm, ⟨4, _⟩ => ⟨S8208x1024, .f32⟩
  | .hbm, ⟨5, _⟩ => ⟨S1024x1024, .f32⟩
  | .hbm, ⟨6, _⟩ => ⟨S1024x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8208x1024 : Shape := ⟨2, ![8208, 1024]⟩
abbrev S8208x1280 : Shape := ⟨2, ![8208, 1280]⟩
abbrev S_ : Shape := ⟨0, ![]⟩
abbrev S8320x1024 : Shape := ⟨2, ![8320, 1024]⟩
abbrev S8320x1280 : Shape := ⟨2, ![8320, 1280]⟩
abbrev S1024x1280 : Shape := ⟨2, ![1024, 1280]⟩
abbrev S1664x1024 : Shape := ⟨2, ![1664, 1024]⟩
abbrev S1664x1280 : Shape := ⟨2, ![1664, 1280]⟩

abbrev nBuf : Space → Nat
  | .hbm => 11
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S8208x1280, .f32⟩
  | .hbm, ⟨2, _⟩ => ⟨S_, .i32⟩
  | .hbm, ⟨3, _⟩ => ⟨S_, .f32⟩
  | .hbm, ⟨4, _⟩ => ⟨S8320x1024, .f32⟩
  | .hbm, ⟨5, _⟩ => ⟨S8320x1024, .bf16⟩
  | .hbm, ⟨6, _⟩ => ⟨S_, .i32⟩
  | .hbm, ⟨7, _⟩ => ⟨S_, .f32⟩
  | .hbm, ⟨8, _⟩ => ⟨S8320x1280, .f32⟩
  | .hbm, ⟨9, _⟩ => ⟨S8320x1280, .bf16⟩
  | .hbm, ⟨10, _⟩ => ⟨S1024x1280, .f32⟩
  | .local _ .vmem, ⟨0, _⟩ => ⟨S1664x1024, .bf16⟩
  | .local _ .vmem, ⟨1, _⟩ => ⟨S1664x1024, .bf16⟩
  | .local _ .vmem, ⟨2, _⟩ => ⟨S1664x1280, .bf16⟩
  | .local _ .vmem, ⟨3, _⟩ => ⟨S1664x1280, .bf16⟩
  | .local _ .vmem, ⟨4, _⟩ => ⟨S1024x1280, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8208x1024 : Shape := ⟨2, ![8208, 1024]⟩
abbrev S8208x1280 : Shape := ⟨2, ![8208, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1280, .f32⟩
  | .hbm, ⟨2, _⟩ => ⟨S_, .f32⟩
  | .hbm, ⟨3, _⟩ => ⟨S1024x1280, .f32⟩
  | .hbm, ⟨4, _⟩ => ⟨S8208x1280, .f32⟩
  | .hbm, ⟨5, _⟩ => ⟨S1280x1024, .f32⟩
  | .hbm, ⟨6, _⟩ => ⟨S1024x1280, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8208x1024 : Shape := ⟨2, ![8208, 1024]⟩
abbrev S1024x3600 : Shape := ⟨2, ![1024, 3600]⟩
abbrev S_ : Shape := ⟨0, ![]⟩
abbrev S8320x1024 : Shape := ⟨2, ![8320, 1024]⟩
abbrev S1024x240 : Shape := ⟨2, ![1024, 240]⟩
abbrev S1024x2048 : Shape := ⟨2, ![1024, 2048]⟩
abbrev S1024x512 : Shape := ⟨2, ![1024, 512]⟩
abbrev S1024x1024 : Shape := ⟨2, ![1024, 1024]⟩
abbrev S1024x16 : Shape := ⟨2, ![1024, 16]⟩
abbrev S1024x3840 : Shape := ⟨2, ![1024, 3840]⟩
abbrev S8320x3840 : Shape := ⟨2, ![8320, 3840]⟩
abbrev S640x1024 : Shape := ⟨2, ![640, 1024]⟩
abbrev S640x3840 : Shape := ⟨2, ![640, 3840]⟩

abbrev nBuf : Space → Nat
  | .hbm => 15
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S1024x3600, .f32⟩
  | .hbm, ⟨2, _⟩ => ⟨S_, .i32⟩
  | .hbm, ⟨3, _⟩ => ⟨S_, .f32⟩
  | .hbm, ⟨4, _⟩ => ⟨S8320x1024, .f32⟩
  | .hbm, ⟨5, _⟩ => ⟨S8320x1024, .bf16⟩
  | .hbm, ⟨6, _⟩ => ⟨S_, .f32⟩
  | .hbm, ⟨7, _⟩ => ⟨S1024x240, .f32⟩
  | .hbm, ⟨8, _⟩ => ⟨S1024x2048, .f32⟩
  | .hbm, ⟨9, _⟩ => ⟨S1024x512, .f32⟩
  | .hbm, ⟨10, _⟩ => ⟨S1024x1024, .f32⟩
  | .hbm, ⟨11, _⟩ => ⟨S1024x16, .f32⟩
  | .hbm, ⟨12, _⟩ => ⟨S1024x3840, .f32⟩
  | .hbm, ⟨13, _⟩ => ⟨S1024x3840, .bf16⟩
  | .hbm, ⟨14, _⟩ => ⟨S8320x3840, .f32⟩
  | .local _ .vmem, ⟨0, _⟩ => ⟨S640x1024, .bf16⟩
  | .local _ .vmem, ⟨1, _⟩ => ⟨S640x1024, .bf16⟩
  | .local _ .vmem, ⟨2, _⟩ => ⟨S1024x3840, .bf16⟩
  | .local _ .vmem, ⟨3, _⟩ => ⟨S640x3840, .f32⟩
  | .local _ .vmem, ⟨4, _⟩ => ⟨S640x3840, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x3840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8208x1024 : Shape := ⟨2, ![8208, 1024]⟩
abbrev S1024x3600 : Shape := ⟨2, ![1024, 3600]⟩
abbrev S8208x3600 : Shape := ⟨2, ![8208, 3600]⟩
abbrev S_ : Shape := ⟨0, ![]⟩
abbrev S8320x3840 : Shape := ⟨2, ![8320, 3840]⟩
abbrev S8320x2048 : Shape := ⟨2, ![8320, 2048]⟩
abbrev S8320x512 : Shape := ⟨2, ![8320, 512]⟩
abbrev S8320x1024 : Shape := ⟨2, ![8320, 1024]⟩
abbrev S8320x256 : Shape := ⟨2, ![8320, 256]⟩

abbrev nBuf : Space → Nat
  | .hbm => 11
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x3600, .f32⟩
  | .hbm, ⟨2, _⟩ => ⟨S8208x3600, .f32⟩
  | .hbm, ⟨3, _⟩ => ⟨S_, .i32⟩
  | .hbm, ⟨4, _⟩ => ⟨S_, .f32⟩
  | .hbm, ⟨5, _⟩ => ⟨S8320x3840, .f32⟩
  | .hbm, ⟨6, _⟩ => ⟨S8320x2048, .f32⟩
  | .hbm, ⟨7, _⟩ => ⟨S8320x512, .f32⟩
  | .hbm, ⟨8, _⟩ => ⟨S8320x1024, .f32⟩
  | .hbm, ⟨9, _⟩ => ⟨S8320x256, .f32⟩
  | .hbm, ⟨10, _⟩ => ⟨S8320x3840, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8208x1024 : Shape := ⟨2, ![8208, 1024]⟩
abbrev S8208x2816 : Shape := ⟨2, ![8208, 2816]⟩
abbrev S_ : Shape := ⟨0, ![]⟩
abbrev S8320x1024 : Shape := ⟨2, ![8320, 1024]⟩
abbrev S8320x2816 : Shape := ⟨2, ![8320, 2816]⟩
abbrev S4x1024x1408 : Shape := ⟨3, ![4, 1024, 1408]⟩
abbrev S1664x1024 : Shape := ⟨2, ![1664, 1024]⟩
abbrev S1664x1408 : Shape := ⟨2, ![1664, 1408]⟩
abbrev S1x1024x1408 : Shape := ⟨3, ![1, 1024, 1408]⟩
abbrev S1024x1408 : Shape := ⟨2, ![1024, 1408]⟩

abbrev nBuf : Space → Nat
  | .hbm => 17
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S8208x2816, .f32⟩
  | .hbm, ⟨2, _⟩ => ⟨S8208x2816, .f32⟩
  | .hbm, ⟨3, _⟩ => ⟨S_, .i32⟩
  | .hbm, ⟨4, _⟩ => ⟨S_, .f32⟩
  | .hbm, ⟨5, _⟩ => ⟨S8320x1024, .f32⟩
  | .hbm, ⟨6, _⟩ => ⟨S8320x1024, .bf16⟩
  | .hbm, ⟨7, _⟩ => ⟨S_, .i32⟩
  | .hbm, ⟨8, _⟩ => ⟨S_, .f32⟩
  | .hbm, ⟨9, _⟩ => ⟨S8320x2816, .f32⟩
  | .hbm, ⟨10, _⟩ => ⟨S8320x2816, .bf16⟩
  | .hbm, ⟨11, _⟩ => ⟨S4x1024x1408, .f32⟩
  | .hbm, ⟨12, _⟩ => ⟨S_, .i32⟩
  | .hbm, ⟨13, _⟩ => ⟨S_, .f32⟩
  | .hbm, ⟨14, _⟩ => ⟨S8320x2816, .f32⟩
  | .hbm, ⟨15, _⟩ => ⟨S8320x2816, .bf16⟩
  | .hbm, ⟨16, _⟩ => ⟨S4x1024x1408, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1664x1024, .bf16⟩
  | .local _ .vmem, ⟨7, _⟩ => ⟨S1664x1024, .bf16⟩
  | .local _ .vmem, ⟨8, _⟩ => ⟨S1664x1408, .bf16⟩
  | .local _ .vmem, ⟨9, _⟩ => ⟨S1664x1408, .bf16⟩
  | .local _ .vmem, ⟨10, _⟩ => ⟨S1x1024x1408, .f32⟩
  | .local _ .vmem, ⟨11, _⟩ => ⟨S1x1024x1408, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S1664x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1664x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== Reference3Ideal.lean ====
abbrev S8208x1024 : Shape := ⟨2, ![8208, 1024]⟩
abbrev S8208x2816 : Shape := ⟨2, ![8208, 2816]⟩
abbrev S_ : Shape := ⟨0, ![]⟩
abbrev S1024x5632 : Shape := ⟨2, ![1024, 5632]⟩
abbrev S8208x5632 : Shape := ⟨2, ![8208, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x2816, .f32⟩
  | .hbm, ⟨2, _⟩ => ⟨S8208x2816, .f32⟩
  | .hbm, ⟨3, _⟩ => ⟨S_, .f32⟩
  | .hbm, ⟨4, _⟩ => ⟨S1024x5632, .f32⟩
  | .hbm, ⟨5, _⟩ => ⟨S8208x5632, .f32⟩
  | .hbm, ⟨6, _⟩ => ⟨S8208x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8208x5632 : Shape := ⟨2, ![8208, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8208x1024 : Shape := ⟨2, ![8208, 1024]⟩
abbrev S_ : Shape := ⟨0, ![]⟩
abbrev S8320x5632 : Shape := ⟨2, ![8320, 5632]⟩
abbrev S8320x1024 : Shape := ⟨2, ![8320, 1024]⟩
abbrev S1x5632 : Shape := ⟨2, ![1, 5632]⟩
abbrev S8320x2816 : Shape := ⟨2, ![8320, 2816]⟩
abbrev S3x2816 : Shape := ⟨2, ![3, 2816]⟩
abbrev S1x2816 : Shape := ⟨2, ![1, 2816]⟩
abbrev S1024x2816 : Shape := ⟨2, ![1024, 2816]⟩
abbrev S320x2816 : Shape := ⟨2, ![320, 2816]⟩
abbrev S8x2816 : Shape := ⟨2, ![8, 2816]⟩
abbrev S320x1024 : Shape := ⟨2, ![320, 1024]⟩
abbrev S16x1024 : Shape := ⟨2, ![16, 1024]⟩
abbrev S336x1024 : Shape := ⟨2, ![336, 1024]⟩
abbrev S328x1 : Shape := ⟨2, ![328, 1]⟩
abbrev S256x1024 : Shape := ⟨2, ![256, 1024]⟩
abbrev S336x256 : Shape := ⟨2, ![336, 256]⟩
abbrev S328x256 : Shape := ⟨2, ![328, 256]⟩
abbrev S3x256 : Shape := ⟨2, ![3, 256]⟩
abbrev S8x256 : Shape := ⟨2, ![8, 256]⟩
abbrev S320x256 : Shape := ⟨2, ![320, 256]⟩
abbrev S1x256 : Shape := ⟨2, ![1, 256]⟩
abbrev S256 : Shape := ⟨1, ![256]⟩
abbrev S1024x256 : Shape := ⟨2, ![1024, 256]⟩

abbrev nBuf : Space → Nat
  | .hbm => 31
  | .vmem => 33
  | .smem => 0
  | _ => 0

abbrev bufTy : (tb : Table) → Fin (tcTables nBuf tb) → BufTy
  | .hbm, ⟨0, _⟩ => ⟨S8208x5632, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8208x1024, .f32⟩
  | .hbm, ⟨6, _⟩ => ⟨S_, .i32⟩
  | .hbm, ⟨7, _⟩ => ⟨S_, .f32⟩
  | .hbm, ⟨8, _⟩ => ⟨S8320x5632, .f32⟩
  | .hbm, ⟨9, _⟩ => ⟨S_, .i32⟩
  | .hbm, ⟨10, _⟩ => ⟨S_, .f32⟩
  | .hbm, ⟨11, _⟩ => ⟨S8320x1024, .f32⟩
  | .hbm, ⟨12, _⟩ => ⟨S8320x1024, .bf16⟩
  | .hbm, ⟨13, _⟩ => ⟨S1024x5632, .bf16⟩
  | .hbm, ⟨14, _⟩ => ⟨S1x5632, .f32⟩
  | .hbm, ⟨15, _⟩ => ⟨S8320x2816, .f32⟩
  | .hbm, ⟨16, _⟩ => ⟨S8320x2816, .f32⟩
  | .hbm, ⟨17, _⟩ => ⟨S2816x1024, .bf16⟩
  | .hbm, ⟨18, _⟩ => ⟨S3x2816, .f32⟩
  | .hbm, ⟨19, _⟩ => ⟨S3x2816, .f32⟩
  | .hbm, ⟨20, _⟩ => ⟨S1x2816, .f32⟩
  | .hbm, ⟨21, _⟩ => ⟨S1x2816, .f32⟩
  | .hbm, ⟨22, _⟩ => ⟨S1024x2816, .bf16⟩
  | .hbm, ⟨23, _⟩ => ⟨S1024x2816, .bf16⟩
  | .hbm, ⟨24, _⟩ => ⟨S8320x2816, .bf16⟩
  | .hbm, ⟨25, _⟩ => ⟨S8320x2816, .bf16⟩
  | .hbm, ⟨26, _⟩ => ⟨S3x2816, .f32⟩
  | .hbm, ⟨27, _⟩ => ⟨S3x2816, .f32⟩
  | .hbm, ⟨28, _⟩ => ⟨S1x2816, .f32⟩
  | .hbm, ⟨29, _⟩ => ⟨S1x2816, .f32⟩
  | .hbm, ⟨30, _⟩ => ⟨S8320x1024, .f32⟩
  | .local _ .vmem, ⟨0, _⟩ => ⟨S320x2816, .f32⟩
  | .local _ .vmem, ⟨1, _⟩ => ⟨S320x2816, .f32⟩
  | .local _ .vmem, ⟨2, _⟩ => ⟨S8x2816, .f32⟩
  | .local _ .vmem, ⟨3, _⟩ => ⟨S8x2816, .f32⟩
  | .local _ .vmem, ⟨4, _⟩ => ⟨S8x2816, .f32⟩
  | .local _ .vmem, ⟨5, _⟩ => ⟨S8x2816, .f32⟩
  | .local _ .vmem, ⟨6, _⟩ => ⟨S320x2816, .f32⟩
  | .local _ .vmem, ⟨7, _⟩ => ⟨S320x2816, .f32⟩
  | .local _ .vmem, ⟨8, _⟩ => ⟨S8x2816, .f32⟩
  | .local _ .vmem, ⟨9, _⟩ => ⟨S8x2816, .f32⟩
  | .local _ .vmem, ⟨10, _⟩ => ⟨S8x2816, .f32⟩
  | .local _ .vmem, ⟨11, _⟩ => ⟨S8x2816, .f32⟩
  | .local _ .vmem, ⟨12, _⟩ => ⟨S320x1024, .bf16⟩
  | .local _ .vmem, ⟨13, _⟩ => ⟨S320x1024, .bf16⟩
  | .local _ .vmem, ⟨14, _⟩ => ⟨S16x1024, .bf16⟩
  | .local _ .vmem, ⟨15, _⟩ => ⟨S16x1024, .bf16⟩
  | .local _ .vmem, ⟨16, _⟩ => ⟨S2816x1024, .bf16⟩
  | .local _ .vmem, ⟨17, _⟩ => ⟨S3x2816, .f32⟩
  | .local _ .vmem, ⟨18, _⟩ => ⟨S3x2816, .f32⟩
  | .local _ .vmem, ⟨19, _⟩ => ⟨S1x2816, .f32⟩
  | .local _ .vmem, ⟨20, _⟩ => ⟨S1x2816, .f32⟩
  | .local _ .vmem, ⟨21, _⟩ => ⟨S1024x2816, .bf16⟩
  | .local _ .vmem, ⟨22, _⟩ => ⟨S1024x2816, .bf16⟩
  | .local _ .vmem, ⟨23, _⟩ => ⟨S320x2816, .bf16⟩
  | .local _ .vmem, ⟨24, _⟩ => ⟨S320x2816, .bf16⟩
  | .local _ .vmem, ⟨25, _⟩ => ⟨S320x2816, .bf16⟩
  | .local _ .vmem, ⟨26, _⟩ => ⟨S320x2816, .bf16⟩
  | .local _ .vmem, ⟨27, _⟩ => ⟨S3x2816, .f32⟩
  | .local _ .vmem, ⟨28, _⟩ => ⟨S3x2816, .f32⟩
  | .local _ .vmem, ⟨29, _⟩ => ⟨S1x2816, .f32⟩
  | .local _ .vmem, ⟨30, _⟩ => ⟨S1x2816, .f32⟩
  | .local _ .vmem, ⟨31, _⟩ => ⟨S320x1024, .f32⟩
  | .local _ .vmem, ⟨32, _⟩ => ⟨S320x1024, .f32⟩
  | _, _ => ⟨S8208x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c20_i32 : BitVec 32 := 20#32
  let v1 : BitVec 32 := Scalar.muli v0 c20_i32
  let c519_i32 : BitVec 32 := 519#32
  let v2 : BitVec 32 := Scalar.minsi v1 c519_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S320x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S320x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S3x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S320x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel5Ideal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== Reference5Ideal.lean ====
abbrev S8208x5632 : Shape := ⟨2, ![8208, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8208x1024 : Shape := ⟨2, ![8208, 1024]⟩
abbrev S_ : Shape := ⟨0, ![]⟩
abbrev S8320x5632 : Shape := ⟨2, ![8320, 5632]⟩
abbrev S1x5632 : Shape := ⟨2, ![1, 5632]⟩
abbrev S8208x2816 : Shape := ⟨2, ![8208, 2816]⟩
abbrev S8320x1024 : Shape := ⟨2, ![8320, 1024]⟩
abbrev S8320x2816 : Shape := ⟨2, ![8320, 2816]⟩

abbrev nBuf : Space → Nat
  | .hbm => 108
  | .vmem => 0
  | .smem => 0
  | _ => 0

abbrev bufTy : (tb : Table) → Fin (tcTables nBuf tb) → BufTy
  | .hbm, ⟨0, _⟩ => ⟨S8208x5632, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8208x1024, .f32⟩
  | .hbm, ⟨6, _⟩ => ⟨S_, .i32⟩
  | .hbm, ⟨7, _⟩ => ⟨S_, .f32⟩
  | .hbm, ⟨8, _⟩ => ⟨S8320x5632, .f32⟩
  | .hbm, ⟨9, _⟩ => ⟨S8208x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8208x5632, .f32⟩
  | .hbm, ⟨14, _⟩ => ⟨S8208x5632, .f32⟩
  | .hbm, ⟨15, _⟩ => ⟨S_, .f32⟩
  | .hbm, ⟨16, _⟩ => ⟨S8208x5632, .f32⟩
  | .hbm, ⟨17, _⟩ => ⟨S8208x5632, .f32⟩
  | .hbm, ⟨18, _⟩ => ⟨S8208x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8208x5632, .f32⟩
  | .hbm, ⟨23, _⟩ => ⟨S8208x5632, .f32⟩
  | .hbm, ⟨24, _⟩ => ⟨S8208x5632, .f32⟩
  | .hbm, ⟨25, _⟩ => ⟨S8208x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8208x5632, .f32⟩
  | .hbm, ⟨30, _⟩ => ⟨S8208x5632, .f32⟩
  | .hbm, ⟨31, _⟩ => ⟨S8208x5632, .f32⟩
  | .hbm, ⟨32, _⟩ => ⟨S1x5632, .f32⟩
  | .hbm, ⟨33, _⟩ => ⟨S8208x5632, .f32⟩
  | .hbm, ⟨34, _⟩ => ⟨S8208x5632, .f32⟩
  | .hbm, ⟨35, _⟩ => ⟨S8208x2816, .f32⟩
  | .hbm, ⟨36, _⟩ => ⟨S8208x2816, .f32⟩
  | .hbm, ⟨37, _⟩ => ⟨S8208x2816, .f32⟩
  | .hbm, ⟨38, _⟩ => ⟨S8208x2816, .f32⟩
  | .hbm, ⟨39, _⟩ => ⟨S8208x2816, .f32⟩
  | .hbm, ⟨40, _⟩ => ⟨S_, .f32⟩
  | .hbm, ⟨41, _⟩ => ⟨S8208x2816, .f32⟩
  | .hbm, ⟨42, _⟩ => ⟨S8208x2816, .f32⟩
  | .hbm, ⟨43, _⟩ => ⟨S_, .f32⟩
  | .hbm, ⟨44, _⟩ => ⟨S8208x2816, .f32⟩
  | .hbm, ⟨45, _⟩ => ⟨S8208x2816, .f32⟩
  | .hbm, ⟨46, _⟩ => ⟨S8208x2816, .f32⟩
  | .hbm, ⟨47, _⟩ => ⟨S_, .f32⟩
  | .hbm, ⟨48, _⟩ => ⟨S8208x2816, .f32⟩
  | .hbm, ⟨49, _⟩ => ⟨S8208x2816, .f32⟩
  | .hbm, ⟨50, _⟩ => ⟨S8208x2816, .f32⟩
  | .hbm, ⟨51, _⟩ => ⟨S_, .f32⟩
  | .hbm, ⟨52, _⟩ => ⟨S8208x2816, .f32⟩
  | .hbm, ⟨53, _⟩ => ⟨S8208x2816, .f32⟩
  | .hbm, ⟨54, _⟩ => ⟨S_, .f32⟩
  | .hbm, ⟨55, _⟩ => ⟨S8208x2816, .f32⟩
  | .hbm, ⟨56, _⟩ => ⟨S8208x2816, .f32⟩
  | .hbm, ⟨57, _⟩ => ⟨S8208x2816, .f32⟩
  | .hbm, ⟨58, _⟩ => ⟨S_, .f32⟩
  | .hbm, ⟨59, _⟩ => ⟨S8208x2816, .f32⟩
  | .hbm, ⟨60, _⟩ => ⟨S8208x2816, .f32⟩
  | .hbm, ⟨61, _⟩ => ⟨S_, .f32⟩
  | .hbm, ⟨62, _⟩ => ⟨S8208x2816, .f32⟩
  | .hbm, ⟨63, _⟩ => ⟨S8208x2816, .f32⟩
  | .hbm, ⟨64, _⟩ => ⟨S8208x2816, .f32⟩
  | .hbm, ⟨65, _⟩ => ⟨S8208x2816, .f32⟩
  | .hbm, ⟨66, _⟩ => ⟨S8208x1024, .f32⟩
  | .hbm, ⟨67, _⟩ => ⟨S8208x2816, .f32⟩
  | .hbm, ⟨68, _⟩ => ⟨S8208x2816, .f32⟩
  | .hbm, ⟨69, _⟩ => ⟨S8208x2816, .f32⟩
  | .hbm, ⟨70, _⟩ => ⟨S8208x2816, .f32⟩
  | .hbm, ⟨71, _⟩ => ⟨S8208x2816, .f32⟩
  | .hbm, ⟨72, _⟩ => ⟨S_, .f32⟩
  | .hbm, ⟨73, _⟩ => ⟨S8208x2816, .f32⟩
  | .hbm, ⟨74, _⟩ => ⟨S8208x2816, .f32⟩
  | .hbm, ⟨75, _⟩ => ⟨S8208x2816, .f32⟩
  | .hbm, ⟨76, _⟩ => ⟨S_, .f32⟩
  | .hbm, ⟨77, _⟩ => ⟨S8208x2816, .f32⟩
  | .hbm, ⟨78, _⟩ => ⟨S8208x2816, .f32⟩
  | .hbm, ⟨79, _⟩ => ⟨S8208x2816, .f32⟩
  | .hbm, ⟨80, _⟩ => ⟨S_, .f32⟩
  | .hbm, ⟨81, _⟩ => ⟨S8208x2816, .f32⟩
  | .hbm, ⟨82, _⟩ => ⟨S8208x2816, .f32⟩
  | .hbm, ⟨83, _⟩ => ⟨S8208x2816, .f32⟩
  | .hbm, ⟨84, _⟩ => ⟨S8208x2816, .f32⟩
  | .hbm, ⟨85, _⟩ => ⟨S8208x5632, .f32⟩
  | .hbm, ⟨86, _⟩ => ⟨S8208x5632, .f32⟩
  | .hbm, ⟨87, _⟩ => ⟨S8208x5632, .f32⟩
  | .hbm, ⟨88, _⟩ => ⟨S_, .f32⟩
  | .hbm, ⟨89, _⟩ => ⟨S8320x5632, .f32⟩
  | .hbm, ⟨90, _⟩ => ⟨S8208x5632, .f32⟩
  | .hbm, ⟨91, _⟩ => ⟨S8208x5632, .f32⟩
  | .hbm, ⟨92, _⟩ => ⟨S_, .f32⟩
  | .hbm, ⟨93, _⟩ => ⟨S8320x5632, .f32⟩
  | .hbm, ⟨94, _⟩ => ⟨S8320x5632, .f32⟩
  | .hbm, ⟨95, _⟩ => ⟨S8208x5632, .f32⟩
  | .hbm, ⟨96, _⟩ => ⟨S8208x5632, .f32⟩
  | .hbm, ⟨97, _⟩ => ⟨S_, .f32⟩
  | .hbm, ⟨98, _⟩ => ⟨S8320x5632, .f32⟩
  | .hbm, ⟨99, _⟩ => ⟨S8320x5632, .f32⟩
  | .hbm, ⟨100, _⟩ => ⟨S_, .f32⟩
  | .hbm, ⟨101, _⟩ => ⟨S8320x1024, .f32⟩
  | .hbm, ⟨102, _⟩ => ⟨S8320x5632, .f32⟩
  | .hbm, ⟨103, _⟩ => ⟨S8320x1024, .f32⟩
  | .hbm, ⟨104, _⟩ => ⟨S8320x2816, .f32⟩
  | .hbm, ⟨105, _⟩ => ⟨S8320x2816, .bf16⟩
  | .hbm, ⟨106, _⟩ => ⟨S8320x2816, .f32⟩
  | .hbm, ⟨107, _⟩ => ⟨S8320x2816, .bf16⟩
  | _, _ => ⟨S8208x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Kernel10.lean ====
abbrev S288x128 : Shape := ⟨2, ![288, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S288x128 : Shape := ⟨2, ![288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S_, .f32⟩
  | .hbm, ⟨5, _⟩ => ⟨S288x128, .f32⟩
  | .hbm, ⟨6, _⟩ => ⟨S288x128, .f32⟩
  | .hbm, ⟨7, _⟩ => ⟨S_, .f32⟩
  | .hbm, ⟨8, _⟩ => ⟨S288x128, .f32⟩
  | .hbm, ⟨9, _⟩ => ⟨S288x128, .f32⟩
  | .hbm, ⟨10, _⟩ => ⟨S288x128, .f32⟩
  | .hbm, ⟨11, _⟩ => ⟨S_, .f32⟩
  | .hbm, ⟨12, _⟩ => ⟨S288x128, .f32⟩
  | .hbm, ⟨13, _⟩ => ⟨S288x128, .f32⟩
  | .hbm, ⟨14, _⟩ => ⟨S288x128, .f32⟩
  | .hbm, ⟨15, _⟩ => ⟨S_, .f32⟩
  | .hbm, ⟨16, _⟩ => ⟨S288x128, .f32⟩
  | .hbm, ⟨17, _⟩ => ⟨S288x128, .f32⟩
  | .hbm, ⟨18, _⟩ => ⟨S288x128, .f32⟩
  | .hbm, ⟨19, _⟩ => ⟨S_, .f32⟩
  | .hbm, ⟨20, _⟩ => ⟨S288x128, .f32⟩
  | .hbm, ⟨21, _⟩ => ⟨S288x128, .f32⟩
  | .hbm, ⟨22, _⟩ => ⟨S_, .f32⟩
  | .hbm, ⟨23, _⟩ => ⟨S288x128, .f32⟩
  | .hbm, ⟨24, _⟩ => ⟨S288x128, .f32⟩
  | .hbm, ⟨25, _⟩ => ⟨S288x128, .f32⟩
  | .hbm, ⟨26, _⟩ => ⟨S_, .f32⟩
  | .hbm, ⟨27, _⟩ => ⟨S288x128, .f32⟩
  | .hbm, ⟨28, _⟩ => ⟨S288x128, .f32⟩
  | .hbm, ⟨29, _⟩ => ⟨S288x128, .f32⟩
  | .hbm, ⟨30, _⟩ => ⟨S_, .f32⟩
  | .hbm, ⟨31, _⟩ => ⟨S288x128, .f32⟩
  | .hbm, ⟨32, _⟩ => ⟨S288x128, .f32⟩
  | .hbm, ⟨33, _⟩ => ⟨S288x128, .f32⟩
  | .hbm, ⟨34, _⟩ => ⟨S_, .f32⟩
  | .hbm, ⟨35, _⟩ => ⟨S288x128, .f32⟩
  | .hbm, ⟨36, _⟩ => ⟨S288x128, .f32⟩
  | _, _ => ⟨S288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S8208x1024 : Shape := ⟨2, ![8208, 1024]⟩
abbrev S1024 : Shape := ⟨1, ![1024]⟩
abbrev S_ : Shape := ⟨0, ![]⟩
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 7
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S_, .i32⟩
  | .hbm, ⟨3, _⟩ => ⟨S_, .f32⟩
  | .hbm, ⟨4, _⟩ => ⟨S8320x1024, .f32⟩
  | .hbm, ⟨5, _⟩ => ⟨S1x1024, .f32⟩
  | .hbm, ⟨6, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8208x1024 : Shape := ⟨2, ![8208, 1024]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8320x1024 : Shape := ⟨2, ![8320, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S8208x1024, .f32⟩
  | .hbm, ⟨3, _⟩ => ⟨S_, .f32⟩
  | .hbm, ⟨4, _⟩ => ⟨S8208, .f32⟩
  | .hbm, ⟨5, _⟩ => ⟨S8208x1, .f32⟩
  | .hbm, ⟨6, _⟩ => ⟨S_, .f32⟩
  | .hbm, ⟨7, _⟩ => ⟨S8208x1, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S8208x1, .f32⟩
  | .hbm, ⟨13, _⟩ => ⟨S8208x1024, .f32⟩
  | .hbm, ⟨14, _⟩ => ⟨S8208x1024, .f32⟩
  | .hbm, ⟨15, _⟩ => ⟨S1x1024, .f32⟩
  | .hbm, ⟨16, _⟩ => ⟨S8208x1024, .f32⟩
  | .hbm, ⟨17, _⟩ => ⟨S8208x1024, .f32⟩
  | .hbm, ⟨18, _⟩ => ⟨S_, .i32⟩
  | .hbm, ⟨19, _⟩ => ⟨S_, .f32⟩
  | .hbm, ⟨20, _⟩ => ⟨S8320x1024, .f32⟩
  | .hbm, ⟨21, _⟩ => ⟨S8320x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Blocks.lean ====
/- Blocks of the kernels' arrays and what one head of one chunk computes, as functions of vectors: the
   vocabulary in which the two retention kernels' runs are stated. -/
module

public import proofs.«01_k».proof.Proof.Gen.KernelIdeal.Skeleton
public import Idealize.ShloMosaic.Lib.ValueIdxCore
public import Idealize.ShloMosaic.Lib.WritesUnit
public import Idealize.ShloMosaic.Lib.Pipeline.FrameBody

@[expose] public section

noncomputable section

namespace Cert.Ret

open Idealize.ShloMosaic Idealize.ShloMosaic.ValueIdx Cert.KernelIdeal Cert.KernelIdeal.Gen

section Blocks

variable {α : Type}

theorem row_lt (j : Fin 5) (r : Fin 128) : 128 * j.val + r.val < 640 := by omega
theorem col_lt (h : Fin 4) (r : Fin 128) : 128 * h.val + r.val < 512 := by omega

/-- Chunk `j` of a block's rows, head `h` of its columns. -/
def sub (x : S640x512.Idx → α) (j : Fin 5) (h : Fin 4) : S128x128.Idx → α :=
  fun p => x (ix2 ⟨128 * j.val + (p 0).val, row_lt j (p 0)⟩ ⟨128 * h.val + (p 1).val, col_lt h (p 1)⟩)

/-- Chunk `j` of a table block's rows. -/
def subt (x : S640x128.Idx → α) (j : Fin 5) : S128x128.Idx → α :=
  fun p => x (ix2 ⟨128 * j.val + (p 0).val, row_lt j (p 0)⟩ (p 1))

/-- Head `h` of a table or of a state. -/
def hd (x : S4x128x128.Idx → α) (h : Fin 4) : S1x128x128.Idx → α := fun p => x (ix3 h (p 1) (p 2))

/-- Head `h` of the chunk decays. -/
def hd8 (x : S4x8x128.Idx → α) (h : Fin 4) : S1x8x128.Idx → α := fun p => x (ix3 h (p 1) (p 2))

/-- The state before chunk `j`, head `h`, of a block of saved states. -/
def hst (x : S4x5x128x128.Idx → α) (j : Fin 5) (h : Fin 4) : S1x1x128x128.Idx → α := fun p => x (ix4 h j (p 2) (p 3))

end Blocks

section Reads

variable {Val : EltTy → Type} {e : EltTy}

theorem ld_sub (x : S640x512.Idx → Val e) (off : Fin 2 → Nat) (inb : ∀ a, off a + S128x128.size a ≤ S640x512.size a)
    (j : Fin 5) (h : Fin 4) (hoff : off = ![128 * j.val, 128 * h.val]) :
    View.ld x (Rect.unit (s := S640x512) off S128x128.size inb) = sub x j h := by
  subst hoff
  funext p
  refine congrArg x (funext fun a => Fin.ext ?_)
  match a with
  | ⟨0, _⟩ => exact congrArg (_ + ·) (Nat.one_mul _)
  | ⟨1, _⟩ => exact congrArg (_ + ·) (Nat.one_mul _)

theorem ld_subt (x : S640x128.Idx → Val e) (off : Fin 2 → Nat) (inb : ∀ a, off a + S128x128.size a ≤ S640x128.size a)
    (j : Fin 5) (hoff : off = ![128 * j.val, 0]) :
    View.ld x (Rect.unit (s := S640x128) off S128x128.size inb) = subt x j := by
  subst hoff
  funext p
  refine congrArg x (funext fun a => Fin.ext ?_)
  match a with
  | ⟨0, _⟩ => exact congrArg (_ + ·) (Nat.one_mul _)
  | ⟨1, _⟩ => exact (Nat.zero_add _).trans (Nat.one_mul _)

theorem ld_hd (x : S4x128x128.Idx → Val e) (off : Fin 3 → Nat) (inb : ∀ a, off a + S1x128x128.size a ≤ S4x128x128.size a)
    (h : Fin 4) (hoff : off = ![h.val, 0, 0]) :
    View.ld x (Rect.unit (s := S4x128x128) off S1x128x128.size inb) = hd x h := by
  subst hoff
  funext p
  have h0 : (p 0).val = 0 := Nat.lt_one_iff.mp (p 0).isLt
  refine congrArg x (funext fun a => Fin.ext ?_)
  match a with
  | ⟨0, _⟩ => show h.val + 1 * (p 0).val = h.val; rw [h0, Nat.mul_zero, Nat.add_zero]
  | ⟨1, _⟩ => exact (Nat.zero_add _).trans (Nat.one_mul _)
  | ⟨2, _⟩ => exact (Nat.zero_add _).trans (Nat.one_mul _)

theorem ld_hd8 (x : S4x8x128.Idx → Val e) (off : Fin 3 → Nat) (inb : ∀ a, off a + S1x8x128.size a ≤ S4x8x128.size a)
    (h : Fin 4) (hoff : off = ![h.val, 0, 0]) :
    View.ld x (Rect.unit (s := S4x8x128) off S1x8x128.size inb) = hd8 x h := by
  subst hoff
  funext p
  have h0 : (p 0).val = 0 := Nat.lt_one_iff.mp (p 0).isLt
  refine congrArg x (funext fun a => Fin.ext ?_)
  match a with
  | ⟨0, _⟩ => show h.val + 1 * (p 0).val = h.val; rw [h0, Nat.mul_zero, Nat.add_zero]
  | ⟨1, _⟩ => exact (Nat.zero_add _).trans (Nat.one_mul _)
  | ⟨2, _⟩ => exact (Nat.zero_add _).trans (Nat.one_mul _)

theorem ld_hst (x : S4x5x128x128.Idx → Val e) (off : Fin 4 → Nat)
    (inb : ∀ a, off a + S1x1x128x128.size a ≤ S4x5x128x128.size a)
    (j : Fin 5) (h : Fin 4) (hoff : off = ![h.val, j.val, 0, 0]) :
    View.ld x (Rect.unit (s := S4x5x128x128) off S1x1x128x128.size inb) = hst x j h := by
  subst hoff
  funext p
  have h0 : (p 0).val = 0 := Nat.lt_one_iff.mp (p 0).isLt
  have h1 : (p 1).val = 0 := Nat.lt_one_iff.mp (p 1).isLt
  refine congrArg x (funext fun a => Fin.ext ?_)
  match a with
  | ⟨0, _⟩ => show h.val + 1 * (p 0).val = h.val; rw [h0, Nat.mul_zero, Nat.add_zero]
  | ⟨1, _⟩ => show j.val + 1 * (p 1).val = j.val; rw [h1, Nat.mul_zero, Nat.add_zero]
  | ⟨2, _⟩ => exact (Nat.zero_add _).trans (Nat.one_mul _)
  | ⟨3, _⟩ => exact (Nat.zero_add _).trans (Nat.one_mul _)

end Reads

/-! ## One head of one chunk -/

variable {F : FTy → Type} [FloatOps F]

/-- The 128×128 blocks, and the one-head blocks of the tables, at the kernel's formats. -/
abbrev M (F : FTy → Type) := Vec F S128x128 .f32
abbrev H (F : FTy → Type) := Vec F S1x128x128 .f32
abbrev H8 (F : FTy → Type) := Vec F S1x8x128 .f32

/-- What the forward kernel writes of one head of one chunk: the rows, the saved state, the next state. -/
def fO (c s q k v : M F) (d x st : H F) : FVec F S128x128 .f32 :=
  k0_pay12 (k0_pay6 c s q) (k0_pay7 v) (k0_pay8 st) (k0_pay10 c s q k) (k0_pay11 d) x
def fW (st : H F) : FVec F S1x1x128x128 .f32 := k0_pay9 st
def fS (c s k v : M F) (z st : H F) (g : H8 F) : FVec F S1x128x128 .f32 :=
  k0_pay13 (k0_pay5 c s k) (k0_pay7 v) (k0_pay8 st) g z

/-- What the backward kernel writes of one head of one chunk: the rows of the three gradients, the next state. -/
def bQ (c s k v o : M F) (d x : H F) (w : Vec F S1x1x128x128 .f32) : FVec F S128x128 .bf16 :=
  k1_pay24 (k1_pay4 c) (k1_pay5 s) (k1_pay20 (k1_pay6 d) (k1_pay8 x) (k1_pay11 c s k) (k1_pay12 v) o w)
def bK (c s q v o : M F) (d z st : H F) : FVec F S128x128 .bf16 :=
  k1_pay25 (k1_pay4 c) (k1_pay5 s) (k1_pay21 (k1_pay6 d) (k1_pay7 z) (k1_pay10 c s q) (k1_pay12 v) o st)
def bV (c s q k o : M F) (d z st : H F) : FVec F S128x128 .bf16 :=
  k1_pay26 (k1_pay22 (k1_pay6 d) (k1_pay10 c s q) (k1_pay11 c s k) (k1_pay13 c s z k) o st)
def bS (c s q o : M F) (x st : H F) (g : H8 F) : FVec F S1x128x128 .f32 :=
  k1_pay23 (k1_pay8 x) (k1_pay10 c s q) o st g

end Cert.Ret
-- ==== Proof.Steps.lean ====
/- What one chunk, and then a whole block of five chunks, leaves in the arrays the kernels write: functions of the
   blocks the body is handed. -/
module

public import proofs.«01_k».proof.Proof.Blocks

@[expose] public section

noncomputable section

namespace Cert.Ret

open Idealize.ShloMosaic Idealize.ShloMosaic.ValueIdx Idealize.ShloMosaic.TcCoe Cert.KernelIdeal Cert.KernelIdeal.Gen

variable {F : FTy → Type} [FloatOps F]

/-- The blocks the forward body is handed. -/
structure FIn (F : FTy → Type) where
  q : Vec F S640x512 .f32
  k : Vec F S640x512 .f32
  v : Vec F S640x512 .f32
  c : Vec F S640x128 .f32
  s : Vec F S640x128 .f32
  d : Vec F S4x128x128 .f32
  z : Vec F S4x128x128 .f32
  x : Vec F S4x128x128 .f32
  g : Vec F S4x8x128 .f32

/-- The blocks the backward body is handed. -/
structure BIn (F : FTy → Type) where
  q : Vec F S640x512 .f32
  k : Vec F S640x512 .f32
  v : Vec F S640x512 .f32
  o : Vec F S640x512 .f32
  w : Vec F S4x5x128x128 .f32
  c : Vec F S640x128 .f32
  s : Vec F S640x128 .f32
  d : Vec F S4x128x128 .f32
  z : Vec F S4x128x128 .f32
  x : Vec F S4x128x128 .f32
  g : Vec F S4x8x128 .f32

/-- The carried state of either kernel: four heads of 128×128. -/
abbrev St (F : FTy → Type) := Vec F S4x128x128 .f32

/-- Head `h` of chunk `j` of the forward block from state `st`: rows, next state. -/
def FIn.o (I : FIn F) (j : Fin 5) (h : Fin 4) (st : St F) : FVec F S128x128 .f32 :=
  fO (subt I.c j) (subt I.s j) (sub I.q j h) (sub I.k j h) (sub I.v j h) (hd I.d h) (hd I.x h) (hd st h)
def FIn.n (I : FIn F) (j : Fin 5) (h : Fin 4) (st : St F) : FVec F S1x128x128 .f32 :=
  fS (subt I.c j) (subt I.s j) (sub I.k j h) (sub I.v j h) (hd I.z h) (hd st h) (hd8 I.g h)

/-- Head `h` of chunk `j` of the backward block from state `st`: the three gradients' rows, next state. -/
def BIn.dq (I : BIn F) (j : Fin 5) (h : Fin 4) : FVec F S128x128 .bf16 :=
  bQ (subt I.c j) (subt I.s j) (sub I.k j h) (sub I.v j h) (sub I.o j h) (hd I.d h) (hd I.x h) (hst I.w j h)
def BIn.dk (I : BIn F) (j : Fin 5) (h : Fin 4) (st : St F) : FVec F S128x128 .bf16 :=
  bK (subt I.c j) (subt I.s j) (sub I.q j h) (sub I.v j h) (sub I.o j h) (hd I.d h) (hd I.z h) (hd st h)
def BIn.dv (I : BIn F) (j : Fin 5) (h : Fin 4) (st : St F) : FVec F S128x128 .bf16 :=
  bV (subt I.c j) (subt I.s j) (sub I.q j h) (sub I.k j h) (sub I.o j h) (hd I.d h) (hd I.z h) (hd st h)
def BIn.n (I : BIn F) (j : Fin 5) (h : Fin 4) (st : St F) : FVec F S1x128x128 .f32 :=
  bS (subt I.c j) (subt I.s j) (sub I.q j h) (sub I.o j h) (hd I.x h) (hd st h) (hd8 I.g h)

/-- The state after chunk `j`. -/
def FIn.step (I : FIn F) (j : Fin 5) (st : St F) : St F := fun y => I.n j (y 0) st (ix3 0 (y 1) (y 2))
def BIn.step (I : BIn F) (j : Fin 5) (st : St F) : St F := fun y => I.n j (y 0) st (ix3 0 (y 1) (y 2))

/-- The state before the chunk a trip works on: forward the `n`-th trip takes chunk `n`, backward chunk `4 - n`. -/
def FIn.at (I : FIn F) (st : St F) : Nat → St F
  | 0 => st
  | n + 1 => if h : n < 5 then I.step ⟨n, h⟩ (I.at st n) else I.at st n
def BIn.at (I : BIn F) (st : St F) : Nat → St F
  | 0 => st
  | n + 1 => if h : n < 5 then I.step ⟨4 - n, by omega⟩ (I.at st n) else I.at st n

theorem FIn.at_succ (I : FIn F) (st : St F) (n : Nat) (h : n < 5) : I.at st (n + 1) = I.step ⟨n, h⟩ (I.at st n) := dif_pos h
theorem BIn.at_succ (I : BIn F) (st : St F) (n : Nat) (h : n < 5) :
    I.at st (n + 1) = I.step ⟨4 - n, by omega⟩ (I.at st n) := dif_pos h

/-- The coordinates of a row and of a column: which chunk, which head, and where in it. -/
def chunkOf (r : Fin 640) : Fin 5 := ⟨r.val / 128, by omega⟩
def headOf (r : Fin 512) : Fin 4 := ⟨r.val / 128, by omega⟩
def inOf {n : Nat} (r : Fin n) : Fin 128 := ⟨r.val % 128, Nat.mod_lt _ (by omega)⟩
def thirdOf (r : Fin 1536) : Fin 512 := ⟨r.val % 512, Nat.mod_lt _ (by omega)⟩

/-- The forward block's results from the state `st` before it. -/
def FIn.outO (I : FIn F) (st : St F) : Vec F S640x512 .f32 := fun y =>
  I.o (chunkOf (y 0)) (headOf (y 1)) (I.at st (chunkOf (y 0)).val) (ix2 (inOf (y 0)) (inOf (y 1)))
def FIn.outW (I : FIn F) (st : St F) : Vec F S4x5x128x128 .f32 := fun y =>
  fW (hd (I.at st (y 1).val) (y 0)) (ix4 0 0 (y 2) (y 3))

/-- Chunk `j` of the backward block's result: the gradients of q, k and v side by side. -/
def BIn.row (I : BIn F) (j : Fin 5) (st : St F) (r : Fin 128) (cl : Fin 1536) : Elt F .bf16 :=
  if cl.val < 512 then I.dq j (headOf (thirdOf cl)) (ix2 r (inOf cl))
  else if cl.val < 1024 then I.dk j (headOf (thirdOf cl)) st (ix2 r (inOf cl))
  else I.dv j (headOf (thirdOf cl)) st (ix2 r (inOf cl))

/-- The backward block's result from the state `st` before it. -/
def BIn.out (I : BIn F) (st : St F) : Vec F S640x1536 .bf16 := fun y =>
  I.row (chunkOf (y 0)) (I.at st (4 - (chunkOf (y 0)).val)) (inOf (y 0)) (y 1)

/-! ## Reading back what a chunk's pieces leave -/

section Writes

variable {Val : EltTy → Type} {e : EltTy} {κ : Kind} {sp : Space}

theorem read_state (v : View sig κ sp S4x128x128 e) (f : v.ty.Contents Val) (P : Fin 4 → S1x128x128.Idx → Val e) :
    v.read Val (v.writes Val f
      [⟨Rect.unit (s := S4x128x128) ![3, 0, 0] S1x128x128.size inb_S4x128x128_S1x128x128_3_0_0, P 3⟩,
       ⟨Rect.unit (s := S4x128x128) ![2, 0, 0] S1x128x128.size inb_S4x128x128_S1x128x128_2_0_0, P 2⟩,
       ⟨Rect.unit (s := S4x128x128) ![1, 0, 0] S1x128x128.size inb_S4x128x128_S1x128x128_1_0_0, P 1⟩,
       ⟨Rect.unit (s := S4x128x128) ![0, 0, 0] S1x128x128.size inb_S4x128x128_S1x128x128_0_0_0, P 0⟩])
      = fun y => P (y 0) (ix3 0 (y 1) (y 2)) := by
  funext y
  have key : ∀ (n : Nat) (hn : n < 4) (inb), (y 0).val = n → ∀ L,
      v.read Val (v.writes Val f ((⟨Rect.unit (s := S4x128x128) ![n, 0, 0] S1x128x128.size inb, P ⟨n, hn⟩⟩ : View.Piece Val S4x128x128 e) :: L)) y
        = P (y 0) (ix3 0 (y 1) (y 2)) := by
    intro n hn inb h0 L
    subst h0
    exact View.read_writes_cons_unit_of_mem v f inb _ L y (ix3 0 (y 1) (y 2)) rfl fun a => by
      match a with
      | ⟨0, _⟩ => rfl
      | ⟨1, _⟩ => exact (Nat.zero_add _).symm
      | ⟨2, _⟩ => exact (Nat.zero_add _).symm
  have skip : ∀ (n : Nat) (P' : S1x128x128.Idx → Val e) (inb), (y 0).val ≠ n → ∀ L,
      v.read Val (v.writes Val f ((⟨Rect.unit (s := S4x128x128) ![n, 0, 0] S1x128x128.size inb, P'⟩ : View.Piece Val S4x128x128 e) :: L)) y
        = v.read Val (v.writes Val f L) y := by
    intro n P' inb h0 L
    refine View.read_writes_cons_unit_of_not_mem v f inb _ L y rfl (0 : Fin 3) ?_
    show (y 0).val < n ∨ n + 1 ≤ (y 0).val
    omega
  have hy : (y 0).val < 4 := (y 0).isLt
  by_cases h3 : (y 0).val = 3
  · exact key 3 (by omega) _ h3 _
  rw [skip 3 _ _ h3]
  by_cases h2 : (y 0).val = 2
  · exact key 2 (by omega) _ h2 _
  rw [skip 2 _ _ h2]
  by_cases h1 : (y 0).val = 1
  · exact key 1 (by omega) _ h1 _
  rw [skip 1 _ _ h1]
  exact key 0 (by omega) _ (by omega) _

/-- One tile of rows: inside it the payload, outside it what was there. -/
theorem read_tile {W : Nat} {R : Nat} (v : View sig κ sp (⟨2, ![R, W]⟩ : Shape) e) (f : v.ty.Contents Val)
    (off : Fin 2 → Nat) (inb : ∀ a, off a + S128x128.size a ≤ (⟨2, ![R, W]⟩ : Shape).size a)
    (P : S128x128.Idx → Val e) (L : List (View.Piece Val (⟨2, ![R, W]⟩ : Shape) e)) (a b : Nat) (hoff : off = ![a, b])
    (y : (⟨2, ![R, W]⟩ : Shape).Idx) :
    v.read Val (v.writes Val f ((⟨Rect.unit (s := ⟨2, ![R, W]⟩) off S128x128.size inb, P⟩ : View.Piece Val (⟨2, ![R, W]⟩ : Shape) e) :: L)) y
      = if h : (a ≤ (y 0).val ∧ (y 0).val < a + 128) ∧ (b ≤ (y 1).val ∧ (y 1).val < b + 128) then
          P (ix2 ⟨(y 0).val - a, by omega⟩ ⟨(y 1).val - b, by omega⟩)
        else v.read Val (v.writes Val f L) y := by
  subst hoff
  by_cases h : (a ≤ (y 0).val ∧ (y 0).val < a + 128) ∧ (b ≤ (y 1).val ∧ (y 1).val < b + 128)
  · rw [dif_pos h]
    exact View.read_writes_cons_unit_of_mem v f inb _ L y (ix2 ⟨(y 0).val - a, by omega⟩ ⟨(y 1).val - b, by omega⟩) rfl fun ax => by
      match ax with
      | ⟨0, _⟩ => show (y 0).val = a + ((y 0).val - a); omega
      | ⟨1, _⟩ => show (y 1).val = b + ((y 1).val - b); omega
  · rw [dif_neg h]
    by_cases h0 : a ≤ (y 0).val ∧ (y 0).val < a + 128
    · refine View.read_writes_cons_unit_of_not_mem v f inb _ L y rfl (1 : Fin 2) ?_
      show (y 1).val < b ∨ b + 128 ≤ (y 1).val
      omega
    · refine View.read_writes_cons_unit_of_not_mem v f inb _ L y rfl (0 : Fin 2) ?_
      show (y 0).val < a ∨ a + 128 ≤ (y 0).val
      omega

/-- One saved state. -/
theorem read_slot (v : View sig κ sp S4x5x128x128 e) (f : v.ty.Contents Val)
    (off : Fin 4 → Nat) (inb : ∀ a, off a + S1x1x128x128.size a ≤ S4x5x128x128.size a)
    (P : S1x1x128x128.Idx → Val e) (L : List (View.Piece Val S4x5x128x128 e)) (a b : Nat) (hoff : off = ![a, b, 0, 0])
    (y : S4x5x128x128.Idx) :
    v.read Val (v.writes Val f ((⟨Rect.unit (s := S4x5x128x128) off S1x1x128x128.size inb, P⟩ : View.Piece Val S4x5x128x128 e) :: L)) y
      = if (y 0).val = a ∧ (y 1).val = b then P (ix4 0 0 (y 2) (y 3)) else v.read Val (v.writes Val f L) y := by
  subst hoff
  by_cases h : (y 0).val = a ∧ (y 1).val = b
  · rw [if_pos h]
    exact View.read_writes_cons_unit_of_mem v f inb _ L y (ix4 0 0 (y 2) (y 3)) rfl fun ax => by
      match ax with
      | ⟨0, _⟩ => exact h.1
      | ⟨1, _⟩ => exact h.2
      | ⟨2, _⟩ => exact (Nat.zero_add _).symm
      | ⟨3, _⟩ => exact (Nat.zero_add _).symm
  · rw [if_neg h]
    by_cases h0 : (y 0).val = a
    · refine View.read_writes_cons_unit_of_not_mem v f inb _ L y rfl (1 : Fin 4) ?_
      show (y 1).val < b ∨ b + 1 ≤ (y 1).val
      omega
    · refine View.read_writes_cons_unit_of_not_mem v f inb _ L y rfl (0 : Fin 4) ?_
      show (y 0).val < a ∨ a + 1 ≤ (y 0).val
      omega

theorem read_writes_nil {s : Shape} (v : View sig κ sp s e) (f : v.ty.Contents Val) : v.read Val (v.writes Val f []) = v.read Val f := rfl

/-- A tile of chunk `j`, `t`-th of the 128 columns: at an index of that chunk and those columns, the payload; -/
theorem read_chunk_hit {W : Nat} (v : View sig κ sp (⟨2, ![640, W]⟩ : Shape) e) (f : v.ty.Contents Val)
    (off : Fin 2 → Nat) (inb : ∀ a, off a + S128x128.size a ≤ (⟨2, ![640, W]⟩ : Shape).size a)
    (P : S128x128.Idx → Val e) (L : List (View.Piece Val (⟨2, ![640, W]⟩ : Shape) e)) (j : Fin 5) (t : Nat)
    (hoff : off = ![128 * j.val, 128 * t]) (y : (⟨2, ![640, W]⟩ : Shape).Idx) (hj : chunkOf (y 0) = j) (ht : (y 1).val / 128 = t) :
    v.read Val (v.writes Val f ((⟨Rect.unit (s := ⟨2, ![640, W]⟩) off S128x128.size inb, P⟩ : View.Piece Val (⟨2, ![640, W]⟩ : Shape) e) :: L)) y
      = P (ix2 (inOf (y 0)) (inOf (y 1))) := by
  have hj' : (y 0).val / 128 = j.val := congrArg Fin.val hj
  rw [read_tile v f off inb P L _ _ hoff y, dif_pos ⟨by omega, by omega⟩]
  refine congrArg P (funext fun a => Fin.ext ?_)
  match a with
  | ⟨0, _⟩ => show (y 0).val - 128 * j.val = (y 0).val % 128; omega
  | ⟨1, _⟩ => show (y 1).val - 128 * t = (y 1).val % 128; omega

/-- elsewhere, what the rest left. -/
theorem read_chunk_miss {W : Nat} (v : View sig κ sp (⟨2, ![640, W]⟩ : Shape) e) (f : v.ty.Contents Val)
    (off : Fin 2 → Nat) (inb : ∀ a, off a + S128x128.size a ≤ (⟨2, ![640, W]⟩ : Shape).size a)
    (P : S128x128.Idx → Val e) (L : List (View.Piece Val (⟨2, ![640, W]⟩ : Shape) e)) (j : Fin 5) (t : Nat)
    (hoff : off = ![128 * j.val, 128 * t]) (y : (⟨2, ![640, W]⟩ : Shape).Idx) (h : chunkOf (y 0) ≠ j ∨ (y 1).val / 128 ≠ t) :
    v.read Val (v.writes Val f ((⟨Rect.unit (s := ⟨2, ![640, W]⟩) off S128x128.size inb, P⟩ : View.Piece Val (⟨2, ![640, W]⟩ : Shape) e) :: L)) y
      = v.read Val (v.writes Val f L) y := by
  have hj' : (y 0).val / 128 = j.val → chunkOf (y 0) = j := fun h => Fin.ext h
  rw [read_tile v f off inb P L _ _ hoff y, dif_neg]
  rintro ⟨h0, h1⟩
  rcases h with h | h
  · exact h (hj' (by omega))
  · exact h (by omega)

theorem read_slots (v : View sig κ sp S4x5x128x128 e) (f : v.ty.Contents Val) (P : Fin 4 → S1x1x128x128.Idx → Val e) (j : Fin 5)
    (off : Fin 4 → Fin 4 → Nat) (inb : ∀ h a, off h a + S1x1x128x128.size a ≤ S4x5x128x128.size a)
    (hoff : ∀ h, off h = ![h.val, j.val, 0, 0]) :
    v.read Val (v.writes Val f
      [⟨Rect.unit (s := S4x5x128x128) (off 3) S1x1x128x128.size (inb 3), P 3⟩,
       ⟨Rect.unit (s := S4x5x128x128) (off 2) S1x1x128x128.size (inb 2), P 2⟩,
       ⟨Rect.unit (s := S4x5x128x128) (off 1) S1x1x128x128.size (inb 1), P 1⟩,
       ⟨Rect.unit (s := S4x5x128x128) (off 0) S1x1x128x128.size (inb 0), P 0⟩])
      = fun y => if (y 1).val = j.val then P (y 0) (ix4 0 0 (y 2) (y 3)) else v.read Val f y := by
  funext y
  rw [read_slot v f _ _ _ _ _ _ (hoff 3), read_slot v f _ _ _ _ _ _ (hoff 2), read_slot v f _ _ _ _ _ _ (hoff 1),
    read_slot v f _ _ _ _ _ _ (hoff 0)]
  have hy : (y 0).val < 4 := (y 0).isLt
  have e : ∀ (h : Fin 4), (y 0).val = h.val → P h = P (y 0) := fun h hh => congrArg P (Fin.ext hh.symm)
  by_cases hj : (y 1).val = j.val
  · by_cases h3 : (y 0).val = 3
    · rw [if_pos ⟨h3, hj⟩, if_pos hj, e 3 h3]
    rw [if_neg (fun h => h3 h.1)]
    by_cases h2 : (y 0).val = 2
    · rw [if_pos ⟨h2, hj⟩, if_pos hj, e 2 h2]
    rw [if_neg (fun h => h2 h.1)]
    by_cases h1 : (y 0).val = 1
    · rw [if_pos ⟨h1, hj⟩, if_pos hj, e 1 h1]
    rw [if_neg (fun h => h1 h.1)]
    have h0 : (y 0).val = 0 := by omega
    rw [if_pos ⟨h0, hj⟩, if_pos hj, e 0 h0]
  · rw [if_neg (fun h => hj h.2), if_neg (fun h => hj h.2), if_neg (fun h => hj h.2), if_neg (fun h => hj h.2), if_neg hj]
    rfl

theorem read_rows4 (v : View sig κ sp S640x512 e) (f : v.ty.Contents Val) (P : Fin 4 → S128x128.Idx → Val e) (j : Fin 5)
    (off : Fin 4 → Fin 2 → Nat) (inb : ∀ t a, off t a + S128x128.size a ≤ S640x512.size a)
    (hoff : ∀ t, off t = ![128 * j.val, 128 * t.val]) (tl : Fin 512 → Fin 4) (htl : ∀ r, (tl r).val = r.val / 128) :
    v.read Val (v.writes Val f
      [⟨Rect.unit (s := S640x512) (off 3) S128x128.size (inb 3), P 3⟩,
       ⟨Rect.unit (s := S640x512) (off 2) S128x128.size (inb 2), P 2⟩,
       ⟨Rect.unit (s := S640x512) (off 1) S128x128.size (inb 1), P 1⟩,
       ⟨Rect.unit (s := S640x512) (off 0) S128x128.size (inb 0), P 0⟩])
      = fun y => if chunkOf (y 0) = j then P (tl (y 1)) (ix2 (inOf (y 0)) (inOf (y 1))) else v.read Val f y := by
  funext y
  have e : ∀ (t : Fin 4), (y 1).val / 128 = t.val → P t = P (tl (y 1)) := fun t ht => congrArg P (Fin.ext (ht.symm.trans (htl (y 1)).symm))
  have hlt : (y 1).val < 512 := (y 1).isLt
  by_cases hj : chunkOf (y 0) = j
  · rw [if_pos hj]
    by_cases h3 : (y 1).val / 128 = 3
    · rw [read_chunk_hit v f _ _ _ _ j 3 (hoff 3) y hj h3, e 3 h3]
    rw [read_chunk_miss v f _ _ _ _ j 3 (hoff 3) y (.inr h3)]
    by_cases h2 : (y 1).val / 128 = 2
    · rw [read_chunk_hit v f _ _ _ _ j 2 (hoff 2) y hj h2, e 2 h2]
    rw [read_chunk_miss v f _ _ _ _ j 2 (hoff 2) y (.inr h2)]
    by_cases h1 : (y 1).val / 128 = 1
    · rw [read_chunk_hit v f _ _ _ _ j 1 (hoff 1) y hj h1, e 1 h1]
    rw [read_chunk_miss v f _ _ _ _ j 1 (hoff 1) y (.inr h1)]
    have h0 : (y 1).val / 128 = 0 := by omega
    rw [read_chunk_hit v f _ _ _ _ j 0 (hoff 0) y hj h0, e 0 h0]
  · rw [if_neg hj]
    rw [read_chunk_miss v f _ _ _ _ j 3 (hoff 3) y (.inl hj),
      read_chunk_miss v f _ _ _ _ j 2 (hoff 2) y (.inl hj),
      read_chunk_miss v f _ _ _ _ j 1 (hoff 1) y (.inl hj),
      read_chunk_miss v f _ _ _ _ j 0 (hoff 0) y (.inl hj)]
    rfl

theorem read_rows12 (v : View sig κ sp S640x1536 e) (f : v.ty.Contents Val) (P : Fin 12 → S128x128.Idx → Val e) (j : Fin 5)
    (off : Fin 12 → Fin 2 → Nat) (inb : ∀ t a, off t a + S128x128.size a ≤ S640x1536.size a)
    (hoff : ∀ t, off t = ![128 * j.val, 128 * t.val]) (tl : Fin 1536 → Fin 12) (htl : ∀ r, (tl r).val = r.val / 128) :
    v.read Val (v.writes Val f
      [⟨Rect.unit (s := S640x1536) (off 11) S128x128.size (inb 11), P 11⟩,
       ⟨Rect.unit (s := S640x1536) (off 7) S128x128.size (inb 7), P 7⟩,
       ⟨Rect.unit (s := S640x1536) (off 3) S128x128.size (inb 3), P 3⟩,
       ⟨Rect.unit (s := S640x1536) (off 10) S128x128.size (inb 10), P 10⟩,
       ⟨Rect.unit (s := S640x1536) (off 6) S128x128.size (inb 6), P 6⟩,
       ⟨Rect.unit (s := S640x1536) (off 2) S128x128.size (inb 2), P 2⟩,
       ⟨Rect.unit (s := S640x1536) (off 9) S128x128.size (inb 9), P 9⟩,
       ⟨Rect.unit (s := S640x1536) (off 5) S128x128.size (inb 5), P 5⟩,
       ⟨Rect.unit (s := S640x1536) (off 1) S128x128.size (inb 1), P 1⟩,
       ⟨Rect.unit (s := S640x1536) (off 8) S128x128.size (inb 8), P 8⟩,
       ⟨Rect.unit (s := S640x1536) (off 4) S128x128.size (inb 4), P 4⟩,
       ⟨Rect.unit (s := S640x1536) (off 0) S128x128.size (inb 0), P 0⟩])
      = fun y => if chunkOf (y 0) = j then P (tl (y 1)) (ix2 (inOf (y 0)) (inOf (y 1))) else v.read Val f y := by
  funext y
  have e : ∀ (t : Fin 12), (y 1).val / 128 = t.val → P t = P (tl (y 1)) := fun t ht => congrArg P (Fin.ext (ht.symm.trans (htl (y 1)).symm))
  have hlt : (y 1).val < 1536 := (y 1).isLt
  by_cases hj : chunkOf (y 0) = j
  · rw [if_pos hj]
    by_cases h11 : (y 1).val / 128 = 11
    · rw [read_chunk_hit v f _ _ _ _ j 11 (hoff 11) y hj h11, e 11 h11]
    rw [read_chunk_miss v f _ _ _ _ j 11 (hoff 11) y (.inr h11)]
    by_cases h7 : (y 1).val / 128 = 7
    · rw [read_chunk_hit v f _ _ _ _ j 7 (hoff 7) y hj h7, e 7 h7]
    rw [read_chunk_miss v f _ _ _ _ j 7 (hoff 7) y (.inr h7)]
    by_cases h3 : (y 1).val / 128 = 3
    · rw [read_chunk_hit v f _ _ _ _ j 3 (hoff 3) y hj h3, e 3 h3]
    rw [read_chunk_miss v f _ _ _ _ j 3 (hoff 3) y (.inr h3)]
    by_cases h10 : (y 1).val / 128 = 10
    · rw [read_chunk_hit v f _ _ _ _ j 10 (hoff 10) y hj h10, e 10 h10]
    rw [read_chunk_miss v f _ _ _ _ j 10 (hoff 10) y (.inr h10)]
    by_cases h6 : (y 1).val / 128 = 6
    · rw [read_chunk_hit v f _ _ _ _ j 6 (hoff 6) y hj h6, e 6 h6]
    rw [read_chunk_miss v f _ _ _ _ j 6 (hoff 6) y (.inr h6)]
    by_cases h2 : (y 1).val / 128 = 2
    · rw [read_chunk_hit v f _ _ _ _ j 2 (hoff 2) y hj h2, e 2 h2]
    rw [read_chunk_miss v f _ _ _ _ j 2 (hoff 2) y (.inr h2)]
    by_cases h9 : (y 1).val / 128 = 9
    · rw [read_chunk_hit v f _ _ _ _ j 9 (hoff 9) y hj h9, e 9 h9]
    rw [read_chunk_miss v f _ _ _ _ j 9 (hoff 9) y (.inr h9)]
    by_cases h5 : (y 1).val / 128 = 5
    · rw [read_chunk_hit v f _ _ _ _ j 5 (hoff 5) y hj h5, e 5 h5]
    rw [read_chunk_miss v f _ _ _ _ j 5 (hoff 5) y (.inr h5)]
    by_cases h1 : (y 1).val / 128 = 1
    · rw [read_chunk_hit v f _ _ _ _ j 1 (hoff 1) y hj h1, e 1 h1]
    rw [read_chunk_miss v f _ _ _ _ j 1 (hoff 1) y (.inr h1)]
    by_cases h8 : (y 1).val / 128 = 8
    · rw [read_chunk_hit v f _ _ _ _ j 8 (hoff 8) y hj h8, e 8 h8]
    rw [read_chunk_miss v f _ _ _ _ j 8 (hoff 8) y (.inr h8)]
    by_cases h4 : (y 1).val / 128 = 4
    · rw [read_chunk_hit v f _ _ _ _ j 4 (hoff 4) y hj h4, e 4 h4]
    rw [read_chunk_miss v f _ _ _ _ j 4 (hoff 4) y (.inr h4)]
    have h0 : (y 1).val / 128 = 0 := by omega
    rw [read_chunk_hit v f _ _ _ _ j 0 (hoff 0) y hj h0, e 0 h0]
  · rw [if_neg hj]
    rw [read_chunk_miss v f _ _ _ _ j 11 (hoff 11) y (.inl hj),
      read_chunk_miss v f _ _ _ _ j 7 (hoff 7) y (.inl hj),
      read_chunk_miss v f _ _ _ _ j 3 (hoff 3) y (.inl hj),
      read_chunk_miss v f _ _ _ _ j 10 (hoff 10) y (.inl hj),
      read_chunk_miss v f _ _ _ _ j 6 (hoff 6) y (.inl hj),
      read_chunk_miss v f _ _ _ _ j 2 (hoff 2) y (.inl hj),
      read_chunk_miss v f _ _ _ _ j 9 (hoff 9) y (.inl hj),
      read_chunk_miss v f _ _ _ _ j 5 (hoff 5) y (.inl hj),
      read_chunk_miss v f _ _ _ _ j 1 (hoff 1) y (.inl hj),
      read_chunk_miss v f _ _ _ _ j 8 (hoff 8) y (.inl hj),
      read_chunk_miss v f _ _ _ _ j 4 (hoff 4) y (.inl hj),
      read_chunk_miss v f _ _ _ _ j 0 (hoff 0) y (.inl hj)]
    rfl

end Writes

end Cert.Ret
-- ==== Proof.FwdTrip.lean ====
/- What one trip of the forward kernel's loop writes, piece by piece: head `h` of chunk `k` in the rows, in the
   saved states and in the carried state. -/
module

public import proofs.«01_k».proof.Proof.Blocks
public import proofs.«01_k».proof.Proof.Gen.KernelIdeal.Loops

@[expose] public section

set_option maxRecDepth 8192

noncomputable section

namespace Cert.Ret

open Idealize.ShloMosaic Idealize.ShloMosaic.TcCoe Cert.KernelIdeal Cert.KernelIdeal.Gen

variable {F : FTy → Type} [FloatOps F]

variable (𝒱 : Variants) (c : Dev nD) (bd : Option 𝒱.V) (i : grid0.Coords) (arg1 : Memref sig .tc .vmem S640x512 .f32) (harg1 : arg1.IsWhole) (arg2 : Memref sig .tc .vmem S640x512 .f32) (harg2 : arg2.IsWhole) (arg3 : Memref sig .tc .vmem S640x512 .f32) (harg3 : arg3.IsWhole) (arg4 : Memref sig .tc .vmem S640x128 .f32) (harg4 : arg4.IsWhole) (arg5 : Memref sig .tc .vmem S640x128 .f32) (harg5 : arg5.IsWhole) (arg6 : Memref sig .tc .vmem S4x128x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x8x128 .f32) (harg9 : arg9.IsWhole) (arg10 : Memref sig .tc .vmem S640x512 .f32) (harg10 : arg10.IsWhole) (arg11 : Memref sig .tc .vmem S4x5x128x128 .f32) (harg11 : arg11.IsWhole) (arg12 : Memref sig .tc .vmem S4x128x128 .f32) (harg12 : arg12.IsWhole)
  (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (f_arg12 : BufTy.Contents (Elt F) arg12.view.ty)

set_option maxHeartbeats 4000000 in
theorem fwd_pieces_o : (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 X_arg8 X_arg9 k).1 f_arg10 f_arg11 f_arg12 =
    [⟨(Rect.unit (s := S640x512) (k0_off8 k) S128x128.size (k0_off8_inb k)), fO (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg1.view (Rect.unit (s := S640x512) (k0_off8 k) S128x128.size (k0_off8_inb k)).toLoadRect X_arg1) (View.readAt (Elt F) arg2.view (Rect.unit (s := S640x512) (k0_off8 k) S128x128.size (k0_off8_inb k)).toLoadRect X_arg2) (View.readAt (Elt F) arg3.view (Rect.unit (s := S640x512) (k0_off8 k) S128x128.size (k0_off8_inb k)).toLoadRect X_arg3) (View.readAt (Elt F) arg6.view (Rect.unit (s := S4x128x128) ![3, 0, 0] S1x128x128.size inb_S4x128x128_S1x128x128_3_0_0).toLoadRect X_arg6) (View.readAt (Elt F) arg8.view (Rect.unit (s := S4x128x128) ![3, 0, 0] S1x128x128.size inb_S4x128x128_S1x128x128_3_0_0).toLoadRect X_arg8) (View.readAt (Elt F) arg12.view (Rect.unit (s := S4x128x128) ![3, 0, 0] S1x128x128.size inb_S4x128x128_S1x128x128_3_0_0).toLoadRect f_arg12)⟩,
     ⟨(Rect.unit (s := S640x512) (k0_off6 k) S128x128.size (k0_off6_inb k)), fO (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg1.view (Rect.unit (s := S640x512) (k0_off6 k) S128x128.size (k0_off6_inb k)).toLoadRect X_arg1) (View.readAt (Elt F) arg2.view (Rect.unit (s := S640x512) (k0_off6 k) S128x128.size (k0_off6_inb k)).toLoadRect X_arg2) (View.readAt (Elt F) arg3.view (Rect.unit (s := S640x512) (k0_off6 k) S128x128.size (k0_off6_inb k)).toLoadRect X_arg3) (View.readAt (Elt F) arg6.view (Rect.unit (s := S4x128x128) ![2, 0, 0] S1x128x128.size inb_S4x128x128_S1x128x128_2_0_0).toLoadRect X_arg6) (View.readAt (Elt F) arg8.view (Rect.unit (s := S4x128x128) ![2, 0, 0] S1x128x128.size inb_S4x128x128_S1x128x128_2_0_0).toLoadRect X_arg8) (View.readAt (Elt F) arg12.view (Rect.unit (s := S4x128x128) ![2, 0, 0] S1x128x128.size inb_S4x128x128_S1x128x128_2_0_0).toLoadRect f_arg12)⟩,
     ⟨(Rect.unit (s := S640x512) (k0_off4 k) S128x128.size (k0_off4_inb k)), fO (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg1.view (Rect.unit (s := S640x512) (k0_off4 k) S128x128.size (k0_off4_inb k)).toLoadRect X_arg1) (View.readAt (Elt F) arg2.view (Rect.unit (s := S640x512) (k0_off4 k) S128x128.size (k0_off4_inb k)).toLoadRect X_arg2) (View.readAt (Elt F) arg3.view (Rect.unit (s := S640x512) (k0_off4 k) S128x128.size (k0_off4_inb k)).toLoadRect X_arg3) (View.readAt (Elt F) arg6.view (Rect.unit (s := S4x128x128) ![1, 0, 0] S1x128x128.size inb_S4x128x128_S1x128x128_1_0_0).toLoadRect X_arg6) (View.readAt (Elt F) arg8.view (Rect.unit (s := S4x128x128) ![1, 0, 0] S1x128x128.size inb_S4x128x128_S1x128x128_1_0_0).toLoadRect X_arg8) (View.readAt (Elt F) arg12.view (Rect.unit (s := S4x128x128) ![1, 0, 0] S1x128x128.size inb_S4x128x128_S1x128x128_1_0_0).toLoadRect f_arg12)⟩,
     ⟨(Rect.unit (s := S640x512) (k0_off2 k) S128x128.size (k0_off2_inb k)), fO (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg1.view (Rect.unit (s := S640x512) (k0_off2 k) S128x128.size (k0_off2_inb k)).toLoadRect X_arg1) (View.readAt (Elt F) arg2.view (Rect.unit (s := S640x512) (k0_off2 k) S128x128.size (k0_off2_inb k)).toLoadRect X_arg2) (View.readAt (Elt F) arg3.view (Rect.unit (s := S640x512) (k0_off2 k) S128x128.size (k0_off2_inb k)).toLoadRect X_arg3) (View.readAt (Elt F) arg6.view (Rect.unit (s := S4x128x128) ![0, 0, 0] S1x128x128.size inb_S4x128x128_S1x128x128_0_0_0).toLoadRect X_arg6) (View.readAt (Elt F) arg8.view (Rect.unit (s := S4x128x128) ![0, 0, 0] S1x128x128.size inb_S4x128x128_S1x128x128_0_0_0).toLoadRect X_arg8) (View.readAt (Elt F) arg12.view (Rect.unit (s := S4x128x128) ![0, 0, 0] S1x128x128.size inb_S4x128x128_S1x128x128_0_0_0).toLoadRect f_arg12)⟩] := by
  unfold trip_k0_t1
  rfl

set_option maxHeartbeats 4000000 in
theorem fwd_pieces_w : (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 X_arg8 X_arg9 k).2.1 f_arg10 f_arg11 f_arg12 =
    [⟨(Rect.unit (s := S4x5x128x128) (k0_off9 k) S1x1x128x128.size (k0_off9_inb k)), fW (View.readAt (Elt F) arg12.view (Rect.unit (s := S4x128x128) ![3, 0, 0] S1x128x128.size inb_S4x128x128_S1x128x128_3_0_0).toLoadRect f_arg12)⟩,
     ⟨(Rect.unit (s := S4x5x128x128) (k0_off7 k) S1x1x128x128.size (k0_off7_inb k)), fW (View.readAt (Elt F) arg12.view (Rect.unit (s := S4x128x128) ![2, 0, 0] S1x128x128.size inb_S4x128x128_S1x128x128_2_0_0).toLoadRect f_arg12)⟩,
     ⟨(Rect.unit (s := S4x5x128x128) (k0_off5 k) S1x1x128x128.size (k0_off5_inb k)), fW (View.readAt (Elt F) arg12.view (Rect.unit (s := S4x128x128) ![1, 0, 0] S1x128x128.size inb_S4x128x128_S1x128x128_1_0_0).toLoadRect f_arg12)⟩,
     ⟨(Rect.unit (s := S4x5x128x128) (k0_off3 k) S1x1x128x128.size (k0_off3_inb k)), fW (View.readAt (Elt F) arg12.view (Rect.unit (s := S4x128x128) ![0, 0, 0] S1x128x128.size inb_S4x128x128_S1x128x128_0_0_0).toLoadRect f_arg12)⟩] := by
  unfold trip_k0_t1
  rfl

set_option maxHeartbeats 4000000 in
theorem fwd_pieces_s : (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 X_arg8 X_arg9 k).2.2.1 f_arg10 f_arg11 f_arg12 =
    [⟨(Rect.unit (s := S4x128x128) ![3, 0, 0] S1x128x128.size inb_S4x128x128_S1x128x128_3_0_0), fS (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg2.view (Rect.unit (s := S640x512) (k0_off8 k) S128x128.size (k0_off8_inb k)).toLoadRect X_arg2) (View.readAt (Elt F) arg3.view (Rect.unit (s := S640x512) (k0_off8 k) S128x128.size (k0_off8_inb k)).toLoadRect X_arg3) (View.readAt (Elt F) arg7.view (Rect.unit (s := S4x128x128) ![3, 0, 0] S1x128x128.size inb_S4x128x128_S1x128x128_3_0_0).toLoadRect X_arg7) (View.readAt (Elt F) arg12.view (Rect.unit (s := S4x128x128) ![3, 0, 0] S1x128x128.size inb_S4x128x128_S1x128x128_3_0_0).toLoadRect f_arg12) (View.readAt (Elt F) arg9.view (Rect.unit (s := S4x8x128) ![3, 0, 0] S1x8x128.size inb_S4x8x128_S1x8x128_3_0_0).toLoadRect X_arg9)⟩,
     ⟨(Rect.unit (s := S4x128x128) ![2, 0, 0] S1x128x128.size inb_S4x128x128_S1x128x128_2_0_0), fS (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg2.view (Rect.unit (s := S640x512) (k0_off6 k) S128x128.size (k0_off6_inb k)).toLoadRect X_arg2) (View.readAt (Elt F) arg3.view (Rect.unit (s := S640x512) (k0_off6 k) S128x128.size (k0_off6_inb k)).toLoadRect X_arg3) (View.readAt (Elt F) arg7.view (Rect.unit (s := S4x128x128) ![2, 0, 0] S1x128x128.size inb_S4x128x128_S1x128x128_2_0_0).toLoadRect X_arg7) (View.readAt (Elt F) arg12.view (Rect.unit (s := S4x128x128) ![2, 0, 0] S1x128x128.size inb_S4x128x128_S1x128x128_2_0_0).toLoadRect f_arg12) (View.readAt (Elt F) arg9.view (Rect.unit (s := S4x8x128) ![2, 0, 0] S1x8x128.size inb_S4x8x128_S1x8x128_2_0_0).toLoadRect X_arg9)⟩,
     ⟨(Rect.unit (s := S4x128x128) ![1, 0, 0] S1x128x128.size inb_S4x128x128_S1x128x128_1_0_0), fS (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg2.view (Rect.unit (s := S640x512) (k0_off4 k) S128x128.size (k0_off4_inb k)).toLoadRect X_arg2) (View.readAt (Elt F) arg3.view (Rect.unit (s := S640x512) (k0_off4 k) S128x128.size (k0_off4_inb k)).toLoadRect X_arg3) (View.readAt (Elt F) arg7.view (Rect.unit (s := S4x128x128) ![1, 0, 0] S1x128x128.size inb_S4x128x128_S1x128x128_1_0_0).toLoadRect X_arg7) (View.readAt (Elt F) arg12.view (Rect.unit (s := S4x128x128) ![1, 0, 0] S1x128x128.size inb_S4x128x128_S1x128x128_1_0_0).toLoadRect f_arg12) (View.readAt (Elt F) arg9.view (Rect.unit (s := S4x8x128) ![1, 0, 0] S1x8x128.size inb_S4x8x128_S1x8x128_1_0_0).toLoadRect X_arg9)⟩,
     ⟨(Rect.unit (s := S4x128x128) ![0, 0, 0] S1x128x128.size inb_S4x128x128_S1x128x128_0_0_0), fS (View.readAt (Elt F) arg4.view (Rect.unit (s := S640x128) (k0_off1 k) S128x128.size (k0_off1_inb k)).toLoadRect X_arg4) (View.readAt (Elt F) arg5.view (Rect.unit (s := S640x128) (k0_off1 k) S128x128.size (k0_off1_inb k)).toLoadRect X_arg5) (View.readAt (Elt F) arg2.view (Rect.unit (s := S640x512) (k0_off2 k) S128x128.size (k0_off2_inb k)).toLoadRect X_arg2) (View.readAt (Elt F) arg3.view (Rect.unit (s := S640x512) (k0_off2 k) S128x128.size (k0_off2_inb k)).toLoadRect X_arg3) (View.readAt (Elt F) arg7.view (Rect.unit (s := S4x128x128) ![0, 0, 0] S1x128x128.size inb_S4x128x128_S1x128x128_0_0_0).toLoadRect X_arg7) (View.readAt (Elt F) arg12.view (Rect.unit (s := S4x128x128) ![0, 0, 0] S1x128x128.size inb_S4x128x128_S1x128x128_0_0_0).toLoadRect f_arg12) (View.readAt (Elt F) arg9.view (Rect.unit (s := S4x8x128) ![0, 0, 0] S1x8x128.size inb_S4x8x128_S1x8x128_0_0_0).toLoadRect X_arg9)⟩] := by
  unfold trip_k0_t1
  rfl

end Cert.Ret
-- ==== Proof.FwdBody.lean ====
/- The forward kernel's body: what it leaves in its results and in the carried state, at any memrefs. -/
module

public import proofs.«01_k».proof.Proof.Steps
public import proofs.«01_k».proof.Proof.FwdTrip

@[expose] public section

set_option maxRecDepth 8192

noncomputable section

namespace Cert.Ret

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A trip's chunk. -/
abbrev trF (k : Fin k0_t1_loop.trips) : Fin 5 := ⟨k.val, Nat.lt_of_lt_of_le k.isLt k0_t1_abs.2.1⟩

section Offsets

variable (k : Fin k0_t1_loop.trips)

theorem rdF_tab (m : Memref sig .tc .vmem S640x128 .f32) (hm : m.IsWhole) (x : S640x128.Idx → Elt F .f32) :
    View.readAt (Elt F) m.view (Rect.unit (s := S640x128) (k0_off1 k) S128x128.size (k0_off1_inb k)).toLoadRect (hm.unread x) = subt x (trF k) :=
  (congrArg (fun w => View.ld w _) (hm.read_unread x)).trans (ld_subt _ _ _ _ (k0_off1_eq k))
theorem rdF_0 (m : Memref sig .tc .vmem S640x512 .f32) (hm : m.IsWhole) (x : S640x512.Idx → Elt F .f32) :
    View.readAt (Elt F) m.view (Rect.unit (s := S640x512) (k0_off2 k) S128x128.size (k0_off2_inb k)).toLoadRect (hm.unread x) = sub x (trF k) 0 :=
  (congrArg (fun w => View.ld w _) (hm.read_unread x)).trans (ld_sub _ _ _ _ _ (k0_off2_eq k))
theorem rd_hd_0 (m : Memref sig .tc .vmem S4x128x128 .f32) (hm : m.IsWhole) (x : S4x128x128.Idx → Elt F .f32) :
    View.readAt (Elt F) m.view (Rect.unit (s := S4x128x128) ![0, 0, 0] S1x128x128.size inb_S4x128x128_S1x128x128_0_0_0).toLoadRect (hm.unread x) = hd x 0 :=
  (congrArg (fun w => View.ld w _) (hm.read_unread x)).trans (ld_hd _ _ _ _ rfl)
theorem rd_hd8_0 (m : Memref sig .tc .vmem S4x8x128 .f32) (hm : m.IsWhole) (x : S4x8x128.Idx → Elt F .f32) :
    View.readAt (Elt F) m.view (Rect.unit (s := S4x8x128) ![0, 0, 0] S1x8x128.size inb_S4x8x128_S1x8x128_0_0_0).toLoadRect (hm.unread x) = hd8 x 0 :=
  (congrArg (fun w => View.ld w _) (hm.read_unread x)).trans (ld_hd8 _ _ _ _ rfl)
theorem rdF_1 (m : Memref sig .tc .vmem S640x512 .f32) (hm : m.IsWhole) (x : S640x512.Idx → Elt F .f32) :
    View.readAt (Elt F) m.view (Rect.unit (s := S640x512) (k0_off4 k) S128x128.size (k0_off4_inb k)).toLoadRect (hm.unread x) = sub x (trF k) 1 :=
  (congrArg (fun w => View.ld w _) (hm.read_unread x)).trans (ld_sub _ _ _ _ _ (k0_off4_eq k))
theorem rd_hd_1 (m : Memref sig .tc .vmem S4x128x128 .f32) (hm : m.IsWhole) (x : S4x128x128.Idx → Elt F .f32) :
    View.readAt (Elt F) m.view (Rect.unit (s := S4x128x128) ![1, 0, 0] S1x128x128.size inb_S4x128x128_S1x128x128_1_0_0).toLoadRect (hm.unread x) = hd x 1 :=
  (congrArg (fun w => View.ld w _) (hm.read_unread x)).trans (ld_hd _ _ _ _ rfl)
theorem rd_hd8_1 (m : Memref sig .tc .vmem S4x8x128 .f32) (hm : m.IsWhole) (x : S4x8x128.Idx → Elt F .f32) :
    View.readAt (Elt F) m.view (Rect.unit (s := S4x8x128) ![1, 0, 0] S1x8x128.size inb_S4x8x128_S1x8x128_1_0_0).toLoadRect (hm.unread x) = hd8 x 1 :=
  (congrArg (fun w => View.ld w _) (hm.read_unread x)).trans (ld_hd8 _ _ _ _ rfl)
theorem rdF_2 (m : Memref sig .tc .vmem S640x512 .f32) (hm : m.IsWhole) (x : S640x512.Idx → Elt F .f32) :
    View.readAt (Elt F) m.view (Rect.unit (s := S640x512) (k0_off6 k) S128x128.size (k0_off6_inb k)).toLoadRect (hm.unread x) = sub x (trF k) 2 :=
  (congrArg (fun w => View.ld w _) (hm.read_unread x)).trans (ld_sub _ _ _ _ _ (k0_off6_eq k))
theorem rd_hd_2 (m : Memref sig .tc .vmem S4x128x128 .f32) (hm : m.IsWhole) (x : S4x128x128.Idx → Elt F .f32) :
    View.readAt (Elt F) m.view (Rect.unit (s := S4x128x128) ![2, 0, 0] S1x128x128.size inb_S4x128x128_S1x128x128_2_0_0).toLoadRect (hm.unread x) = hd x 2 :=
  (congrArg (fun w => View.ld w _) (hm.read_unread x)).trans (ld_hd _ _ _ _ rfl)
theorem rd_hd8_2 (m : Memref sig .tc .vmem S4x8x128 .f32) (hm : m.IsWhole) (x : S4x8x128.Idx → Elt F .f32) :
    View.readAt (Elt F) m.view (Rect.unit (s := S4x8x128) ![2, 0, 0] S1x8x128.size inb_S4x8x128_S1x8x128_2_0_0).toLoadRect (hm.unread x) = hd8 x 2 :=
  (congrArg (fun w => View.ld w _) (hm.read_unread x)).trans (ld_hd8 _ _ _ _ rfl)
theorem rdF_3 (m : Memref sig .tc .vmem S640x512 .f32) (hm : m.IsWhole) (x : S640x512.Idx → Elt F .f32) :
    View.readAt (Elt F) m.view (Rect.unit (s := S640x512) (k0_off8 k) S128x128.size (k0_off8_inb k)).toLoadRect (hm.unread x) = sub x (trF k) 3 :=
  (congrArg (fun w => View.ld w _) (hm.read_unread x)).trans (ld_sub _ _ _ _ _ (k0_off8_eq k))
theorem rd_hd_3 (m : Memref sig .tc .vmem S4x128x128 .f32) (hm : m.IsWhole) (x : S4x128x128.Idx → Elt F .f32) :
    View.readAt (Elt F) m.view (Rect.unit (s := S4x128x128) ![3, 0, 0] S1x128x128.size inb_S4x128x128_S1x128x128_3_0_0).toLoadRect (hm.unread x) = hd x 3 :=
  (congrArg (fun w => View.ld w _) (hm.read_unread x)).trans (ld_hd _ _ _ _ rfl)
theorem rd_hd8_3 (m : Memref sig .tc .vmem S4x8x128 .f32) (hm : m.IsWhole) (x : S4x8x128.Idx → Elt F .f32) :
    View.readAt (Elt F) m.view (Rect.unit (s := S4x8x128) ![3, 0, 0] S1x8x128.size inb_S4x8x128_S1x8x128_3_0_0).toLoadRect (hm.unread x) = hd8 x 3 :=
  (congrArg (fun w => View.ld w _) (hm.read_unread x)).trans (ld_hd8 _ _ _ _ rfl)

end Offsets

section Body

variable (𝒱 : Variants) (c : Dev nD) (bd : Option 𝒱.V) (i : grid0.Coords) (arg1 : Memref sig .tc .vmem S640x512 .f32) (harg1 : arg1.IsWhole) (arg2 : Memref sig .tc .vmem S640x512 .f32) (harg2 : arg2.IsWhole) (arg3 : Memref sig .tc .vmem S640x512 .f32) (harg3 : arg3.IsWhole) (arg4 : Memref sig .tc .vmem S640x128 .f32) (harg4 : arg4.IsWhole) (arg5 : Memref sig .tc .vmem S640x128 .f32) (harg5 : arg5.IsWhole) (arg6 : Memref sig .tc .vmem S4x128x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x8x128 .f32) (harg9 : arg9.IsWhole) (arg10 : Memref sig .tc .vmem S640x512 .f32) (harg10 : arg10.IsWhole) (arg11 : Memref sig .tc .vmem S4x5x128x128 .f32) (harg11 : arg11.IsWhole) (arg12 : Memref sig .tc .vmem S4x128x128 .f32) (harg12 : arg12.IsWhole)
  (I : FIn F) (st : St F)

theorem fwd_writes_o (k : Fin k0_t1_loop.trips) (f_arg10 : BufTy.Contents (Elt F) arg10.view.ty) (f_arg11 : BufTy.Contents (Elt F) arg11.view.ty) :
    arg10.view.read (Elt F) (arg10.view.writes (Elt F) f_arg10 ((trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k).1 f_arg10 f_arg11 (harg12.unread st)))
      = fun y => if chunkOf (y 0) = trF k then I.o (trF k) (headOf (y 1)) st (ix2 (inOf (y 0)) (inOf (y 1))) else arg10.view.read (Elt F) f_arg10 y := by
  refine (congrArg (fun L => arg10.view.read (Elt F) (arg10.view.writes (Elt F) f_arg10 L)) (fwd_pieces_o 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k f_arg10 f_arg11 (harg12.unread st))).trans ?_
  beta_reduce
  rw [rdF_tab k arg4 harg4, rdF_tab k arg5 harg5, rdF_0 k arg1 harg1, rdF_0 k arg2 harg2, rdF_0 k arg3 harg3, rdF_1 k arg1 harg1, rdF_1 k arg2 harg2, rdF_1 k arg3 harg3, rdF_2 k arg1 harg1, rdF_2 k arg2 harg2, rdF_2 k arg3 harg3, rdF_3 k arg1 harg1, rdF_3 k arg2 harg2, rdF_3 k arg3 harg3, rd_hd_0 arg6 harg6, rd_hd_0 arg8 harg8, rd_hd_0 arg12 harg12, rd_hd_1 arg6 harg6, rd_hd_1 arg8 harg8, rd_hd_1 arg12 harg12, rd_hd_2 arg6 harg6, rd_hd_2 arg8 harg8, rd_hd_2 arg12 harg12, rd_hd_3 arg6 harg6, rd_hd_3 arg8 harg8, rd_hd_3 arg12 harg12]
  exact read_rows4 arg10.view f_arg10 (fun h => I.o (trF k) h st) (trF k)
    (fun t => match t with | 0 => k0_off2 k | 1 => k0_off4 k | 2 => k0_off6 k | 3 => k0_off8 k)
    (fun t => match t with | 0 => k0_off2_inb k | 1 => k0_off4_inb k | 2 => k0_off6_inb k | 3 => k0_off8_inb k)
    (fun t => match t with | 0 => k0_off2_eq k | 1 => k0_off4_eq k | 2 => k0_off6_eq k | 3 => k0_off8_eq k)
    headOf (fun _ => rfl)

theorem fwd_writes_w (k : Fin k0_t1_loop.trips) (f_arg10 : BufTy.Contents (Elt F) arg10.view.ty) (f_arg11 : BufTy.Contents (Elt F) arg11.view.ty) :
    arg11.view.read (Elt F) (arg11.view.writes (Elt F) f_arg11 ((trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k).2.1 f_arg10 f_arg11 (harg12.unread st)))
      = fun y => if (y 1).val = (trF k).val then fW (hd st (y 0)) (ix4 0 0 (y 2) (y 3)) else arg11.view.read (Elt F) f_arg11 y := by
  refine (congrArg (fun L => arg11.view.read (Elt F) (arg11.view.writes (Elt F) f_arg11 L)) (fwd_pieces_w 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k f_arg10 f_arg11 (harg12.unread st))).trans ?_
  beta_reduce
  rw [rd_hd_0 arg12 harg12, rd_hd_1 arg12 harg12, rd_hd_2 arg12 harg12, rd_hd_3 arg12 harg12]
  exact read_slots arg11.view f_arg11 (fun h => fW (hd st h)) (trF k)
    (fun t => match t with | 0 => k0_off3 k | 1 => k0_off5 k | 2 => k0_off7 k | 3 => k0_off9 k)
    (fun t => match t with | 0 => k0_off3_inb k | 1 => k0_off5_inb k | 2 => k0_off7_inb k | 3 => k0_off9_inb k)
    (fun t => match t with | 0 => k0_off3_eq k | 1 => k0_off5_eq k | 2 => k0_off7_eq k | 3 => k0_off9_eq k)

theorem fwd_writes_s (k : Fin k0_t1_loop.trips) (f_arg10 : BufTy.Contents (Elt F) arg10.view.ty) (f_arg11 : BufTy.Contents (Elt F) arg11.view.ty) :
    arg12.view.read (Elt F) (arg12.view.writes (Elt F) (harg12.unread st) ((trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k).2.2.1 f_arg10 f_arg11 (harg12.unread st)))
      = I.step (trF k) st := by
  refine (congrArg (fun L => arg12.view.read (Elt F) (arg12.view.writes (Elt F) (harg12.unread st) L)) (fwd_pieces_s 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k f_arg10 f_arg11 (harg12.unread st))).trans ?_
  beta_reduce
  rw [rdF_tab k arg4 harg4, rdF_tab k arg5 harg5, rdF_0 k arg2 harg2, rdF_0 k arg3 harg3, rdF_1 k arg2 harg2, rdF_1 k arg3 harg3, rdF_2 k arg2 harg2, rdF_2 k arg3 harg3, rdF_3 k arg2 harg2, rdF_3 k arg3 harg3, rd_hd_0 arg7 harg7, rd_hd_0 arg12 harg12, rd_hd_1 arg7 harg7, rd_hd_1 arg12 harg12, rd_hd_2 arg7 harg7, rd_hd_2 arg12 harg12, rd_hd_3 arg7 harg7, rd_hd_3 arg12 harg12, rd_hd8_0 arg9 harg9, rd_hd8_1 arg9 harg9, rd_hd8_2 arg9 harg9, rd_hd8_3 arg9 harg9]
  exact read_state arg12.view (harg12.unread st) (fun h => I.n (trF k) h st)

/-- The rows and the saved states after `n` trips: the first `n` chunks written, the others as found. -/
def FIn.partO (I : FIn F) (st : St F) (y0 : Vec F S640x512 .f32) (n : Nat) : Vec F S640x512 .f32 :=
  fun y => if (chunkOf (y 0)).val < n then I.outO st y else y0 y
def FIn.partW (I : FIn F) (st : St F) (y0 : Vec F S4x5x128x128 .f32) (n : Nat) : Vec F S4x5x128x128 .f32 :=
  fun y => if (y 1).val < n then I.outW st y else y0 y

/-- What the loop holds before trip `n`. -/
def fwdInv (y10 : Vec F S640x512 .f32) (y11 : Vec F S4x5x128x128 .f32) (n : Nat) : sProp 𝕄 :=
  Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread (I.partO st y10 n)) (harg11.unread (I.partW st y11 n)) (harg12.unread (I.at st n))

theorem fwd_trip (E : Set ℕ) (y10 : Vec F S640x512 .f32) (y11 : Vec F S4x5x128x128 .f32) (k : Fin k0_t1_loop.trips) :
    fwdInv c arg1 harg1 arg2 harg2 arg3 harg3 arg4 harg4 arg5 harg5 arg6 harg6 arg7 harg7 arg8 harg8 arg9 harg9 arg10 harg10 arg11 harg11 arg12 harg12 I st y10 y11 k.val ⊢ wp frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 arg12 harg12 k PUnit.unit) (fun _ => fwdInv c arg1 harg1 arg2 harg2 arg3 harg3 arg4 harg4 arg5 harg5 arg6 harg6 arg7 harg7 arg8 harg8 arg9 harg9 arg10 harg10 arg11 harg11 arg12 harg12 I st y10 y11 (k.val + 1)) := by
  have hk : k.val < 5 := (trF k).isLt
  have e10 := harg10.eq_unread (fwd_writes_o 𝒱 c bd i arg1 harg1 arg2 harg2 arg3 harg3 arg4 harg4 arg5 harg5 arg6 harg6 arg7 harg7 arg8 harg8 arg9 harg9 arg10 harg10 arg11 harg11 arg12 harg12 I (I.at st k.val) k (harg10.unread (I.partO st y10 k.val)) (harg11.unread (I.partW st y11 k.val)))
  have e11 := harg11.eq_unread (fwd_writes_w 𝒱 c bd i arg1 harg1 arg2 harg2 arg3 harg3 arg4 harg4 arg5 harg5 arg6 harg6 arg7 harg7 arg8 harg8 arg9 harg9 arg10 harg10 arg11 harg11 arg12 harg12 I (I.at st k.val) k (harg10.unread (I.partO st y10 k.val)) (harg11.unread (I.partW st y11 k.val)))
  have e12 := harg12.eq_unread (fwd_writes_s 𝒱 c bd i arg1 harg1 arg2 harg2 arg3 harg3 arg4 harg4 arg5 harg5 arg6 harg6 arg7 harg7 arg8 harg8 arg9 harg9 arg10 harg10 arg11 harg11 arg12 harg12 I (I.at st k.val) k (harg10.unread (I.partO st y10 k.val)) (harg11.unread (I.partW st y11 k.val)))
  have g10 : (fun y => if chunkOf (y 0) = trF k then I.o (trF k) (headOf (y 1)) (I.at st k.val) (ix2 (inOf (y 0)) (inOf (y 1)))
      else arg10.view.read (Elt F) (harg10.unread (I.partO st y10 k.val)) y) = I.partO st y10 (k.val + 1) := by
    funext y
    rw [harg10.read_unread]
    unfold FIn.partO
    by_cases h : chunkOf (y 0) = trF k
    · rw [if_pos h, if_pos (by rw [h]; exact Nat.lt_succ_self _)]
      unfold FIn.outO
      rw [h]
    · have h' : (chunkOf (y 0)).val ≠ k.val := fun hh => h (Fin.ext hh)
      rw [if_neg h]
      by_cases hlt : (chunkOf (y 0)).val < k.val
      · rw [if_pos hlt, if_pos (Nat.lt_succ_of_lt hlt)]
      · rw [if_neg hlt, if_neg (by omega)]
  have g11 : (fun y => if (y 1).val = (trF k).val then fW (hd (I.at st k.val) (y 0)) (ix4 0 0 (y 2) (y 3))
      else arg11.view.read (Elt F) (harg11.unread (I.partW st y11 k.val)) y) = I.partW st y11 (k.val + 1) := by
    funext y
    rw [harg11.read_unread]
    unfold FIn.partW
    by_cases h : (y 1).val = k.val
    · rw [if_pos h, if_pos (by omega)]
      unfold FIn.outW
      rw [h]
    · rw [if_neg h]
      by_cases hlt : (y 1).val < k.val
      · rw [if_pos hlt, if_pos (Nat.lt_succ_of_lt hlt)]
      · rw [if_neg hlt, if_neg (by omega)]
  rw [g10] at e10
  rw [g11] at e11
  rw [← I.at_succ st k.val hk] at e12
  have t := (trip_k0_t1 (F := F) 𝒱 c bd i arg1 harg1 arg2 harg2 arg3 harg3 arg4 harg4 arg5 harg5 arg6 harg6 arg7 harg7 arg8 harg8 arg9 harg9 arg10 harg10 arg11 harg11 arg12 harg12 (harg1.unread I.q) (harg2.unread I.k) (harg3.unread I.v) (harg4.unread I.c) (harg5.unread I.s) (harg6.unread I.d) (harg7.unread I.z) (harg8.unread I.x) (harg9.unread I.g) k).2.2.2 E (harg10.unread (I.partO st y10 k.val)) (harg11.unread (I.partW st y11 k.val)) (harg12.unread (I.at st k.val))
  rw [e10, e11, e12] at t
  exact t

/-- The state a block starts from: zero at the first point, what the point before left elsewhere. -/
def startF (i : grid0.Coords) (st : St F) : St F := if (i 0).val = 0 then k0_pay1 else st

theorem fwd_first (i : grid0.Coords) :
    (Scalar.cmpi .ne (Scalar.extui (Scalar.cmpi .eq (BitVec.ofNat 32 (i 0).val) 0#32) : BitVec 32) 0#32 = 1#1) ↔ (i 0).val = 0 := by
  have h : (i 0).val < 13 := (i 0).isLt
  generalize (i 0).val = n at h
  interval_cases n <;> decide

theorem owns_unread {sh : Shape} {e : EltTy} {sp : Space} (m : Memref sig .tc sp sh e) (hm : m.IsWhole) (x : sh.Idx → Elt F e) :
    (owns (c : Thread nD τ) m fullShare x : sProp 𝕄) ⊢ (m.view.loc (c : Thread nD τ) ↦[m.view.set]{fullShare} hm.unread x) := by
  unfold owns
  iintro ⟨%f, %hf, H⟩
  rw [hm.eq_unread hf]
  iexact H

theorem unread_owns {sh : Shape} {e : EltTy} {sp : Space} (m : Memref sig .tc sp sh e) (hm : m.IsWhole) (x : sh.Idx → Elt F e) :
    ((m.view.loc (c : Thread nD τ) ↦[m.view.set]{fullShare} hm.unread x) : sProp 𝕄) ⊢ owns (c : Thread nD τ) m fullShare x := by
  unfold owns
  iintro H
  iexists _
  isplitr
  swap
  · iexact H
  · ipureintro; exact hm.read_unread x

theorem fwd_done_o (y : Vec F S640x512 .f32) : I.partO st y 5 = I.outO st :=
  funext fun p => if_pos (chunkOf (p 0)).isLt
theorem fwd_done_w (y : Vec F S4x5x128x128 .f32) : I.partW st y 5 = I.outW st :=
  funext fun p => if_pos (p 1).isLt
theorem fwd_zero_o (y : Vec F S640x512 .f32) : I.partO st y 0 = y :=
  funext fun p => if_neg (Nat.not_lt_zero _)
theorem fwd_zero_w (y : Vec F S4x5x128x128 .f32) : I.partW st y 0 = y :=
  funext fun p => if_neg (Nat.not_lt_zero _)

theorem fwd_loop (E : Set ℕ) (y10 : Vec F S640x512 .f32) (y11 : Vec F S4x5x128x128 .f32) :
    (Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread y10) (harg11.unread y11) (harg12.unread st) : sProp 𝕄)
    ⊢ wp frame (wpE (defs₀ (F := F)) 𝒱 (c : Thread nD τ) bd) E
      (Scf.Loop.for k0_t1_loop k0_t1_ok PUnit.unit (k0_t1_body (F := F) i arg1 harg1 arg2 harg2 arg3 harg3 arg4 harg4 arg5 harg5 arg6 harg6 arg7 harg7 arg8 harg8 arg9 harg9 arg10 harg10 arg11 harg11 arg12 harg12) >>= fun _ => pure PUnit.unit)
      (fun _ : PUnit => Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread (I.outO st)) (harg11.unread (I.outW st)) (harg12.unread (I.at st 5))) := by
  have h := Scf.wp_for_bind frame (wpE (defs₀ (F := F)) 𝒱 (c : Thread nD τ) bd) E k0_t1_loop.lb k0_t1_loop.ub k0_t1_loop.st k0_t1_ok PUnit.unit
    (k0_t1_body (F := F) i arg1 harg1 arg2 harg2 arg3 harg3 arg4 harg4 arg5 harg5 arg6 harg6 arg7 harg7 arg8 harg8 arg9 harg9 arg10 harg10 arg11 harg11 arg12 harg12) (fun n _ => fwdInv c arg1 harg1 arg2 harg2 arg3 harg3 arg4 harg4 arg5 harg5 arg6 harg6 arg7 harg7 arg8 harg8 arg9 harg9 arg10 harg10 arg11 harg11 arg12 harg12 I st y10 y11 n)
    (fun k _ => fwd_trip 𝒱 c bd i arg1 harg1 arg2 harg2 arg3 harg3 arg4 harg4 arg5 harg5 arg6 harg6 arg7 harg7 arg8 harg8 arg9 harg9 arg10 harg10 arg11 harg11 arg12 harg12 I st E y10 y11 k) (kk := fun _ => pure PUnit.unit)
    (Q := fun _ : PUnit => Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread (I.outO st)) (harg11.unread (I.outW st)) (harg12.unread (I.at st 5)))
  have e0 : fwdInv c arg1 harg1 arg2 harg2 arg3 harg3 arg4 harg4 arg5 harg5 arg6 harg6 arg7 harg7 arg8 harg8 arg9 harg9 arg10 harg10 arg11 harg11 arg12 harg12 I st y10 y11 0 = (Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread y10) (harg11.unread y11) (harg12.unread st) : sProp 𝕄) := by
    unfold fwdInv
    rw [fwd_zero_o, fwd_zero_w]
    rfl
  have e5 : fwdInv c arg1 harg1 arg2 harg2 arg3 harg3 arg4 harg4 arg5 harg5 arg6 harg6 arg7 harg7 arg8 harg8 arg9 harg9 arg10 harg10 arg11 harg11 arg12 harg12 I st y10 y11 (Scf.trips k0_t1_loop.lb k0_t1_loop.ub k0_t1_loop.st) = (Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread (I.outO st)) (harg11.unread (I.outW st)) (harg12.unread (I.at st 5)) : sProp 𝕄) := by
    have ht : Scf.trips k0_t1_loop.lb k0_t1_loop.ub k0_t1_loop.st = 5 := by decide
    rw [ht]
    unfold fwdInv
    rw [fwd_done_o, fwd_done_w]
  rw [e0, e5] at h
  iintro H
  ihave HW := h $$ H
  iapply HW
  iintro %acc HT
  rw [wp_pure]
  imodintro
  iexact HT

theorem read_whole_state {κ : Kind} {sp : Space} {Val : EltTy → Type} {e : EltTy} (v : View sig κ sp S4x128x128 e) (f : v.ty.Contents Val) (P : S4x128x128.Idx → Val e) :
    v.read Val (v.writes Val f [⟨Rect.unit (s := S4x128x128) ![0, 0, 0] S4x128x128.size inb_S4x128x128_S4x128x128_0_0_0, P⟩]) = P := by
  funext y
  exact View.read_writes_cons_unit_of_mem v f _ _ _ y y rfl fun a => by
    match a with
    | ⟨0, _⟩ => exact (Nat.zero_add _).symm
    | ⟨1, _⟩ => exact (Nat.zero_add _).symm
    | ⟨2, _⟩ => exact (Nat.zero_add _).symm

theorem zero_state (arg12 : Memref sig .tc .vmem S4x128x128 .f32) (harg12 : arg12.IsWhole) (E : Set ℕ) (f : BufTy.Contents (Elt F) arg12.view.ty)
    (κ : Prog (TpuEff nD τ sig (Elt F) Λ₀ .tc) PUnit) (Q : PUnit → sProp 𝕄) :
    iprop((arg12.view.loc (c : Thread nD τ) ↦[arg12.view.set]{fullShare} f)
      ∗ ((arg12.view.loc (c : Thread nD τ) ↦[arg12.view.set]{fullShare} harg12.unread (k0_pay1 (F := F))) -∗ wp frame (wpE (defs₀ (F := F)) 𝒱 (c : Thread nD τ) bd) E κ Q))
    ⊢ wp frame (wpE (defs₀ (F := F)) 𝒱 (c : Thread nD τ) bd) E
      (do let v5 : Vec F S4x128x128 .f32 ← Prog.lift (.load arg12 (Rect.unit (s := S4x128x128) ![0, 0, 0] S4x128x128.size inb_S4x128x128_S4x128x128_0_0_0).toLoadRect (View.loadsAt_vmem h_S4x128x128))
          Prog.lift (.store arg12 (Rect.unit (s := S4x128x128) ![0, 0, 0] S4x128x128.size inb_S4x128x128_S4x128x128_0_0_0) (k0_pay1 (F := F)) Finset.univ (View.stores_vmem_bits_univ h_S4x128x128 rfl) (.inl rfl))
          κ) Q := by
  iintro ⟨H12, Hk⟩
  sl_exec
  rw [harg12.eq_unread (read_whole_state arg12.view f k0_pay1)]
  iapply Hk
  iexact H12

theorem fwd_body (E : Set ℕ) (y10 : Vec F S640x512 .f32) (y11 : Vec F S4x5x128x128 .f32) :
    (Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread y10) (harg11.unread y11) (harg12.unread st) : sProp 𝕄)
    ⊢ wp frame (wpE (defs₀ (F := F)) 𝒱 (c : Thread nD τ) bd) E
      (cc0_retention (F := F) i arg1 harg1 arg2 harg2 arg3 harg3 arg4 harg4 arg5 harg5 arg6 harg6 arg7 harg7 arg8 harg8 arg9 harg9 arg10 harg10 arg11 harg11 arg12 harg12)
      (fun _ : PUnit => Trip_k0_t1 (F := F) c arg1 arg2 arg3 arg4 arg5 arg6 arg7 arg8 arg9 arg10 arg11 arg12 (harg1.unread I.q) (harg2.unread I.k) (harg3.unread I.v) (harg4.unread I.c) (harg5.unread I.s) (harg6.unread I.d) (harg7.unread I.z) (harg8.unread I.x) (harg9.unread I.g) (harg10.unread (I.outO (startF i st))) (harg11.unread (I.outW (startF i st))) (harg12.unread (I.at (startF i st) 5))) := by
  rw [cc0_retention_eq_skeleton]
  change (_ : sProp 𝕄) ⊢ wp frame (wpE (defs₀ (F := F)) 𝒱 (c : Thread nD τ) bd) E
    (dite (Scalar.cmpi .ne (Scalar.extui (Scalar.cmpi .eq (BitVec.ofNat 32 (i 0).val) 0#32) : BitVec 32) 0#32 = 1#1)
        (fun _ => do
          let v5 : Vec F S4x128x128 .f32 ← Prog.lift (.load arg12 (Rect.unit (s := S4x128x128) ![0, 0, 0] S4x128x128.size inb_S4x128x128_S4x128x128_0_0_0).toLoadRect (View.loadsAt_vmem h_S4x128x128))
          Prog.lift (.store arg12 (Rect.unit (s := S4x128x128) ![0, 0, 0] S4x128x128.size inb_S4x128x128_S4x128x128_0_0_0) (k0_pay1 (F := F)) Finset.univ (View.stores_vmem_bits_univ h_S4x128x128 rfl) (.inl rfl))
          (Scf.Loop.for k0_t1_loop k0_t1_ok PUnit.unit (k0_t1_body (F := F) i arg1 harg1 arg2 harg2 arg3 harg3 arg4 harg4 arg5 harg5 arg6 harg6 arg7 harg7 arg8 harg8 arg9 harg9 arg10 harg10 arg11 harg11 arg12 harg12) >>= fun _ => pure PUnit.unit))
        (fun _ => (Scf.Loop.for k0_t1_loop k0_t1_ok PUnit.unit (k0_t1_body (F := F) i arg1 harg1 arg2 harg2 arg3 harg3 arg4 harg4 arg5 harg5 arg6 harg6 arg7 harg7 arg8 harg8 arg9 harg9 arg10 harg10 arg11 harg11 arg12 harg12) >>= fun _ => pure PUnit.unit))) _
  by_cases h0 : (i 0).val = 0
  · rw [dif_pos ((fwd_first i).mpr h0)]
    have hs : startF i st = k0_pay1 := if_pos h0
    rw [hs]
    iintro ⟨H1, H2, H3, H4, H5, H6, H7, H8, H9, H10, H11, H12⟩
    iapply (zero_state 𝒱 c bd arg12 harg12 E (harg12.unread st))
    isplitl [H12]; · iexact H12
    · iintro H12
      iapply (fwd_loop 𝒱 c bd i arg1 harg1 arg2 harg2 arg3 harg3 arg4 harg4 arg5 harg5 arg6 harg6 arg7 harg7 arg8 harg8 arg9 harg9 arg10 harg10 arg11 harg11 arg12 harg12 I k0_pay1 E y10 y11)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · rw [dif_neg (fun hh => h0 ((fwd_first i).mp hh))]
    have hs : startF i st = st := if_neg h0
    rw [hs]
    exact fwd_loop 𝒱 c bd i arg1 harg1 arg2 harg2 arg3 harg3 arg4 harg4 arg5 harg5 arg6 harg6 arg7 harg7 arg8 harg8 arg9 harg9 arg10 harg10 arg11 harg11 arg12 harg12 I st E y10 y11

end Body

end Cert.Ret
-- ==== Proof.RegionHeld.lean ====
/- A region of the program between two states of all the device's arrays: its windows may share an array. -/
module

public import proofs.«01_k».proof.Proof.Gen.KernelIdeal.Regions
public import proofs.«01_k».proof.Proof.Gen.KernelIdeal.Launch
public import Idealize.ShloMosaic.Lib.Pipeline.RegionArrays

@[expose] public section

noncomputable section

namespace Cert.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg BodyObligationLoose RegionSeg)

variable {F : FTy → Type} [FloatOps F]

local notation "𝕄" => MT nD τ sig Unit (Elt F) ℕ (UR sig nD τ) ℕ

/-- The one name of a wait, at the TensorCore's semaphores. -/
def lset (g : GSem nD τ sig) : Finset Unit := if g.1.2 = .tc then {()} else ∅
/-- No order is needed among them: nothing is owed. -/
def llev (_ : GSem nD τ sig) (_ : Unit) : ℕ := 0

/-- The arrays of a region's windows, held at a valuation, are its proof data's arrays. -/
theorem held_arrays {Λ₀ : Labels} {cfg : Cfg sig Λ₀} {c : Dev nD} (dat : Dat τ (Elt F) Unit ℕ (UR sig nD τ) ℕ cfg c)
    (hin : Pipeline.SharedIn cfg.spec) (harr : ∀ w, (cfg.spec w).arr.IsWhole)
    (hq : ∀ w, (cfg.spec w).isOut = false → dat.q w = Pipeline.shareOf cfg.spec w)
    (W : Valuation τ sig (Elt F)) (A : (w : Fin cfg.W) → Buf (Elt F) ((cfg.spec w).arr.view.loc (c.tc : Thread nD τ)))
    (hA : ∀ w, A w = W (Proc.devRef .tc (Pipeline.arrRef cfg.spec w))) :
    (StableHlo.held (c.tc : Thread nD τ) (Pipeline.arrRefs cfg.spec) W : sProp 𝕄) = dat.arrays A := by
  rw [← dat.arrBufs_eq_arrays hin harr hq (fun b => W (Proc.devRef .tc b)) A hA]
  unfold StableHlo.held Pipeline.arrRefs Pipeline.arrBufs
  rw [bigSep_map]
  rfl

theorem drop_emp {P Q : sProp 𝕄} (h : P ⊢ Q) : (iprop(P ∗ emp) : sProp 𝕄) ⊢ Q := by
  iintro ⟨H, -⟩
  iapply h
  iexact H

theorem keep_emp {P Q : sProp 𝕄} (h : P ⊢ Q) : P ⊢ (iprop(Q ∗ emp) : sProp 𝕄) := by
  iintro H
  isplitl [H]
  · iapply h
    iexact H
  iempintro

theorem lcut (p : Fin 2) : Pipeline.LevelCut (nD := nD) (τ := τ) (pcfgs (F := F)) adm () lset llev p (fun _ => 0) (fun _ => 0) where
  hι c w s := by unfold lset; rw [if_pos rfl]; exact Finset.mem_singleton_self _
  hιb c w s := Nat.le_refl _
  hD c g i h := absurd h (Nat.lt_irrefl 0)

section Seg

variable (pdats : (p : Fin 2) → (c : Dev nD) → Dat τ (Elt F) Unit ℕ (UR sig nD τ) ℕ (cfgs p) c)
variable (p : Fin 2) (kit : Pipeline.PLaunchFacts₀ (nD := nD) (τ := τ) (pcfgs (F := F)) p)
variable (hbody : ∀ c, BodyObligationLoose (pdats p c) (defs₀ (F := F)) Variants.none () Set.univ)
variable (howed : ∀ c t, (pdats p c).owed t = 0) (hrec : ∀ c, (pdats p c).recorded 0 = Set.univ)
variable (hin : ∀ c, Pipeline.scopedRest (Ix := Unit) (Name := ℕ) (U := UR sig nD τ) (Lvl := ℕ) (Val := Elt F) (cfgs p).spec c ⊢ (pdats p c).Φ 0)
variable (hout : ∀ c, (pdats p c).Φ (Fin.last (cfgs p).N) ⊢ Pipeline.scopedRest (Ix := Unit) (Name := ℕ) (U := UR sig nD τ) (Lvl := ℕ) (Val := Elt F) (cfgs p).spec c)
variable (W : Dev nD → Valuation τ sig (Elt F))

/-- A region entered from all the arrays at `W`. -/
def regionOf (hK : (pcfgs (F := F) p).pre.K = 0) : RegionSeg (pcfgs (F := F)) adm pdats () defs₀ Variants.none lset llev p := by
  have h1 : ∀ c, (iprop(Pipeline.scopedRest (Pipeline.pin (pcfgs (F := F)) adm p).spec c ∗ emp) : sProp 𝕄) ⊢ (pdats p c).Φ 0 := fun c => drop_emp (hin c)
  have h2 : ∀ c, (pdats p c).Φ (Fin.last (Pipeline.pin (pcfgs (F := F)) adm p).N) ⊢ (iprop(Pipeline.scopedRest (Pipeline.pin (pcfgs (F := F)) adm p).spec c ∗ emp) : sProp 𝕄) := fun c => keep_emp (hout c)
  exact RegionSeg.ofArrays (pcfgs (F := F)) adm pdats () defs₀ Variants.none lset llev p (fun _ => 0)
    (fun _ => iprop(emp)) (fun _ => iprop(emp)) kit hK hbody howed hrec
    h1 h2
    (fun _ => 0)
    (lcut p)
    (fun c => StableHlo.held (c.tc : Thread nD τ) (Pipeline.ucRefs τ sig \ Pipeline.arrRefs (cfgs p).spec) (W c))

variable (hshared : Pipeline.SharedIn (cfgs p).spec) (harr : ∀ w, ((cfgs p).spec w).arr.IsWhole)
variable (hq : ∀ c w, ((cfgs p).spec w).isOut = false → (pdats p c).q w = Pipeline.shareOf (cfgs p).spec w)
variable (hsub : Pipeline.arrRefs (cfgs p).spec ⊆ Pipeline.ucRefs τ sig)
include hshared harr hq hsub

theorem regionOf_pre (hK : (pcfgs (F := F) p).pre.K = 0) (hW : ∀ c w, (pdats p c).arrAt w 0 = W c (Proc.devRef .tc (Pipeline.arrRef (cfgs p).spec w))) (c : Dev nD) :
    (iprop(StableHlo.held (c.tc : Thread nD τ) (Pipeline.ucRefs τ sig) (W c) ∗ ∃ Wd, owes (c : Thread nD τ) (0 : CellTallies nD τ sig Unit) Wd) : sProp 𝕄)
      ⊢ (regionOf pdats p kit hbody howed hrec hin hout W hK).pre c := by
  show _ ⊢ (iprop((pdats p c).arrays ((pdats p c).arrAt · 0) ∗ emp
    ∗ StableHlo.held (c.tc : Thread nD τ) (Pipeline.ucRefs τ sig \ Pipeline.arrRefs (cfgs p).spec) (W c)
    ∗ ∃ Wd, owes (c : Thread nD τ) (0 : CellTallies nD τ sig Unit) Wd) : sProp 𝕄)
  rw [StableHlo.held_sub_split (c.tc : Thread nD τ) hsub (W c), held_arrays (pdats p c) hshared harr (hq c) (W c) _ (hW c)]
  iintro ⟨⟨Ha, Hu⟩, HO⟩
  isplitl [Ha]; · iexact Ha
  isplitr; · iempintro
  isplitl [Hu]; · iexact Hu
  iexact HO

theorem regionOf_post (hK : (pcfgs (F := F) p).pre.K = 0) (W' : Dev nD → Valuation τ sig (Elt F))
    (hW : ∀ c w, (pdats p c).arrAt w (cfgs p).N = W' c (Proc.devRef .tc (Pipeline.arrRef (cfgs p).spec w)))
    (hoff : ∀ c, ∀ b ∈ Pipeline.ucRefs τ sig \ Pipeline.arrRefs (cfgs p).spec, W' c b = W c b) (c : Dev nD) :
    (regionOf pdats p kit hbody howed hrec hin hout W hK).post c
      ⊢ (iprop(StableHlo.held (c.tc : Thread nD τ) (Pipeline.ucRefs τ sig) (W' c) ∗ ∃ Wd, owes (c : Thread nD τ) (0 : CellTallies nD τ sig Unit) Wd) : sProp 𝕄) := by
  show (iprop((pdats p c).arrays ((pdats p c).arrAt · (cfgs p).N) ∗ emp
    ∗ StableHlo.held (c.tc : Thread nD τ) (Pipeline.ucRefs τ sig \ Pipeline.arrRefs (cfgs p).spec) (W c)
    ∗ ∃ Wd, owes (c : Thread nD τ) (0 : CellTallies nD τ sig Unit) Wd) : sProp 𝕄) ⊢ _
  rw [StableHlo.held_sub_split (c.tc : Thread nD τ) hsub (W' c), held_arrays (pdats p c) hshared harr (hq c) (W' c) _ (hW c),
    StableHlo.held_congr (c.tc : Thread nD τ) (V := W' c) (V' := W c) (hoff c)]
  iintro ⟨Ha, -, Hu, HO⟩
  isplitl [Ha Hu]
  · isplitl [Ha]; · iexact Ha
    iexact Hu
  iexact HO

end Seg

end Cert.Ret

end
-- ==== Proof.FwdRegion.lean ====
/- The forward region: its proof data and the obligation of its body. -/
module

public import proofs.«01_k».proof.Proof.FwdBody
public import proofs.«01_k».proof.Proof.RegionHeld
public import proofs.«01_k».proof.Proof.Gen.KernelIdeal.Points
public import Idealize.ShloMosaic.Lib.Pipeline.FrameBody

@[expose] public section

set_option maxRecDepth 8192

noncomputable section

namespace Cert.Ret

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation BodyObligationLoose)

variable {F : FTy → Type} [FloatOps F]

local notation "𝕄" => MT nD τ sig Unit (Elt F) ℕ (UR sig nD τ) ℕ

section

variable (V : Dev nD → Valuation τ sig (Elt F))

/-- A window's block at a grid point, read off its array as the region finds it. -/
def fwdBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Window 0's buffer at a point: its block, no part of it cut off. -/
def fwdIn0 (c : Dev nD) (t : Fin cfg0.N) : (cfg0.win 0).block.Idx → Elt F (cfg0.win 0).elt :=
  (cfg0.win 0).fill (cfg0.grid.coords t) (fun _ => Classical.choice inferInstance) (fwdBlk V c 0 t)
theorem fwd_size0 : ∀ t : Fin cfg0.N, ∀ a, (cfg0.win 0).xsize (cfg0.grid.coords t) a = (cfg0.win 0).size a := by decide +kernel
theorem fwd_moved0 (t : Fin cfg0.N) (j : (cfg0.win 0).block.Idx) : (cfg0.win 0).moved (cfg0.grid.coords t) j = true :=
  ((cfg0.win 0).moved_iff _ j).mpr fun a => by rw [fwd_size0 t a]; exact (j a).isLt
theorem fwd_fill0 (t : Fin cfg0.N) (x y : (cfg0.win 0).block.Idx → Elt F (cfg0.win 0).elt) (g) :
    (cfg0.win 0).fill (cfg0.grid.coords t) x g = (cfg0.win 0).fill (cfg0.grid.coords t) y g :=
  by funext j; unfold Pipeline.Window.fill; rw [dif_pos (fwd_moved0 t j), dif_pos (fwd_moved0 t j)]

/-- Window 1's buffer at a point: its block, no part of it cut off. -/
def fwdIn1 (c : Dev nD) (t : Fin cfg0.N) : (cfg0.win 1).block.Idx → Elt F (cfg0.win 1).elt :=
  (cfg0.win 1).fill (cfg0.grid.coords t) (fun _ => Classical.choice inferInstance) (fwdBlk V c 1 t)
theorem fwd_size1 : ∀ t : Fin cfg0.N, ∀ a, (cfg0.win 1).xsize (cfg0.grid.coords t) a = (cfg0.win 1).size a := by decide +kernel
theorem fwd_moved1 (t : Fin cfg0.N) (j : (cfg0.win 1).block.Idx) : (cfg0.win 1).moved (cfg0.grid.coords t) j = true :=
  ((cfg0.win 1).moved_iff _ j).mpr fun a => by rw [fwd_size1 t a]; exact (j a).isLt
theorem fwd_fill1 (t : Fin cfg0.N) (x y : (cfg0.win 1).block.Idx → Elt F (cfg0.win 1).elt) (g) :
    (cfg0.win 1).fill (cfg0.grid.coords t) x g = (cfg0.win 1).fill (cfg0.grid.coords t) y g :=
  by funext j; unfold Pipeline.Window.fill; rw [dif_pos (fwd_moved1 t j), dif_pos (fwd_moved1 t j)]

/-- Window 2's buffer at a point: its block, no part of it cut off. -/
def fwdIn2 (c : Dev nD) (t : Fin cfg0.N) : (cfg0.win 2).block.Idx → Elt F (cfg0.win 2).elt :=
  (cfg0.win 2).fill (cfg0.grid.coords t) (fun _ => Classical.choice inferInstance) (fwdBlk V c 2 t)
theorem fwd_size2 : ∀ t : Fin cfg0.N, ∀ a, (cfg0.win 2).xsize (cfg0.grid.coords t) a = (cfg0.win 2).size a := by decide +kernel
theorem fwd_moved2 (t : Fin cfg0.N) (j : (cfg0.win 2).block.Idx) : (cfg0.win 2).moved (cfg0.grid.coords t) j = true :=
  ((cfg0.win 2).moved_iff _ j).mpr fun a => by rw [fwd_size2 t a]; exact (j a).isLt
theorem fwd_fill2 (t : Fin cfg0.N) (x y : (cfg0.win 2).block.Idx → Elt F (cfg0.win 2).elt) (g) :
    (cfg0.win 2).fill (cfg0.grid.coords t) x g = (cfg0.win 2).fill (cfg0.grid.coords t) y g :=
  by funext j; unfold Pipeline.Window.fill; rw [dif_pos (fwd_moved2 t j), dif_pos (fwd_moved2 t j)]

/-- The blocks the body works on at a grid point. -/
def fwdAt (c : Dev nD) (t : Fin cfg0.N) : FIn F :=
  ⟨(fwdIn0 V c t), (fwdIn1 V c t), (fwdIn2 V c t), (fwdBlk V c 3 t), (fwdBlk V c 4 t), (fwdBlk V c 5 t), (fwdBlk V c 6 t), (fwdBlk V c 7 t), (fwdBlk V c 8 t)⟩

/-- The carried state before grid point `n`. -/
def fwdSt (c : Dev nD) : ℕ → St F
  | 0 => k0_pay1
  | n + 1 => if h : n < cfg0.N then (fwdAt V c ⟨n, h⟩).at (fwdSt c n) 5 else fwdSt c n

theorem fwdSt_succ (c : Dev nD) (t : Fin cfg0.N) : fwdSt V c (t.val + 1) = (fwdAt V c t).at (fwdSt V c t.val) 5 :=
  dif_pos t.isLt

theorem fwd_coord (t : Fin cfg0.N) : (grid0.coords t 0).val = t.val :=
  (by decide +kernel : ∀ t : Fin grid0.N, (grid0.coords t 0).val = t.val) t

/-- Whatever the scratch holds at the first point, the body works from the state zero. -/
theorem fwd_start (c : Dev nD) (t : Fin cfg0.N) (st : St F) (h : t.val ≠ 0 → st = fwdSt V c t.val) :
    startF (grid0.coords t) st = fwdSt V c t.val := by
  by_cases h0 : t.val = 0
  · have e : startF (grid0.coords t) st = (k0_pay1 : St F) := if_pos ((fwd_coord t).trans h0)
    rw [e, h0]; rfl
  · exact (if_neg (fun h' => h0 ((fwd_coord t).symm.trans h'))).trans (h h0)

/-- The scratch before point `n`, and the scoped buffers of the other region. -/
def fwdPhi (c : Dev nD) (n : ℕ) : sProp 𝕄 :=
  iprop((∃ st : St F, ⌜n ≠ 0 → st = fwdSt V c n⌝ ∗ owns (c : Thread nD τ) (Memref.whole cc0_scratch0) fullShare st)
    ∗ Pipeline.scopedRestBut (Ix := Unit) (Name := ℕ) (U := UR sig nD τ) (Lvl := ℕ) (Val := Elt F) spec0 c [cc0_scratch0])

/-- The region's proof data, entered at `V`. -/
def fwdDat (c : Dev nD) : Dat τ (Elt F) Unit ℕ (UR sig nD τ) ℕ cfg0 c where
  A w := V c (Proc.devRef .tc (Pipeline.arrRef spec0 w))
  after w t := match w with
    | ⟨0, _⟩ => fwdIn0 V c t
    | ⟨1, _⟩ => fwdIn1 V c t
    | ⟨2, _⟩ => fwdIn2 V c t
    | ⟨3, _⟩ => fwdBlk V c 3 t
    | ⟨4, _⟩ => fwdBlk V c 4 t
    | ⟨5, _⟩ => fwdBlk V c 5 t
    | ⟨6, _⟩ => fwdBlk V c 6 t
    | ⟨7, _⟩ => fwdBlk V c 7 t
    | ⟨8, _⟩ => fwdBlk V c 8 t
    | ⟨9, _⟩ => (fwdAt V c t).outO (fwdSt V c t.val)
    | ⟨10, _⟩ => (fwdAt V c t).outW (fwdSt V c t.val)
  Φ t := fwdPhi V c t.val
  q w := Pipeline.shareOf spec0 w
  owed _ := 0

theorem fwd_A (c : Dev nD) (w : Fin cfg0.W) : (fwdDat V c).A w = V c (Proc.devRef .tc (Pipeline.arrRef spec0 w)) := by
  dsimp only [fwdDat]

theorem fwd_after0 (c : Dev nD) (t : Fin cfg0.N) : (fwdDat V c).after 0 t = fwdIn0 V c t := by dsimp only [fwdDat]
theorem fwd_after1 (c : Dev nD) (t : Fin cfg0.N) : (fwdDat V c).after 1 t = fwdIn1 V c t := by dsimp only [fwdDat]
theorem fwd_after2 (c : Dev nD) (t : Fin cfg0.N) : (fwdDat V c).after 2 t = fwdIn2 V c t := by dsimp only [fwdDat]
theorem fwd_after3 (c : Dev nD) (t : Fin cfg0.N) : (fwdDat V c).after 3 t = fwdBlk V c 3 t := by dsimp only [fwdDat]
theorem fwd_after4 (c : Dev nD) (t : Fin cfg0.N) : (fwdDat V c).after 4 t = fwdBlk V c 4 t := by dsimp only [fwdDat]
theorem fwd_after5 (c : Dev nD) (t : Fin cfg0.N) : (fwdDat V c).after 5 t = fwdBlk V c 5 t := by dsimp only [fwdDat]
theorem fwd_after6 (c : Dev nD) (t : Fin cfg0.N) : (fwdDat V c).after 6 t = fwdBlk V c 6 t := by dsimp only [fwdDat]
theorem fwd_after7 (c : Dev nD) (t : Fin cfg0.N) : (fwdDat V c).after 7 t = fwdBlk V c 7 t := by dsimp only [fwdDat]
theorem fwd_after8 (c : Dev nD) (t : Fin cfg0.N) : (fwdDat V c).after 8 t = fwdBlk V c 8 t := by dsimp only [fwdDat]
theorem fwd_after9 (c : Dev nD) (t : Fin cfg0.N) : (fwdDat V c).after 9 t = (fwdAt V c t).outO (fwdSt V c t.val) := by dsimp only [fwdDat]
theorem fwd_after10 (c : Dev nD) (t : Fin cfg0.N) : (fwdDat V c).after 10 t = (fwdAt V c t).outW (fwdSt V c t.val) := by dsimp only [fwdDat]
theorem fwd_before0 (c : Dev nD) (t : Fin cfg0.N) (d) : (fwdDat V c).before 0 t d = fwdIn0 V c t :=
  ((fwdDat V c).before_in_eq_fetched 0 rfl (fun _ => rfl)
      (fun t t' h => funext fun a => congrArg (fun n => Pipeline.Clip.of n ((cfg0.win 0).size a) (S8320x3840.size a)) (congrFun h a))
      (fun t => by rw [fwd_after0]; unfold fwdIn0; rw [Pipeline.Window.cut_fill]; unfold Dat.blockOf fwdBlk; rw [fwd_A]; try rfl) t d).trans
    (by unfold Dat.fetched fwdIn0; rw [fwd_fill0 t d (fun _ => Classical.choice inferInstance)]; unfold Dat.blockOf fwdBlk; rw [fwd_A]; try rfl)
theorem fwd_before1 (c : Dev nD) (t : Fin cfg0.N) (d) : (fwdDat V c).before 1 t d = fwdIn1 V c t :=
  ((fwdDat V c).before_in_eq_fetched 1 rfl (fun _ => rfl)
      (fun t t' h => funext fun a => congrArg (fun n => Pipeline.Clip.of n ((cfg0.win 1).size a) (S8320x3840.size a)) (congrFun h a))
      (fun t => by rw [fwd_after1]; unfold fwdIn1; rw [Pipeline.Window.cut_fill]; unfold Dat.blockOf fwdBlk; rw [fwd_A]; try rfl) t d).trans
    (by unfold Dat.fetched fwdIn1; rw [fwd_fill1 t d (fun _ => Classical.choice inferInstance)]; unfold Dat.blockOf fwdBlk; rw [fwd_A]; try rfl)
theorem fwd_before2 (c : Dev nD) (t : Fin cfg0.N) (d) : (fwdDat V c).before 2 t d = fwdIn2 V c t :=
  ((fwdDat V c).before_in_eq_fetched 2 rfl (fun _ => rfl)
      (fun t t' h => funext fun a => congrArg (fun n => Pipeline.Clip.of n ((cfg0.win 2).size a) (S8320x3840.size a)) (congrFun h a))
      (fun t => by rw [fwd_after2]; unfold fwdIn2; rw [Pipeline.Window.cut_fill]; unfold Dat.blockOf fwdBlk; rw [fwd_A]; try rfl) t d).trans
    (by unfold Dat.fetched fwdIn2; rw [fwd_fill2 t d (fun _ => Classical.choice inferInstance)]; unfold Dat.blockOf fwdBlk; rw [fwd_A]; try rfl)
theorem fwd_before3 (c : Dev nD) (t : Fin cfg0.N) (d) : (fwdDat V c).before 3 t d = fwdBlk V c 3 t :=
  ((fwdDat V c).before_in_eq_fetched 3 rfl (fun _ => rfl) (fun _ _ _ => rfl) (fun t => by rw [fwd_after3]; unfold Dat.blockOf fwdBlk; rw [fwd_A]; try rfl) t d).trans
    (by unfold Dat.fetched Dat.blockOf fwdBlk; rw [fwd_A]; try rfl)
theorem fwd_before4 (c : Dev nD) (t : Fin cfg0.N) (d) : (fwdDat V c).before 4 t d = fwdBlk V c 4 t :=
  ((fwdDat V c).before_in_eq_fetched 4 rfl (fun _ => rfl) (fun _ _ _ => rfl) (fun t => by rw [fwd_after4]; unfold Dat.blockOf fwdBlk; rw [fwd_A]; try rfl) t d).trans
    (by unfold Dat.fetched Dat.blockOf fwdBlk; rw [fwd_A]; try rfl)
theorem fwd_before5 (c : Dev nD) (t : Fin cfg0.N) (d) : (fwdDat V c).before 5 t d = fwdBlk V c 5 t :=
  ((fwdDat V c).before_in_eq_fetched 5 rfl (fun _ => rfl) (fun _ _ _ => rfl) (fun t => by rw [fwd_after5]; unfold Dat.blockOf fwdBlk; rw [fwd_A]; try rfl) t d).trans
    (by unfold Dat.fetched Dat.blockOf fwdBlk; rw [fwd_A]; try rfl)
theorem fwd_before6 (c : Dev nD) (t : Fin cfg0.N) (d) : (fwdDat V c).before 6 t d = fwdBlk V c 6 t :=
  ((fwdDat V c).before_in_eq_fetched 6 rfl (fun _ => rfl) (fun _ _ _ => rfl) (fun t => by rw [fwd_after6]; unfold Dat.blockOf fwdBlk; rw [fwd_A]; try rfl) t d).trans
    (by unfold Dat.fetched Dat.blockOf fwdBlk; rw [fwd_A]; try rfl)
theorem fwd_before7 (c : Dev nD) (t : Fin cfg0.N) (d) : (fwdDat V c).before 7 t d = fwdBlk V c 7 t :=
  ((fwdDat V c).before_in_eq_fetched 7 rfl (fun _ => rfl) (fun _ _ _ => rfl) (fun t => by rw [fwd_after7]; unfold Dat.blockOf fwdBlk; rw [fwd_A]; try rfl) t d).trans
    (by unfold Dat.fetched Dat.blockOf fwdBlk; rw [fwd_A]; try rfl)
theorem fwd_before8 (c : Dev nD) (t : Fin cfg0.N) (d) : (fwdDat V c).before 8 t d = fwdBlk V c 8 t :=
  ((fwdDat V c).before_in_eq_fetched 8 rfl (fun _ => rfl) (fun _ _ _ => rfl) (fun t => by rw [fwd_after8]; unfold Dat.blockOf fwdBlk; rw [fwd_A]; try rfl) t d).trans
    (by unfold Dat.fetched Dat.blockOf fwdBlk; rw [fwd_A]; try rfl)

/-- The body at a grid point: from the blocks and the state before it to the results and the state after it. -/
theorem fwd_sound (c : Dev nD) (t : Fin cfg0.N) :
    (iprop((fwdDat V c).Φ t.castSucc ∗ (fwdDat V c).owesAt () t.castSucc
    ∗ (∃ d, owns (c : Thread nD τ) (win0_0.stage (cfg0.slots t 0)) fullShare ((fwdDat V c).before 0 t d))
    ∗ (∃ d, owns (c : Thread nD τ) (win0_1.stage (cfg0.slots t 1)) fullShare ((fwdDat V c).before 1 t d))
    ∗ (∃ d, owns (c : Thread nD τ) (win0_2.stage (cfg0.slots t 2)) fullShare ((fwdDat V c).before 2 t d))
    ∗ (∃ d, owns (c : Thread nD τ) (win0_3.stage (cfg0.slots t 3)) fullShare ((fwdDat V c).before 3 t d))
    ∗ (∃ d, owns (c : Thread nD τ) (win0_4.stage (cfg0.slots t 4)) fullShare ((fwdDat V c).before 4 t d))
    ∗ (∃ d, owns (c : Thread nD τ) (win0_5.stage (cfg0.slots t 5)) fullShare ((fwdDat V c).before 5 t d))
    ∗ (∃ d, owns (c : Thread nD τ) (win0_6.stage (cfg0.slots t 6)) fullShare ((fwdDat V c).before 6 t d))
    ∗ (∃ d, owns (c : Thread nD τ) (win0_7.stage (cfg0.slots t 7)) fullShare ((fwdDat V c).before 7 t d))
    ∗ (∃ d, owns (c : Thread nD τ) (win0_8.stage (cfg0.slots t 8)) fullShare ((fwdDat V c).before 8 t d))
    ∗ (∃ d, owns (c : Thread nD τ) (win0_9.stage (cfg0.slots t 9)) fullShare ((fwdDat V c).before 9 t d))
    ∗ (∃ d, owns (c : Thread nD τ) (win0_10.stage (cfg0.slots t 10)) fullShare ((fwdDat V c).before 10 t d))) : sProp 𝕄)
    ⊢ wp frame (wpE (defs₀ (F := F)) Variants.none (c : Thread nD τ) none) Set.univ (bodyAt0 t)
      (fun _ => iprop((fwdDat V c).Φ t.succ ∗ (fwdDat V c).owesAt () t.succ
    ∗ owns (c : Thread nD τ) (win0_0.stage (cfg0.slots t 0)) fullShare ((fwdDat V c).after 0 t)
    ∗ owns (c : Thread nD τ) (win0_1.stage (cfg0.slots t 1)) fullShare ((fwdDat V c).after 1 t)
    ∗ owns (c : Thread nD τ) (win0_2.stage (cfg0.slots t 2)) fullShare ((fwdDat V c).after 2 t)
    ∗ owns (c : Thread nD τ) (win0_3.stage (cfg0.slots t 3)) fullShare ((fwdDat V c).after 3 t)
    ∗ owns (c : Thread nD τ) (win0_4.stage (cfg0.slots t 4)) fullShare ((fwdDat V c).after 4 t)
    ∗ owns (c : Thread nD τ) (win0_5.stage (cfg0.slots t 5)) fullShare ((fwdDat V c).after 5 t)
    ∗ owns (c : Thread nD τ) (win0_6.stage (cfg0.slots t 6)) fullShare ((fwdDat V c).after 6 t)
    ∗ owns (c : Thread nD τ) (win0_7.stage (cfg0.slots t 7)) fullShare ((fwdDat V c).after 7 t)
    ∗ owns (c : Thread nD τ) (win0_8.stage (cfg0.slots t 8)) fullShare ((fwdDat V c).after 8 t)
    ∗ owns (c : Thread nD τ) (win0_9.stage (cfg0.slots t 9)) fullShare ((fwdDat V c).after 9 t)
    ∗ owns (c : Thread nD τ) (win0_10.stage (cfg0.slots t 10)) fullShare ((fwdDat V c).after 10 t))) := by
  unfold bodyAt0
  simp only [fwd_before0, fwd_before1, fwd_before2, fwd_before3, fwd_before4, fwd_before5, fwd_before6, fwd_before7, fwd_before8]
  rw [show (fwdDat V c).owesAt () t.succ = (fwdDat V c).owesAt () t.castSucc from rfl,
    fwd_after0, fwd_after1, fwd_after2, fwd_after3, fwd_after4, fwd_after5, fwd_after6, fwd_after7, fwd_after8, fwd_after9, fwd_after10,
    show (fwdDat V c).Φ t.castSucc = fwdPhi V c t.val from rfl, show (fwdDat V c).Φ t.succ = fwdPhi V c (t.val + 1) from rfl]
  unfold fwdPhi
  iintro ⟨⟨⟨%st, %hst, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hb := fwd_body (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (fwdAt V c t) st Set.univ ((fwdDat V c).before 9 t d9) ((fwdDat V c).before 10 t d10)
  rw [fwd_start V c t st hst] at hb
  ihave Hw := hb $$ [H0 H1 H2 H3 H4 H5 H6 H7 H8 H9 H10 HS]
  · isplitl [H0]; · iapply (owns_unread (F := F) c _ (hstage0_0 ((cfg0.slots t 0).cast nbuf0_0)) _); iexact H0
    isplitl [H1]; · iapply (owns_unread (F := F) c _ (hstage0_1 ((cfg0.slots t 1).cast nbuf0_1)) _); iexact H1
    isplitl [H2]; · iapply (owns_unread (F := F) c _ (hstage0_2 ((cfg0.slots t 2).cast nbuf0_2)) _); iexact H2
    isplitl [H3]; · iapply (owns_unread (F := F) c _ (hstage0_3 ((cfg0.slots t 3).cast nbuf0_3)) _); iexact H3
    isplitl [H4]; · iapply (owns_unread (F := F) c _ (hstage0_4 ((cfg0.slots t 4).cast nbuf0_4)) _); iexact H4
    isplitl [H5]; · iapply (owns_unread (F := F) c _ (hstage0_5 ((cfg0.slots t 5).cast nbuf0_5)) _); iexact H5
    isplitl [H6]; · iapply (owns_unread (F := F) c _ (hstage0_6 ((cfg0.slots t 6).cast nbuf0_6)) _); iexact H6
    isplitl [H7]; · iapply (owns_unread (F := F) c _ (hstage0_7 ((cfg0.slots t 7).cast nbuf0_7)) _); iexact H7
    isplitl [H8]; · iapply (owns_unread (F := F) c _ (hstage0_8 ((cfg0.slots t 8).cast nbuf0_8)) _); iexact H8
    isplitl [H9]; · iapply (owns_unread (F := F) c _ (hstage0_9 ((cfg0.slots t 9).cast nbuf0_9)) _); iexact H9
    isplitl [H10]; · iapply (owns_unread (F := F) c _ (hstage0_10 ((cfg0.slots t 10).cast nbuf0_10)) _); iexact H10
    iapply (owns_unread (F := F) c _ (Memref.isWhole_whole _) _); iexact HS
  iapply (wp_wand_r frame (wpE (defs₀ (F := F)) Variants.none (c : Thread nD τ) none) Set.univ)
  isplitl [Hw]; · iexact Hw
  iintro %_ ⟨H0, H1, H2, H3, H4, H5, H6, H7, H8, H9, H10, HS⟩
  isplitl [HS Hr]
  · isplitl [HS]
    · iexists (fwdSt V c (t.val + 1))
      isplitr
      · ipureintro; exact fun _ => rfl
      rw [fwdSt_succ]
      iapply (unread_owns (F := F) c _ (Memref.isWhole_whole _) _); iexact HS
    iexact Hr
  isplitl [Ho]; · iexact Ho
  isplitl [H0]; · iapply (unread_owns (F := F) c _ (hstage0_0 ((cfg0.slots t 0).cast nbuf0_0)) _); iexact H0
  isplitl [H1]; · iapply (unread_owns (F := F) c _ (hstage0_1 ((cfg0.slots t 1).cast nbuf0_1)) _); iexact H1
  isplitl [H2]; · iapply (unread_owns (F := F) c _ (hstage0_2 ((cfg0.slots t 2).cast nbuf0_2)) _); iexact H2
  isplitl [H3]; · iapply (unread_owns (F := F) c _ (hstage0_3 ((cfg0.slots t 3).cast nbuf0_3)) _); iexact H3
  isplitl [H4]; · iapply (unread_owns (F := F) c _ (hstage0_4 ((cfg0.slots t 4).cast nbuf0_4)) _); iexact H4
  isplitl [H5]; · iapply (unread_owns (F := F) c _ (hstage0_5 ((cfg0.slots t 5).cast nbuf0_5)) _); iexact H5
  isplitl [H6]; · iapply (unread_owns (F := F) c _ (hstage0_6 ((cfg0.slots t 6).cast nbuf0_6)) _); iexact H6
  isplitl [H7]; · iapply (unread_owns (F := F) c _ (hstage0_7 ((cfg0.slots t 7).cast nbuf0_7)) _); iexact H7
  isplitl [H8]; · iapply (unread_owns (F := F) c _ (hstage0_8 ((cfg0.slots t 8).cast nbuf0_8)) _); iexact H8
  isplitl [H9]; · iapply (unread_owns (F := F) c _ (hstage0_9 ((cfg0.slots t 9).cast nbuf0_9)) _); iexact H9
  iapply (unread_owns (F := F) c _ (hstage0_10 ((cfg0.slots t 10).cast nbuf0_10)) _); iexact H10

theorem fwd_row (t : Fin cfg0.N) : defs₀ (F := F) .tc cfg0.body (cfg0.bodyArgs t (cfg0.slots t)) = bodyAt0 t := by
  unfold defs₀; rw [Defs.onTc_tc]

theorem fwd_obligation (c : Dev nD) : BodyObligation (fwdDat V c) (defs₀ (F := F)) Variants.none () Set.univ := fun t => by
  rw [bigSep_W0, bigSep_W0, fwd_row]
  exact triple_restated (fwd_sound V c t) rfl .rfl fun _ => .rfl

theorem fwd_scoped (c : Dev nD) : (Pipeline.scopedRest (Ix := Unit) (Name := ℕ) (U := UR sig nD τ) (Lvl := ℕ) (Val := Elt F) spec0 c : sProp 𝕄)
    = iprop((∃ f : St F, owns (c : Thread nD τ) (Memref.whole cc0_scratch0) fullShare f)
      ∗ Pipeline.scopedRestBut (Ix := Unit) (Name := ℕ) (U := UR sig nD τ) (Lvl := ℕ) (Val := Elt F) spec0 c [cc0_scratch0]) := by
  have e : ∀ f : St F, (owns (c : Thread nD τ) (Memref.whole cc0_scratch0) fullShare f : sProp 𝕄) = (((c : Thread nD τ).loc cc0_scratch0) ↦{fullShare} f) := fun f => owns_whole _ _ _ _
  simp only [e]
  exact Pipeline.scopedRest_split_of_list (Ix := Unit) (Name := ℕ) (U := UR sig nD τ) (Lvl := ℕ) (Val := Elt F) spec0 c [cc0_scratch0] (by decide) (by decide)

theorem fwd_hin (c : Dev nD) : Pipeline.scopedRest (Ix := Unit) (Name := ℕ) (U := UR sig nD τ) (Lvl := ℕ) (Val := Elt F) spec0 c ⊢ (fwdDat V c).Φ 0 := by
  rw [show (fwdDat V c).Φ 0 = fwdPhi V c 0 from rfl, fwd_scoped]
  unfold fwdPhi
  iintro ⟨⟨%f, H⟩, Hr⟩
  isplitl [H]
  · iexists f
    isplitr
    · ipureintro; exact fun h => absurd rfl h
    iexact H
  iexact Hr

theorem fwd_hout (c : Dev nD) : (fwdDat V c).Φ (Fin.last cfg0.N) ⊢ Pipeline.scopedRest (Ix := Unit) (Name := ℕ) (U := UR sig nD τ) (Lvl := ℕ) (Val := Elt F) spec0 c := by
  rw [show (fwdDat V c).Φ (Fin.last cfg0.N) = fwdPhi V c (Fin.last cfg0.N).val from rfl, fwd_scoped]
  unfold fwdPhi
  iintro ⟨⟨%f, -, H⟩, Hr⟩
  isplitl [H]
  · iexists f
    iexact H
  iexact Hr

end

end Cert.Ret

end
-- ==== Proof.BwdTrip.lean ====
/- What one trip of the backward kernel's loop writes, piece by piece: head `h` of chunk `4 - k` in the rows of the
   three gradients and in the carried state. -/
module

public import proofs.«01_k».proof.Proof.Blocks
public import proofs.«01_k».proof.Proof.Gen.KernelIdeal.Loops

@[expose] public section

set_option maxRecDepth 8192

noncomputable section

namespace Cert.Ret

open Idealize.ShloMosaic Idealize.ShloMosaic.TcCoe Cert.KernelIdeal Cert.KernelIdeal.Gen

variable {F : FTy → Type} [FloatOps F]

variable (𝒱 : Variants) (c : Dev nD) (bd : Option 𝒱.V) (i : grid1.Coords) (arg1 : Memref sig .tc .vmem S640x512 .f32) (harg1 : arg1.IsWhole) (arg2 : Memref sig .tc .vmem S640x512 .f32) (harg2 : arg2.IsWhole) (arg3 : Memref sig .tc .vmem S640x512 .f32) (harg3 : arg3.IsWhole) (arg4 : Memref sig .tc .vmem S640x512 .f32) (harg4 : arg4.IsWhole) (arg5 : Memref sig .tc .vmem S4x5x128x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x8x128 .f32) (harg11 : arg11.IsWhole) (arg12 : Memref sig .tc .vmem S640x1536 .bf16) (harg12 : arg12.IsWhole) (arg13 : Memref sig .tc .vmem S4x128x128 .f32) (harg13 : arg13.IsWhole)
  (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k1_t1_loop.trips) (f_arg12 : BufTy.Contents (Elt F) arg12.view.ty) (f_arg13 : BufTy.Contents (Elt F) arg13.view.ty)

set_option maxHeartbeats 4000000 in
theorem bwd_pieces_o : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 X_arg10 X_arg11 k).1 f_arg12 f_arg13 =
    [⟨(Rect.unit (s := S640x1536) (k1_off21 k) S128x128.size (k1_off21_inb k)), bV (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off17 k) S128x128.size (k1_off17_inb k)).toLoadRect X_arg1) (View.readAt (Elt F) arg2.view (Rect.unit (s := S640x512) (k1_off17 k) S128x128.size (k1_off17_inb k)).toLoadRect X_arg2) (View.readAt (Elt F) arg4.view (Rect.unit (s := S640x512) (k1_off17 k) S128x128.size (k1_off17_inb k)).toLoadRect X_arg4) (View.readAt (Elt F) arg8.view (Rect.unit (s := S4x128x128) ![3, 0, 0] S1x128x128.size inb_S4x128x128_S1x128x128_3_0_0).toLoadRect X_arg8) (View.readAt (Elt F) arg9.view (Rect.unit (s := S4x128x128) ![3, 0, 0] S1x128x128.size inb_S4x128x128_S1x128x128_3_0_0).toLoadRect X_arg9) (View.readAt (Elt F) arg13.view (Rect.unit (s := S4x128x128) ![3, 0, 0] S1x128x128.size inb_S4x128x128_S1x128x128_3_0_0).toLoadRect f_arg13)⟩,
     ⟨(Rect.unit (s := S640x1536) (k1_off20 k) S128x128.size (k1_off20_inb k)), bK (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off17 k) S128x128.size (k1_off17_inb k)).toLoadRect X_arg1) (View.readAt (Elt F) arg3.view (Rect.unit (s := S640x512) (k1_off17 k) S128x128.size (k1_off17_inb k)).toLoadRect X_arg3) (View.readAt (Elt F) arg4.view (Rect.unit (s := S640x512) (k1_off17 k) S128x128.size (k1_off17_inb k)).toLoadRect X_arg4) (View.readAt (Elt F) arg8.view (Rect.unit (s := S4x128x128) ![3, 0, 0] S1x128x128.size inb_S4x128x128_S1x128x128_3_0_0).toLoadRect X_arg8) (View.readAt (Elt F) arg9.view (Rect.unit (s := S4x128x128) ![3, 0, 0] S1x128x128.size inb_S4x128x128_S1x128x128_3_0_0).toLoadRect X_arg9) (View.readAt (Elt F) arg13.view (Rect.unit (s := S4x128x128) ![3, 0, 0] S1x128x128.size inb_S4x128x128_S1x128x128_3_0_0).toLoadRect f_arg13)⟩,
     ⟨(Rect.unit (s := S640x1536) (k1_off19 k) S128x128.size (k1_off19_inb k)), bQ (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg2.view (Rect.unit (s := S640x512) (k1_off17 k) S128x128.size (k1_off17_inb k)).toLoadRect X_arg2) (View.readAt (Elt F) arg3.view (Rect.unit (s := S640x512) (k1_off17 k) S128x128.size (k1_off17_inb k)).toLoadRect X_arg3) (View.readAt (Elt F) arg4.view (Rect.unit (s := S640x512) (k1_off17 k) S128x128.size (k1_off17_inb k)).toLoadRect X_arg4) (View.readAt (Elt F) arg8.view (Rect.unit (s := S4x128x128) ![3, 0, 0] S1x128x128.size inb_S4x128x128_S1x128x128_3_0_0).toLoadRect X_arg8) (View.readAt (Elt F) arg10.view (Rect.unit (s := S4x128x128) ![3, 0, 0] S1x128x128.size inb_S4x128x128_S1x128x128_3_0_0).toLoadRect X_arg10) (View.readAt (Elt F) arg5.view (Rect.unit (s := S4x5x128x128) (k1_off18 k) S1x1x128x128.size (k1_off18_inb k)).toLoadRect X_arg5)⟩,
     ⟨(Rect.unit (s := S640x1536) (k1_off16 k) S128x128.size (k1_off16_inb k)), bV (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off12 k) S128x128.size (k1_off12_inb k)).toLoadRect X_arg1) (View.readAt (Elt F) arg2.view (Rect.unit (s := S640x512) (k1_off12 k) S128x128.size (k1_off12_inb k)).toLoadRect X_arg2) (View.readAt (Elt F) arg4.view (Rect.unit (s := S640x512) (k1_off12 k) S128x128.size (k1_off12_inb k)).toLoadRect X_arg4) (View.readAt (Elt F) arg8.view (Rect.unit (s := S4x128x128) ![2, 0, 0] S1x128x128.size inb_S4x128x128_S1x128x128_2_0_0).toLoadRect X_arg8) (View.readAt (Elt F) arg9.view (Rect.unit (s := S4x128x128) ![2, 0, 0] S1x128x128.size inb_S4x128x128_S1x128x128_2_0_0).toLoadRect X_arg9) (View.readAt (Elt F) arg13.view (Rect.unit (s := S4x128x128) ![2, 0, 0] S1x128x128.size inb_S4x128x128_S1x128x128_2_0_0).toLoadRect f_arg13)⟩,
     ⟨(Rect.unit (s := S640x1536) (k1_off15 k) S128x128.size (k1_off15_inb k)), bK (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off12 k) S128x128.size (k1_off12_inb k)).toLoadRect X_arg1) (View.readAt (Elt F) arg3.view (Rect.unit (s := S640x512) (k1_off12 k) S128x128.size (k1_off12_inb k)).toLoadRect X_arg3) (View.readAt (Elt F) arg4.view (Rect.unit (s := S640x512) (k1_off12 k) S128x128.size (k1_off12_inb k)).toLoadRect X_arg4) (View.readAt (Elt F) arg8.view (Rect.unit (s := S4x128x128) ![2, 0, 0] S1x128x128.size inb_S4x128x128_S1x128x128_2_0_0).toLoadRect X_arg8) (View.readAt (Elt F) arg9.view (Rect.unit (s := S4x128x128) ![2, 0, 0] S1x128x128.size inb_S4x128x128_S1x128x128_2_0_0).toLoadRect X_arg9) (View.readAt (Elt F) arg13.view (Rect.unit (s := S4x128x128) ![2, 0, 0] S1x128x128.size inb_S4x128x128_S1x128x128_2_0_0).toLoadRect f_arg13)⟩,
     ⟨(Rect.unit (s := S640x1536) (k1_off14 k) S128x128.size (k1_off14_inb k)), bQ (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg2.view (Rect.unit (s := S640x512) (k1_off12 k) S128x128.size (k1_off12_inb k)).toLoadRect X_arg2) (View.readAt (Elt F) arg3.view (Rect.unit (s := S640x512) (k1_off12 k) S128x128.size (k1_off12_inb k)).toLoadRect X_arg3) (View.readAt (Elt F) arg4.view (Rect.unit (s := S640x512) (k1_off12 k) S128x128.size (k1_off12_inb k)).toLoadRect X_arg4) (View.readAt (Elt F) arg8.view (Rect.unit (s := S4x128x128) ![2, 0, 0] S1x128x128.size inb_S4x128x128_S1x128x128_2_0_0).toLoadRect X_arg8) (View.readAt (Elt F) arg10.view (Rect.unit (s := S4x128x128) ![2, 0, 0] S1x128x128.size inb_S4x128x128_S1x128x128_2_0_0).toLoadRect X_arg10) (View.readAt (Elt F) arg5.view (Rect.unit (s := S4x5x128x128) (k1_off13 k) S1x1x128x128.size (k1_off13_inb k)).toLoadRect X_arg5)⟩,
     ⟨(Rect.unit (s := S640x1536) (k1_off11 k) S128x128.size (k1_off11_inb k)), bV (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off7 k) S128x128.size (k1_off7_inb k)).toLoadRect X_arg1) (View.readAt (Elt F) arg2.view (Rect.unit (s := S640x512) (k1_off7 k) S128x128.size (k1_off7_inb k)).toLoadRect X_arg2) (View.readAt (Elt F) arg4.view (Rect.unit (s := S640x512) (k1_off7 k) S128x128.size (k1_off7_inb k)).toLoadRect X_arg4) (View.readAt (Elt F) arg8.view (Rect.unit (s := S4x128x128) ![1, 0, 0] S1x128x128.size inb_S4x128x128_S1x128x128_1_0_0).toLoadRect X_arg8) (View.readAt (Elt F) arg9.view (Rect.unit (s := S4x128x128) ![1, 0, 0] S1x128x128.size inb_S4x128x128_S1x128x128_1_0_0).toLoadRect X_arg9) (View.readAt (Elt F) arg13.view (Rect.unit (s := S4x128x128) ![1, 0, 0] S1x128x128.size inb_S4x128x128_S1x128x128_1_0_0).toLoadRect f_arg13)⟩,
     ⟨(Rect.unit (s := S640x1536) (k1_off10 k) S128x128.size (k1_off10_inb k)), bK (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off7 k) S128x128.size (k1_off7_inb k)).toLoadRect X_arg1) (View.readAt (Elt F) arg3.view (Rect.unit (s := S640x512) (k1_off7 k) S128x128.size (k1_off7_inb k)).toLoadRect X_arg3) (View.readAt (Elt F) arg4.view (Rect.unit (s := S640x512) (k1_off7 k) S128x128.size (k1_off7_inb k)).toLoadRect X_arg4) (View.readAt (Elt F) arg8.view (Rect.unit (s := S4x128x128) ![1, 0, 0] S1x128x128.size inb_S4x128x128_S1x128x128_1_0_0).toLoadRect X_arg8) (View.readAt (Elt F) arg9.view (Rect.unit (s := S4x128x128) ![1, 0, 0] S1x128x128.size inb_S4x128x128_S1x128x128_1_0_0).toLoadRect X_arg9) (View.readAt (Elt F) arg13.view (Rect.unit (s := S4x128x128) ![1, 0, 0] S1x128x128.size inb_S4x128x128_S1x128x128_1_0_0).toLoadRect f_arg13)⟩,
     ⟨(Rect.unit (s := S640x1536) (k1_off9 k) S128x128.size (k1_off9_inb k)), bQ (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg2.view (Rect.unit (s := S640x512) (k1_off7 k) S128x128.size (k1_off7_inb k)).toLoadRect X_arg2) (View.readAt (Elt F) arg3.view (Rect.unit (s := S640x512) (k1_off7 k) S128x128.size (k1_off7_inb k)).toLoadRect X_arg3) (View.readAt (Elt F) arg4.view (Rect.unit (s := S640x512) (k1_off7 k) S128x128.size (k1_off7_inb k)).toLoadRect X_arg4) (View.readAt (Elt F) arg8.view (Rect.unit (s := S4x128x128) ![1, 0, 0] S1x128x128.size inb_S4x128x128_S1x128x128_1_0_0).toLoadRect X_arg8) (View.readAt (Elt F) arg10.view (Rect.unit (s := S4x128x128) ![1, 0, 0] S1x128x128.size inb_S4x128x128_S1x128x128_1_0_0).toLoadRect X_arg10) (View.readAt (Elt F) arg5.view (Rect.unit (s := S4x5x128x128) (k1_off8 k) S1x1x128x128.size (k1_off8_inb k)).toLoadRect X_arg5)⟩,
     ⟨(Rect.unit (s := S640x1536) (k1_off6 k) S128x128.size (k1_off6_inb k)), bV (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off2 k) S128x128.size (k1_off2_inb k)).toLoadRect X_arg1) (View.readAt (Elt F) arg2.view (Rect.unit (s := S640x512) (k1_off2 k) S128x128.size (k1_off2_inb k)).toLoadRect X_arg2) (View.readAt (Elt F) arg4.view (Rect.unit (s := S640x512) (k1_off2 k) S128x128.size (k1_off2_inb k)).toLoadRect X_arg4) (View.readAt (Elt F) arg8.view (Rect.unit (s := S4x128x128) ![0, 0, 0] S1x128x128.size inb_S4x128x128_S1x128x128_0_0_0).toLoadRect X_arg8) (View.readAt (Elt F) arg9.view (Rect.unit (s := S4x128x128) ![0, 0, 0] S1x128x128.size inb_S4x128x128_S1x128x128_0_0_0).toLoadRect X_arg9) (View.readAt (Elt F) arg13.view (Rect.unit (s := S4x128x128) ![0, 0, 0] S1x128x128.size inb_S4x128x128_S1x128x128_0_0_0).toLoadRect f_arg13)⟩,
     ⟨(Rect.unit (s := S640x1536) (k1_off5 k) S128x128.size (k1_off5_inb k)), bK (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off2 k) S128x128.size (k1_off2_inb k)).toLoadRect X_arg1) (View.readAt (Elt F) arg3.view (Rect.unit (s := S640x512) (k1_off2 k) S128x128.size (k1_off2_inb k)).toLoadRect X_arg3) (View.readAt (Elt F) arg4.view (Rect.unit (s := S640x512) (k1_off2 k) S128x128.size (k1_off2_inb k)).toLoadRect X_arg4) (View.readAt (Elt F) arg8.view (Rect.unit (s := S4x128x128) ![0, 0, 0] S1x128x128.size inb_S4x128x128_S1x128x128_0_0_0).toLoadRect X_arg8) (View.readAt (Elt F) arg9.view (Rect.unit (s := S4x128x128) ![0, 0, 0] S1x128x128.size inb_S4x128x128_S1x128x128_0_0_0).toLoadRect X_arg9) (View.readAt (Elt F) arg13.view (Rect.unit (s := S4x128x128) ![0, 0, 0] S1x128x128.size inb_S4x128x128_S1x128x128_0_0_0).toLoadRect f_arg13)⟩,
     ⟨(Rect.unit (s := S640x1536) (k1_off4 k) S128x128.size (k1_off4_inb k)), bQ (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg2.view (Rect.unit (s := S640x512) (k1_off2 k) S128x128.size (k1_off2_inb k)).toLoadRect X_arg2) (View.readAt (Elt F) arg3.view (Rect.unit (s := S640x512) (k1_off2 k) S128x128.size (k1_off2_inb k)).toLoadRect X_arg3) (View.readAt (Elt F) arg4.view (Rect.unit (s := S640x512) (k1_off2 k) S128x128.size (k1_off2_inb k)).toLoadRect X_arg4) (View.readAt (Elt F) arg8.view (Rect.unit (s := S4x128x128) ![0, 0, 0] S1x128x128.size inb_S4x128x128_S1x128x128_0_0_0).toLoadRect X_arg8) (View.readAt (Elt F) arg10.view (Rect.unit (s := S4x128x128) ![0, 0, 0] S1x128x128.size inb_S4x128x128_S1x128x128_0_0_0).toLoadRect X_arg10) (View.readAt (Elt F) arg5.view (Rect.unit (s := S4x5x128x128) (k1_off3 k) S1x1x128x128.size (k1_off3_inb k)).toLoadRect X_arg5)⟩] := by
  unfold trip_k1_t1
  rfl

set_option maxHeartbeats 4000000 in
theorem bwd_pieces_s : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 X_arg10 X_arg11 k).2.1 f_arg12 f_arg13 =
    [⟨(Rect.unit (s := S4x128x128) ![3, 0, 0] S1x128x128.size inb_S4x128x128_S1x128x128_3_0_0), bS (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off17 k) S128x128.size (k1_off17_inb k)).toLoadRect X_arg1) (View.readAt (Elt F) arg4.view (Rect.unit (s := S640x512) (k1_off17 k) S128x128.size (k1_off17_inb k)).toLoadRect X_arg4) (View.readAt (Elt F) arg10.view (Rect.unit (s := S4x128x128) ![3, 0, 0] S1x128x128.size inb_S4x128x128_S1x128x128_3_0_0).toLoadRect X_arg10) (View.readAt (Elt F) arg13.view (Rect.unit (s := S4x128x128) ![3, 0, 0] S1x128x128.size inb_S4x128x128_S1x128x128_3_0_0).toLoadRect f_arg13) (View.readAt (Elt F) arg11.view (Rect.unit (s := S4x8x128) ![3, 0, 0] S1x8x128.size inb_S4x8x128_S1x8x128_3_0_0).toLoadRect X_arg11)⟩,
     ⟨(Rect.unit (s := S4x128x128) ![2, 0, 0] S1x128x128.size inb_S4x128x128_S1x128x128_2_0_0), bS (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off12 k) S128x128.size (k1_off12_inb k)).toLoadRect X_arg1) (View.readAt (Elt F) arg4.view (Rect.unit (s := S640x512) (k1_off12 k) S128x128.size (k1_off12_inb k)).toLoadRect X_arg4) (View.readAt (Elt F) arg10.view (Rect.unit (s := S4x128x128) ![2, 0, 0] S1x128x128.size inb_S4x128x128_S1x128x128_2_0_0).toLoadRect X_arg10) (View.readAt (Elt F) arg13.view (Rect.unit (s := S4x128x128) ![2, 0, 0] S1x128x128.size inb_S4x128x128_S1x128x128_2_0_0).toLoadRect f_arg13) (View.readAt (Elt F) arg11.view (Rect.unit (s := S4x8x128) ![2, 0, 0] S1x8x128.size inb_S4x8x128_S1x8x128_2_0_0).toLoadRect X_arg11)⟩,
     ⟨(Rect.unit (s := S4x128x128) ![1, 0, 0] S1x128x128.size inb_S4x128x128_S1x128x128_1_0_0), bS (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off7 k) S128x128.size (k1_off7_inb k)).toLoadRect X_arg1) (View.readAt (Elt F) arg4.view (Rect.unit (s := S640x512) (k1_off7 k) S128x128.size (k1_off7_inb k)).toLoadRect X_arg4) (View.readAt (Elt F) arg10.view (Rect.unit (s := S4x128x128) ![1, 0, 0] S1x128x128.size inb_S4x128x128_S1x128x128_1_0_0).toLoadRect X_arg10) (View.readAt (Elt F) arg13.view (Rect.unit (s := S4x128x128) ![1, 0, 0] S1x128x128.size inb_S4x128x128_S1x128x128_1_0_0).toLoadRect f_arg13) (View.readAt (Elt F) arg11.view (Rect.unit (s := S4x8x128) ![1, 0, 0] S1x8x128.size inb_S4x8x128_S1x8x128_1_0_0).toLoadRect X_arg11)⟩,
     ⟨(Rect.unit (s := S4x128x128) ![0, 0, 0] S1x128x128.size inb_S4x128x128_S1x128x128_0_0_0), bS (View.readAt (Elt F) arg6.view (Rect.unit (s := S640x128) (k1_off1 k) S128x128.size (k1_off1_inb k)).toLoadRect X_arg6) (View.readAt (Elt F) arg7.view (Rect.unit (s := S640x128) (k1_off1 k) S128x128.size (k1_off1_inb k)).toLoadRect X_arg7) (View.readAt (Elt F) arg1.view (Rect.unit (s := S640x512) (k1_off2 k) S128x128.size (k1_off2_inb k)).toLoadRect X_arg1) (View.readAt (Elt F) arg4.view (Rect.unit (s := S640x512) (k1_off2 k) S128x128.size (k1_off2_inb k)).toLoadRect X_arg4) (View.readAt (Elt F) arg10.view (Rect.unit (s := S4x128x128) ![0, 0, 0] S1x128x128.size inb_S4x128x128_S1x128x128_0_0_0).toLoadRect X_arg10) (View.readAt (Elt F) arg13.view (Rect.unit (s := S4x128x128) ![0, 0, 0] S1x128x128.size inb_S4x128x128_S1x128x128_0_0_0).toLoadRect f_arg13) (View.readAt (Elt F) arg11.view (Rect.unit (s := S4x8x128) ![0, 0, 0] S1x8x128.size inb_S4x8x128_S1x8x128_0_0_0).toLoadRect X_arg11)⟩] := by
  unfold trip_k1_t1
  rfl

end Cert.Ret
-- ==== Proof.BwdBody.lean ====
/- The backward kernel's body: what it leaves in its result and in the carried state, at any memrefs. -/
module

public import proofs.«01_k».proof.Proof.FwdBody
public import proofs.«01_k».proof.Proof.BwdTrip

@[expose] public section

set_option maxRecDepth 8192

noncomputable section

namespace Cert.Ret

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem k1_trips : k1_t1_loop.trips = 5 := by decide

/-- A trip's chunk: the chunks are taken from the last to the first. -/
abbrev trB (k : Fin k1_t1_loop.trips) : Fin 5 := ⟨4 - k.val, by omega⟩

theorem row_trB (k : Fin k1_t1_loop.trips) : 512 - 128 * k.val = 128 * (trB k).val := by
  have h : k.val < 5 := k1_trips ▸ k.isLt
  show 512 - 128 * k.val = 128 * (4 - k.val)
  omega

/-- The twelve tiles of a chunk's rows: the four heads' gradients of q, of k, of v. -/
def BIn.tile (I : BIn F) (j : Fin 5) (st : St F) (t : Fin 12) : S128x128.Idx → Elt F .bf16 :=
  match t with
  | 0 => I.dq j 0
  | 1 => I.dq j 1
  | 2 => I.dq j 2
  | 3 => I.dq j 3
  | 4 => I.dk j 0 st
  | 5 => I.dk j 1 st
  | 6 => I.dk j 2 st
  | 7 => I.dk j 3 st
  | 8 => I.dv j 0 st
  | 9 => I.dv j 1 st
  | 10 => I.dv j 2 st
  | 11 => I.dv j 3 st

/-- The tile of a column. -/
def tileOf (r : Fin 1536) : Fin 12 := ⟨r.val / 128, by omega⟩

theorem BIn.tile_row (I : BIn F) (j : Fin 5) (st : St F) (r : Fin 128) (cl : Fin 1536) :
    I.tile j st (tileOf cl) (ix2 r (inOf cl)) = I.row j st r cl := by
  unfold BIn.row
  have hc : cl.val < 1536 := cl.isLt
  have hn : cl.val / 128 < 12 := by omega
  have key : ∀ n : Fin 12, tileOf cl = n → I.tile j st n (ix2 r (inOf cl)) = if cl.val < 512 then I.dq j (headOf (thirdOf cl)) (ix2 r (inOf cl))
      else if cl.val < 1024 then I.dk j (headOf (thirdOf cl)) st (ix2 r (inOf cl)) else I.dv j (headOf (thirdOf cl)) st (ix2 r (inOf cl)) := by
    intro n hn'
    have hv : cl.val / 128 = n.val := congrArg Fin.val hn'
    match n, hv with
    | 0, hv =>
      have hv' : cl.val / 128 = 0 := hv
      rw [if_pos (show cl.val < 512 by omega), show headOf (thirdOf cl) = 0 from Fin.ext (show cl.val % 512 / 128 = 0 by omega)]
      rfl
    | 1, hv =>
      have hv' : cl.val / 128 = 1 := hv
      rw [if_pos (show cl.val < 512 by omega), show headOf (thirdOf cl) = 1 from Fin.ext (show cl.val % 512 / 128 = 1 by omega)]
      rfl
    | 2, hv =>
      have hv' : cl.val / 128 = 2 := hv
      rw [if_pos (show cl.val < 512 by omega), show headOf (thirdOf cl) = 2 from Fin.ext (show cl.val % 512 / 128 = 2 by omega)]
      rfl
    | 3, hv =>
      have hv' : cl.val / 128 = 3 := hv
      rw [if_pos (show cl.val < 512 by omega), show headOf (thirdOf cl) = 3 from Fin.ext (show cl.val % 512 / 128 = 3 by omega)]
      rfl
    | 4, hv =>
      have hv' : cl.val / 128 = 4 := hv
      rw [if_neg (show ¬ cl.val < 512 by omega), if_pos (show  cl.val < 1024 by omega), show headOf (thirdOf cl) = 0 from Fin.ext (show cl.val % 512 / 128 = 0 by omega)]
      rfl
    | 5, hv =>
      have hv' : cl.val / 128 = 5 := hv
      rw [if_neg (show ¬ cl.val < 512 by omega), if_pos (show  cl.val < 1024 by omega), show headOf (thirdOf cl) = 1 from Fin.ext (show cl.val % 512 / 128 = 1 by omega)]
      rfl
    | 6, hv =>
      have hv' : cl.val / 128 = 6 := hv
      rw [if_neg (show ¬ cl.val < 512 by omega), if_pos (show  cl.val < 1024 by omega), show headOf (thirdOf cl) = 2 from Fin.ext (show cl.val % 512 / 128 = 2 by omega)]
      rfl
    | 7, hv =>
      have hv' : cl.val / 128 = 7 := hv
      rw [if_neg (show ¬ cl.val < 512 by omega), if_pos (show  cl.val < 1024 by omega), show headOf (thirdOf cl) = 3 from Fin.ext (show cl.val % 512 / 128 = 3 by omega)]
      rfl
    | 8, hv =>
      have hv' : cl.val / 128 = 8 := hv
      rw [if_neg (show ¬ cl.val < 512 by omega), if_neg (show ¬ cl.val < 1024 by omega), show headOf (thirdOf cl) = 0 from Fin.ext (show cl.val % 512 / 128 = 0 by omega)]
      rfl
    | 9, hv =>
      have hv' : cl.val / 128 = 9 := hv
      rw [if_neg (show ¬ cl.val < 512 by omega), if_neg (show ¬ cl.val < 1024 by omega), show headOf (thirdOf cl) = 1 from Fin.ext (show cl.val % 512 / 128 = 1 by omega)]
      rfl
    | 10, hv =>
      have hv' : cl.val / 128 = 10 := hv
      rw [if_neg (show ¬ cl.val < 512 by omega), if_neg (show ¬ cl.val < 1024 by omega), show headOf (thirdOf cl) = 2 from Fin.ext (show cl.val % 512 / 128 = 2 by omega)]
      rfl
    | 11, hv =>
      have hv' : cl.val / 128 = 11 := hv
      rw [if_neg (show ¬ cl.val < 512 by omega), if_neg (show ¬ cl.val < 1024 by omega), show headOf (thirdOf cl) = 3 from Fin.ext (show cl.val % 512 / 128 = 3 by omega)]
      rfl
  exact key _ rfl

section Offsets

variable (k : Fin k1_t1_loop.trips)

theorem rdB_tab (m : Memref sig .tc .vmem S640x128 .f32) (hm : m.IsWhole) (x : S640x128.Idx → Elt F .f32) :
    View.readAt (Elt F) m.view (Rect.unit (s := S640x128) (k1_off1 k) S128x128.size (k1_off1_inb k)).toLoadRect (hm.unread x) = subt x (trB k) :=
  (congrArg (fun w => View.ld w _) (hm.read_unread x)).trans (ld_subt _ _ _ _ ((k1_off1_eq k).trans (congrArg (fun n => ![n, 0]) (row_trB k))))
theorem rdB_0 (m : Memref sig .tc .vmem S640x512 .f32) (hm : m.IsWhole) (x : S640x512.Idx → Elt F .f32) :
    View.readAt (Elt F) m.view (Rect.unit (s := S640x512) (k1_off2 k) S128x128.size (k1_off2_inb k)).toLoadRect (hm.unread x) = sub x (trB k) 0 :=
  (congrArg (fun w => View.ld w _) (hm.read_unread x)).trans (ld_sub _ _ _ _ _ ((k1_off2_eq k).trans (congrArg (fun n => ![n, 0]) (row_trB k))))
theorem rdB_st_0 (m : Memref sig .tc .vmem S4x5x128x128 .f32) (hm : m.IsWhole) (x : S4x5x128x128.Idx → Elt F .f32) :
    View.readAt (Elt F) m.view (Rect.unit (s := S4x5x128x128) (k1_off3 k) S1x1x128x128.size (k1_off3_inb k)).toLoadRect (hm.unread x) = hst x (trB k) 0 :=
  (congrArg (fun w => View.ld w _) (hm.read_unread x)).trans (ld_hst _ _ _ _ _ (k1_off3_eq k))
theorem rdB_1 (m : Memref sig .tc .vmem S640x512 .f32) (hm : m.IsWhole) (x : S640x512.Idx → Elt F .f32) :
    View.readAt (Elt F) m.view (Rect.unit (s := S640x512) (k1_off7 k) S128x128.size (k1_off7_inb k)).toLoadRect (hm.unread x) = sub x (trB k) 1 :=
  (congrArg (fun w => View.ld w _) (hm.read_unread x)).trans (ld_sub _ _ _ _ _ ((k1_off7_eq k).trans (congrArg (fun n => ![n, 128]) (row_trB k))))
theorem rdB_st_1 (m : Memref sig .tc .vmem S4x5x128x128 .f32) (hm : m.IsWhole) (x : S4x5x128x128.Idx → Elt F .f32) :
    View.readAt (Elt F) m.view (Rect.unit (s := S4x5x128x128) (k1_off8 k) S1x1x128x128.size (k1_off8_inb k)).toLoadRect (hm.unread x) = hst x (trB k) 1 :=
  (congrArg (fun w => View.ld w _) (hm.read_unread x)).trans (ld_hst _ _ _ _ _ (k1_off8_eq k))
theorem rdB_2 (m : Memref sig .tc .vmem S640x512 .f32) (hm : m.IsWhole) (x : S640x512.Idx → Elt F .f32) :
    View.readAt (Elt F) m.view (Rect.unit (s := S640x512) (k1_off12 k) S128x128.size (k1_off12_inb k)).toLoadRect (hm.unread x) = sub x (trB k) 2 :=
  (congrArg (fun w => View.ld w _) (hm.read_unread x)).trans (ld_sub _ _ _ _ _ ((k1_off12_eq k).trans (congrArg (fun n => ![n, 256]) (row_trB k))))
theorem rdB_st_2 (m : Memref sig .tc .vmem S4x5x128x128 .f32) (hm : m.IsWhole) (x : S4x5x128x128.Idx → Elt F .f32) :
    View.readAt (Elt F) m.view (Rect.unit (s := S4x5x128x128) (k1_off13 k) S1x1x128x128.size (k1_off13_inb k)).toLoadRect (hm.unread x) = hst x (trB k) 2 :=
  (congrArg (fun w => View.ld w _) (hm.read_unread x)).trans (ld_hst _ _ _ _ _ (k1_off13_eq k))
theorem rdB_3 (m : Memref sig .tc .vmem S640x512 .f32) (hm : m.IsWhole) (x : S640x512.Idx → Elt F .f32) :
    View.readAt (Elt F) m.view (Rect.unit (s := S640x512) (k1_off17 k) S128x128.size (k1_off17_inb k)).toLoadRect (hm.unread x) = sub x (trB k) 3 :=
  (congrArg (fun w => View.ld w _) (hm.read_unread x)).trans (ld_sub _ _ _ _ _ ((k1_off17_eq k).trans (congrArg (fun n => ![n, 384]) (row_trB k))))
theorem rdB_st_3 (m : Memref sig .tc .vmem S4x5x128x128 .f32) (hm : m.IsWhole) (x : S4x5x128x128.Idx → Elt F .f32) :
    View.readAt (Elt F) m.view (Rect.unit (s := S4x5x128x128) (k1_off18 k) S1x1x128x128.size (k1_off18_inb k)).toLoadRect (hm.unread x) = hst x (trB k) 3 :=
  (congrArg (fun w => View.ld w _) (hm.read_unread x)).trans (ld_hst _ _ _ _ _ (k1_off18_eq k))

end Offsets

section Body

variable (𝒱 : Variants) (c : Dev nD) (bd : Option 𝒱.V) (i : grid1.Coords) (arg1 : Memref sig .tc .vmem S640x512 .f32) (harg1 : arg1.IsWhole) (arg2 : Memref sig .tc .vmem S640x512 .f32) (harg2 : arg2.IsWhole) (arg3 : Memref sig .tc .vmem S640x512 .f32) (harg3 : arg3.IsWhole) (arg4 : Memref sig .tc .vmem S640x512 .f32) (harg4 : arg4.IsWhole) (arg5 : Memref sig .tc .vmem S4x5x128x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S4x8x128 .f32) (harg11 : arg11.IsWhole) (arg12 : Memref sig .tc .vmem S640x1536 .bf16) (harg12 : arg12.IsWhole) (arg13 : Memref sig .tc .vmem S4x128x128 .f32) (harg13 : arg13.IsWhole)
  (I : BIn F) (st : St F)

theorem bwd_writes_o (k : Fin k1_t1_loop.trips) (f_arg12 : BufTy.Contents (Elt F) arg12.view.ty) :
    arg12.view.read (Elt F) (arg12.view.writes (Elt F) f_arg12 ((trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread I.q) (harg2.unread I.k) (harg3.unread I.v) (harg4.unread I.o) (harg5.unread I.w) (harg6.unread I.c) (harg7.unread I.s) (harg8.unread I.d) (harg9.unread I.z) (harg10.unread I.x) (harg11.unread I.g) k).1 f_arg12 (harg13.unread st)))
      = fun y => if chunkOf (y 0) = trB k then I.row (trB k) st (inOf (y 0)) (y 1) else arg12.view.read (Elt F) f_arg12 y := by
  refine (congrArg (fun L => arg12.view.read (Elt F) (arg12.view.writes (Elt F) f_arg12 L)) (bwd_pieces_o 𝒱 c bd i arg1 harg1 arg2 harg2 arg3 harg3 arg4 harg4 arg5 harg5 arg6 harg6 arg7 harg7 arg8 harg8 arg9 harg9 arg10 harg10 arg11 harg11 arg12 harg12 arg13 harg13 (harg1.unread I.q) (harg2.unread I.k) (harg3.unread I.v) (harg4.unread I.o) (harg5.unread I.w) (harg6.unread I.c) (harg7.unread I.s) (harg8.unread I.d) (harg9.unread I.z) (harg10.unread I.x) (harg11.unread I.g) k f_arg12 (harg13.unread st))).trans ?_
  beta_reduce
  rw [rdB_tab k arg6 harg6, rdB_tab k arg7 harg7, rdB_0 k arg1 harg1, rdB_0 k arg2 harg2, rdB_0 k arg3 harg3, rdB_0 k arg4 harg4, rdB_1 k arg1 harg1, rdB_1 k arg2 harg2, rdB_1 k arg3 harg3, rdB_1 k arg4 harg4, rdB_2 k arg1 harg1, rdB_2 k arg2 harg2, rdB_2 k arg3 harg3, rdB_2 k arg4 harg4, rdB_3 k arg1 harg1, rdB_3 k arg2 harg2, rdB_3 k arg3 harg3, rdB_3 k arg4 harg4, rdB_st_0 k arg5 harg5, rdB_st_1 k arg5 harg5, rdB_st_2 k arg5 harg5, rdB_st_3 k arg5 harg5, rd_hd_0 arg8 harg8, rd_hd_0 arg9 harg9, rd_hd_0 arg10 harg10, rd_hd_0 arg13 harg13, rd_hd_1 arg8 harg8, rd_hd_1 arg9 harg9, rd_hd_1 arg10 harg10, rd_hd_1 arg13 harg13, rd_hd_2 arg8 harg8, rd_hd_2 arg9 harg9, rd_hd_2 arg10 harg10, rd_hd_2 arg13 harg13, rd_hd_3 arg8 harg8, rd_hd_3 arg9 harg9, rd_hd_3 arg10 harg10, rd_hd_3 arg13 harg13]
  refine (read_rows12 arg12.view f_arg12 (fun t => I.tile (trB k) st t) (trB k)
    (fun t => match t with | 0 => k1_off4 k | 1 => k1_off9 k | 2 => k1_off14 k | 3 => k1_off19 k | 4 => k1_off5 k | 5 => k1_off10 k | 6 => k1_off15 k | 7 => k1_off20 k | 8 => k1_off6 k | 9 => k1_off11 k | 10 => k1_off16 k | 11 => k1_off21 k)
    (fun t => match t with | 0 => k1_off4_inb k | 1 => k1_off9_inb k | 2 => k1_off14_inb k | 3 => k1_off19_inb k | 4 => k1_off5_inb k | 5 => k1_off10_inb k | 6 => k1_off15_inb k | 7 => k1_off20_inb k | 8 => k1_off6_inb k | 9 => k1_off11_inb k | 10 => k1_off16_inb k | 11 => k1_off21_inb k)
    (fun t => match t with | 0 => (k1_off4_eq k).trans (congrArg (fun n => ![n, 0]) (row_trB k)) | 1 => (k1_off9_eq k).trans (congrArg (fun n => ![n, 128]) (row_trB k)) | 2 => (k1_off14_eq k).trans (congrArg (fun n => ![n, 256]) (row_trB k)) | 3 => (k1_off19_eq k).trans (congrArg (fun n => ![n, 384]) (row_trB k)) | 4 => (k1_off5_eq k).trans (congrArg (fun n => ![n, 512]) (row_trB k)) | 5 => (k1_off10_eq k).trans (congrArg (fun n => ![n, 640]) (row_trB k)) | 6 => (k1_off15_eq k).trans (congrArg (fun n => ![n, 768]) (row_trB k)) | 7 => (k1_off20_eq k).trans (congrArg (fun n => ![n, 896]) (row_trB k)) | 8 => (k1_off6_eq k).trans (congrArg (fun n => ![n, 1024]) (row_trB k)) | 9 => (k1_off11_eq k).trans (congrArg (fun n => ![n, 1152]) (row_trB k)) | 10 => (k1_off16_eq k).trans (congrArg (fun n => ![n, 1280]) (row_trB k)) | 11 => (k1_off21_eq k).trans (congrArg (fun n => ![n, 1408]) (row_trB k)))
    tileOf (fun _ => rfl)).trans ?_
  funext y
  exact congrArg (fun w => if chunkOf (y 0) = trB k then w else arg12.view.read (Elt F) f_arg12 y) (I.tile_row (trB k) st (inOf (y 0)) (y 1))

theorem bwd_writes_s (k : Fin k1_t1_loop.trips) (f_arg12 : BufTy.Contents (Elt F) arg12.view.ty) :
    arg13.view.read (Elt F) (arg13.view.writes (Elt F) (harg13.unread st) ((trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread I.q) (harg2.unread I.k) (harg3.unread I.v) (harg4.unread I.o) (harg5.unread I.w) (harg6.unread I.c) (harg7.unread I.s) (harg8.unread I.d) (harg9.unread I.z) (harg10.unread I.x) (harg11.unread I.g) k).2.1 f_arg12 (harg13.unread st)))
      = I.step (trB k) st := by
  refine (congrArg (fun L => arg13.view.read (Elt F) (arg13.view.writes (Elt F) (harg13.unread st) L)) (bwd_pieces_s 𝒱 c bd i arg1 harg1 arg2 harg2 arg3 harg3 arg4 harg4 arg5 harg5 arg6 harg6 arg7 harg7 arg8 harg8 arg9 harg9 arg10 harg10 arg11 harg11 arg12 harg12 arg13 harg13 (harg1.unread I.q) (harg2.unread I.k) (harg3.unread I.v) (harg4.unread I.o) (harg5.unread I.w) (harg6.unread I.c) (harg7.unread I.s) (harg8.unread I.d) (harg9.unread I.z) (harg10.unread I.x) (harg11.unread I.g) k f_arg12 (harg13.unread st))).trans ?_
  beta_reduce
  rw [rdB_tab k arg6 harg6, rdB_tab k arg7 harg7, rdB_0 k arg1 harg1, rdB_0 k arg4 harg4, rdB_1 k arg1 harg1, rdB_1 k arg4 harg4, rdB_2 k arg1 harg1, rdB_2 k arg4 harg4, rdB_3 k arg1 harg1, rdB_3 k arg4 harg4, rd_hd_0 arg10 harg10, rd_hd_0 arg13 harg13, rd_hd_1 arg10 harg10, rd_hd_1 arg13 harg13, rd_hd_2 arg10 harg10, rd_hd_2 arg13 harg13, rd_hd_3 arg10 harg10, rd_hd_3 arg13 harg13, rd_hd8_0 arg11 harg11, rd_hd8_1 arg11 harg11, rd_hd8_2 arg11 harg11, rd_hd8_3 arg11 harg11]
  exact read_state arg13.view (harg13.unread st) (fun h => I.n (trB k) h st)

/-- The rows after `n` trips: the last `n` chunks written, the others as found. -/
def BIn.part (I : BIn F) (st : St F) (y0 : Vec F S640x1536 .bf16) (n : Nat) : Vec F S640x1536 .bf16 :=
  fun y => if 5 ≤ (chunkOf (y 0)).val + n then I.out st y else y0 y

/-- What the loop holds before trip `n`. -/
def bwdInv (y12 : Vec F S640x1536 .bf16) (n : Nat) : sProp 𝕄 :=
  Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread (I.part st y12 n)) (harg13.unread (I.at st n))

theorem bwd_trip (E : Set ℕ) (y12 : Vec F S640x1536 .bf16) (k : Fin k1_t1_loop.trips) :
    bwdInv c arg1 harg1 arg2 harg2 arg3 harg3 arg4 harg4 arg5 harg5 arg6 harg6 arg7 harg7 arg8 harg8 arg9 harg9 arg10 harg10 arg11 harg11 arg12 harg12 arg13 harg13 I st y12 k.val ⊢ wp frame (wpE (defs₀ (F := F)) 𝒱 (c : Thread nD τ) bd) E
      (k1_t1_body (F := F) i arg1 harg1 arg2 harg2 arg3 harg3 arg4 harg4 arg5 harg5 arg6 harg6 arg7 harg7 arg8 harg8 arg9 harg9 arg10 harg10 arg11 harg11 arg12 harg12 arg13 harg13 k PUnit.unit) (fun _ => bwdInv c arg1 harg1 arg2 harg2 arg3 harg3 arg4 harg4 arg5 harg5 arg6 harg6 arg7 harg7 arg8 harg8 arg9 harg9 arg10 harg10 arg11 harg11 arg12 harg12 arg13 harg13 I st y12 (k.val + 1)) := by
  have hk : k.val < 5 := k1_trips ▸ k.isLt
  have e12 := harg12.eq_unread (bwd_writes_o 𝒱 c bd i arg1 harg1 arg2 harg2 arg3 harg3 arg4 harg4 arg5 harg5 arg6 harg6 arg7 harg7 arg8 harg8 arg9 harg9 arg10 harg10 arg11 harg11 arg12 harg12 arg13 harg13 I (I.at st k.val) k (harg12.unread (I.part st y12 k.val)))
  have e13 := harg13.eq_unread (bwd_writes_s 𝒱 c bd i arg1 harg1 arg2 harg2 arg3 harg3 arg4 harg4 arg5 harg5 arg6 harg6 arg7 harg7 arg8 harg8 arg9 harg9 arg10 harg10 arg11 harg11 arg12 harg12 arg13 harg13 I (I.at st k.val) k (harg12.unread (I.part st y12 k.val)))
  have g12 : (fun y => if chunkOf (y 0) = trB k then I.row (trB k) (I.at st k.val) (inOf (y 0)) (y 1)
      else arg12.view.read (Elt F) (harg12.unread (I.part st y12 k.val)) y) = I.part st y12 (k.val + 1) := by
    funext y
    rw [harg12.read_unread]
    unfold BIn.part
    by_cases h : chunkOf (y 0) = trB k
    · have hv : (chunkOf (y 0)).val = 4 - k.val := congrArg Fin.val h
      rw [if_pos h, if_pos (by omega)]
      unfold BIn.out
      rw [h, show 4 - (trB k).val = k.val from by show 4 - (4 - k.val) = k.val; omega]
    · have h' : (chunkOf (y 0)).val ≠ 4 - k.val := fun hh => h (Fin.ext hh)
      rw [if_neg h]
      by_cases hlt : 5 ≤ (chunkOf (y 0)).val + k.val
      · rw [if_pos hlt, if_pos (by omega)]
      · rw [if_neg hlt, if_neg (by omega)]
  rw [g12] at e12
  rw [← I.at_succ st k.val hk] at e13
  have t := (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread I.q) (harg2.unread I.k) (harg3.unread I.v) (harg4.unread I.o) (harg5.unread I.w) (harg6.unread I.c) (harg7.unread I.s) (harg8.unread I.d) (harg9.unread I.z) (harg10.unread I.x) (harg11.unread I.g) k).2.2 E (harg12.unread (I.part st y12 k.val)) (harg13.unread (I.at st k.val))
  rw [e12, e13] at t
  exact t

/-- The state a block starts from: zero at the first point, what the point before left elsewhere. -/
def startB (i : grid1.Coords) (st : St F) : St F := if (i 0).val = 0 then k1_pay1 else st

theorem bwd_first (i : grid1.Coords) :
    (Scalar.cmpi .ne (Scalar.extui (Scalar.cmpi .eq (BitVec.ofNat 32 (i 0).val) 0#32) : BitVec 32) 0#32 = 1#1) ↔ (i 0).val = 0 := by
  have h : (i 0).val < 13 := (i 0).isLt
  generalize (i 0).val = n at h
  interval_cases n <;> decide

theorem bwd_done (y : Vec F S640x1536 .bf16) : I.part st y 5 = I.out st :=
  funext fun p => if_pos (Nat.le_add_left 5 _)
theorem bwd_none (y : Vec F S640x1536 .bf16) : I.part st y 0 = y :=
  funext fun p => if_neg (by have := (chunkOf (p 0)).isLt; omega)

theorem bwd_loop (E : Set ℕ) (y12 : Vec F S640x1536 .bf16) :
    (Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread y12) (harg13.unread st) : sProp 𝕄)
    ⊢ wp frame (wpE (defs₀ (F := F)) 𝒱 (c : Thread nD τ) bd) E
      (Scf.Loop.for k1_t1_loop k1_t1_ok PUnit.unit (k1_t1_body (F := F) i arg1 harg1 arg2 harg2 arg3 harg3 arg4 harg4 arg5 harg5 arg6 harg6 arg7 harg7 arg8 harg8 arg9 harg9 arg10 harg10 arg11 harg11 arg12 harg12 arg13 harg13) >>= fun _ => pure PUnit.unit)
      (fun _ : PUnit => Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread (I.out st)) (harg13.unread (I.at st 5))) := by
  have h := Scf.wp_for_bind frame (wpE (defs₀ (F := F)) 𝒱 (c : Thread nD τ) bd) E k1_t1_loop.lb k1_t1_loop.ub k1_t1_loop.st k1_t1_ok PUnit.unit
    (k1_t1_body (F := F) i arg1 harg1 arg2 harg2 arg3 harg3 arg4 harg4 arg5 harg5 arg6 harg6 arg7 harg7 arg8 harg8 arg9 harg9 arg10 harg10 arg11 harg11 arg12 harg12 arg13 harg13) (fun n _ => bwdInv c arg1 harg1 arg2 harg2 arg3 harg3 arg4 harg4 arg5 harg5 arg6 harg6 arg7 harg7 arg8 harg8 arg9 harg9 arg10 harg10 arg11 harg11 arg12 harg12 arg13 harg13 I st y12 n)
    (fun k _ => bwd_trip 𝒱 c bd i arg1 harg1 arg2 harg2 arg3 harg3 arg4 harg4 arg5 harg5 arg6 harg6 arg7 harg7 arg8 harg8 arg9 harg9 arg10 harg10 arg11 harg11 arg12 harg12 arg13 harg13 I st E y12 k) (kk := fun _ => pure PUnit.unit)
    (Q := fun _ : PUnit => Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread (I.out st)) (harg13.unread (I.at st 5)))
  have e0 : bwdInv c arg1 harg1 arg2 harg2 arg3 harg3 arg4 harg4 arg5 harg5 arg6 harg6 arg7 harg7 arg8 harg8 arg9 harg9 arg10 harg10 arg11 harg11 arg12 harg12 arg13 harg13 I st y12 0 = (Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread y12) (harg13.unread st) : sProp 𝕄) := by
    unfold bwdInv
    rw [bwd_none]
    rfl
  have e5 : bwdInv c arg1 harg1 arg2 harg2 arg3 harg3 arg4 harg4 arg5 harg5 arg6 harg6 arg7 harg7 arg8 harg8 arg9 harg9 arg10 harg10 arg11 harg11 arg12 harg12 arg13 harg13 I st y12 (Scf.trips k1_t1_loop.lb k1_t1_loop.ub k1_t1_loop.st) = (Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread (I.out st)) (harg13.unread (I.at st 5)) : sProp 𝕄) := by
    have ht : Scf.trips k1_t1_loop.lb k1_t1_loop.ub k1_t1_loop.st = 5 := by decide
    rw [ht]
    unfold bwdInv
    rw [bwd_done]
  rw [e0, e5] at h
  iintro H
  ihave HW := h $$ H
  iapply HW
  iintro %acc HT
  rw [wp_pure]
  imodintro
  iexact HT

theorem bwd_body (E : Set ℕ) (y12 : Vec F S640x1536 .bf16) :
    (Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread y12) (harg13.unread st) : sProp 𝕄)
    ⊢ wp frame (wpE (defs₀ (F := F)) 𝒱 (c : Thread nD τ) bd) E
      (cc1_retention_bwd (F := F) i arg1 harg1 arg2 harg2 arg3 harg3 arg4 harg4 arg5 harg5 arg6 harg6 arg7 harg7 arg8 harg8 arg9 harg9 arg10 harg10 arg11 harg11 arg12 harg12 arg13 harg13)
      (fun _ : PUnit => Trip_k1_t1 (F := F) c arg1 arg2 arg3 arg4 arg5 arg6 arg7 arg8 arg9 arg10 arg11 arg12 arg13 (harg1.unread I.q) (harg2.unread I.k) (harg3.unread I.v) (harg4.unread I.o) (harg5.unread I.w) (harg6.unread I.c) (harg7.unread I.s) (harg8.unread I.d) (harg9.unread I.z) (harg10.unread I.x) (harg11.unread I.g) (harg12.unread (I.out (startB i st))) (harg13.unread (I.at (startB i st) 5))) := by
  rw [cc1_retention_bwd_eq_skeleton]
  change (_ : sProp 𝕄) ⊢ wp frame (wpE (defs₀ (F := F)) 𝒱 (c : Thread nD τ) bd) E
    (dite (Scalar.cmpi .ne (Scalar.extui (Scalar.cmpi .eq (BitVec.ofNat 32 (i 0).val) 0#32) : BitVec 32) 0#32 = 1#1)
        (fun _ => do
          let v5 : Vec F S4x128x128 .f32 ← Prog.lift (.load arg13 (Rect.unit (s := S4x128x128) ![0, 0, 0] S4x128x128.size inb_S4x128x128_S4x128x128_0_0_0).toLoadRect (View.loadsAt_vmem h_S4x128x128))
          Prog.lift (.store arg13 (Rect.unit (s := S4x128x128) ![0, 0, 0] S4x128x128.size inb_S4x128x128_S4x128x128_0_0_0) (k1_pay1 (F := F)) Finset.univ (View.stores_vmem_bits_univ h_S4x128x128 rfl) (.inl rfl))
          (Scf.Loop.for k1_t1_loop k1_t1_ok PUnit.unit (k1_t1_body (F := F) i arg1 harg1 arg2 harg2 arg3 harg3 arg4 harg4 arg5 harg5 arg6 harg6 arg7 harg7 arg8 harg8 arg9 harg9 arg10 harg10 arg11 harg11 arg12 harg12 arg13 harg13) >>= fun _ => pure PUnit.unit))
        (fun _ => (Scf.Loop.for k1_t1_loop k1_t1_ok PUnit.unit (k1_t1_body (F := F) i arg1 harg1 arg2 harg2 arg3 harg3 arg4 harg4 arg5 harg5 arg6 harg6 arg7 harg7 arg8 harg8 arg9 harg9 arg10 harg10 arg11 harg11 arg12 harg12 arg13 harg13) >>= fun _ => pure PUnit.unit))) _
  by_cases h0 : (i 0).val = 0
  · rw [dif_pos ((bwd_first i).mpr h0)]
    have hs : startB i st = k1_pay1 := if_pos h0
    rw [hs]
    iintro ⟨H1, H2, H3, H4, H5, H6, H7, H8, H9, H10, H11, H12, H13⟩
    iapply (zero_state 𝒱 c bd arg13 harg13 E (harg13.unread st))
    isplitl [H13]; · iexact H13
    · iintro H13
      iapply (bwd_loop 𝒱 c bd i arg1 harg1 arg2 harg2 arg3 harg3 arg4 harg4 arg5 harg5 arg6 harg6 arg7 harg7 arg8 harg8 arg9 harg9 arg10 harg10 arg11 harg11 arg12 harg12 arg13 harg13 I k1_pay1 E y12)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · rw [dif_neg (fun hh => h0 ((bwd_first i).mp hh))]
    have hs : startB i st = st := if_neg h0
    rw [hs]
    exact bwd_loop 𝒱 c bd i arg1 harg1 arg2 harg2 arg3 harg3 arg4 harg4 arg5 harg5 arg6 harg6 arg7 harg7 arg8 harg8 arg9 harg9 arg10 harg10 arg11 harg11 arg12 harg12 arg13 harg13 I st E y12

end Body

end Cert.Ret
-- ==== Proof.BwdRegion.lean ====
/- The backward region: its proof data and the obligation of its body. -/
module

public import proofs.«01_k».proof.Proof.BwdBody
public import proofs.«01_k».proof.Proof.RegionHeld
public import proofs.«01_k».proof.Proof.Gen.KernelIdeal.Points
public import Idealize.ShloMosaic.Lib.Pipeline.FrameBody

@[expose] public section

set_option maxRecDepth 8192

noncomputable section

namespace Cert.Ret

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation BodyObligationLoose)

variable {F : FTy → Type} [FloatOps F]

local notation "𝕄" => MT nD τ sig Unit (Elt F) ℕ (UR sig nD τ) ℕ

section

variable (V : Dev nD → Valuation τ sig (Elt F))

/-- A window's block at a grid point, read off its array as the region finds it. -/
def bwdBlk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Window 0's buffer at a point: its block, no part of it cut off. -/
def bwdIn0 (c : Dev nD) (t : Fin cfg1.N) : (cfg1.win 0).block.Idx → Elt F (cfg1.win 0).elt :=
  (cfg1.win 0).fill (cfg1.grid.coords t) (fun _ => Classical.choice inferInstance) (bwdBlk V c 0 t)
theorem bwd_size0 : ∀ t : Fin cfg1.N, ∀ a, (cfg1.win 0).xsize (cfg1.grid.coords t) a = (cfg1.win 0).size a := by decide +kernel
theorem bwd_moved0 (t : Fin cfg1.N) (j : (cfg1.win 0).block.Idx) : (cfg1.win 0).moved (cfg1.grid.coords t) j = true :=
  ((cfg1.win 0).moved_iff _ j).mpr fun a => by rw [bwd_size0 t a]; exact (j a).isLt
theorem bwd_fill0 (t : Fin cfg1.N) (x y : (cfg1.win 0).block.Idx → Elt F (cfg1.win 0).elt) (g) :
    (cfg1.win 0).fill (cfg1.grid.coords t) x g = (cfg1.win 0).fill (cfg1.grid.coords t) y g :=
  by funext j; unfold Pipeline.Window.fill; rw [dif_pos (bwd_moved0 t j), dif_pos (bwd_moved0 t j)]

/-- Window 1's buffer at a point: its block, no part of it cut off. -/
def bwdIn1 (c : Dev nD) (t : Fin cfg1.N) : (cfg1.win 1).block.Idx → Elt F (cfg1.win 1).elt :=
  (cfg1.win 1).fill (cfg1.grid.coords t) (fun _ => Classical.choice inferInstance) (bwdBlk V c 1 t)
theorem bwd_size1 : ∀ t : Fin cfg1.N, ∀ a, (cfg1.win 1).xsize (cfg1.grid.coords t) a = (cfg1.win 1).size a := by decide +kernel
theorem bwd_moved1 (t : Fin cfg1.N) (j : (cfg1.win 1).block.Idx) : (cfg1.win 1).moved (cfg1.grid.coords t) j = true :=
  ((cfg1.win 1).moved_iff _ j).mpr fun a => by rw [bwd_size1 t a]; exact (j a).isLt
theorem bwd_fill1 (t : Fin cfg1.N) (x y : (cfg1.win 1).block.Idx → Elt F (cfg1.win 1).elt) (g) :
    (cfg1.win 1).fill (cfg1.grid.coords t) x g = (cfg1.win 1).fill (cfg1.grid.coords t) y g :=
  by funext j; unfold Pipeline.Window.fill; rw [dif_pos (bwd_moved1 t j), dif_pos (bwd_moved1 t j)]

/-- Window 2's buffer at a point: its block, no part of it cut off. -/
def bwdIn2 (c : Dev nD) (t : Fin cfg1.N) : (cfg1.win 2).block.Idx → Elt F (cfg1.win 2).elt :=
  (cfg1.win 2).fill (cfg1.grid.coords t) (fun _ => Classical.choice inferInstance) (bwdBlk V c 2 t)
theorem bwd_size2 : ∀ t : Fin cfg1.N, ∀ a, (cfg1.win 2).xsize (cfg1.grid.coords t) a = (cfg1.win 2).size a := by decide +kernel
theorem bwd_moved2 (t : Fin cfg1.N) (j : (cfg1.win 2).block.Idx) : (cfg1.win 2).moved (cfg1.grid.coords t) j = true :=
  ((cfg1.win 2).moved_iff _ j).mpr fun a => by rw [bwd_size2 t a]; exact (j a).isLt
theorem bwd_fill2 (t : Fin cfg1.N) (x y : (cfg1.win 2).block.Idx → Elt F (cfg1.win 2).elt) (g) :
    (cfg1.win 2).fill (cfg1.grid.coords t) x g = (cfg1.win 2).fill (cfg1.grid.coords t) y g :=
  by funext j; unfold Pipeline.Window.fill; rw [dif_pos (bwd_moved2 t j), dif_pos (bwd_moved2 t j)]

/-- The blocks the body works on at a grid point. -/
def bwdAt (c : Dev nD) (t : Fin cfg1.N) : BIn F :=
  ⟨(bwdIn0 V c t), (bwdIn1 V c t), (bwdIn2 V c t), (bwdBlk V c 3 t), (bwdBlk V c 4 t), (bwdBlk V c 5 t), (bwdBlk V c 6 t), (bwdBlk V c 7 t), (bwdBlk V c 8 t), (bwdBlk V c 9 t), (bwdBlk V c 10 t)⟩

/-- The carried state before grid point `n`. -/
def bwdSt (c : Dev nD) : ℕ → St F
  | 0 => k1_pay1
  | n + 1 => if h : n < cfg1.N then (bwdAt V c ⟨n, h⟩).at (bwdSt c n) 5 else bwdSt c n

theorem bwdSt_succ (c : Dev nD) (t : Fin cfg1.N) : bwdSt V c (t.val + 1) = (bwdAt V c t).at (bwdSt V c t.val) 5 :=
  dif_pos t.isLt

theorem bwd_coord (t : Fin cfg1.N) : (grid1.coords t 0).val = t.val :=
  (by decide +kernel : ∀ t : Fin grid1.N, (grid1.coords t 0).val = t.val) t

/-- Whatever the scratch holds at the first point, the body works from the state zero. -/
theorem bwd_start (c : Dev nD) (t : Fin cfg1.N) (st : St F) (h : t.val ≠ 0 → st = bwdSt V c t.val) :
    startB (grid1.coords t) st = bwdSt V c t.val := by
  by_cases h0 : t.val = 0
  · have e : startB (grid1.coords t) st = (k1_pay1 : St F) := if_pos ((bwd_coord t).trans h0)
    rw [e, h0]; rfl
  · exact (if_neg (fun h' => h0 ((bwd_coord t).symm.trans h'))).trans (h h0)

/-- The scratch before point `n`, and the scoped buffers of the other region. -/
def bwdPhi (c : Dev nD) (n : ℕ) : sProp 𝕄 :=
  iprop((∃ st : St F, ⌜n ≠ 0 → st = bwdSt V c n⌝ ∗ owns (c : Thread nD τ) (Memref.whole cc1_scratch0) fullShare st)
    ∗ Pipeline.scopedRestBut (Ix := Unit) (Name := ℕ) (U := UR sig nD τ) (Lvl := ℕ) (Val := Elt F) spec1 c [cc1_scratch0])

/-- The region's proof data, entered at `V`. -/
def bwdDat (c : Dev nD) : Dat τ (Elt F) Unit ℕ (UR sig nD τ) ℕ cfg1 c where
  A w := V c (Proc.devRef .tc (Pipeline.arrRef spec1 w))
  after w t := match w with
    | ⟨0, _⟩ => bwdIn0 V c t
    | ⟨1, _⟩ => bwdIn1 V c t
    | ⟨2, _⟩ => bwdIn2 V c t
    | ⟨3, _⟩ => bwdBlk V c 3 t
    | ⟨4, _⟩ => bwdBlk V c 4 t
    | ⟨5, _⟩ => bwdBlk V c 5 t
    | ⟨6, _⟩ => bwdBlk V c 6 t
    | ⟨7, _⟩ => bwdBlk V c 7 t
    | ⟨8, _⟩ => bwdBlk V c 8 t
    | ⟨9, _⟩ => bwdBlk V c 9 t
    | ⟨10, _⟩ => bwdBlk V c 10 t
    | ⟨11, _⟩ => (bwdAt V c t).out (bwdSt V c t.val)
  Φ t := bwdPhi V c t.val
  q w := Pipeline.shareOf spec1 w
  owed _ := 0

theorem bwd_A (c : Dev nD) (w : Fin cfg1.W) : (bwdDat V c).A w = V c (Proc.devRef .tc (Pipeline.arrRef spec1 w)) := by
  dsimp only [bwdDat]

theorem bwd_after0 (c : Dev nD) (t : Fin cfg1.N) : (bwdDat V c).after 0 t = bwdIn0 V c t := by dsimp only [bwdDat]
theorem bwd_after1 (c : Dev nD) (t : Fin cfg1.N) : (bwdDat V c).after 1 t = bwdIn1 V c t := by dsimp only [bwdDat]
theorem bwd_after2 (c : Dev nD) (t : Fin cfg1.N) : (bwdDat V c).after 2 t = bwdIn2 V c t := by dsimp only [bwdDat]
theorem bwd_after3 (c : Dev nD) (t : Fin cfg1.N) : (bwdDat V c).after 3 t = bwdBlk V c 3 t := by dsimp only [bwdDat]
theorem bwd_after4 (c : Dev nD) (t : Fin cfg1.N) : (bwdDat V c).after 4 t = bwdBlk V c 4 t := by dsimp only [bwdDat]
theorem bwd_after5 (c : Dev nD) (t : Fin cfg1.N) : (bwdDat V c).after 5 t = bwdBlk V c 5 t := by dsimp only [bwdDat]
theorem bwd_after6 (c : Dev nD) (t : Fin cfg1.N) : (bwdDat V c).after 6 t = bwdBlk V c 6 t := by dsimp only [bwdDat]
theorem bwd_after7 (c : Dev nD) (t : Fin cfg1.N) : (bwdDat V c).after 7 t = bwdBlk V c 7 t := by dsimp only [bwdDat]
theorem bwd_after8 (c : Dev nD) (t : Fin cfg1.N) : (bwdDat V c).after 8 t = bwdBlk V c 8 t := by dsimp only [bwdDat]
theorem bwd_after9 (c : Dev nD) (t : Fin cfg1.N) : (bwdDat V c).after 9 t = bwdBlk V c 9 t := by dsimp only [bwdDat]
theorem bwd_after10 (c : Dev nD) (t : Fin cfg1.N) : (bwdDat V c).after 10 t = bwdBlk V c 10 t := by dsimp only [bwdDat]
theorem bwd_after11 (c : Dev nD) (t : Fin cfg1.N) : (bwdDat V c).after 11 t = (bwdAt V c t).out (bwdSt V c t.val) := by dsimp only [bwdDat]
theorem bwd_before0 (c : Dev nD) (t : Fin cfg1.N) (d) : (bwdDat V c).before 0 t d = bwdIn0 V c t :=
  ((bwdDat V c).before_in_eq_fetched 0 rfl (fun _ => rfl)
      (fun t t' h => funext fun a => congrArg (fun n => Pipeline.Clip.of n ((cfg1.win 0).size a) (S8320x3840.size a)) (congrFun h a))
      (fun t => by rw [bwd_after0]; unfold bwdIn0; rw [Pipeline.Window.cut_fill]; unfold Dat.blockOf bwdBlk; rw [bwd_A]; try rfl) t d).trans
    (by unfold Dat.fetched bwdIn0; rw [bwd_fill0 t d (fun _ => Classical.choice inferInstance)]; unfold Dat.blockOf bwdBlk; rw [bwd_A]; try rfl)
theorem bwd_before1 (c : Dev nD) (t : Fin cfg1.N) (d) : (bwdDat V c).before 1 t d = bwdIn1 V c t :=
  ((bwdDat V c).before_in_eq_fetched 1 rfl (fun _ => rfl)
      (fun t t' h => funext fun a => congrArg (fun n => Pipeline.Clip.of n ((cfg1.win 1).size a) (S8320x3840.size a)) (congrFun h a))
      (fun t => by rw [bwd_after1]; unfold bwdIn1; rw [Pipeline.Window.cut_fill]; unfold Dat.blockOf bwdBlk; rw [bwd_A]; try rfl) t d).trans
    (by unfold Dat.fetched bwdIn1; rw [bwd_fill1 t d (fun _ => Classical.choice inferInstance)]; unfold Dat.blockOf bwdBlk; rw [bwd_A]; try rfl)
theorem bwd_before2 (c : Dev nD) (t : Fin cfg1.N) (d) : (bwdDat V c).before 2 t d = bwdIn2 V c t :=
  ((bwdDat V c).before_in_eq_fetched 2 rfl (fun _ => rfl)
      (fun t t' h => funext fun a => congrArg (fun n => Pipeline.Clip.of n ((cfg1.win 2).size a) (S8320x3840.size a)) (congrFun h a))
      (fun t => by rw [bwd_after2]; unfold bwdIn2; rw [Pipeline.Window.cut_fill]; unfold Dat.blockOf bwdBlk; rw [bwd_A]; try rfl) t d).trans
    (by unfold Dat.fetched bwdIn2; rw [bwd_fill2 t d (fun _ => Classical.choice inferInstance)]; unfold Dat.blockOf bwdBlk; rw [bwd_A]; try rfl)
theorem bwd_before3 (c : Dev nD) (t : Fin cfg1.N) (d) : (bwdDat V c).before 3 t d = bwdBlk V c 3 t :=
  ((bwdDat V c).before_in_eq_fetched 3 rfl (fun _ => rfl) (fun _ _ _ => rfl) (fun t => by rw [bwd_after3]; unfold Dat.blockOf bwdBlk; rw [bwd_A]; try rfl) t d).trans
    (by unfold Dat.fetched Dat.blockOf bwdBlk; rw [bwd_A]; try rfl)
theorem bwd_before4 (c : Dev nD) (t : Fin cfg1.N) (d) : (bwdDat V c).before 4 t d = bwdBlk V c 4 t :=
  ((bwdDat V c).before_in_eq_fetched 4 rfl (fun _ => rfl) (fun _ _ _ => rfl) (fun t => by rw [bwd_after4]; unfold Dat.blockOf bwdBlk; rw [bwd_A]; try rfl) t d).trans
    (by unfold Dat.fetched Dat.blockOf bwdBlk; rw [bwd_A]; try rfl)
theorem bwd_before5 (c : Dev nD) (t : Fin cfg1.N) (d) : (bwdDat V c).before 5 t d = bwdBlk V c 5 t :=
  ((bwdDat V c).before_in_eq_fetched 5 rfl (fun _ => rfl) (fun _ _ _ => rfl) (fun t => by rw [bwd_after5]; unfold Dat.blockOf bwdBlk; rw [bwd_A]; try rfl) t d).trans
    (by unfold Dat.fetched Dat.blockOf bwdBlk; rw [bwd_A]; try rfl)
theorem bwd_before6 (c : Dev nD) (t : Fin cfg1.N) (d) : (bwdDat V c).before 6 t d = bwdBlk V c 6 t :=
  ((bwdDat V c).before_in_eq_fetched 6 rfl (fun _ => rfl) (fun _ _ _ => rfl) (fun t => by rw [bwd_after6]; unfold Dat.blockOf bwdBlk; rw [bwd_A]; try rfl) t d).trans
    (by unfold Dat.fetched Dat.blockOf bwdBlk; rw [bwd_A]; try rfl)
theorem bwd_before7 (c : Dev nD) (t : Fin cfg1.N) (d) : (bwdDat V c).before 7 t d = bwdBlk V c 7 t :=
  ((bwdDat V c).before_in_eq_fetched 7 rfl (fun _ => rfl) (fun _ _ _ => rfl) (fun t => by rw [bwd_after7]; unfold Dat.blockOf bwdBlk; rw [bwd_A]; try rfl) t d).trans
    (by unfold Dat.fetched Dat.blockOf bwdBlk; rw [bwd_A]; try rfl)
theorem bwd_before8 (c : Dev nD) (t : Fin cfg1.N) (d) : (bwdDat V c).before 8 t d = bwdBlk V c 8 t :=
  ((bwdDat V c).before_in_eq_fetched 8 rfl (fun _ => rfl) (fun _ _ _ => rfl) (fun t => by rw [bwd_after8]; unfold Dat.blockOf bwdBlk; rw [bwd_A]; try rfl) t d).trans
    (by unfold Dat.fetched Dat.blockOf bwdBlk; rw [bwd_A]; try rfl)
theorem bwd_before9 (c : Dev nD) (t : Fin cfg1.N) (d) : (bwdDat V c).before 9 t d = bwdBlk V c 9 t :=
  ((bwdDat V c).before_in_eq_fetched 9 rfl (fun _ => rfl) (fun _ _ _ => rfl) (fun t => by rw [bwd_after9]; unfold Dat.blockOf bwdBlk; rw [bwd_A]; try rfl) t d).trans
    (by unfold Dat.fetched Dat.blockOf bwdBlk; rw [bwd_A]; try rfl)
theorem bwd_before10 (c : Dev nD) (t : Fin cfg1.N) (d) : (bwdDat V c).before 10 t d = bwdBlk V c 10 t :=
  ((bwdDat V c).before_in_eq_fetched 10 rfl (fun _ => rfl) (fun _ _ _ => rfl) (fun t => by rw [bwd_after10]; unfold Dat.blockOf bwdBlk; rw [bwd_A]; try rfl) t d).trans
    (by unfold Dat.fetched Dat.blockOf bwdBlk; rw [bwd_A]; try rfl)

/-- The body at a grid point: from the blocks and the state before it to the results and the state after it. -/
theorem bwd_sound (c : Dev nD) (t : Fin cfg1.N) :
    (iprop((bwdDat V c).Φ t.castSucc ∗ (bwdDat V c).owesAt () t.castSucc
    ∗ (∃ d, owns (c : Thread nD τ) (win1_0.stage (cfg1.slots t 0)) fullShare ((bwdDat V c).before 0 t d))
    ∗ (∃ d, owns (c : Thread nD τ) (win1_1.stage (cfg1.slots t 1)) fullShare ((bwdDat V c).before 1 t d))
    ∗ (∃ d, owns (c : Thread nD τ) (win1_2.stage (cfg1.slots t 2)) fullShare ((bwdDat V c).before 2 t d))
    ∗ (∃ d, owns (c : Thread nD τ) (win1_3.stage (cfg1.slots t 3)) fullShare ((bwdDat V c).before 3 t d))
    ∗ (∃ d, owns (c : Thread nD τ) (win1_4.stage (cfg1.slots t 4)) fullShare ((bwdDat V c).before 4 t d))
    ∗ (∃ d, owns (c : Thread nD τ) (win1_5.stage (cfg1.slots t 5)) fullShare ((bwdDat V c).before 5 t d))
    ∗ (∃ d, owns (c : Thread nD τ) (win1_6.stage (cfg1.slots t 6)) fullShare ((bwdDat V c).before 6 t d))
    ∗ (∃ d, owns (c : Thread nD τ) (win1_7.stage (cfg1.slots t 7)) fullShare ((bwdDat V c).before 7 t d))
    ∗ (∃ d, owns (c : Thread nD τ) (win1_8.stage (cfg1.slots t 8)) fullShare ((bwdDat V c).before 8 t d))
    ∗ (∃ d, owns (c : Thread nD τ) (win1_9.stage (cfg1.slots t 9)) fullShare ((bwdDat V c).before 9 t d))
    ∗ (∃ d, owns (c : Thread nD τ) (win1_10.stage (cfg1.slots t 10)) fullShare ((bwdDat V c).before 10 t d))
    ∗ (∃ d, owns (c : Thread nD τ) (win1_11.stage (cfg1.slots t 11)) fullShare ((bwdDat V c).before 11 t d))) : sProp 𝕄)
    ⊢ wp frame (wpE (defs₀ (F := F)) Variants.none (c : Thread nD τ) none) Set.univ (bodyAt1 t)
      (fun _ => iprop((bwdDat V c).Φ t.succ ∗ (bwdDat V c).owesAt () t.succ
    ∗ owns (c : Thread nD τ) (win1_0.stage (cfg1.slots t 0)) fullShare ((bwdDat V c).after 0 t)
    ∗ owns (c : Thread nD τ) (win1_1.stage (cfg1.slots t 1)) fullShare ((bwdDat V c).after 1 t)
    ∗ owns (c : Thread nD τ) (win1_2.stage (cfg1.slots t 2)) fullShare ((bwdDat V c).after 2 t)
    ∗ owns (c : Thread nD τ) (win1_3.stage (cfg1.slots t 3)) fullShare ((bwdDat V c).after 3 t)
    ∗ owns (c : Thread nD τ) (win1_4.stage (cfg1.slots t 4)) fullShare ((bwdDat V c).after 4 t)
    ∗ owns (c : Thread nD τ) (win1_5.stage (cfg1.slots t 5)) fullShare ((bwdDat V c).after 5 t)
    ∗ owns (c : Thread nD τ) (win1_6.stage (cfg1.slots t 6)) fullShare ((bwdDat V c).after 6 t)
    ∗ owns (c : Thread nD τ) (win1_7.stage (cfg1.slots t 7)) fullShare ((bwdDat V c).after 7 t)
    ∗ owns (c : Thread nD τ) (win1_8.stage (cfg1.slots t 8)) fullShare ((bwdDat V c).after 8 t)
    ∗ owns (c : Thread nD τ) (win1_9.stage (cfg1.slots t 9)) fullShare ((bwdDat V c).after 9 t)
    ∗ owns (c : Thread nD τ) (win1_10.stage (cfg1.slots t 10)) fullShare ((bwdDat V c).after 10 t)
    ∗ owns (c : Thread nD τ) (win1_11.stage (cfg1.slots t 11)) fullShare ((bwdDat V c).after 11 t))) := by
  unfold bodyAt1
  simp only [bwd_before0, bwd_before1, bwd_before2, bwd_before3, bwd_before4, bwd_before5, bwd_before6, bwd_before7, bwd_before8, bwd_before9, bwd_before10]
  rw [show (bwdDat V c).owesAt () t.succ = (bwdDat V c).owesAt () t.castSucc from rfl,
    bwd_after0, bwd_after1, bwd_after2, bwd_after3, bwd_after4, bwd_after5, bwd_after6, bwd_after7, bwd_after8, bwd_after9, bwd_after10, bwd_after11,
    show (bwdDat V c).Φ t.castSucc = bwdPhi V c t.val from rfl, show (bwdDat V c).Φ t.succ = bwdPhi V c (t.val + 1) from rfl]
  unfold bwdPhi
  iintro ⟨⟨⟨%st, %hst, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hb := bwd_body (F := F) Variants.none c none (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (Memref.whole cc1_scratch0) (Memref.isWhole_whole _) (bwdAt V c t) st Set.univ ((bwdDat V c).before 11 t d11)
  rw [bwd_start V c t st hst] at hb
  ihave Hw := hb $$ [H0 H1 H2 H3 H4 H5 H6 H7 H8 H9 H10 H11 HS]
  · isplitl [H0]; · iapply (owns_unread (F := F) c _ (hstage1_0 ((cfg1.slots t 0).cast nbuf1_0)) _); iexact H0
    isplitl [H1]; · iapply (owns_unread (F := F) c _ (hstage1_1 ((cfg1.slots t 1).cast nbuf1_1)) _); iexact H1
    isplitl [H2]; · iapply (owns_unread (F := F) c _ (hstage1_2 ((cfg1.slots t 2).cast nbuf1_2)) _); iexact H2
    isplitl [H3]; · iapply (owns_unread (F := F) c _ (hstage1_3 ((cfg1.slots t 3).cast nbuf1_3)) _); iexact H3
    isplitl [H4]; · iapply (owns_unread (F := F) c _ (hstage1_4 ((cfg1.slots t 4).cast nbuf1_4)) _); iexact H4
    isplitl [H5]; · iapply (owns_unread (F := F) c _ (hstage1_5 ((cfg1.slots t 5).cast nbuf1_5)) _); iexact H5
    isplitl [H6]; · iapply (owns_unread (F := F) c _ (hstage1_6 ((cfg1.slots t 6).cast nbuf1_6)) _); iexact H6
    isplitl [H7]; · iapply (owns_unread (F := F) c _ (hstage1_7 ((cfg1.slots t 7).cast nbuf1_7)) _); iexact H7
    isplitl [H8]; · iapply (owns_unread (F := F) c _ (hstage1_8 ((cfg1.slots t 8).cast nbuf1_8)) _); iexact H8
    isplitl [H9]; · iapply (owns_unread (F := F) c _ (hstage1_9 ((cfg1.slots t 9).cast nbuf1_9)) _); iexact H9
    isplitl [H10]; · iapply (owns_unread (F := F) c _ (hstage1_10 ((cfg1.slots t 10).cast nbuf1_10)) _); iexact H10
    isplitl [H11]; · iapply (owns_unread (F := F) c _ (hstage1_11 ((cfg1.slots t 11).cast nbuf1_11)) _); iexact H11
    iapply (owns_unread (F := F) c _ (Memref.isWhole_whole _) _); iexact HS
  iapply (wp_wand_r frame (wpE (defs₀ (F := F)) Variants.none (c : Thread nD τ) none) Set.univ)
  isplitl [Hw]; · iexact Hw
  iintro %_ ⟨H0, H1, H2, H3, H4, H5, H6, H7, H8, H9, H10, H11, HS⟩
  isplitl [HS Hr]
  · isplitl [HS]
    · iexists (bwdSt V c (t.val + 1))
      isplitr
      · ipureintro; exact fun _ => rfl
      rw [bwdSt_succ]
      iapply (unread_owns (F := F) c _ (Memref.isWhole_whole _) _); iexact HS
    iexact Hr
  isplitl [Ho]; · iexact Ho
  isplitl [H0]; · iapply (unread_owns (F := F) c _ (hstage1_0 ((cfg1.slots t 0).cast nbuf1_0)) _); iexact H0
  isplitl [H1]; · iapply (unread_owns (F := F) c _ (hstage1_1 ((cfg1.slots t 1).cast nbuf1_1)) _); iexact H1
  isplitl [H2]; · iapply (unread_owns (F := F) c _ (hstage1_2 ((cfg1.slots t 2).cast nbuf1_2)) _); iexact H2
  isplitl [H3]; · iapply (unread_owns (F := F) c _ (hstage1_3 ((cfg1.slots t 3).cast nbuf1_3)) _); iexact H3
  isplitl [H4]; · iapply (unread_owns (F := F) c _ (hstage1_4 ((cfg1.slots t 4).cast nbuf1_4)) _); iexact H4
  isplitl [H5]; · iapply (unread_owns (F := F) c _ (hstage1_5 ((cfg1.slots t 5).cast nbuf1_5)) _); iexact H5
  isplitl [H6]; · iapply (unread_owns (F := F) c _ (hstage1_6 ((cfg1.slots t 6).cast nbuf1_6)) _); iexact H6
  isplitl [H7]; · iapply (unread_owns (F := F) c _ (hstage1_7 ((cfg1.slots t 7).cast nbuf1_7)) _); iexact H7
  isplitl [H8]; · iapply (unread_owns (F := F) c _ (hstage1_8 ((cfg1.slots t 8).cast nbuf1_8)) _); iexact H8
  isplitl [H9]; · iapply (unread_owns (F := F) c _ (hstage1_9 ((cfg1.slots t 9).cast nbuf1_9)) _); iexact H9
  isplitl [H10]; · iapply (unread_owns (F := F) c _ (hstage1_10 ((cfg1.slots t 10).cast nbuf1_10)) _); iexact H10
  iapply (unread_owns (F := F) c _ (hstage1_11 ((cfg1.slots t 11).cast nbuf1_11)) _); iexact H11

theorem bwd_row (t : Fin cfg1.N) : defs₀ (F := F) .tc cfg1.body (cfg1.bodyArgs t (cfg1.slots t)) = bodyAt1 t := by
  unfold defs₀; rw [Defs.onTc_tc]

theorem bwd_obligation (c : Dev nD) : BodyObligation (bwdDat V c) (defs₀ (F := F)) Variants.none () Set.univ := fun t => by
  rw [bigSep_W1, bigSep_W1, bwd_row]
  exact triple_restated (bwd_sound V c t) rfl .rfl fun _ => .rfl

theorem bwd_scoped (c : Dev nD) : (Pipeline.scopedRest (Ix := Unit) (Name := ℕ) (U := UR sig nD τ) (Lvl := ℕ) (Val := Elt F) spec1 c : sProp 𝕄)
    = iprop((∃ f : St F, owns (c : Thread nD τ) (Memref.whole cc1_scratch0) fullShare f)
      ∗ Pipeline.scopedRestBut (Ix := Unit) (Name := ℕ) (U := UR sig nD τ) (Lvl := ℕ) (Val := Elt F) spec1 c [cc1_scratch0]) := by
  have e : ∀ f : St F, (owns (c : Thread nD τ) (Memref.whole cc1_scratch0) fullShare f : sProp 𝕄) = (((c : Thread nD τ).loc cc1_scratch0) ↦{fullShare} f) := fun f => owns_whole _ _ _ _
  simp only [e]
  exact Pipeline.scopedRest_split_of_list (Ix := Unit) (Name := ℕ) (U := UR sig nD τ) (Lvl := ℕ) (Val := Elt F) spec1 c [cc1_scratch0] (by decide) (by decide)

theorem bwd_hin (c : Dev nD) : Pipeline.scopedRest (Ix := Unit) (Name := ℕ) (U := UR sig nD τ) (Lvl := ℕ) (Val := Elt F) spec1 c ⊢ (bwdDat V c).Φ 0 := by
  rw [show (bwdDat V c).Φ 0 = bwdPhi V c 0 from rfl, bwd_scoped]
  unfold bwdPhi
  iintro ⟨⟨%f, H⟩, Hr⟩
  isplitl [H]
  · iexists f
    isplitr
    · ipureintro; exact fun h => absurd rfl h
    iexact H
  iexact Hr

theorem bwd_hout (c : Dev nD) : (bwdDat V c).Φ (Fin.last cfg1.N) ⊢ Pipeline.scopedRest (Ix := Unit) (Name := ℕ) (U := UR sig nD τ) (Lvl := ℕ) (Val := Elt F) spec1 c := by
  rw [show (bwdDat V c).Φ (Fin.last cfg1.N) = bwdPhi V c (Fin.last cfg1.N).val from rfl, bwd_scoped]
  unfold bwdPhi
  iintro ⟨⟨%f, -, H⟩, Hr⟩
  isplitl [H]
  · iexists f
    iexact H
  iexact Hr

end

end Cert.Ret

end
-- ==== Proof.Run.lean ====
/- The whole program's run: both regions between the host's stretches, and what the results hold at the end. -/
module

public import proofs.«01_k».proof.Proof.FwdRegion
public import proofs.«01_k».proof.Proof.BwdRegion

@[expose] public section

noncomputable section

namespace Cert.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays after the forward region. -/
def W8 (c : Dev nD) : Valuation τ sig (Elt F) :=
  Function.update (Function.update (V7 m c) main_v77_0 ((fwdDat (V7 m) c).arrAt 9 cfg0.N)) main_v77_1 ((fwdDat (V7 m) c).arrAt 10 cfg0.N)

/-- The arrays after the backward region. -/
def W9 (c : Dev nD) : Valuation τ sig (Elt F) :=
  Function.update (W8 m c) main_v78 ((bwdDat (W8 m) c).arrAt 11 cfg1.N)

theorem W8_o (c : Dev nD) : W8 m c main_v77_0 = (fwdDat (V7 m) c).arrAt 9 cfg0.N := by
  unfold W8
  rw [Function.update_of_ne (StableHlo.devRef_ne_of_ne (by decide) : (Proc.devRef .tc main_v77_0 : DevRef τ sig) ≠ Proc.devRef .tc main_v77_1), Function.update_self]

theorem W8_w (c : Dev nD) : W8 m c main_v77_1 = (fwdDat (V7 m) c).arrAt 10 cfg0.N := by
  unfold W8
  rw [Function.update_self]

theorem W8_of (c : Dev nD) (b : DevRef τ sig) (h0 : b ≠ Proc.devRef .tc main_v77_0) (h1 : b ≠ Proc.devRef .tc main_v77_1) : W8 m c b = V7 m c b := by
  unfold W8
  rw [Function.update_of_ne h1, Function.update_of_ne h0]

theorem W9_d (c : Dev nD) : W9 m c main_v78 = (bwdDat (W8 m) c).arrAt 11 cfg1.N := by
  unfold W9
  rw [Function.update_self]

theorem W9_of (c : Dev nD) (b : DevRef τ sig) (h : b ≠ Proc.devRef .tc main_v78) : W9 m c b = W8 m c b := by
  unfold W9
  rw [Function.update_of_ne h]

/-- The proof data of the two regions. -/
def pdats : (p : Fin 2) → (c : Dev nD) → Dat τ (Elt F) Unit ℕ (UR sig nD τ) ℕ (cfgs p) c
  | ⟨0, _⟩ => fwdDat (V7 m)
  | ⟨1, _⟩ => bwdDat (W8 m)
  | ⟨_ + 2, h⟩ => absurd h (Nat.not_lt.2 (Nat.le_add_left _ _))

theorem fwd_entry (c : Dev nD) (w : Fin cfg0.W) : (fwdDat (V7 m) c).arrAt w 0 = V7 m c (Proc.devRef .tc (Pipeline.arrRef spec0 w)) := by
  exact fwd_A (V7 m) c w

theorem bwd_entry (c : Dev nD) (w : Fin cfg1.W) : (bwdDat (W8 m) c).arrAt w 0 = W8 m c (Proc.devRef .tc (Pipeline.arrRef spec1 w)) := by
  exact bwd_A (W8 m) c w

theorem fwd_in_ne : ∀ w : Fin 11, (spec0 w).isOut = false → Pipeline.arrRef spec0 w ≠ main_v77_0 ∧ Pipeline.arrRef spec0 w ≠ main_v77_1 := by decide

theorem bwd_in_ne : ∀ w : Fin 12, (spec1 w).isOut = false → Pipeline.arrRef spec1 w ≠ main_v78 := by decide

theorem fwd_out_eq : ∀ w : Fin 11, (spec0 w).isOut = true → w = 9 ∨ w = 10 := by decide

theorem bwd_out_eq : ∀ w : Fin 12, (spec1 w).isOut = true → w = 11 := by decide

theorem fwd_exit (c : Dev nD) (w : Fin cfg0.W) : (fwdDat (V7 m) c).arrAt w cfg0.N = W8 m c (Proc.devRef .tc (Pipeline.arrRef spec0 w)) := by
  by_cases h : (spec0 w).isOut = false
  · have hn := fwd_in_ne w h
    rw [Dat.arrAt_in _ w h, W8_of m c _ (StableHlo.devRef_ne_of_ne hn.1) (StableHlo.devRef_ne_of_ne hn.2), fwd_A]
  · rcases fwd_out_eq w (by simpa using h) with rfl | rfl
    · exact (W8_o m c).symm
    · exact (W8_w m c).symm

theorem bwd_exit (c : Dev nD) (w : Fin cfg1.W) : (bwdDat (W8 m) c).arrAt w cfg1.N = W9 m c (Proc.devRef .tc (Pipeline.arrRef spec1 w)) := by
  by_cases h : (spec1 w).isOut = false
  · rw [Dat.arrAt_in _ w h, W9_of m c _ (StableHlo.devRef_ne_of_ne (bwd_in_ne w h)), bwd_A]
  · rcases bwd_out_eq w (by simpa using h) with rfl
    exact (W9_d m c).symm

theorem arrRefs_mem {gr W : ℕ} (win : Fin W → Pipeline.WinSpec sig gr) (w : Fin W) (r : Ref sig .tc) (h : Pipeline.arrRef win w = r) :
    (Proc.devRef .tc r : DevRef τ sig) ∈ Pipeline.arrRefs (τ := τ) win :=
  Finset.mem_map.mpr ⟨r, Finset.mem_image.mpr ⟨w, Finset.mem_univ _, h⟩, rfl⟩

theorem fwd_off (c : Dev nD) : ∀ b ∈ Pipeline.ucRefs τ sig \ Pipeline.arrRefs spec0, W8 m c b = V7 m c b := fun b hb => by
  have hn := (Finset.mem_sdiff.mp hb).2
  exact W8_of m c b (fun e => hn (e ▸ arrRefs_mem spec0 9 _ rfl)) (fun e => hn (e ▸ arrRefs_mem spec0 10 _ rfl))

theorem bwd_off (c : Dev nD) : ∀ b ∈ Pipeline.ucRefs τ sig \ Pipeline.arrRefs spec1, W9 m c b = W8 m c b := fun b hb => by
  have hn := (Finset.mem_sdiff.mp hb).2
  exact W9_of m c b (fun e => hn (e ▸ arrRefs_mem spec1 11 _ rfl))

/-- The forward region. -/
def reg0 : Pipeline.RegionSeg (pcfgs (F := F)) adm (pdats m) () defs₀ Variants.none lset llev 0 :=
  regionOf (pdats m) 0 launch₀0.toP (fun c => (fwd_obligation (V7 m) c).loose) (fun _ _ => rfl) (fun _ => rfl)
    (fwd_hin (V7 m)) (fwd_hout (V7 m)) (V7 m) rfl

/-- The backward region. -/
def reg1 : Pipeline.RegionSeg (pcfgs (F := F)) adm (pdats m) () defs₀ Variants.none lset llev 1 :=
  regionOf (pdats m) 1 launch₀1.toP (fun c => (bwd_obligation (W8 m) c).loose) (fun _ _ => rfl) (fun _ => rfl)
    (bwd_hin (W8 m)) (bwd_hout (W8 m)) (W8 m) rfl

/-- What rides along: the core owes nothing. -/
abbrev rest (_ : Fin 3) (c : Dev nD) : sProp 𝕄 := iprop(∃ Wd, owes (c : Thread nD τ) (0 : CellTallies nD τ sig Unit) Wd)

theorem pre0 (c : Dev nD) : (iprop(StableHlo.held (c : Thread nD τ) (Pipeline.ucRefs τ sig) (V7 m c) ∗ rest 0 c) : sProp 𝕄) ⊢ (reg0 m).pre c :=
  regionOf_pre (pdats m) 0 _ _ _ _ _ _ (V7 m) sharedIn0 arr_whole0 (fun _ _ _ => rfl)
    (Pipeline.arrRefs_sub_ucRefs spec0 (by decide)) rfl (fwd_entry m) c

theorem post0 (c : Dev nD) : (reg0 m).post c ⊢ (iprop(StableHlo.held (c : Thread nD τ) (Pipeline.ucRefs τ sig) (W8 m c) ∗ rest 1 c) : sProp 𝕄) :=
  regionOf_post (pdats m) 0 _ _ _ _ _ _ (V7 m) sharedIn0 arr_whole0 (fun _ _ _ => rfl)
    (Pipeline.arrRefs_sub_ucRefs spec0 (by decide)) rfl (W8 m) (fwd_exit m) (fwd_off m) c

theorem pre1 (c : Dev nD) : (iprop(StableHlo.held (c : Thread nD τ) (Pipeline.ucRefs τ sig) (W8 m c) ∗ rest 1 c) : sProp 𝕄) ⊢ (reg1 m).pre c :=
  regionOf_pre (pdats m) 1 _ _ _ _ _ _ (W8 m) sharedIn1 arr_whole1 (fun _ _ _ => rfl)
    (Pipeline.arrRefs_sub_ucRefs spec1 (by decide)) rfl (bwd_entry m) c

theorem post1 (c : Dev nD) : (reg1 m).post c ⊢ (iprop(StableHlo.held (c : Thread nD τ) (Pipeline.ucRefs τ sig) (W9 m c) ∗ rest 2 c) : sProp 𝕄) :=
  regionOf_post (pdats m) 1 _ _ _ _ _ _ (W8 m) sharedIn1 arr_whole1 (fun _ _ _ => rfl)
    (Pipeline.arrRefs_sub_ucRefs spec1 (by decide)) rfl (W9 m) (bwd_exit m) (bwd_off m) c

theorem V7_arg0 (c : Dev nD) : V7 m c main_arg0 = m ((c : Thread nD τ).loc main_arg0) :=
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem V7_arg1 (c : Dev nD) : V7 m c main_arg1 = m ((c : Thread nD τ).loc main_arg1) :=
  (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

theorem W9_kept (c : Dev nD) (r : Ref sig .tc) (h0 : r ≠ main_v77_0) (h1 : r ≠ main_v77_1) (h2 : r ≠ main_v78) : W9 m c r = V7 m c r :=
  (W9_of m c _ (StableHlo.devRef_ne_of_ne h2)).trans (W8_of m c _ (StableHlo.devRef_ne_of_ne h0) (StableHlo.devRef_ne_of_ne h1))

theorem W9_o (c : Dev nD) : W9 m c main_v77_0 = (fwdDat (V7 m) c).arrAt 9 cfg0.N :=
  (W9_of m c _ (StableHlo.devRef_ne_of_ne (by decide))).trans (W8_o m c)

-- the run theorem's implicit arguments are found by unifying its conclusion with this one, which takes unfolding
-- plain definitions in a metavariable's type
set_option backward.isDefEq.respectTransparency.types false in
/-- Every execution of the program ends, with both results as the regions leave them, the arguments as launched and
    every semaphore counter at zero. -/
theorem run_main : θ_run defs (onTc (τ := τ) (main (F := F))) ⟨m, fun _ => 0, ρ⟩ (fun r => (∀ c : Dev nD,
      r.2.mem ((c.tc : Thread nD τ).loc main_v77_0) = (fwdDat (V7 m) c).arrAt 9 cfg0.N
      ∧ r.2.mem ((c.tc : Thread nD τ).loc main_v78) = (bwdDat (W8 m) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj emb₁ defs₀ Variants.none lset llev m ρ main
    (segs m Variants.none lset llev rest () (pdats m) (reg0 m) (reg1 m))
    (fun c Q => by
      rewrite [main_chain c, Seg.run_eq_chain,
        show (segs m Variants.none lset llev rest () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => by unfold lset; exact if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest 0 c))
    (Tₙ := fun c => StableHlo.held (c : Thread nD τ) (Pipeline.ucRefs τ sig) (W9 m c))
    (hch := fun c => ⟨.rfl, .rfl, .rfl, .rfl, .rfl, .rfl, .rfl, pre0 m c, (post0 m c).trans (pre1 m c), post1 m c⟩)
    (hinit := ?_)
    (QY := fun c s => s.mem ((c.tc : Thread nD τ).loc main_v77_0) = W9 m c main_v77_0 ∧ s.mem ((c.tc : Thread nD τ).loc main_v78) = W9 m c main_v78
      ∧ s.mem ((c.tc : Thread nD τ).loc main_arg0) = W9 m c main_arg0 ∧ s.mem ((c.tc : Thread nD τ).loc main_arg1) = W9 m c main_arg1)
    (hfin := fun c s' => ?_) (hQ := fun s h hz => ⟨fun c => ?_, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lset llev fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W9 m c) s') $$ [Hh HSI]
    · isplitl [Hh] <;> iassumption
    icases Hr with ⟨%h, HSI⟩
    imodintro
    isplitr
    · ipureintro
      exact ⟨h (Proc.devRef .tc main_v77_0) (Finset.mem_filter.mpr ⟨StableHlo.devRef_mem_tcRefs main_v77_0, by decide⟩),
        h (Proc.devRef .tc main_v78) (Finset.mem_filter.mpr ⟨StableHlo.devRef_mem_tcRefs main_v78, by decide⟩),
        h (Proc.devRef .tc main_arg0) (Finset.mem_filter.mpr ⟨StableHlo.devRef_mem_tcRefs main_arg0, by decide⟩),
        h (Proc.devRef .tc main_arg1) (Finset.mem_filter.mpr ⟨StableHlo.devRef_mem_tcRefs main_arg1, by decide⟩)⟩
    · iexact HSI
  · obtain ⟨h0, h1, h2, h3⟩ := h c
    exact ⟨h0.trans (W9_o m c), h1.trans (W9_d m c),
      h2.trans ((W9_kept m c main_arg0 (by decide) (by decide) (by decide)).trans (V7_arg0 m c)),
      h3.trans ((W9_kept m c main_arg1 (by decide) (by decide) (by decide)).trans (V7_arg1 m c))⟩

end Cert.Ret

end
-- ==== Proof.SameText.lean ====
/- The kernel's program and its idealization have the same text: read at words they are one program. -/
module

public import proofs.«01_k».proof.Defs
public import proofs.«01_k».proof.Proof.Gen.Kernel
public import proofs.«01_k».proof.Proof.Gen.KernelIdeal

@[expose] public section

noncomputable section

namespace Cert.Ret

open Idealize.ShloMosaic Idealize.ShloMosaic.TcCoe Idealize.SL.Sem

-- both sides are unfolded side by side
set_option maxHeartbeats 4000000
set_option backward.isDefEq.respectTransparency false

theorem main_same : Cert.Kernel.main (F := Bits) = Cert.KernelIdeal.main (F := Bits) := rfl

theorem bodies_same : Cert.Kernel.defs₀ (F := Bits) = Cert.KernelIdeal.defs₀ (F := Bits) := by
  unfold Cert.Kernel.defs₀ Cert.KernelIdeal.defs₀
  congr 1
  funext l x
  rcases l with ⟨_ | _ | l, h⟩
  · rcases x with ⟨t, s⟩
    rfl
  · rcases x with ⟨t, s⟩
    rfl
  · exact absurd h (Nat.not_lt.2 (Nat.le_add_left _ _))

theorem defs_same : Cert.Kernel.defs (F := Bits) = Cert.KernelIdeal.defs (F := Bits) :=
  (congrArg (Pipeline.defs (Cert.Kernel.pcfgs (F := Bits))) bodies_same).trans rfl

end Cert.Ret

end
-- ==== Proof.Frames.lean ====
/- The frames: both readings of the kernel's program run and leave the arguments as they were, and so does the reference. -/
module

public import proofs.«01_k».proof.Defs
public import proofs.«01_k».proof.Proof.Run
public import proofs.«01_k».proof.Proof.SameText
public import proofs.«01_k».proof.Proof.Gen.Kernel
public import proofs.«01_k».proof.Proof.Gen.ReferenceIdeal.Run

@[expose] public section

noncomputable section

namespace Cert.Ret

open Idealize.ShloMosaic Idealize.ShloMosaic.TcCoe Idealize.SL.Sem

/-- The idealization's text at words. -/
theorem frame_words (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := Bits)) _ _).mono (fun _ h => ⟨fun c => (h.1 c).2.2, h.2⟩) (run_main (F := Bits) m ρ)

set_option backward.isDefEq.respectTransparency false in
set_option maxHeartbeats 4000000 in
/-- The kernel's program at words. -/
theorem frame_kernel : Cert.quiescent_Kernel (hKernel := Cert.Kernel.Gen.facts) := fun m ρ _ => by
  rw [defs_same, main_same]
  exact frame_words m ρ

/-- The kernel's program at extended reals. -/
theorem frame_kernel_ideal : Cert.quiescent_KernelIdeal (hKernelIdeal := Cert.KernelIdeal.Gen.facts) := fun m ρ _ =>
  (θ_run (Cert.KernelIdeal.defs (F := Ideal)) _ _).mono (fun _ h => ⟨fun c => (h.1 c).2.2, h.2⟩) (run_main (F := Ideal) m ρ)

/-- The reference declares no semaphore, so every counter reads zero. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

end Cert.Ret

end
-- ==== Proof.KerBlocks.lean ====
/- The blocks the two kernels are handed, at coordinates of the arrays they are cut of. -/
module

public import proofs.«01_k».proof.Proof.FwdRegion
public import proofs.«01_k».proof.Proof.BwdRegion
public import Idealize.ShloMosaic.Lib.Pipeline.ValueKit

@[expose] public section

set_option maxRecDepth 8192

noncomputable section

namespace Cert.Ret

open Idealize.ShloMosaic Idealize.ShloMosaic.ValueIdx Idealize.ShloMosaic.TcCoe
open Idealize.SL Idealize.SL.Sem
open Cert.KernelIdeal Cert.KernelIdeal.Gen

variable {F : FTy → Type} [FloatOps F]
variable (V : Dev nD → Valuation τ sig (Elt F))

theorem fwd_idx0 : ∀ t : Fin cfg0.N, win0_0.index t = ![t.val, 0] :=
  (by decide +kernel : ∀ t : Fin grid0.N, win0_0.index t = ![t.val, 0])
theorem fwd_read0 (c : Dev nD) (t : Fin cfg0.N) (y : S640x512.Idx) (i : S8320x3840.Idx) (h0 : (i 0).val = 640 * t.val + (y 0).val) (h1 : (i 1).val = (y 1).val) :
    fwdIn0 V c t y = V c main_v6 i := by
  have e := fwd_idx0 t
  unfold fwdIn0 Pipeline.Window.fill
  rw [dif_pos (fwd_moved0 t y)]
  unfold fwdBlk
  blk_simp
  blk_ext [e]

theorem fwd_idx1 : ∀ t : Fin cfg0.N, win0_1.index t = ![t.val, 1] :=
  (by decide +kernel : ∀ t : Fin grid0.N, win0_1.index t = ![t.val, 1])
theorem fwd_read1 (c : Dev nD) (t : Fin cfg0.N) (y : S640x512.Idx) (i : S8320x3840.Idx) (h0 : (i 0).val = 640 * t.val + (y 0).val) (h1 : (i 1).val = 512 + (y 1).val) :
    fwdIn1 V c t y = V c main_v6 i := by
  have e := fwd_idx1 t
  unfold fwdIn1 Pipeline.Window.fill
  rw [dif_pos (fwd_moved1 t y)]
  unfold fwdBlk
  blk_simp
  blk_ext [e]

theorem fwd_idx2 : ∀ t : Fin cfg0.N, win0_2.index t = ![t.val, 2] :=
  (by decide +kernel : ∀ t : Fin grid0.N, win0_2.index t = ![t.val, 2])
theorem fwd_read2 (c : Dev nD) (t : Fin cfg0.N) (y : S640x512.Idx) (i : S8320x3840.Idx) (h0 : (i 0).val = 640 * t.val + (y 0).val) (h1 : (i 1).val = 1024 + (y 1).val) :
    fwdIn2 V c t y = V c main_v6 i := by
  have e := fwd_idx2 t
  unfold fwdIn2 Pipeline.Window.fill
  rw [dif_pos (fwd_moved2 t y)]
  unfold fwdBlk
  blk_simp
  blk_ext [e]

theorem fwd_idx3 : ∀ t : Fin cfg0.N, win0_3.index t = ![t.val, 0] :=
  (by decide +kernel : ∀ t : Fin grid0.N, win0_3.index t = ![t.val, 0])
theorem fwd_read3 (c : Dev nD) (t : Fin cfg0.N) (y : S640x128.Idx) (i : S8320x128.Idx) (h0 : (i 0).val = 640 * t.val + (y 0).val) (h1 : (i 1).val = (y 1).val) :
    fwdBlk V c 3 t y = V c main_v24 i := by
  have e := fwd_idx3 t
  unfold fwdBlk
  blk_simp
  blk_ext [e]

theorem fwd_idx4 : ∀ t : Fin cfg0.N, win0_4.index t = ![t.val, 0] :=
  (by decide +kernel : ∀ t : Fin grid0.N, win0_4.index t = ![t.val, 0])
theorem fwd_read4 (c : Dev nD) (t : Fin cfg0.N) (y : S640x128.Idx) (i : S8320x128.Idx) (h0 : (i 0).val = 640 * t.val + (y 0).val) (h1 : (i 1).val = (y 1).val) :
    fwdBlk V c 4 t y = V c main_v26 i := by
  have e := fwd_idx4 t
  unfold fwdBlk
  blk_simp
  blk_ext [e]

theorem fwd_idx5 : ∀ t : Fin cfg0.N, win0_5.index t = ![0, 0, 0] :=
  (by decide +kernel : ∀ t : Fin grid0.N, win0_5.index t = ![0, 0, 0])
theorem fwd_read5 (c : Dev nD) (t : Fin cfg0.N) (y : S4x128x128.Idx) : fwdBlk V c 5 t y = V c main_v51 y := by
  have e := fwd_idx5 t
  unfold fwdBlk
  blk_simp
  blk_ext [e]

theorem fwd_idx6 : ∀ t : Fin cfg0.N, win0_6.index t = ![0, 0, 0] :=
  (by decide +kernel : ∀ t : Fin grid0.N, win0_6.index t = ![0, 0, 0])
theorem fwd_read6 (c : Dev nD) (t : Fin cfg0.N) (y : S4x128x128.Idx) : fwdBlk V c 6 t y = V c main_v72 y := by
  have e := fwd_idx6 t
  unfold fwdBlk
  blk_simp
  blk_ext [e]

theorem fwd_idx7 : ∀ t : Fin cfg0.N, win0_7.index t = ![0, 0, 0] :=
  (by decide +kernel : ∀ t : Fin grid0.N, win0_7.index t = ![0, 0, 0])
theorem fwd_read7 (c : Dev nD) (t : Fin cfg0.N) (y : S4x128x128.Idx) : fwdBlk V c 7 t y = V c main_v74 y := by
  have e := fwd_idx7 t
  unfold fwdBlk
  blk_simp
  blk_ext [e]

theorem fwd_idx8 : ∀ t : Fin cfg0.N, win0_8.index t = ![0, 0, 0] :=
  (by decide +kernel : ∀ t : Fin grid0.N, win0_8.index t = ![0, 0, 0])
theorem fwd_read8 (c : Dev nD) (t : Fin cfg0.N) (y : S4x8x128.Idx) : fwdBlk V c 8 t y = V c main_v76 y := by
  have e := fwd_idx8 t
  unfold fwdBlk
  blk_simp
  blk_ext [e]

theorem fwd_idx9 : ∀ t : Fin cfg0.N, win0_9.index t = ![t.val, 0] := (by decide +kernel : ∀ t : Fin grid0.N, win0_9.index t = ![t.val, 0])
theorem fwd_idx10 : ∀ t : Fin cfg0.N, win0_10.index t = ![0, t.val, 0, 0] := (by decide +kernel : ∀ t : Fin grid0.N, win0_10.index t = ![0, t.val, 0, 0])

theorem bwd_idx0 : ∀ t : Fin cfg1.N, win1_0.index t = ![(12 - t.val), 0] :=
  (by decide +kernel : ∀ t : Fin grid1.N, win1_0.index t = ![(12 - t.val), 0])
theorem bwd_read0 (c : Dev nD) (t : Fin cfg1.N) (y : S640x512.Idx) (i : S8320x3840.Idx) (h0 : (i 0).val = 640 * (12 - t.val) + (y 0).val) (h1 : (i 1).val = (y 1).val) :
    bwdIn0 V c t y = V c main_v6 i := by
  have e := bwd_idx0 t
  unfold bwdIn0 Pipeline.Window.fill
  rw [dif_pos (bwd_moved0 t y)]
  unfold bwdBlk
  blk_simp
  blk_ext [e]

theorem bwd_idx1 : ∀ t : Fin cfg1.N, win1_1.index t = ![(12 - t.val), 1] :=
  (by decide +kernel : ∀ t : Fin grid1.N, win1_1.index t = ![(12 - t.val), 1])
theorem bwd_read1 (c : Dev nD) (t : Fin cfg1.N) (y : S640x512.Idx) (i : S8320x3840.Idx) (h0 : (i 0).val = 640 * (12 - t.val) + (y 0).val) (h1 : (i 1).val = 512 + (y 1).val) :
    bwdIn1 V c t y = V c main_v6 i := by
  have e := bwd_idx1 t
  unfold bwdIn1 Pipeline.Window.fill
  rw [dif_pos (bwd_moved1 t y)]
  unfold bwdBlk
  blk_simp
  blk_ext [e]

theorem bwd_idx2 : ∀ t : Fin cfg1.N, win1_2.index t = ![(12 - t.val), 2] :=
  (by decide +kernel : ∀ t : Fin grid1.N, win1_2.index t = ![(12 - t.val), 2])
theorem bwd_read2 (c : Dev nD) (t : Fin cfg1.N) (y : S640x512.Idx) (i : S8320x3840.Idx) (h0 : (i 0).val = 640 * (12 - t.val) + (y 0).val) (h1 : (i 1).val = 1024 + (y 1).val) :
    bwdIn2 V c t y = V c main_v6 i := by
  have e := bwd_idx2 t
  unfold bwdIn2 Pipeline.Window.fill
  rw [dif_pos (bwd_moved2 t y)]
  unfold bwdBlk
  blk_simp
  blk_ext [e]

theorem bwd_idx3 : ∀ t : Fin cfg1.N, win1_3.index t = ![(12 - t.val), 0] :=
  (by decide +kernel : ∀ t : Fin grid1.N, win1_3.index t = ![(12 - t.val), 0])
theorem bwd_read3 (c : Dev nD) (t : Fin cfg1.N) (y : S640x512.Idx) (i : S8320x512.Idx) (h0 : (i 0).val = 640 * (12 - t.val) + (y 0).val) (h1 : (i 1).val = (y 1).val) :
    bwdBlk V c 3 t y = V c main_v7 i := by
  have e := bwd_idx3 t
  unfold bwdBlk
  blk_simp
  blk_ext [e]

theorem bwd_idx4 : ∀ t : Fin cfg1.N, win1_4.index t = ![0, (12 - t.val), 0, 0] := (by decide +kernel : ∀ t : Fin grid1.N, win1_4.index t = ![0, (12 - t.val), 0, 0])
theorem bwd_read4 (c : Dev nD) (t : Fin cfg1.N) (y : S4x5x128x128.Idx) (i : S4x65x128x128.Idx) (h0 : (i 0).val = (y 0).val)
    (h1 : (i 1).val = 5 * (12 - t.val) + (y 1).val) (h2 : (i 2).val = (y 2).val) (h3 : (i 3).val = (y 3).val) :
    bwdBlk V c 4 t y = V c main_v77_1 i := by
  have e := bwd_idx4 t
  unfold bwdBlk
  blk_simp
  blk_ext [e]

theorem bwd_idx5 : ∀ t : Fin cfg1.N, win1_5.index t = ![(12 - t.val), 0] :=
  (by decide +kernel : ∀ t : Fin grid1.N, win1_5.index t = ![(12 - t.val), 0])
theorem bwd_read5 (c : Dev nD) (t : Fin cfg1.N) (y : S640x128.Idx) (i : S8320x128.Idx) (h0 : (i 0).val = 640 * (12 - t.val) + (y 0).val) (h1 : (i 1).val = (y 1).val) :
    bwdBlk V c 5 t y = V c main_v24 i := by
  have e := bwd_idx5 t
  unfold bwdBlk
  blk_simp
  blk_ext [e]

theorem bwd_idx6 : ∀ t : Fin cfg1.N, win1_6.index t = ![(12 - t.val), 0] :=
  (by decide +kernel : ∀ t : Fin grid1.N, win1_6.index t = ![(12 - t.val), 0])
theorem bwd_read6 (c : Dev nD) (t : Fin cfg1.N) (y : S640x128.Idx) (i : S8320x128.Idx) (h0 : (i 0).val = 640 * (12 - t.val) + (y 0).val) (h1 : (i 1).val = (y 1).val) :
    bwdBlk V c 6 t y = V c main_v26 i := by
  have e := bwd_idx6 t
  unfold bwdBlk
  blk_simp
  blk_ext [e]

theorem bwd_idx7 : ∀ t : Fin cfg1.N, win1_7.index t = ![0, 0, 0] :=
  (by decide +kernel : ∀ t : Fin grid1.N, win1_7.index t = ![0, 0, 0])
theorem bwd_read7 (c : Dev nD) (t : Fin cfg1.N) (y : S4x128x128.Idx) : bwdBlk V c 7 t y = V c main_v51 y := by
  have e := bwd_idx7 t
  unfold bwdBlk
  blk_simp
  blk_ext [e]

theorem bwd_idx8 : ∀ t : Fin cfg1.N, win1_8.index t = ![0, 0, 0] :=
  (by decide +kernel : ∀ t : Fin grid1.N, win1_8.index t = ![0, 0, 0])
theorem bwd_read8 (c : Dev nD) (t : Fin cfg1.N) (y : S4x128x128.Idx) : bwdBlk V c 8 t y = V c main_v72 y := by
  have e := bwd_idx8 t
  unfold bwdBlk
  blk_simp
  blk_ext [e]

theorem bwd_idx9 : ∀ t : Fin cfg1.N, win1_9.index t = ![0, 0, 0] :=
  (by decide +kernel : ∀ t : Fin grid1.N, win1_9.index t = ![0, 0, 0])
theorem bwd_read9 (c : Dev nD) (t : Fin cfg1.N) (y : S4x128x128.Idx) : bwdBlk V c 9 t y = V c main_v74 y := by
  have e := bwd_idx9 t
  unfold bwdBlk
  blk_simp
  blk_ext [e]

theorem bwd_idx10 : ∀ t : Fin cfg1.N, win1_10.index t = ![0, 0, 0] :=
  (by decide +kernel : ∀ t : Fin grid1.N, win1_10.index t = ![0, 0, 0])
theorem bwd_read10 (c : Dev nD) (t : Fin cfg1.N) (y : S4x8x128.Idx) : bwdBlk V c 10 t y = V c main_v76 y := by
  have e := bwd_idx10 t
  unfold bwdBlk
  blk_simp
  blk_ext [e]

theorem bwd_idx11 : ∀ t : Fin cfg1.N, win1_11.index t = ![(12 - t.val), 0] := (by decide +kernel : ∀ t : Fin grid1.N, win1_11.index t = ![(12 - t.val), 0])

end Cert.Ret

end
-- ==== Proof.Sums.lean ====
/- Sums of real numbers: a decayed causal sum over all rows, cut into the rows of one chunk and a carried state. -/
module

public import Mathlib.Analysis.SpecialFunctions.Exp
public import Mathlib.Algebra.BigOperators.Intervals
public import Mathlib.Tactic.Ring
public import Mathlib.Tactic.Linarith

@[expose] public section

noncomputable section

namespace Cert.Ret

open Finset

/-- Rows of 128 numbers. -/
abbrev Rows := ℕ → Fin 128 → ℝ

/-- The decay from row `s` to row `t`: a power of the head's factor, and zero where `s` comes after `t`. -/
def dec (L : ℝ) (t s : ℕ) : ℝ := if s ≤ t then Real.exp (L * ((t : ℝ) - (s : ℝ))) else 0

theorem dec_shift (L : ℝ) (n t s : ℕ) : dec L (n + t) (n + s) = dec L t s := by
  unfold dec
  by_cases h : s ≤ t
  · rw [if_pos h, if_pos (by omega)]; congr 2; push_cast; ring
  · rw [if_neg h, if_neg (by omega)]

theorem dec_after (L : ℝ) (t s : ℕ) (h : t < s) : dec L t s = 0 := if_neg (by omega)

/-- The product of two rows. -/
def dotp (x y : Fin 128 → ℝ) : ℝ := ∑ d, x d * y d

/-- The state before chunk `n`: the outer products of all earlier rows, decayed to the chunk's start. -/
def before (L : ℝ) (y w : Rows) (n : ℕ) (d e : Fin 128) : ℝ :=
  ∑ s ∈ range (128 * n), Real.exp (L * (128 * (n : ℝ) - 1 - (s : ℝ))) * (y s d * w s e)

/-- The state after chunk `n`: the outer products of all later rows, decayed back to the chunk's end. -/
def behind (L : ℝ) (x w : Rows) (N n : ℕ) (d e : Fin 128) : ℝ :=
  ∑ t ∈ Ico (128 * (n + 1)) N, Real.exp (L * ((t : ℝ) + 1 - 128 * ((n : ℝ) + 1))) * (x t d * w t e)

theorem before_comm (L : ℝ) (y w : Rows) (n : ℕ) (d e : Fin 128) : before L y w n d e = before L w y n e d :=
  sum_congr rfl fun s _ => by rw [mul_comm (y s d)]

theorem behind_comm (L : ℝ) (x w : Rows) (N n : ℕ) (d e : Fin 128) : behind L x w N n d e = behind L w x N n e d :=
  sum_congr rfl fun s _ => by rw [mul_comm (x s d)]

theorem before_zero (L : ℝ) (y w : Rows) (d e : Fin 128) : before L y w 0 d e = 0 := by
  unfold before; simp

theorem behind_last (L : ℝ) (x w : Rows) (n : ℕ) (d e : Fin 128) : behind L x w (128 * (n + 1)) n d e = 0 := by
  unfold behind; simp

theorem sum_chunk (f : ℕ → ℝ) (m : ℕ) : ∑ t ∈ Ico m (m + 128), f t = ∑ b : Fin 128, f (m + b.val) := by
  rw [sum_Ico_eq_sum_range, Nat.add_sub_cancel_left, sum_range]

theorem before_succ (L : ℝ) (y w : Rows) (n : ℕ) (d e : Fin 128) :
    before L y w (n + 1) d e = before L y w n d e * Real.exp (L * 128)
      + ∑ b : Fin 128, y (128 * n + b.val) d * Real.exp (L * (127 - (b.val : ℝ))) * w (128 * n + b.val) e := by
  unfold before
  rw [show 128 * (n + 1) = 128 * n + 128 by ring, range_eq_Ico, ← sum_Ico_consecutive _ (Nat.zero_le _) (Nat.le_add_right (128 * n) 128),
    sum_chunk, sum_mul, ← range_eq_Ico]
  refine congrArg₂ (· + ·) (sum_congr rfl fun s _ => ?_) (sum_congr rfl fun b _ => ?_)
  · rw [show L * (128 * ((n + 1 : ℕ) : ℝ) - 1 - (s : ℝ)) = L * (128 * (n : ℝ) - 1 - (s : ℝ)) + L * 128 by push_cast; ring, Real.exp_add]
    ring
  · rw [show L * (128 * ((n + 1 : ℕ) : ℝ) - 1 - ((128 * n + b.val : ℕ) : ℝ)) = L * (127 - (b.val : ℝ)) by push_cast; ring]
    ring

theorem behind_pred (L : ℝ) (x w : Rows) (N n : ℕ) (h : 128 * (n + 2) ≤ N) (d e : Fin 128) :
    behind L x w N n d e = behind L x w N (n + 1) d e * Real.exp (L * 128)
      + ∑ a : Fin 128, x (128 * (n + 1) + a.val) d * (w (128 * (n + 1) + a.val) e * Real.exp (L * ((a.val : ℝ) + 1))) := by
  unfold behind
  rw [← sum_Ico_consecutive _ (Nat.le_add_right (128 * (n + 1)) 128) (show 128 * (n + 1) + 128 ≤ N by omega),
    sum_chunk, sum_mul, add_comm, show 128 * (n + 1) + 128 = 128 * (n + 1 + 1) by ring]
  refine congrArg₂ (· + ·) (sum_congr rfl fun s _ => ?_) (sum_congr rfl fun b _ => ?_)
  · rw [show L * ((s : ℝ) + 1 - 128 * ((n : ℝ) + 1)) = L * ((s : ℝ) + 1 - 128 * (((n + 1 : ℕ) : ℝ) + 1)) + L * 128 by push_cast; ring, Real.exp_add]
    ring
  · rw [show L * (((128 * (n + 1) + b.val : ℕ) : ℝ) + 1 - 128 * ((n : ℝ) + 1)) = L * ((b.val : ℝ) + 1) by push_cast; ring]
    ring

/-- A causal sum at row `a` of chunk `n`: the chunk's own rows, and the state before it. -/
theorem causal (L : ℝ) (x y w : Rows) (N n : ℕ) (h : 128 * (n + 1) ≤ N) (a e : Fin 128) :
    ∑ s ∈ range N, dotp (x (128 * n + a.val)) (y s) * dec L (128 * n + a.val) s * w s e
      = ∑ b : Fin 128, dotp (x (128 * n + a.val)) (y (128 * n + b.val)) * dec L a.val b.val * w (128 * n + b.val) e
        + (∑ d, x (128 * n + a.val) d * before L y w n d e) * Real.exp (L * ((a.val : ℝ) + 1)) := by
  have ha := a.isLt
  rw [range_eq_Ico, ← sum_Ico_consecutive _ (Nat.zero_le (128 * n)) (show 128 * n ≤ N by omega),
    ← sum_Ico_consecutive _ (Nat.le_add_right (128 * n) 128) (show 128 * n + 128 ≤ N by omega), sum_chunk,
    sum_eq_zero (s := Ico (128 * n + 128) N) (fun s hs => by
      rw [dec_after L _ _ (by have := (mem_Ico.mp hs).1; omega), mul_zero, zero_mul]), add_zero, add_comm, ← range_eq_Ico]
  refine congrArg₂ (· + ·) (sum_congr rfl fun b _ => by rw [dec_shift]) ?_
  simp only [before, mul_sum, sum_mul, dotp]
  rw [sum_comm]
  refine sum_congr rfl fun d _ => sum_congr rfl fun s hs => ?_
  have hs' := mem_range.mp hs
  rw [dec, if_pos (by omega), show L * (((128 * n + a.val : ℕ) : ℝ) - (s : ℝ)) = L * (128 * (n : ℝ) - 1 - (s : ℝ)) + L * ((a.val : ℝ) + 1) by push_cast; ring, Real.exp_add]
  ring

/-- The transposed sum at row `b` of chunk `n`: the chunk's own rows, and the state behind it. -/
theorem anticausal (L : ℝ) (x y w : Rows) (N n : ℕ) (h : 128 * (n + 1) ≤ N) (b e : Fin 128) :
    ∑ t ∈ range N, dotp (x t) (y (128 * n + b.val)) * dec L t (128 * n + b.val) * w t e
      = ∑ a : Fin 128, dotp (x (128 * n + a.val)) (y (128 * n + b.val)) * dec L a.val b.val * w (128 * n + a.val) e
        + (∑ d, y (128 * n + b.val) d * behind L x w N n d e) * Real.exp (L * (127 - (b.val : ℝ))) := by
  have hb := b.isLt
  rw [range_eq_Ico, ← sum_Ico_consecutive _ (Nat.zero_le (128 * n)) (show 128 * n ≤ N by omega),
    ← sum_Ico_consecutive _ (Nat.le_add_right (128 * n) 128) (show 128 * n + 128 ≤ N by omega), sum_chunk,
    sum_eq_zero (s := Ico 0 (128 * n)) (fun s hs => by
      rw [dec_after L _ _ (by have := (mem_Ico.mp hs).2; omega), mul_zero, zero_mul]), zero_add]
  refine congrArg₂ (· + ·) (sum_congr rfl fun b _ => by rw [dec_shift]) ?_
  simp only [behind, mul_sum, sum_mul, dotp]
  rw [sum_comm, show 128 * (n + 1) = 128 * n + 128 by ring]
  refine sum_congr rfl fun d _ => sum_congr rfl fun s hs => ?_
  have hs' := mem_Ico.mp hs
  rw [dec, if_pos (by omega), show L * ((s : ℝ) - ((128 * n + b.val : ℕ) : ℝ)) = L * ((s : ℝ) + 1 - 128 * ((n : ℝ) + 1)) + L * (127 - (b.val : ℝ)) by push_cast; ring, Real.exp_add]
  ring

/-- A sum whose terms vanish on the padding rows is the sum over the rows between. -/
theorem sum_pad (f : ℕ → ℝ) (N m k : ℕ) (h : k + m ≤ N) (h0 : ∀ s, s < k → f s = 0) (h1 : ∀ s, k + m ≤ s → f s = 0) :
    ∑ s ∈ range N, f s = ∑ p : Fin m, f (k + p.val) := by
  rw [range_eq_Ico, ← sum_Ico_consecutive _ (Nat.zero_le k) (show k ≤ N by omega),
    ← sum_Ico_consecutive _ (Nat.le_add_right k m) h,
    sum_eq_zero (s := Ico 0 k) (fun s hs => h0 s (mem_Ico.mp hs).2),
    sum_eq_zero (s := Ico (k + m) N) (fun s hs => h1 s (mem_Ico.mp hs).1), zero_add, add_zero,
    sum_Ico_eq_sum_range, Nat.add_sub_cancel_left, sum_range]

end Cert.Ret

end
-- ==== Proof.Heads.lean ====
/- What the kernels compute for one head of one chunk, where every number they are handed is real: each result is a
   matrix of reals, written as a sum. -/
module

public import proofs.«01_k».proof.Proof.Blocks
public import proofs.«01_k».proof.Proof.Sums
public import Idealize.ShloMosaic.Lib.MatmulPlain
public import Idealize.ShloMosaic.Lib.ValueIdx
public import Idealize.ShloMosaic.Lib.ValueLayout
public import Idealize.ShloMosaic.Lib.KernelVsHost

@[expose] public section

noncomputable section

namespace Cert.Ret

open Idealize.ShloMosaic Idealize.ShloMosaic.ValueIdx Cert.KernelIdeal Cert.KernelIdeal.Gen

/-- A 128×128 matrix of reals. -/
abbrev Mat := Fin 128 → Fin 128 → ℝ

variable {φ : FTy}

/-- A sum of reals, among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A matrix of reals as a value of the kernel, alone or under leading axes of extent one. -/
def up (A : Mat) : S128x128.Idx → EReal := fun p => ((A (p 0) (p 1) : ℝ) : EReal)
def up1 (A : Mat) : S1x128x128.Idx → EReal := fun p => ((A (p 1) (p 2) : ℝ) : EReal)
def up11 (A : Mat) : S1x1x128x128.Idx → EReal := fun p => ((A (p 2) (p 3) : ℝ) : EReal)
def up8 (g : ℝ) : S1x8x128.Idx → EReal := fun _ => ((g : ℝ) : EReal)

theorem up_ext (x : S128x128.Idx → EReal) (A : Mat) (h : ∀ a b, x (ix2 a b) = ((A a b : ℝ) : EReal)) : x = up A := by
  funext p
  rw [eq_ix2 p]
  exact h _ _

theorem mul_up (A B : Mat) : mulf (F := Ideal) (φ := φ) (up A) (up B) = up (fun a b => A a b * B a b) :=
  funext fun _ => (EReal.coe_mul _ _).symm

theorem add_up (A B : Mat) : addf (F := Ideal) (φ := φ) (up A) (up B) = up (fun a b => A a b + B a b) :=
  funext fun _ => (EReal.coe_add _ _).symm

theorem trunc_up (A : Mat) (h : FTy.bits .bf16 < FTy.bits .f32) : truncf (F := Ideal) (φ := .f32) .bf16 (up A) h = up A := rfl

theorem cast_up (A : Mat) (h : S128x128.ShapeCasts S128x128) : shapeCast S128x128 (up A) h = up A :=
  funext fun p => shapeCast_apply _ h p p rfl

theorem cast_up1 (A : Mat) (h : S1x128x128.ShapeCasts S128x128) : shapeCast S128x128 (up1 A) h = up A :=
  up_ext _ _ fun a b => shapeCast_1ab_ab_apply _ h a b

theorem cast_up11 (A : Mat) (h : S1x1x128x128.ShapeCasts S128x128) : shapeCast S128x128 (up11 A) h = up A :=
  up_ext _ _ fun a b => shapeCast_apply _ h (ix2 a b) (ix4 0 0 a b) (by
    rw [Shape.rowMajor_val_four, Shape.rowMajor_val_two]
    show ((0 * 1 + 0) * 128 + a.val) * 128 + b.val = a.val * 128 + b.val
    omega)

theorem up_cast1 (A : Mat) (h : S128x128.ShapeCasts S1x128x128) : shapeCast S1x128x128 (up A) h = up1 A := by
  have e : ∀ (i : Fin 1) (a b : Fin 128), shapeCast S1x128x128 (up A) h (ix3 i a b) = up1 A (ix3 i a b) := fun i a b =>
    shapeCast_apply _ h (ix3 i a b) (ix2 a b) (by
      rw [Shape.rowMajor_val_three, Shape.rowMajor_val_two]
      have h0 : i.val < 1 := i.isLt
      show a.val * 128 + b.val = (i.val * 128 + a.val) * 128 + b.val
      omega)
  funext p
  rw [eq_ix3 p]
  exact e _ _ _

theorem up_cast11 (A : Mat) (h : S128x128.ShapeCasts S1x1x128x128) : shapeCast S1x1x128x128 (up A) h = up11 A := by
  have e : ∀ (i j : Fin 1) (a b : Fin 128), shapeCast S1x1x128x128 (up A) h (ix4 i j a b) = up11 A (ix4 i j a b) := fun i j a b =>
    shapeCast_apply _ h (ix4 i j a b) (ix2 a b) (by
      rw [Shape.rowMajor_val_four, Shape.rowMajor_val_two]
      have h0 : i.val < 1 := i.isLt
      have h1 : j.val < 1 := j.isLt
      show a.val * 128 + b.val = ((i.val * 1 + j.val) * 128 + a.val) * 128 + b.val
      omega)
  funext p
  rw [eq_ix4 p]
  exact e _ _ _ _

/-- The column half a row away. -/
def flip (b : Fin 128) : Fin 128 := ⟨(b.val + 64) % 128, Nat.mod_lt _ (by omega)⟩

theorem rot_up (A : Mat) (i : Fin S128x128.rank) (sb : BitVec 32) (h : S128x128.Rotates i none) (hi : i.val = 1) (hs : sb.toNat = 64) :
    dynamicRotate i sb none (up A) h = up (fun a b => A a (flip b)) := by
  have hi' : i = ⟨1, by decide⟩ := Fin.ext hi
  subst hi'
  refine up_ext _ _ fun a b => dynamicRotate_apply (s := S128x128) _ sb _ h (ix2 a b) (ix2 a (flip b)) ?_
  rw [hs]
  intro x
  match x with
  | ⟨0, _⟩ => rfl
  | ⟨1, _⟩ =>
    show (b.val + 64) % 128 = (b.val + 128 - 64 % 128) % 128
    omega

/-- The number the keys are scaled by. -/
def scl : ℝ := (Ideal.ofBits .f32 0x3DB504F3#32).toReal

theorem scl_coe : Ideal.ofBits .f32 0x3DB504F3#32 = ((scl : ℝ) : EReal) := by
  have h : Ideal.ofBits .f32 0x3DB504F3#32 = (((11863283 : ℝ) * ((2 : ℝ) ^ 27)⁻¹ : ℝ) : EReal) := by
    simp [Ideal.ofBits, Ideal.ieee]
  rw [scl, h]
  rfl

theorem scl_up : broadcast S128x128 (Scalar.ofBits (F := Ideal) .f32 0x3DB504F3#32) = up (fun _ _ => scl) :=
  funext fun _ => scl_coe

theorem g_up (g : ℝ) (h0 : S1x8x128.ShapeCasts S8x128) (h1 : S8x128.Slices ![0, 0] S1x128) (h2 : S1x128.Broadcasts S128x128) :
    broadcastTo S128x128 (extractStridedSlice S1x128 ![0, 0] (shapeCast S8x128 (up8 g) h0) h1) h2 = up (fun _ _ => g) := rfl

/-- The three products of two matrices: plain, by the transposed right one, by the transposed left one. -/
theorem mm_nn {φ₁ φ₂ : FTy} (A B : Mat) :
    matmul (F := Ideal) (φ₁ := φ₁) (φ₂ := φ₂) dot_S128x128_S128x128_S128x128_1_0_0_1_n_n none (up A) (up B) (constant S128x128 .f32 0x00000000#32)
      = up (fun a b => ∑ k, A a k * B k b) :=
  up_ext _ _ fun a b => by
    refine (Ideal.matmul_plain_apply (M := 128) (K := 128) (N := 128) none _ _ _ a b).trans ?_
    rw [constant_apply, Ideal.ofBits_zero_f32, zero_add, coe_sum]
    exact Finset.sum_congr rfl fun k _ => (EReal.coe_mul _ _).symm

theorem mm_nt {φ₁ φ₂ : FTy} (A B : Mat) :
    matmul (F := Ideal) (φ₁ := φ₁) (φ₂ := φ₂) dot_S128x128_S128x128_S128x128_1_1_0_0_n_n none (up A) (up B) (constant S128x128 .f32 0x00000000#32)
      = up (fun a b => ∑ k, A a k * B b k) :=
  up_ext _ _ fun a b => by
    refine (Ideal.matmul_transposedRhs_apply (M := 128) (K := 128) (N := 128) none _ _ _ a b).trans ?_
    rw [constant_apply, Ideal.ofBits_zero_f32, zero_add, coe_sum]
    exact Finset.sum_congr rfl fun k _ => (EReal.coe_mul _ _).symm

theorem mm_tn {φ₁ φ₂ : FTy} (A B : Mat) :
    matmul (F := Ideal) (φ₁ := φ₁) (φ₂ := φ₂) dot_S128x128_S128x128_S128x128_0_0_1_1_n_n none (up A) (up B) (constant S128x128 .f32 0x00000000#32)
      = up (fun a b => ∑ k, A k a * B k b) :=
  up_ext _ _ fun a b => by
    let D := dot_S128x128_S128x128_S128x128_0_0_1_1_n_n
    let E : D.contr.Idx ≃ Fin 128 := contrEquiv1 D 128 rfl rfl
    refine (Ideal.matmul_apply D none _ _ _ (ix2 a b)).trans ?_
    rw [constant_apply, Ideal.ofBits_zero_f32, zero_add, ← Equiv.sum_comp E.symm, coe_sum]
    refine Finset.sum_congr rfl fun k _ => ?_
    have hk := contrEquiv1_symm_val D 128 rfl rfl k
    have el : D.lhsIdx (ix2 a b) (E.symm k) = ix2 k a := by
      funext x; apply Fin.ext
      match x with
      | ⟨0, _⟩ => exact hk
      | ⟨1, _⟩ => rfl
    have er : D.rhsIdx (ix2 a b) (E.symm k) = ix2 k b := by
      funext x; apply Fin.ext
      match x with
      | ⟨0, _⟩ => exact hk
      | ⟨1, _⟩ => rfl
    rw [el, er]
    exact (EReal.coe_mul _ _).symm

/-! ## The heads -/

/-- A chunk's rows turned by their angles, and turned back. -/
def turn (C S T : Mat) : Mat := fun a b => T a b * C a b + T a (flip b) * S a b
def turnBack (C S T : Mat) : Mat := fun a b => T a b * C a b + T a (flip b) * S a (flip b)
def keys (C S T : Mat) : Mat := fun a b => turn C S T a b * scl

variable (C S q k v o D X Z W st : Mat) (g : ℝ)

/-- The forward rows and the forward state. -/
def rO : Mat := fun a e => ∑ b, dotp (turn C S q a) (keys C S k b) * D a b * v b e + (∑ d, turn C S q a d * st d e) * X a e
def rS : Mat := fun d e => st d e * g + ∑ b, keys C S k b d * Z b d * v b e

/-- The three gradients' rows before they are turned back, and the backward state. -/
def rQ : Mat := fun a d => ∑ b, dotp (o a) (v b) * D a b * keys C S k b d + ∑ e, o a e * X a e * W d e
def rK : Mat := fun b d => ∑ a, dotp (o a) (v b) * D a b * turn C S q a d + (∑ e, v b e * st d e) * Z b d
def rV : Mat := fun b e => ∑ a, dotp (turn C S q a) (keys C S k b) * D a b * o a e + ∑ d, keys C S k b d * Z b d * st d e
def rB : Mat := fun d e => st d e * g + ∑ a, turn C S q a d * (o a e * X a e)

theorem fO_up : fO (F := Ideal) (up C) (up S) (up q) (up k) (up v) (up1 D) (up1 X) (up1 st) = up (rO C S q k v D X st) := by
  simp only [fO, k0_pay12, k0_pay6, k0_pay7, k0_pay8, k0_pay10, k0_pay11, k0_pay5, k0_pay3, k0_pay4, cast_up, cast_up1, mul_up, add_up,
    trunc_up, scl_up, mm_nt, mm_nn]
  rw [rot_up _ _ _ _ rfl rfl]
  simp only [mul_up, add_up, trunc_up, scl_up, g_up, mm_nt, mm_nn, mm_tn, up_cast1]
  rw [rot_up _ _ _ _ rfl rfl]
  simp only [mul_up, add_up, trunc_up, scl_up, g_up, mm_nt, mm_nn, mm_tn, up_cast1]
  rfl

theorem fW_up : fW (F := Ideal) (up1 st) = up11 st := by
  simp only [fW, k0_pay9, k0_pay8, cast_up1, up_cast11]

theorem fS_up : fS (F := Ideal) (up C) (up S) (up k) (up v) (up1 Z) (up1 st) (up8 g) = up1 (rS C S k v Z st g) := by
  simp only [fS, k0_pay13, k0_pay7, k0_pay8, k0_pay5, k0_pay3, k0_pay4, cast_up, cast_up1, mul_up, add_up, g_up,
    trunc_up, scl_up, mm_tn, up_cast1]
  rw [rot_up _ _ _ _ rfl rfl]
  simp only [mul_up, add_up, trunc_up, scl_up, g_up, mm_nt, mm_nn, mm_tn, up_cast1]
  rfl

theorem bQ_up : bQ (F := Ideal) (up C) (up S) (up k) (up v) (up o) (up1 D) (up1 X) (up11 W) = up (turnBack C S (rQ C S k v o D X W)) := by
  simp only [bQ, k1_pay24, k1_pay4, k1_pay5, k1_pay20, k1_pay6, k1_pay8, k1_pay11, k1_pay12, k1_pay9, k1_pay14, k1_pay15, k1_pay16, k1_pay19,
    cast_up, cast_up1, cast_up11, mul_up, add_up, trunc_up, scl_up, mm_nt, mm_nn]
  rw [rot_up _ _ _ _ rfl rfl]
  simp only [mul_up, add_up, trunc_up, scl_up, g_up, mm_nt, mm_nn, mm_tn, up_cast1]
  rw [rot_up _ _ _ _ rfl rfl]
  simp only [mul_up, add_up, trunc_up, scl_up, g_up, mm_nt, mm_nn, mm_tn, up_cast1]
  rfl

theorem bK_up : bK (F := Ideal) (up C) (up S) (up q) (up v) (up o) (up1 D) (up1 Z) (up1 st)
    = up (turnBack C S (fun b d => rK C S q v o D Z st b d * scl)) := by
  simp only [bK, k1_pay25, k1_pay4, k1_pay5, k1_pay21, k1_pay6, k1_pay7, k1_pay10, k1_pay12, k1_pay9, k1_pay14, k1_pay15, k1_pay17, k1_pay18, k1_pay19,
    cast_up, cast_up1, mul_up, add_up, trunc_up, scl_up, mm_nt, mm_tn]
  rw [rot_up _ _ _ _ rfl rfl]
  simp only [mul_up, add_up, trunc_up, scl_up, g_up, mm_nt, mm_nn, mm_tn, up_cast1]
  rw [rot_up _ _ _ _ rfl rfl]
  simp only [mul_up, add_up, trunc_up, scl_up, g_up, mm_nt, mm_nn, mm_tn, up_cast1]
  rfl

theorem bV_up : bV (F := Ideal) (up C) (up S) (up q) (up k) (up o) (up1 D) (up1 Z) (up1 st) = up (rV C S q k o D Z st) := by
  simp only [bV, k1_pay26, k1_pay22, k1_pay4, k1_pay5, k1_pay6, k1_pay7, k1_pay10, k1_pay11, k1_pay13, k1_pay9, k1_pay14, k1_pay15, k1_pay17, k1_pay18,
    cast_up, cast_up1, mul_up, add_up, trunc_up, scl_up, mm_nt, mm_tn, mm_nn]
  rw [rot_up _ _ _ _ rfl rfl]
  simp only [mul_up, add_up, trunc_up, scl_up, g_up, mm_nt, mm_nn, mm_tn, up_cast1]
  rw [rot_up _ _ _ _ rfl rfl]
  simp only [mul_up, add_up, trunc_up, scl_up, g_up, mm_nt, mm_nn, mm_tn, up_cast1]
  rfl

theorem bS_up : bS (F := Ideal) (up C) (up S) (up q) (up o) (up1 X) (up1 st) (up8 g) = up1 (rB C S q o X st g) := by
  simp only [bS, k1_pay23, k1_pay4, k1_pay5, k1_pay8, k1_pay10, k1_pay14, k1_pay16, k1_pay17,
    cast_up, cast_up1, mul_up, add_up, trunc_up, g_up, mm_tn, up_cast1]
  rw [rot_up _ _ _ _ rfl rfl]
  simp only [mul_up, add_up, trunc_up, scl_up, g_up, mm_nt, mm_nn, mm_tn, up_cast1]
  rfl

end Cert.Ret

end
-- ==== Proof.Chunks.lean ====
/- A block of real rows: the states the kernels carry are the decayed sums of the rows before, or behind, each chunk, and
   the rows they write are sums over all rows. -/
module

public import proofs.«01_k».proof.Proof.Heads
public import proofs.«01_k».proof.Proof.Steps

@[expose] public section

noncomputable section

namespace Cert.Ret

open Idealize.ShloMosaic Idealize.ShloMosaic.ValueIdx Cert.KernelIdeal Cert.KernelIdeal.Gen Finset

/-- The number of rows. -/
abbrev NR : ℕ := 8320

/-- What the kernels are handed, in reals: the rows of q, k, v and of the cotangent, the two tables of angles, and the
    logarithm of each head's decay. -/
structure Data where
  q : Fin 4 → Rows
  k : Fin 4 → Rows
  v : Fin 4 → Rows
  o : Fin 4 → Rows
  C : Rows
  S : Rows
  L : Fin 4 → ℝ

namespace Data

variable (A : Data)

/-- The turned queries, and the turned and scaled keys. -/
def Q (h : Fin 4) : Rows := fun t d => A.q h t d * A.C t d + A.q h t (flip d) * A.S t d
def K (h : Fin 4) : Rows := fun t d => (A.k h t d * A.C t d + A.k h t (flip d) * A.S t d) * scl

/-- The retention, and its gradients before the angles are undone. -/
def out (h : Fin 4) (t : ℕ) (e : Fin 128) : ℝ := ∑ s ∈ range NR, dotp (A.Q h t) (A.K h s) * dec (A.L h) t s * A.v h s e
def dQ (h : Fin 4) (t : ℕ) (d : Fin 128) : ℝ := ∑ s ∈ range NR, dotp (A.o h t) (A.v h s) * dec (A.L h) t s * A.K h s d
def dK (h : Fin 4) (s : ℕ) (d : Fin 128) : ℝ := ∑ t ∈ range NR, dotp (A.o h t) (A.v h s) * dec (A.L h) t s * A.Q h t d
def dV (h : Fin 4) (s : ℕ) (e : Fin 128) : ℝ := ∑ t ∈ range NR, dotp (A.Q h t) (A.K h s) * dec (A.L h) t s * A.o h t e

/-- The gradients of q and of k. -/
def gQ (h : Fin 4) (t : ℕ) (d : Fin 128) : ℝ := A.dQ h t d * A.C t d + A.dQ h t (flip d) * A.S t (flip d)
def gK (h : Fin 4) (t : ℕ) (d : Fin 128) : ℝ := A.dK h t d * scl * A.C t d + A.dK h t (flip d) * scl * A.S t (flip d)

/-- The rows of chunk `n`. -/
def chunk (x : Rows) (n : ℕ) : Mat := fun a d => x (128 * n + a.val) d

def decay (h : Fin 4) : Mat := fun a b => dec (A.L h) a.val b.val
def xi (h : Fin 4) : Mat := fun a _ => Real.exp (A.L h * ((a.val : ℝ) + 1))
def zeta (h : Fin 4) : Mat := fun b _ => Real.exp (A.L h * (127 - (b.val : ℝ)))
def bef (n : ℕ) (h : Fin 4) : Mat := fun d e => before (A.L h) (A.K h) (A.v h) n d e
def beh (n : ℕ) (h : Fin 4) : Mat := fun d e => behind (A.L h) (A.Q h) (A.o h) NR n d e

theorem turn_chunk (h : Fin 4) (n : ℕ) : turn (chunk A.C n) (chunk A.S n) (chunk (A.q h) n) = chunk (A.Q h) n := rfl
theorem keys_chunk (h : Fin 4) (n : ℕ) : keys (chunk A.C n) (chunk A.S n) (chunk (A.k h) n) = chunk (A.K h) n := rfl

theorem rO_chunk (h : Fin 4) (n : ℕ) (hn : 128 * (n + 1) ≤ NR) :
    rO (chunk A.C n) (chunk A.S n) (chunk (A.q h) n) (chunk (A.k h) n) (chunk (A.v h) n) (A.decay h) (A.xi h) (A.bef n h)
      = chunk (A.out h) n := by
  funext a e
  exact (causal (A.L h) (A.Q h) (A.K h) (A.v h) NR n hn a e).symm

theorem rS_chunk (h : Fin 4) (n : ℕ) :
    rS (chunk A.C n) (chunk A.S n) (chunk (A.k h) n) (chunk (A.v h) n) (A.zeta h) (A.bef n h) (Real.exp (A.L h * 128)) = A.bef (n + 1) h := by
  funext d e
  exact (before_succ (A.L h) (A.K h) (A.v h) n d e).symm

theorem rQ_chunk (h : Fin 4) (n : ℕ) (hn : 128 * (n + 1) ≤ NR) :
    rQ (chunk A.C n) (chunk A.S n) (chunk (A.k h) n) (chunk (A.v h) n) (chunk (A.o h) n) (A.decay h) (A.xi h) (A.bef n h)
      = chunk (A.dQ h) n := by
  funext a d
  refine Eq.trans ?_ (causal (A.L h) (A.o h) (A.v h) (A.K h) NR n hn a d).symm
  refine congrArg₂ (· + ·) rfl ?_
  rw [sum_mul]
  refine sum_congr rfl fun e _ => ?_
  show chunk (A.o h) n a e * Real.exp (A.L h * ((a.val : ℝ) + 1)) * before (A.L h) (A.K h) (A.v h) n d e = _
  rw [before_comm]
  show A.o h (128 * n + a.val) e * _ * _ = _
  ring

theorem rK_chunk (h : Fin 4) (n : ℕ) (hn : 128 * (n + 1) ≤ NR) :
    rK (chunk A.C n) (chunk A.S n) (chunk (A.q h) n) (chunk (A.v h) n) (chunk (A.o h) n) (A.decay h) (A.zeta h) (A.beh n h)
      = chunk (A.dK h) n := by
  funext b d
  refine Eq.trans ?_ (anticausal (A.L h) (A.o h) (A.v h) (A.Q h) NR n hn b d).symm
  refine congrArg₂ (· + ·) rfl (congrArg (· * _) (sum_congr rfl fun e _ => ?_))
  show chunk (A.v h) n b e * behind (A.L h) (A.Q h) (A.o h) NR n d e = _
  rw [behind_comm]
  rfl

theorem rV_chunk (h : Fin 4) (n : ℕ) (hn : 128 * (n + 1) ≤ NR) :
    rV (chunk A.C n) (chunk A.S n) (chunk (A.q h) n) (chunk (A.k h) n) (chunk (A.o h) n) (A.decay h) (A.zeta h) (A.beh n h)
      = chunk (A.dV h) n := by
  funext b e
  refine Eq.trans ?_ (anticausal (A.L h) (A.Q h) (A.K h) (A.o h) NR n hn b e).symm
  refine congrArg₂ (· + ·) rfl ?_
  rw [sum_mul]
  refine sum_congr rfl fun d _ => ?_
  show A.K h (128 * n + b.val) d * Real.exp (A.L h * (127 - (b.val : ℝ))) * behind (A.L h) (A.Q h) (A.o h) NR n d e = _
  ring

theorem rB_chunk (h : Fin 4) (n : ℕ) (hn : 128 * (n + 2) ≤ NR) :
    rB (chunk A.C (n + 1)) (chunk A.S (n + 1)) (chunk (A.q h) (n + 1)) (chunk (A.o h) (n + 1)) (A.xi h) (A.beh (n + 1) h) (Real.exp (A.L h * 128))
      = A.beh n h := by
  funext d e
  exact (behind_pred (A.L h) (A.Q h) (A.o h) NR n hn d e).symm

/-! ## The blocks -/

/-- Block `t` of four heads' rows, of a table, and of the saved states. -/
def rowsAt (x : Fin 4 → Rows) (t : ℕ) : S640x512.Idx → EReal := fun y => ((x (headOf (y 1)) (640 * t + (y 0).val) (inOf (y 1)) : ℝ) : EReal)
def tabAt (x : Rows) (t : ℕ) : S640x128.Idx → EReal := fun y => ((x (640 * t + (y 0).val) (y 1) : ℝ) : EReal)
def stAt (st : Fin 4 → Mat) : S4x128x128.Idx → EReal := fun y => ((st (y 0) (y 1) (y 2) : ℝ) : EReal)
def savedAt (t : ℕ) : S4x5x128x128.Idx → EReal := fun y => ((A.bef (5 * t + (y 1).val) (y 0) (y 2) (y 3) : ℝ) : EReal)
def gAt : S4x8x128.Idx → EReal := fun y => ((Real.exp (A.L (y 0) * 128) : ℝ) : EReal)

theorem sub_rowsAt (x : Fin 4 → Rows) (t : ℕ) (j : Fin 5) (h : Fin 4) : sub (rowsAt x t) j h = up (chunk (x h) (5 * t + j.val)) := by
  funext p
  have hp : (p 1).val < 128 := (p 1).isLt
  have e1 : headOf ⟨128 * h.val + (p 1).val, col_lt h (p 1)⟩ = h := Fin.ext (by show (128 * h.val + (p 1).val) / 128 = h.val; omega)
  have e2 : inOf (⟨128 * h.val + (p 1).val, col_lt h (p 1)⟩ : Fin 512) = p 1 := Fin.ext (by show (128 * h.val + (p 1).val) % 128 = (p 1).val; omega)
  have e3 : 640 * t + (128 * j.val + (p 0).val) = 128 * (5 * t + j.val) + (p 0).val := by ring
  show ((x (headOf ⟨128 * h.val + (p 1).val, col_lt h (p 1)⟩) (640 * t + (128 * j.val + (p 0).val)) (inOf (⟨128 * h.val + (p 1).val, col_lt h (p 1)⟩ : Fin 512)) : ℝ) : EReal) = _
  rw [e1, e2, e3]
  rfl

theorem subt_tabAt (x : Rows) (t : ℕ) (j : Fin 5) : subt (tabAt x t) j = up (chunk x (5 * t + j.val)) := by
  funext p
  have e3 : 640 * t + (128 * j.val + (p 0).val) = 128 * (5 * t + j.val) + (p 0).val := by ring
  show ((x (640 * t + (128 * j.val + (p 0).val)) (p 1) : ℝ) : EReal) = _
  rw [e3]
  rfl

theorem hd_stAt (st : Fin 4 → Mat) (h : Fin 4) : hd (stAt st) h = up1 (st h) := rfl
theorem hd8_gAt (h : Fin 4) : hd8 A.gAt h = up8 (Real.exp (A.L h * 128)) := rfl
theorem hst_savedAt (t : ℕ) (j : Fin 5) (h : Fin 4) : hst (A.savedAt t) j h = up11 (A.bef (5 * t + j.val) h) := rfl

/-- The blocks of grid point `t` of the forward kernel, and of the backward kernel where it works on block `t`. -/
def fwd (t : ℕ) : FIn Ideal :=
  ⟨rowsAt A.q t, rowsAt A.k t, rowsAt A.v t, tabAt A.C t, tabAt A.S t, stAt A.decay, stAt A.zeta, stAt A.xi, A.gAt⟩
def bwd (t : ℕ) : BIn Ideal :=
  ⟨rowsAt A.q t, rowsAt A.k t, rowsAt A.v t, rowsAt A.o t, A.savedAt t, tabAt A.C t, tabAt A.S t, stAt A.decay, stAt A.zeta, stAt A.xi, A.gAt⟩

theorem chunk_le (t : ℕ) (ht : t < 13) (j : Fin 5) : 128 * (5 * t + j.val + 1) ≤ NR := by
  have := j.isLt
  show 128 * (5 * t + j.val + 1) ≤ 8320
  omega

theorem fwd_o (t : ℕ) (ht : t < 13) (j : Fin 5) (h : Fin 4) :
    (A.fwd t).o j h (stAt (A.bef (5 * t + j.val))) = up (chunk (A.out h) (5 * t + j.val)) := by
  show fO (F := Ideal) (subt (tabAt A.C t) j) (subt (tabAt A.S t) j) (sub (rowsAt A.q t) j h) (sub (rowsAt A.k t) j h) (sub (rowsAt A.v t) j h)
    (hd (stAt A.decay) h) (hd (stAt A.xi) h) (hd (stAt (A.bef (5 * t + j.val))) h) = _
  rw [subt_tabAt, subt_tabAt, sub_rowsAt, sub_rowsAt, sub_rowsAt, hd_stAt, hd_stAt, hd_stAt, fO_up, rO_chunk A h _ (chunk_le t ht j)]

theorem fwd_n (t : ℕ) (j : Fin 5) (h : Fin 4) :
    (A.fwd t).n j h (stAt (A.bef (5 * t + j.val))) = up1 (A.bef (5 * t + j.val + 1) h) := by
  show fS (F := Ideal) (subt (tabAt A.C t) j) (subt (tabAt A.S t) j) (sub (rowsAt A.k t) j h) (sub (rowsAt A.v t) j h)
    (hd (stAt A.zeta) h) (hd (stAt (A.bef (5 * t + j.val))) h) (hd8 A.gAt h) = _
  rw [subt_tabAt, subt_tabAt, sub_rowsAt, sub_rowsAt, hd_stAt, hd_stAt, hd8_gAt, fS_up, rS_chunk]

theorem fwd_step (t : ℕ) (j : Fin 5) : (A.fwd t).step j (stAt (A.bef (5 * t + j.val))) = stAt (A.bef (5 * t + j.val + 1)) :=
  funext fun y => congrFun (A.fwd_n t j (y 0)) (ix3 0 (y 1) (y 2))

theorem fwd_at (t n : ℕ) (hn : n ≤ 5) : (A.fwd t).at (stAt (A.bef (5 * t))) n = stAt (A.bef (5 * t + n)) := by
  induction n with
  | zero => rfl
  | succ n ih =>
    rw [FIn.at_succ _ _ n (by omega), ih (by omega)]
    exact A.fwd_step t ⟨n, by omega⟩

theorem fwd_outO (t : ℕ) (ht : t < 13) : (A.fwd t).outO (stAt (A.bef (5 * t))) = rowsAt A.out t := by
  funext y
  show (A.fwd t).o (chunkOf (y 0)) (headOf (y 1)) ((A.fwd t).at (stAt (A.bef (5 * t))) (chunkOf (y 0)).val) (ix2 (inOf (y 0)) (inOf (y 1))) = _
  rw [fwd_at A t _ (by have := (chunkOf (y 0)).isLt; omega), fwd_o A t ht]
  have e : 128 * (5 * t + (y 0).val / 128) + (y 0).val % 128 = 640 * t + (y 0).val := by omega
  show ((A.out (headOf (y 1)) (128 * (5 * t + (y 0).val / 128) + (y 0).val % 128) (inOf (y 1)) : ℝ) : EReal) = _
  rw [e]
  rfl

theorem fwd_outW (t : ℕ) : (A.fwd t).outW (stAt (A.bef (5 * t))) = A.savedAt t := by
  funext y
  show fW (F := Ideal) (hd ((A.fwd t).at (stAt (A.bef (5 * t))) (y 1).val) (y 0)) (ix4 0 0 (y 2) (y 3)) = _
  rw [fwd_at A t _ (by have := (y 1).isLt; exact Nat.le_of_lt this)]
  exact congrFun (fW_up (A.bef (5 * t + (y 1).val) (y 0))) (ix4 0 0 (y 2) (y 3))

theorem bwd_dq (t : ℕ) (ht : t < 13) (j : Fin 5) (h : Fin 4) : (A.bwd t).dq j h = up (chunk (A.gQ h) (5 * t + j.val)) := by
  show bQ (F := Ideal) (subt (tabAt A.C t) j) (subt (tabAt A.S t) j) (sub (rowsAt A.k t) j h) (sub (rowsAt A.v t) j h) (sub (rowsAt A.o t) j h)
    (hd (stAt A.decay) h) (hd (stAt A.xi) h) (hst (A.savedAt t) j h) = _
  rw [subt_tabAt, subt_tabAt, sub_rowsAt, sub_rowsAt, sub_rowsAt, hd_stAt, hd_stAt, hst_savedAt, bQ_up, rQ_chunk A h _ (chunk_le t ht j)]
  rfl

theorem bwd_dk (t : ℕ) (ht : t < 13) (j : Fin 5) (h : Fin 4) :
    (A.bwd t).dk j h (stAt (A.beh (5 * t + j.val))) = up (chunk (A.gK h) (5 * t + j.val)) := by
  show bK (F := Ideal) (subt (tabAt A.C t) j) (subt (tabAt A.S t) j) (sub (rowsAt A.q t) j h) (sub (rowsAt A.v t) j h) (sub (rowsAt A.o t) j h)
    (hd (stAt A.decay) h) (hd (stAt A.zeta) h) (hd (stAt (A.beh (5 * t + j.val))) h) = _
  rw [subt_tabAt, subt_tabAt, sub_rowsAt, sub_rowsAt, sub_rowsAt, hd_stAt, hd_stAt, hd_stAt, bK_up, rK_chunk A h _ (chunk_le t ht j)]
  rfl

theorem bwd_dv (t : ℕ) (ht : t < 13) (j : Fin 5) (h : Fin 4) :
    (A.bwd t).dv j h (stAt (A.beh (5 * t + j.val))) = up (chunk (A.dV h) (5 * t + j.val)) := by
  show bV (F := Ideal) (subt (tabAt A.C t) j) (subt (tabAt A.S t) j) (sub (rowsAt A.q t) j h) (sub (rowsAt A.k t) j h) (sub (rowsAt A.o t) j h)
    (hd (stAt A.decay) h) (hd (stAt A.zeta) h) (hd (stAt (A.beh (5 * t + j.val))) h) = _
  rw [subt_tabAt, subt_tabAt, sub_rowsAt, sub_rowsAt, sub_rowsAt, hd_stAt, hd_stAt, hd_stAt, bV_up, rV_chunk A h _ (chunk_le t ht j)]

theorem bwd_n (t : ℕ) (ht : t < 13) (j : Fin 5) (h : Fin 4) (n : ℕ) (hn : 5 * t + j.val = n + 1) :
    (A.bwd t).n j h (stAt (A.beh (n + 1))) = up1 (A.beh n h) := by
  show bS (F := Ideal) (subt (tabAt A.C t) j) (subt (tabAt A.S t) j) (sub (rowsAt A.q t) j h) (sub (rowsAt A.o t) j h)
    (hd (stAt A.xi) h) (hd (stAt (A.beh (n + 1))) h) (hd8 A.gAt h) = _
  rw [subt_tabAt, subt_tabAt, sub_rowsAt, sub_rowsAt, hd_stAt, hd_stAt, hd8_gAt, bS_up, hn,
    rB_chunk A _ n (by have := chunk_le t ht j; rw [hn] at this; exact this)]

theorem bwd_step (t : ℕ) (ht : t < 13) (j : Fin 5) (n : ℕ) (hn : 5 * t + j.val = n + 1) :
    (A.bwd t).step j (stAt (A.beh (n + 1))) = stAt (A.beh n) :=
  funext fun y => congrFun (A.bwd_n t ht j (y 0) n hn) (ix3 0 (y 1) (y 2))

theorem bwd_at (t n : ℕ) (ht : t < 13) (hn : n ≤ 5) (hn' : n ≤ 5 * t + 4) :
    (A.bwd t).at (stAt (A.beh (5 * t + 4))) n = stAt (A.beh (5 * t + 4 - n)) := by
  induction n with
  | zero => rfl
  | succ n ih =>
    rw [BIn.at_succ _ _ n (by omega), ih (by omega) (by omega), show 5 * t + 4 - n = (5 * t + 4 - (n + 1)) + 1 by omega]
    exact A.bwd_step t ht ⟨4 - n, by omega⟩ _ (by show 5 * t + (4 - n) = _; omega)

/-- Row `r` of the three gradients, side by side. -/
def grad (r : ℕ) (cl : Fin 1536) : ℝ :=
  if cl.val < 512 then A.gQ (headOf (thirdOf cl)) r (inOf cl)
  else if cl.val < 1024 then A.gK (headOf (thirdOf cl)) r (inOf cl)
  else A.dV (headOf (thirdOf cl)) r (inOf cl)

theorem bwd_out (t : ℕ) (ht : t < 13) :
    (A.bwd t).out (stAt (A.beh (5 * t + 4))) = fun y => ((A.grad (640 * t + (y 0).val) (y 1) : ℝ) : EReal) := by
  funext y
  have hj : (y 0).val / 128 < 5 := (chunkOf (y 0)).isLt
  have e : 128 * (5 * t + (y 0).val / 128) + (y 0).val % 128 = 640 * t + (y 0).val := by omega
  show (A.bwd t).row (chunkOf (y 0)) ((A.bwd t).at (stAt (A.beh (5 * t + 4))) (4 - (y 0).val / 128)) (inOf (y 0)) (y 1) = _
  rw [bwd_at A t _ ht (by omega) (by omega), show 5 * t + 4 - (4 - (y 0).val / 128) = 5 * t + (chunkOf (y 0)).val by show _ = 5 * t + (y 0).val / 128; omega]
  unfold BIn.row grad
  rw [bwd_dq A t ht, bwd_dk A t ht, bwd_dv A t ht, ← e]
  split
  · rfl
  · split <;> rfl

end Data

end Cert.Ret

end
-- ==== Proof.Args.lean ====
/- The arguments as reals, the rows and tables both programs build of them, and the constants they name. -/
module

public import proofs.«01_k».proof.Proof.Chunks
public import Idealize.ShloMosaic.Lib.IdealHost

@[expose] public section

noncomputable section

namespace Cert.Ret

open Idealize.ShloMosaic Idealize.ShloMosaic.ValueIdx Finset

/-! ## The constants -/

theorem c48 : Ideal.ofBits .f32 0x42400000#32 = ((48 : ℝ) : EReal) := by
  simp [Ideal.ofBits, Ideal.ieee]; norm_cast; norm_num
theorem c64 : Ideal.ofBits .f32 0x42800000#32 = ((64 : ℝ) : EReal) := by
  simp [Ideal.ofBits, Ideal.ieee]; norm_cast; norm_num
theorem c10000 : Ideal.ofBits .f32 0x461C4000#32 = ((10000 : ℝ) : EReal) := by
  simp [Ideal.ofBits, Ideal.ieee]; norm_cast; norm_num
theorem cm5 : Ideal.ofBits .f32 0xC0A00000#32 = ((-5 : ℝ) : EReal) := by
  simp [Ideal.ofBits, Ideal.ieee]; norm_cast; norm_num
theorem c2 : Ideal.ofBits .f32 0x40000000#32 = ((2 : ℝ) : EReal) := by
  simp [Ideal.ofBits, Ideal.ieee]; norm_cast; norm_num
theorem c1 : Ideal.ofBits .f32 0x3F800000#32 = ((1 : ℝ) : EReal) := by
  rw [Ideal.ofBits_one_f32]; rfl
theorem c0 : Ideal.ofBits .f32 0x00000000#32 = ((0 : ℝ) : EReal) := by
  rw [Ideal.ofBits_zero_f32]; rfl
theorem c127 : Ideal.ofBits .f32 0x42FE0000#32 = ((127 : ℝ) : EReal) := by
  simp [Ideal.ofBits, Ideal.ieee]; norm_cast; norm_num
theorem c128 : Ideal.ofBits .f32 0x43000000#32 = ((128 : ℝ) : EReal) := by
  simp [Ideal.ofBits, Ideal.ieee]; norm_cast; norm_num

/-- A count along an axis, as a real. -/
theorem iota_coe {T : Shape} (d : Fin T.rank) (j : T.Idx) (h : (j d).val < 2 ^ 31) :
    sitofp (F := Ideal) .f32 (iotaInDim T 32 d) j = (((j d).val : ℝ) : EReal) := by
  show (((BitVec.ofNat 32 (j d).val).toInt : ℝ) : EReal) = _
  have e : (BitVec.ofNat 32 (j d).val).toInt = ((j d).val : ℤ) := by
    rw [BitVec.toInt_eq_toNat_of_lt, BitVec.toNat_ofNat, Nat.mod_eq_of_lt (by omega)]
    rw [BitVec.toNat_ofNat, Nat.mod_eq_of_lt (by omega)]; omega
  rw [e, Int.cast_natCast]

/-! ## The tables -/

/-- The angle step of a column, the logarithm of a head's decay. -/
def freq (i : ℕ) : ℝ := Real.rpow 10000 (-(i : ℝ) * (1 / 64))
def logG (h : Fin 4) : ℝ := Real.log (1 - Real.rpow 2 (-5 - (h.val : ℝ)))

theorem logG_pos (h : Fin 4) : ¬ (1 - Real.rpow 2 (-5 - (h.val : ℝ)) ≤ 0) := by
  have h1 : Real.rpow 2 (-5 - (h.val : ℝ)) < 1 :=
    Real.rpow_lt_one_of_one_lt_of_neg (by norm_num) (by have : (0 : ℝ) ≤ (h.val : ℝ) := Nat.cast_nonneg _; linarith)
  exact not_le.mpr (by linarith)

/-- The angle of row `t` (the rows start 48 before the first token) at a column. -/
def ang (t : ℕ) (i : ℕ) : ℝ := ((t : ℝ) - 48) * freq i
def cosT : Rows := fun t d => Real.cos (ang t (d.val % 64))
def sinT : Rows := fun t d => if d.val < 64 then -Real.sin (ang t (d.val % 64)) else Real.sin (ang t (d.val % 64))

/-- The tables' entries, as the programs compute them. -/
theorem freq_at (i : ℕ) : Ideal.pow ((10000 : ℝ) : EReal) (Ideal.div (-((i : ℝ) : EReal)) ((64 : ℝ) : EReal)) = ((freq i : ℝ) : EReal) := by
  rw [Ideal.div_coe (by norm_num), ← EReal.coe_neg, ← EReal.coe_mul, Ideal.pow_coe_coe]
  rfl

theorem logG_at (h : Fin 4) :
    Ideal.log (((1 : ℝ) : EReal) - Ideal.pow ((2 : ℝ) : EReal) (((-5 : ℝ) : EReal) - ((h.val : ℝ) : EReal))) = ((logG h : ℝ) : EReal) := by
  rw [← EReal.coe_sub, Ideal.pow_coe_coe, ← EReal.coe_sub, Ideal.log_coe, if_neg (logG_pos h)]
  rfl

theorem max_coe (a b : ℝ) : max (a : EReal) (b : EReal) = ((max a b : ℝ) : EReal) :=
  (EReal.coe_strictMono.monotone.map_max).symm

theorem dec_at (L : ℝ) (t s : ℕ) :
    Scalar.select (Ideal.cmp .oge (((t : ℝ) : EReal) - ((s : ℝ) : EReal)) ((0 : ℝ) : EReal))
      (Ideal.exp (((L : ℝ) : EReal) * max (((t : ℝ) : EReal) - ((s : ℝ) : EReal)) ((0 : ℝ) : EReal))) ((0 : ℝ) : EReal)
      = ((dec L t s : ℝ) : EReal) := by
  rw [← EReal.coe_sub, max_coe, ← EReal.coe_mul, Ideal.exp_coe]
  unfold dec
  by_cases h : s ≤ t
  · have h' : (0 : ℝ) ≤ (t : ℝ) - (s : ℝ) := sub_nonneg.2 (by exact_mod_cast h)
    rw [if_pos h, max_eq_left h']
    have e : Ideal.cmp .oge (((t : ℝ) - (s : ℝ) : ℝ) : EReal) ((0 : ℝ) : EReal) = 1 := by
      show BitVec.ofBool (decide _) = 1
      rw [decide_eq_true (EReal.coe_le_coe_iff.2 h')]; rfl
    rw [e]; rfl
  · have h' : ¬ (0 : ℝ) ≤ (t : ℝ) - (s : ℝ) := fun g => h (by exact_mod_cast sub_nonneg.1 g)
    rw [if_neg h]
    have e : Ideal.cmp .oge (((t : ℝ) - (s : ℝ) : ℝ) : EReal) ((0 : ℝ) : EReal) = 0 := by
      show BitVec.ofBool (decide _) = 0
      rw [decide_eq_false (fun g => h' (EReal.coe_le_coe_iff.1 g))]; rfl
    rw [e]; rfl

/-! ## The rows -/

/-- A column of 8208 reals among zeros: 48 before it and the rest after. -/
def padRow (x : Fin 8208 → ℝ) (t : ℕ) : ℝ := if h : 48 ≤ t ∧ t - 48 < 8208 then x ⟨t - 48, h.2⟩ else 0

theorem padRow_in (x : Fin 8208 → ℝ) (p : Fin 8208) : padRow x (48 + p.val) = x p := by
  unfold padRow
  rw [dif_pos ⟨by omega, by have := p.isLt; omega⟩]
  exact congrArg x (Fin.ext (by show 48 + p.val - 48 = p.val; omega))

theorem padRow_lo (x : Fin 8208 → ℝ) (t : ℕ) (h : t < 48) : padRow x t = 0 := dif_neg (by omega)
theorem padRow_hi (x : Fin 8208 → ℝ) (t : ℕ) (h : 48 + 8208 ≤ t) : padRow x t = 0 := dif_neg (by omega)

/-- Column `128 h + d` of the `i`-th group of 512 columns. -/
def colAt (i : Fin 3) (h : Fin 4) (d : Fin 128) : Fin 3600 := ⟨512 * i.val + (128 * h.val + d.val), by omega⟩
def colOf (h : Fin 4) (d : Fin 128) : Fin 512 := ⟨128 * h.val + d.val, by omega⟩

/-- The rows and the tables built of the arguments. -/
def args (X : Fin 8208 → Fin 3600 → ℝ) (Y : Fin 8208 → Fin 512 → ℝ) : Data where
  q h t d := padRow (fun p => X p (colAt 0 h d)) t
  k h t d := padRow (fun p => X p (colAt 1 h d)) t
  v h t d := padRow (fun p => X p (colAt 2 h d)) t
  o h t d := padRow (fun p => Y p (colOf h d)) t
  C := cosT
  S := sinT
  L := logG

section

variable (X : Fin 8208 → Fin 3600 → ℝ) (Y : Fin 8208 → Fin 512 → ℝ)

/-- A row among the zeros. -/
def isPad (t : ℕ) : Prop := t < 48 ∨ 48 + 8208 ≤ t

theorem padRow_pad (x : Fin 8208 → ℝ) (t : ℕ) (h : isPad t) : padRow x t = 0 :=
  h.elim (padRow_lo x t) (padRow_hi x t)

theorem v_pad (h : Fin 4) (t : ℕ) (ht : isPad t) (d : Fin 128) : (args X Y).v h t d = 0 :=
  show padRow (fun p => X p (colAt 2 h d)) t = 0 from padRow_pad _ t ht
theorem o_pad (h : Fin 4) (t : ℕ) (ht : isPad t) (d : Fin 128) : (args X Y).o h t d = 0 :=
  show padRow (fun p => Y p (colOf h d)) t = 0 from padRow_pad _ t ht
theorem Q_pad (h : Fin 4) (t : ℕ) (ht : isPad t) (d : Fin 128) : (args X Y).Q h t d = 0 := by
  show padRow (fun p => X p (colAt 0 h d)) t * cosT t d + padRow (fun p => X p (colAt 0 h (flip d))) t * sinT t d = 0
  rw [padRow_pad _ t ht, padRow_pad _ t ht, zero_mul, zero_mul, add_zero]
theorem K_pad (h : Fin 4) (t : ℕ) (ht : isPad t) (d : Fin 128) : (args X Y).K h t d = 0 := by
  show (padRow (fun p => X p (colAt 1 h d)) t * cosT t d + padRow (fun p => X p (colAt 1 h (flip d))) t * sinT t d) * scl = 0
  rw [padRow_pad _ t ht, padRow_pad _ t ht, zero_mul, zero_mul, add_zero, zero_mul]

theorem dotp_zero_left (x y : Fin 128 → ℝ) (h : ∀ d, x d = 0) : dotp x y = 0 :=
  sum_eq_zero fun d _ => by rw [h d, zero_mul]
theorem dotp_zero_right (x y : Fin 128 → ℝ) (h : ∀ d, y d = 0) : dotp x y = 0 :=
  sum_eq_zero fun d _ => by rw [h d, mul_zero]

/-- A sum over all rows whose terms vanish on the zeros is one over the 8208 rows between. -/
theorem sum_tokens (f : ℕ → ℝ) (h : ∀ t, isPad t → f t = 0) : ∑ t ∈ range NR, f t = ∑ p : Fin 8208, f (48 + p.val) :=
  sum_pad f NR 8208 48 (by norm_num) (fun s hs => h s (Or.inl hs)) (fun s hs => h s (Or.inr hs))

/-- The results on the rows of zeros. -/
theorem out_pad (h : Fin 4) (t : ℕ) (ht : isPad t) (e : Fin 128) : (args X Y).out h t e = 0 :=
  sum_eq_zero fun s _ => by rw [dotp_zero_left _ _ (Q_pad X Y h t ht), zero_mul, zero_mul]
theorem dQ_pad (h : Fin 4) (t : ℕ) (ht : isPad t) (d : Fin 128) : (args X Y).dQ h t d = 0 :=
  sum_eq_zero fun s _ => by rw [dotp_zero_left _ _ (o_pad X Y h t ht), zero_mul, zero_mul]
theorem dK_pad (h : Fin 4) (s : ℕ) (hs : isPad s) (d : Fin 128) : (args X Y).dK h s d = 0 :=
  sum_eq_zero fun t _ => by rw [dotp_zero_right _ _ (v_pad X Y h s hs), zero_mul, zero_mul]
theorem dV_pad (h : Fin 4) (s : ℕ) (hs : isPad s) (d : Fin 128) : (args X Y).dV h s d = 0 :=
  sum_eq_zero fun t _ => by rw [dotp_zero_right _ _ (K_pad X Y h s hs), zero_mul, zero_mul]
theorem grad_pad (t : ℕ) (ht : isPad t) (cl : Fin 1536) : (args X Y).grad t cl = 0 := by
  unfold Data.grad
  split
  · show (args X Y).dQ _ t _ * _ + (args X Y).dQ _ t _ * _ = (0 : ℝ)
    rw [dQ_pad X Y _ t ht, dQ_pad X Y _ t ht, zero_mul, zero_mul, add_zero]
  · split
    · show (args X Y).dK _ t _ * _ * _ + (args X Y).dK _ t _ * _ * _ = (0 : ℝ)
      rw [dK_pad X Y _ t ht, dK_pad X Y _ t ht, zero_mul, zero_mul, zero_mul, add_zero]
    · exact dV_pad X Y _ t ht _

/-- The results on a token's row, as sums over the tokens. -/
theorem out_tokens (h : Fin 4) (t : ℕ) (e : Fin 128) : (args X Y).out h t e
    = ∑ s : Fin 8208, dotp ((args X Y).Q h t) ((args X Y).K h (48 + s.val)) * dec (logG h) t (48 + s.val) * (args X Y).v h (48 + s.val) e :=
  sum_tokens _ fun s hs => by rw [v_pad X Y h s hs, mul_zero]
theorem dQ_tokens (h : Fin 4) (t : ℕ) (d : Fin 128) : (args X Y).dQ h t d
    = ∑ s : Fin 8208, dotp ((args X Y).o h t) ((args X Y).v h (48 + s.val)) * dec (logG h) t (48 + s.val) * (args X Y).K h (48 + s.val) d :=
  sum_tokens _ fun s hs => by rw [K_pad X Y h s hs, mul_zero]
theorem dK_tokens (h : Fin 4) (s : ℕ) (d : Fin 128) : (args X Y).dK h s d
    = ∑ t : Fin 8208, dotp ((args X Y).o h (48 + t.val)) ((args X Y).v h s) * dec (logG h) (48 + t.val) s * (args X Y).Q h (48 + t.val) d :=
  sum_tokens _ fun t ht => by rw [Q_pad X Y h t ht, mul_zero]
theorem dV_tokens (h : Fin 4) (s : ℕ) (e : Fin 128) : (args X Y).dV h s e
    = ∑ t : Fin 8208, dotp ((args X Y).Q h (48 + t.val)) ((args X Y).K h s) * dec (logG h) (48 + t.val) s * (args X Y).o h (48 + t.val) e :=
  sum_tokens _ fun t ht => by rw [o_pad X Y h t ht, mul_zero]

end

end Cert.Ret

end
-- ==== Proof.KerHost.lean ====
/- What the host hands the kernels, as expressions of the arguments. -/
module

public import proofs.«01_k».proof.Proof.Run
public import proofs.«01_k».proof.Proof.Args

@[expose] public section

noncomputable section

namespace Cert.Ret

open Idealize.ShloMosaic Idealize.ShloMosaic.TcCoe Idealize.ShloMosaic.StableHlo Idealize.ShloMosaic.ValueIdx Idealize.SL.Sem
open Cert.KernelIdeal Cert.KernelIdeal.Gen

/-- The constant zero, as the pads and the sums use it. -/
def zeroI : S_.Idx → EReal := sitofp (F := Ideal) .f32 (constantI S_ 32 0#32)

/-! ## The tables of angles -/

def hAng : S8320x64.Idx → EReal :=
  mulf (F := Ideal) (φ := .f32)
    (broadcastInDim S8320x64 ![0, 1] bcast_S8320x1_S8320x64_0_1 (broadcastInDim S8320x1 ![0] bcast_S8320_S8320x1_0
      (subf (F := Ideal) (φ := .f32) (sitofp .f32 (iotaInDim S8320 32 0)) (broadcastInDim S8320 ![] bcast_S_S8320 (constant S_ .f32 0x42400000#32)))))
    (broadcastInDim S8320x64 ![0, 1] bcast_S1x64_S8320x64_0_1 (broadcastInDim S1x64 ![1] bcast_S64_S1x64_1
      (Host.powf (F := Ideal) (φ := .f32) (broadcastInDim S64 ![] bcast_S_S64 (constant S_ .f32 0x461C4000#32))
        (Host.divf (F := Ideal) (φ := .f32) (Host.negf (sitofp .f32 (iotaInDim S64 32 0))) (broadcastInDim S64 ![] bcast_S_S64 (constant S_ .f32 0x42800000#32))))))

def hCos : S8320x128.Idx → EReal :=
  concatenate S8320x128 1 [⟨S8320x64, Host.cos (F := Ideal) (φ := .f32) hAng⟩, ⟨S8320x64, Host.cos (F := Ideal) (φ := .f32) hAng⟩] concatenates_S8320x64_S8320x64_S8320x128_d1
def hSin : S8320x128.Idx → EReal :=
  concatenate S8320x128 1 [⟨S8320x64, Host.negf (F := Ideal) (φ := .f32) (Host.sin (F := Ideal) (φ := .f32) hAng)⟩, ⟨S8320x64, Host.sin (F := Ideal) (φ := .f32) hAng⟩] concatenates_S8320x64_S8320x64_S8320x128_d1

/-! ## The decays -/

def hLog : S4.Idx → EReal :=
  Host.log (F := Ideal) (φ := .f32) (subf (F := Ideal) (φ := .f32) (broadcastInDim S4 ![] bcast_S_S4 (constant S_ .f32 0x3F800000#32))
    (Host.powf (F := Ideal) (φ := .f32) (broadcastInDim S4 ![] bcast_S_S4 (constant S_ .f32 0x40000000#32))
      (subf (F := Ideal) (φ := .f32) (broadcastInDim S4 ![] bcast_S_S4 (constant S_ .f32 0xC0A00000#32)) (sitofp .f32 (iotaInDim S4 32 0)))))
def hIx : S128.Idx → EReal := sitofp (F := Ideal) .f32 (iotaInDim S128 32 0)
def hDiff : S128x128.Idx → EReal :=
  subf (F := Ideal) (φ := .f32) (broadcastInDim S128x128 ![0, 1] bcast_S128x1_S128x128_0_1 (broadcastInDim S128x1 ![0] bcast_S128_S128x1_0 hIx))
    (broadcastInDim S128x128 ![0, 1] bcast_S1x128_S128x128_0_1 (broadcastInDim S1x128 ![1] bcast_S128_S1x128_1 hIx))
def hMask : S128x128.Idx → BitVec 1 :=
  cmpf (F := Ideal) (φ := .f32) .oge hDiff (broadcastInDim S128x128 ![] bcast_S_S128x128 (constant S_ .f32 0x00000000#32))
def hExp : S4x128x128.Idx → EReal :=
  Host.exp (F := Ideal) (φ := .f32) (mulf (F := Ideal) (φ := .f32)
    (broadcastInDim S4x128x128 ![0, 1, 2] bcast_S4x1x1_S4x128x128_0_1_2 (broadcastInDim S4x1x1 ![0] bcast_S4_S4x1x1_0 hLog))
    (broadcastInDim S4x128x128 ![0, 1, 2] bcast_S1x128x128_S4x128x128_0_1_2 (broadcastInDim S1x128x128 ![1, 2] bcast_S128x128_S1x128x128_1_2
      (maximumf (F := Ideal) (φ := .f32) hDiff (broadcastInDim S128x128 ![] bcast_S_S128x128 (constant S_ .f32 0x00000000#32))))))
def hDecay : S4x128x128.Idx → EReal :=
  select (broadcastInDim S4x128x128 ![1, 2] bcast_S128x128_S4x128x128_1_2 hMask) hExp
    (broadcastInDim S4x128x128 ![] bcast_S_S4x128x128 (constant (F := Ideal) S_ .f32 0x00000000#32))
def hZeta : S4x128x128.Idx → EReal :=
  broadcastInDim S4x128x128 ![0, 1, 2] bcast_S4x128x1_S4x128x128_0_1_2 (broadcastInDim S4x128x1 ![0, 1] bcast_S4x128_S4x128x1_0_1
    (Host.exp (F := Ideal) (φ := .f32) (mulf (F := Ideal) (φ := .f32)
      (broadcastInDim S4x128 ![0, 1] bcast_S4x1_S4x128_0_1 (broadcastInDim S4x1 ![0] bcast_S4_S4x1_0 hLog))
      (broadcastInDim S4x128 ![0, 1] bcast_S1x128_S4x128_0_1 (broadcastInDim S1x128 ![1] bcast_S128_S1x128_1
        (subf (F := Ideal) (φ := .f32) (broadcastInDim S128 ![] bcast_S_S128 (constant S_ .f32 0x42FE0000#32)) hIx))))))
def hXi : S4x128x128.Idx → EReal :=
  broadcastInDim S4x128x128 ![0, 1, 2] bcast_S4x128x1_S4x128x128_0_1_2 (broadcastInDim S4x128x1 ![0, 1] bcast_S4x128_S4x128x1_0_1
    (Host.exp (F := Ideal) (φ := .f32) (mulf (F := Ideal) (φ := .f32)
      (broadcastInDim S4x128 ![0, 1] bcast_S4x1_S4x128_0_1 (broadcastInDim S4x1 ![0] bcast_S4_S4x1_0 hLog))
      (broadcastInDim S4x128 ![0, 1] bcast_S1x128_S4x128_0_1 (broadcastInDim S1x128 ![1] bcast_S128_S1x128_1
        (addf (F := Ideal) (φ := .f32) hIx (broadcastInDim S128 ![] bcast_S_S128 (constant S_ .f32 0x3F800000#32))))))))
def hG : S4x8x128.Idx → EReal :=
  broadcastInDim S4x8x128 ![0, 1, 2] bcast_S4x1x1_S4x8x128_0_1_2 (broadcastInDim S4x1x1 ![0] bcast_S4_S4x1x1_0
    (Host.exp (F := Ideal) (φ := .f32) (mulf (F := Ideal) (φ := .f32) hLog (broadcastInDim S4 ![] bcast_S_S4 (constant S_ .f32 0x43000000#32)))))

/-! ## What the stretches leave -/

variable (m : (ℓ : Loc nD τ sig) → Buf (Elt Ideal) ℓ) (c : Dev nD)

theorem V5_cos : V5 m c main_v24 = hCos := by
  unfold hCos hAng
  simp only [V5, hostOps0_4]
  after_results_simp <;> rfl
theorem V5_sin : V5 m c main_v26 = hSin := by
  unfold hSin hAng
  simp only [V5, hostOps0_4]
  after_results_simp <;> rfl
theorem V5_log : V5 m c main_v34 = hLog := by
  unfold hLog
  simp only [V5, hostOps0_4]
  after_results_simp <;> rfl
theorem V5_ix : V5 m c main_v35 = hIx := by
  unfold hIx
  simp only [V5, hostOps0_4]
  after_results_simp <;> rfl
theorem V5_mask : V5 m c main_v42 = hMask := by
  unfold hMask hDiff hIx
  simp only [V5, hostOps0_4]
  after_results_simp <;> rfl
theorem V5_exp : V5 m c main_v50 = hExp := by
  unfold hExp hDiff hLog hIx
  simp only [V5, hostOps0_4]
  after_results_simp <;> rfl
theorem V5_z : V5 m c main_cst_9 = constant (F := Ideal) S_ .f32 0x00000000#32 := by
  simp only [V5, hostOps0_4]
  after_results_simp <;> rfl

theorem decay_of (V : Valuation τ sig (Elt Ideal)) (h1 : V main_v42 = hMask) (h2 : V main_v50 = hExp)
    (h3 : V main_cst_9 = constant (F := Ideal) S_ .f32 0x00000000#32) : StableHlo.after hostOps0_5 V main_v51 = hDecay := by
  unfold hDecay
  rw [← h1, ← h2, ← h3]
  simp only [hostOps0_5, TRef.binary, TRef.ternary, TRef.unary, TRef.toBuf, TRef.ofBuf, cast_eq]
  after_results_simp <;> rfl

theorem V6_decay : V6 m c main_v51 = hDecay := decay_of (V5 m c) (V5_mask m c) (V5_exp m c) (V5_z m c)

theorem V6_log : V6 m c main_v34 = hLog := (V6_of m c main_v34 (by decide)).trans (V5_log m c)
theorem V6_ix : V6 m c main_v35 = hIx := (V6_of m c main_v35 (by decide)).trans (V5_ix m c)

theorem zeta_of (V : Valuation τ sig (Elt Ideal)) (h1 : V main_v34 = hLog) (h2 : V main_v35 = hIx) : StableHlo.after hostOps0_6 V main_v72 = hZeta := by
  unfold hZeta
  rw [← h1, ← h2]
  simp only [hostOps0_6]
  after_results_simp <;> rfl
theorem V7_zeta : V7 m c main_v72 = hZeta := zeta_of (V6 m c) (V6_log m c) (V6_ix m c)

theorem xi_of (V : Valuation τ sig (Elt Ideal)) (h1 : V main_v34 = hLog) (h2 : V main_v35 = hIx) : StableHlo.after hostOps0_6 V main_v74 = hXi := by
  unfold hXi
  rw [← h1, ← h2]
  simp only [hostOps0_6]
  after_results_simp <;> rfl
theorem V7_xi : V7 m c main_v74 = hXi := xi_of (V6 m c) (V6_log m c) (V6_ix m c)

theorem g_of (V : Valuation τ sig (Elt Ideal)) (h1 : V main_v34 = hLog) : StableHlo.after hostOps0_6 V main_v76 = hG := by
  unfold hG
  rw [← h1]
  simp only [hostOps0_6]
  after_results_simp <;> rfl
theorem V7_g : V7 m c main_v76 = hG := g_of (V6 m c) (V6_log m c)

theorem V7_decay : V7 m c main_v51 = hDecay := (V7_of m c main_v51 (by decide)).trans (V6_decay m c)
theorem V7_cos : V7 m c main_v24 = hCos :=
  (V7_of m c main_v24 (by decide)).trans <| (V6_of m c main_v24 (by decide)).trans (V5_cos m c)
theorem V7_sin : V7 m c main_v26 = hSin :=
  (V7_of m c main_v26 (by decide)).trans <| (V6_of m c main_v26 (by decide)).trans (V5_sin m c)

/-! ## The padded rows -/

/-- The projections among zeros, and the cotangent. -/
def hRows (x : S8208x3600.Idx → EReal) : S8320x3600.Idx → EReal :=
  pad S8320x3600 ![48, 0] ![64, 0] ![0, 0] x zeroI pads_S8208x3600_S8320x3600_48640_000 h_S_
def hCot (y : S8208x512.Idx → EReal) : S8320x512.Idx → EReal :=
  pad S8320x512 ![48, 0] ![64, 0] ![0, 0] y zeroI pads_S8208x512_S8320x512_48640_000 h_S_
/-- The projections' columns in the kernels' order. -/
def hCols (r : S8320x3600.Idx → EReal) : S8320x3840.Idx → EReal :=
  concatenate S8320x3840 1 [⟨S8320x2048, extractStridedSlice S8320x2048 ![0, 0] r slices_S8320x3600_S8320x2048_0_0⟩,
    ⟨S8320x512, extractStridedSlice S8320x512 ![0, 3072] r slices_S8320x3600_S8320x512_0_3072⟩,
    ⟨S8320x1024, extractStridedSlice S8320x1024 ![0, 2048] r slices_S8320x3600_S8320x1024_0_2048⟩,
    ⟨S8320x16, extractStridedSlice S8320x16 ![0, 3584] r slices_S8320x3600_S8320x16_0_3584⟩,
    ⟨S8320x240, broadcastInDim S8320x240 ![] bcast_S_S8320x240 (constant (F := Ideal) S_ .f32 0x00000000#32)⟩]
    concatenates_S8320x2048_S8320x512_S8320x1024_S8320x16_S8320x240_S8320x3840_d1

theorem V1_c : V1 m c main_c = constantI S_ 32 0#32 := by
  simp only [V1, hostOps0]
  after_results_simp <;> rfl

theorem rows_of (V : Valuation τ sig (Elt Ideal)) (x : S8208x3600.Idx → EReal) (h1 : V main_c = constantI S_ 32 0#32) (h2 : V main_arg0 = x) :
    StableHlo.after hostOps0_1 V main_v0 = hRows x := by
  unfold hRows zeroI
  rw [← h1, ← h2]
  simp only [hostOps0_1, TRef.binary, TRef.ternary, TRef.unary, TRef.toBuf, TRef.ofBuf, cast_eq]
  after_results_simp <;> rfl

theorem V2_rows : V2 m c main_v0 = hRows (m ((c.tc : Thread nD τ).loc main_arg0)) :=
  rows_of (V1 m c) _ (V1_c m c) (V1_of m c main_arg0 (by decide))

theorem cols_of (V : Valuation τ sig (Elt Ideal)) (r : S8320x3600.Idx → EReal) (h1 : V main_v0 = r) :
    StableHlo.after hostOps0_2 V main_v6 = hCols r := by
  unfold hCols
  rw [← h1]
  simp only [hostOps0_2]
  after_results_simp <;> rfl

theorem c0_of (V : Valuation τ sig (Elt Ideal)) : StableHlo.after hostOps0_2 V main_c_0 = constantI S_ 32 0#32 := by
  simp only [hostOps0_2]
  after_results_simp <;> rfl

theorem cot_of (V : Valuation τ sig (Elt Ideal)) (x : S8208x512.Idx → EReal) (h1 : V main_c_0 = constantI S_ 32 0#32) (h2 : V main_arg1 = x) :
    StableHlo.after hostOps0_3 V main_v7 = hCot x := by
  unfold hCot zeroI
  rw [← h1, ← h2]
  simp only [hostOps0_3, TRef.binary, TRef.ternary, TRef.unary, TRef.toBuf, TRef.ofBuf, cast_eq]
  after_results_simp <;> rfl

theorem V4_cot : V4 m c main_v7 = hCot (m ((c.tc : Thread nD τ).loc main_arg1)) :=
  cot_of (V3 m c) _ (c0_of (V2 m c)) ((V3_of m c main_arg1 (by decide)).trans <| (V2_of m c main_arg1 (by decide)).trans (V1_of m c main_arg1 (by decide)))

theorem V7_cols : V7 m c main_v6 = hCols (hRows (m ((c.tc : Thread nD τ).loc main_arg0))) :=
  (V7_of m c main_v6 (by decide)).trans <| (V6_of m c main_v6 (by decide)).trans <| (V5_of m c main_v6 (by decide)).trans <|
    (V4_of m c main_v6 (by decide)).trans <| cols_of (V2 m c) _ (V2_rows m c)

theorem V7_cot : V7 m c main_v7 = hCot (m ((c.tc : Thread nD τ).loc main_arg1)) :=
  (V7_of m c main_v7 (by decide)).trans <| (V6_of m c main_v7 (by decide)).trans <| (V5_of m c main_v7 (by decide)).trans (V4_cot m c)

end Cert.Ret

end
-- ==== Proof.KerTables.lean ====
/- What the host hands the kernels, read at an index, where the arguments are real. -/
module

public import proofs.«01_k».proof.Proof.KerHost

@[expose] public section

noncomputable section

namespace Cert.Ret

open Idealize.ShloMosaic Idealize.ShloMosaic.TcCoe Idealize.ShloMosaic.StableHlo Idealize.ShloMosaic.ValueIdx Idealize.SL.Sem
open Cert.KernelIdeal Cert.KernelIdeal.Gen

variable {α : Type}

/-! ## The broadcasts -/

theorem b_col {n k : ℕ} (hn : n ≠ 1) (h : (⟨2, ![n, 1]⟩ : Shape).BroadcastsInDim ⟨2, ![n, k]⟩ ![0, 1]) (x : (⟨2, ![n, 1]⟩ : Shape).Idx → α) (a : Fin n) (b : Fin k) :
    broadcastInDim ⟨2, ![n, k]⟩ ![0, 1] h x (ix2 a b) = x (ix2 a 0) :=
  broadcastInDim_apply _ h x _ _ fun d => match d with
    | ⟨0, _⟩ => by show a.val = if n = 1 then 0 else a.val; rw [if_neg hn]
    | ⟨1, _⟩ => (if_pos (rfl : (1 : ℕ) = 1)).symm
theorem b_row {n k : ℕ} (hk : k ≠ 1) (h : (⟨2, ![1, k]⟩ : Shape).BroadcastsInDim ⟨2, ![n, k]⟩ ![0, 1]) (x : (⟨2, ![1, k]⟩ : Shape).Idx → α) (a : Fin n) (b : Fin k) :
    broadcastInDim ⟨2, ![n, k]⟩ ![0, 1] h x (ix2 a b) = x (ix2 0 b) :=
  broadcastInDim_apply _ h x _ _ fun d => match d with
    | ⟨0, _⟩ => (if_pos (rfl : (1 : ℕ) = 1)).symm
    | ⟨1, _⟩ => by show b.val = if k = 1 then 0 else b.val; rw [if_neg hk]
theorem b_tall {n : ℕ} (hn : n ≠ 1) (h : (⟨1, ![n]⟩ : Shape).BroadcastsInDim ⟨2, ![n, 1]⟩ ![0]) (x : (⟨1, ![n]⟩ : Shape).Idx → α) (a : Fin n) (b : Fin 1) :
    broadcastInDim ⟨2, ![n, 1]⟩ ![0] h x (ix2 a b) = x (ix1 a) :=
  broadcastInDim_apply _ h x _ _ fun d => match d with
    | ⟨0, _⟩ => by show a.val = if n = 1 then 0 else a.val; rw [if_neg hn]
theorem b_flat {k : ℕ} (hk : k ≠ 1) (h : (⟨1, ![k]⟩ : Shape).BroadcastsInDim ⟨2, ![1, k]⟩ ![1]) (x : (⟨1, ![k]⟩ : Shape).Idx → α) (a : Fin 1) (b : Fin k) :
    broadcastInDim ⟨2, ![1, k]⟩ ![1] h x (ix2 a b) = x (ix1 b) :=
  broadcastInDim_apply _ h x _ _ fun d => match d with
    | ⟨0, _⟩ => by show b.val = if k = 1 then 0 else b.val; rw [if_neg hk]
theorem b_head (h : S4.BroadcastsInDim S4x1x1 ![0]) (x : S4.Idx → α) (a : Fin 4) (b c : Fin 1) :
    broadcastInDim S4x1x1 ![0] h x (ix3 a b c) = x (ix1 a) :=
  broadcastInDim_apply _ h x _ _ fun d => match d with
    | ⟨0, _⟩ => rfl
theorem b_heads {n k : ℕ} (h : S4x1x1.BroadcastsInDim ⟨3, ![4, n, k]⟩ ![0, 1, 2]) (x : S4x1x1.Idx → α) (a : Fin 4) (b : Fin n) (c : Fin k) :
    broadcastInDim ⟨3, ![4, n, k]⟩ ![0, 1, 2] h x (ix3 a b c) = x (ix3 a 0 0) :=
  broadcastInDim_apply _ h x _ _ fun d => match d with
    | ⟨0, _⟩ => rfl
    | ⟨1, _⟩ => rfl
    | ⟨2, _⟩ => rfl
theorem b_lead (h : S128x128.BroadcastsInDim S1x128x128 ![1, 2]) (x : S128x128.Idx → α) (a : Fin 1) (b c : Fin 128) :
    broadcastInDim S1x128x128 ![1, 2] h x (ix3 a b c) = x (ix2 b c) :=
  broadcastInDim_apply _ h x _ _ fun d => match d with
    | ⟨0, _⟩ => rfl
    | ⟨1, _⟩ => rfl
theorem b_each (h : S1x128x128.BroadcastsInDim S4x128x128 ![0, 1, 2]) (x : S1x128x128.Idx → α) (a : Fin 4) (b c : Fin 128) :
    broadcastInDim S4x128x128 ![0, 1, 2] h x (ix3 a b c) = x (ix3 0 b c) :=
  broadcastInDim_apply _ h x _ _ fun d => match d with
    | ⟨0, _⟩ => rfl
    | ⟨1, _⟩ => rfl
    | ⟨2, _⟩ => rfl
theorem b_all (h : S128x128.BroadcastsInDim S4x128x128 ![1, 2]) (x : S128x128.Idx → α) (a : Fin 4) (b c : Fin 128) :
    broadcastInDim S4x128x128 ![1, 2] h x (ix3 a b c) = x (ix2 b c) :=
  broadcastInDim_apply _ h x _ _ fun d => match d with
    | ⟨0, _⟩ => rfl
    | ⟨1, _⟩ => rfl
theorem b_last (h : S4x128.BroadcastsInDim S4x128x1 ![0, 1]) (x : S4x128.Idx → α) (a : Fin 4) (b : Fin 128) (c : Fin 1) :
    broadcastInDim S4x128x1 ![0, 1] h x (ix3 a b c) = x (ix2 a b) :=
  broadcastInDim_apply _ h x _ _ fun d => match d with
    | ⟨0, _⟩ => rfl
    | ⟨1, _⟩ => rfl
theorem b_lanes (h : S4x128x1.BroadcastsInDim S4x128x128 ![0, 1, 2]) (x : S4x128x1.Idx → α) (a : Fin 4) (b c : Fin 128) :
    broadcastInDim S4x128x128 ![0, 1, 2] h x (ix3 a b c) = x (ix3 a b 0) :=
  broadcastInDim_apply _ h x _ _ fun d => match d with
    | ⟨0, _⟩ => rfl
    | ⟨1, _⟩ => rfl
    | ⟨2, _⟩ => rfl

theorem iota1 {n : ℕ} (hn : n < 2 ^ 31) (a : Fin n) : sitofp (F := Ideal) .f32 (iotaInDim ⟨1, ![n]⟩ 32 0) (ix1 a) = ((a.val : ℝ) : EReal) :=
  iota_coe (T := ⟨1, ![n]⟩) 0 (ix1 a) (lt_trans a.isLt hn)

/-! ## The tables -/

theorem hAng_at (t : Fin 8320) (i : Fin 64) : hAng (ix2 t i) = ((ang t.val i.val : ℝ) : EReal) := by
  unfold hAng
  rw [mulf_apply, b_col (by decide), b_tall (by decide), b_row (by decide), b_flat (by decide), subf_apply, iota1 (by decide), broadcastInDim_scalar_apply]
  show (((t.val : ℝ) : EReal) - (Ideal.ofBits .f32 0x42400000#32 : EReal)) * Ideal.pow (broadcastInDim S64 ![] bcast_S_S64 (constant (F := Ideal) S_ .f32 0x461C4000#32) (ix1 i))
    (Ideal.div (-(sitofp (F := Ideal) .f32 (iotaInDim S64 32 0) (ix1 i) : EReal)) (broadcastInDim S64 ![] bcast_S_S64 (constant (F := Ideal) S_ .f32 0x42800000#32) (ix1 i))) = _
  rw [iota1 (by decide), broadcastInDim_scalar_apply, broadcastInDim_scalar_apply]
  show (((t.val : ℝ) : EReal) - (Ideal.ofBits .f32 0x42400000#32 : EReal)) * Ideal.pow (Ideal.ofBits .f32 0x461C4000#32)
    (Ideal.div (-((i.val : ℝ) : EReal)) (Ideal.ofBits .f32 0x42800000#32)) = _
  rw [c48, c10000, c64, freq_at, ← EReal.coe_sub, ← EReal.coe_mul]
  rfl

theorem low_or_high (d : Fin 128) : (∃ e : Fin 64, d.val = e.val) ∨ (∃ e : Fin 64, d.val = 64 + e.val) := by
  by_cases h : d.val < 64
  · exact Or.inl ⟨⟨d.val, h⟩, rfl⟩
  · exact Or.inr ⟨⟨d.val - 64, by omega⟩, by show d.val = 64 + (d.val - 64); omega⟩

theorem hCos_at (t : Fin 8320) (d : Fin 128) : hCos (ix2 t d) = ((cosT t.val d : ℝ) : EReal) := by
  unfold hCos
  rcases low_or_high d with ⟨e, he⟩ | ⟨e, he⟩
  · rw [concatenate_pair_apply_left 1 (Host.cos (F := Ideal) (φ := .f32) hAng) (Host.cos (F := Ideal) (φ := .f32) hAng) _ (ix2 t d) rfl (ix2 t e) (fun b => match b with
      | ⟨0, _⟩ => rfl
      | ⟨1, _⟩ => he.symm)]
    show Ideal.cos (hAng (ix2 t e)) = ((Real.cos (ang t.val (d.val % 64)) : ℝ) : EReal)
    rw [hAng_at, show d.val % 64 = e.val by omega]
    rfl
  · rw [concatenate_pair_apply_right 1 (Host.cos (F := Ideal) (φ := .f32) hAng) (Host.cos (F := Ideal) (φ := .f32) hAng) _ (ix2 t d) rfl rfl (ix2 t e) (fun b hb => match b with
      | ⟨0, _⟩ => rfl
      | ⟨1, _⟩ => absurd rfl hb) (by show e.val + 64 = d.val; omega)]
    show Ideal.cos (hAng (ix2 t e)) = ((Real.cos (ang t.val (d.val % 64)) : ℝ) : EReal)
    rw [hAng_at, show d.val % 64 = e.val by omega]
    rfl

theorem hSin_at (t : Fin 8320) (d : Fin 128) : hSin (ix2 t d) = ((sinT t.val d : ℝ) : EReal) := by
  unfold hSin
  rcases low_or_high d with ⟨e, he⟩ | ⟨e, he⟩
  · rw [concatenate_pair_apply_left 1 (Host.negf (F := Ideal) (φ := .f32) (Host.sin (F := Ideal) (φ := .f32) hAng)) (Host.sin (F := Ideal) (φ := .f32) hAng) _ (ix2 t d) rfl (ix2 t e) (fun b => match b with
      | ⟨0, _⟩ => rfl
      | ⟨1, _⟩ => he.symm)]
    unfold sinT
    show -(Ideal.sin (hAng (ix2 t e)) : EReal) = _
    rw [if_pos (by omega), hAng_at, show d.val % 64 = e.val by omega]
    rfl
  · rw [concatenate_pair_apply_right 1 (Host.negf (F := Ideal) (φ := .f32) (Host.sin (F := Ideal) (φ := .f32) hAng)) (Host.sin (F := Ideal) (φ := .f32) hAng) _ (ix2 t d) rfl rfl (ix2 t e) (fun b hb => match b with
      | ⟨0, _⟩ => rfl
      | ⟨1, _⟩ => absurd rfl hb) (by show e.val + 64 = d.val; omega)]
    unfold sinT
    show Ideal.sin (hAng (ix2 t e)) = _
    rw [if_neg (by omega), hAng_at, show d.val % 64 = e.val by omega]
    rfl

theorem hLog_at (h : Fin 4) : hLog (ix1 h) = ((logG h : ℝ) : EReal) := by
  unfold hLog
  show Ideal.log ((broadcastInDim S4 ![] bcast_S_S4 (constant (F := Ideal) S_ .f32 0x3F800000#32) (ix1 h) : EReal)
    - Ideal.pow (broadcastInDim S4 ![] bcast_S_S4 (constant (F := Ideal) S_ .f32 0x40000000#32) (ix1 h))
      ((broadcastInDim S4 ![] bcast_S_S4 (constant (F := Ideal) S_ .f32 0xC0A00000#32) (ix1 h) : EReal) - (sitofp (F := Ideal) .f32 (iotaInDim S4 32 0) (ix1 h) : EReal))) = _
  rw [iota1 (by decide), broadcastInDim_scalar_apply, broadcastInDim_scalar_apply, broadcastInDim_scalar_apply]
  show Ideal.log ((Ideal.ofBits .f32 0x3F800000#32 : EReal) - Ideal.pow (Ideal.ofBits .f32 0x40000000#32) ((Ideal.ofBits .f32 0xC0A00000#32 : EReal) - ((h.val : ℝ) : EReal))) = _
  rw [c1, c2, cm5]
  exact logG_at h

theorem hIx_at (a : Fin 128) : hIx (ix1 a) = ((a.val : ℝ) : EReal) := iota1 (by decide) a

theorem hDiff_at (a b : Fin 128) : hDiff (ix2 a b) = ((a.val : ℝ) : EReal) - ((b.val : ℝ) : EReal) := by
  unfold hDiff
  rw [subf_apply, b_col (by decide), b_tall (by decide), b_row (by decide), b_flat (by decide), hIx_at, hIx_at]

theorem hDecay_at (h : Fin 4) (a b : Fin 128) : hDecay (ix3 h a b) = ((dec (logG h) a.val b.val : ℝ) : EReal) := by
  unfold hDecay
  rw [select_apply, b_all, broadcastInDim_scalar_apply]
  unfold hMask hExp
  rw [cmpf_apply, hDiff_at, broadcastInDim_scalar_apply]
  show Scalar.select (Ideal.cmp .oge (((a.val : ℝ) : EReal) - ((b.val : ℝ) : EReal)) (Ideal.ofBits .f32 0x00000000#32))
    (Ideal.exp ((broadcastInDim S4x128x128 ![0, 1, 2] bcast_S4x1x1_S4x128x128_0_1_2 (broadcastInDim S4x1x1 ![0] bcast_S4_S4x1x1_0 hLog) (ix3 h a b) : EReal)
      * (broadcastInDim S4x128x128 ![0, 1, 2] bcast_S1x128x128_S4x128x128_0_1_2 (broadcastInDim S1x128x128 ![1, 2] bcast_S128x128_S1x128x128_1_2
        (maximumf (F := Ideal) (φ := .f32) hDiff (broadcastInDim S128x128 ![] bcast_S_S128x128 (constant S_ .f32 0x00000000#32)))) (ix3 h a b) : EReal)))
    (Ideal.ofBits .f32 0x00000000#32) = _
  rw [b_heads, b_head, b_each, b_lead, hLog_at, maximumf_apply, hDiff_at, broadcastInDim_scalar_apply]
  show Scalar.select (Ideal.cmp .oge (((a.val : ℝ) : EReal) - ((b.val : ℝ) : EReal)) (Ideal.ofBits .f32 0x00000000#32))
    (Ideal.exp (((logG h : ℝ) : EReal) * max (((a.val : ℝ) : EReal) - ((b.val : ℝ) : EReal)) (Ideal.ofBits .f32 0x00000000#32)))
    (Ideal.ofBits .f32 0x00000000#32) = _
  rw [c0]
  exact dec_at _ _ _

theorem hZeta_at (h : Fin 4) (a b : Fin 128) : hZeta (ix3 h a b) = ((Real.exp (logG h * (127 - (a.val : ℝ))) : ℝ) : EReal) := by
  unfold hZeta
  rw [b_lanes, b_last]
  show Ideal.exp ((broadcastInDim S4x128 ![0, 1] bcast_S4x1_S4x128_0_1 (broadcastInDim S4x1 ![0] bcast_S4_S4x1_0 hLog) (ix2 h a) : EReal)
      * (broadcastInDim S4x128 ![0, 1] bcast_S1x128_S4x128_0_1 (broadcastInDim S1x128 ![1] bcast_S128_S1x128_1
        (subf (F := Ideal) (φ := .f32) (broadcastInDim S128 ![] bcast_S_S128 (constant S_ .f32 0x42FE0000#32)) hIx)) (ix2 h a) : EReal)) = _
  rw [b_col (by decide), b_tall (by decide), b_row (by decide), b_flat (by decide), subf_apply, hLog_at, hIx_at, broadcastInDim_scalar_apply]
  show Ideal.exp (((logG h : ℝ) : EReal) * ((Ideal.ofBits .f32 0x42FE0000#32 : EReal) - ((a.val : ℝ) : EReal))) = _
  rw [c127, ← EReal.coe_sub, ← EReal.coe_mul]
  rfl

theorem hXi_at (h : Fin 4) (a b : Fin 128) : hXi (ix3 h a b) = ((Real.exp (logG h * ((a.val : ℝ) + 1)) : ℝ) : EReal) := by
  unfold hXi
  rw [b_lanes, b_last]
  show Ideal.exp ((broadcastInDim S4x128 ![0, 1] bcast_S4x1_S4x128_0_1 (broadcastInDim S4x1 ![0] bcast_S4_S4x1_0 hLog) (ix2 h a) : EReal)
      * (broadcastInDim S4x128 ![0, 1] bcast_S1x128_S4x128_0_1 (broadcastInDim S1x128 ![1] bcast_S128_S1x128_1
        (addf (F := Ideal) (φ := .f32) hIx (broadcastInDim S128 ![] bcast_S_S128 (constant S_ .f32 0x3F800000#32)))) (ix2 h a) : EReal)) = _
  rw [b_col (by decide), b_tall (by decide), b_row (by decide), b_flat (by decide), addf_apply, hLog_at, hIx_at, broadcastInDim_scalar_apply]
  show Ideal.exp (((logG h : ℝ) : EReal) * (((a.val : ℝ) : EReal) + (Ideal.ofBits .f32 0x3F800000#32 : EReal))) = _
  rw [c1, ← EReal.coe_add, ← EReal.coe_mul]
  rfl

theorem hG_at (h : Fin 4) (a : Fin 8) (b : Fin 128) : hG (ix3 h a b) = ((Real.exp (logG h * 128) : ℝ) : EReal) := by
  unfold hG
  rw [b_heads, b_head]
  show Ideal.exp ((hLog (ix1 h) : EReal) * (broadcastInDim S4 ![] bcast_S_S4 (constant (F := Ideal) S_ .f32 0x43000000#32) (ix1 h) : EReal)) = _
  rw [hLog_at, broadcastInDim_scalar_apply]
  show Ideal.exp (((logG h : ℝ) : EReal) * (Ideal.ofBits .f32 0x43000000#32 : EReal)) = _
  rw [c128, ← EReal.coe_mul]
  rfl

/-! ## The padded rows -/

/-- An array of reals. -/
def real2 {n k : ℕ} (X : Fin n → Fin k → ℝ) : (⟨2, ![n, k]⟩ : Shape).Idx → EReal := fun j => ((X (j 0) (j 1) : ℝ) : EReal)

theorem zeroI_at (j : S_.Idx) : zeroI j = ((0 : ℝ) : EReal) := by
  show (((0#32 : BitVec 32).toInt : ℝ) : EReal) = _
  rw [show (0#32 : BitVec 32).toInt = 0 from rfl, Int.cast_zero]

theorem pad_rows {k : ℕ} (X : Fin 8208 → Fin k → ℝ) (h : (⟨2, ![8208, k]⟩ : Shape).Pads ![48, 0] ![64, 0] ![0, 0] ⟨2, ![8320, k]⟩) (t : Fin 8320) (r : Fin k) :
    pad ⟨2, ![8320, k]⟩ ![48, 0] ![64, 0] ![0, 0] (real2 X) zeroI h h_S_ (ix2 t r) = ((padRow (fun p => X p r) t.val : ℝ) : EReal) := by
  by_cases ht : 48 ≤ t.val ∧ t.val - 48 < 8208
  · rw [pad_apply_of_inside _ _ _ _ _ _ _ (ix2 t r) (ix2 ⟨t.val - 48, ht.2⟩ r) (fun b => match b with
      | ⟨0, _⟩ => by show t.val = 48 + (t.val - 48) * (0 + 1); omega
      | ⟨1, _⟩ => by show r.val = 0 + r.val * (0 + 1); omega)]
    unfold padRow
    rw [dif_pos ht]
    rfl
  · rw [pad_apply_of_not_inside _ _ _ _ _ _ _ (ix2 t r) 0 (by
      show ¬(48 ≤ t.val ∧ (t.val - 48) % (0 + 1) = 0 ∧ (t.val - 48) / (0 + 1) < 8208)
      omega), zeroI_at]
    unfold padRow
    rw [dif_neg ht]

theorem hCot_at (Y : Fin 8208 → Fin 512 → ℝ) (t : Fin 8320) (r : Fin 512) : hCot (real2 Y) (ix2 t r) = ((padRow (fun p => Y p r) t.val : ℝ) : EReal) :=
  pad_rows Y _ t r

theorem hRows_at (X : Fin 8208 → Fin 3600 → ℝ) (t : Fin 8320) (r : Fin 3600) : hRows (real2 X) (ix2 t r) = ((padRow (fun p => X p r) t.val : ℝ) : EReal) :=
  pad_rows X _ t r

/-- The columns the kernels read are the first of the first piece. -/
theorem hCols_at (x : S8320x3600.Idx → EReal) (t : Fin 8320) (s : Fin 3840) (r : Fin 3600) (hs : s.val < 1536) (hr : r.val = s.val) :
    hCols x (ix2 t s) = x (ix2 t r) := by
  unfold hCols
  rw [concatenate_apply_piece (t := S8320x3840) 1 _ _ (ix2 t s) 0 (by exact Nat.zero_lt_succ _) S8320x2048
    (extractStridedSlice S8320x2048 ![0, 0] x slices_S8320x3600_S8320x2048_0_0) rfl rfl 0 rfl (ix2 t ⟨s.val, by omega⟩)
    (fun b hb => match b with
      | ⟨0, _⟩ => rfl
      | ⟨1, _⟩ => absurd rfl hb) (by show 0 + s.val = s.val; omega)]
  exact extractStridedSlice_apply _ _ _ _ (ix2 t r) fun b => match b with
    | ⟨0, _⟩ => by show t.val = 0 + t.val; omega
    | ⟨1, _⟩ => by show r.val = 0 + s.val; omega

end Cert.Ret

end
-- ==== Proof.KerRun.lean ====
/- The arrays the two kernels leave, where the arguments are real. -/
module

public import proofs.«01_k».proof.Proof.KerBlocks
public import proofs.«01_k».proof.Proof.KerTables
public import proofs.«01_k».proof.Proof.Run

@[expose] public section

set_option maxRecDepth 8192

noncomputable section

namespace Cert.Ret

open Idealize.ShloMosaic hiding ix1 ix2 ix3 ix4 eq_ix2 eq_ix3
open Idealize.ShloMosaic.ValueIdx Idealize.ShloMosaic.TcCoe
open Idealize.SL Idealize.SL.Sem
open Cert.KernelIdeal Cert.KernelIdeal.Gen
open Idealize.ShloMosaic.Pipeline (Dat)
open Data

variable (m : (ℓ : Loc nD τ sig) → Buf (Elt Ideal) ℓ) (c : Dev nD)
variable (X : Fin 8208 → Fin 3600 → ℝ) (Y : Fin 8208 → Fin 512 → ℝ)

theorem points (t : Fin cfg0.N) : t.val < 13 := t.isLt
theorem points' (t : Fin cfg1.N) : t.val < 13 := t.isLt

/-! ## The operands, as the regions find them -/

theorem rowOf_lt {t : ℕ} (ht : t < 13) (y : Fin 640) : 640 * t + y.val < 8320 := by omega
theorem colOf_lt (i : Fin 3) (r : Fin 512) : 512 * i.val + r.val < 3840 := by omega
theorem colAt_val (i : Fin 3) (r : Fin 512) : (colAt i (headOf r) (inOf r)).val = 512 * i.val + r.val := by
  show 512 * i.val + (128 * (r.val / 128) + r.val % 128) = _
  omega
theorem colOf_val (r : Fin 512) : colOf (headOf r) (inOf r) = r := by
  refine Fin.ext ?_
  show 128 * (r.val / 128) + r.val % 128 = _
  omega

theorem cols_at (hX : m ((c.tc : Thread nD τ).loc main_arg0) = real2 X) (i : Fin 3) (t : Fin 8320) (r : Fin 512) :
    V7 m c main_v6 (ix2 t ⟨512 * i.val + r.val, colOf_lt i r⟩) = ((padRow (fun p => X p (colAt i (headOf r) (inOf r))) t.val : ℝ) : EReal) := by
  have hi := i.isLt
  have hr := r.isLt
  rw [V7_cols, hX, hCols_at _ t _ (colAt i (headOf r) (inOf r)) (by show 512 * i.val + r.val < 1536; omega) (colAt_val i r), hRows_at]

theorem cot_at (hY : m ((c.tc : Thread nD τ).loc main_arg1) = real2 Y) (t : Fin 8320) (r : Fin 512) :
    V7 m c main_v7 (ix2 t r) = ((padRow (fun p => Y p (colOf (headOf r) (inOf r))) t.val : ℝ) : EReal) := by
  rw [V7_cot, hY, hCot_at, colOf_val]

theorem decay_at (y : S4x128x128.Idx) : V7 m c main_v51 y = stAt (args X Y).decay y := by
  rw [V7_decay, eq_ix3 y]; exact hDecay_at _ _ _
theorem zeta_at (y : S4x128x128.Idx) : V7 m c main_v72 y = stAt (args X Y).zeta y := by
  rw [V7_zeta, eq_ix3 y]; exact hZeta_at _ _ _
theorem xi_at (y : S4x128x128.Idx) : V7 m c main_v74 y = stAt (args X Y).xi y := by
  rw [V7_xi, eq_ix3 y]; exact hXi_at _ _ _
theorem g_at (y : S4x8x128.Idx) : V7 m c main_v76 y = (args X Y).gAt y := by
  rw [V7_g, eq_ix3 y]; exact hG_at _ _ _

theorem W8_kept (r : Ref sig .tc) (h0 : r ≠ main_v77_0) (h1 : r ≠ main_v77_1) : W8 m c r = V7 m c r :=
  W8_of m c _ (StableHlo.devRef_ne_of_ne h0) (StableHlo.devRef_ne_of_ne h1)

/-! ## The arrays the regions leave -/

/-- The rows the forward kernel leaves. -/
def outArr : S8320x512.Idx → EReal := fun j => (((args X Y).out (headOf (j 1)) (j 0).val (inOf (j 1)) : ℝ) : EReal)
/-- The states the forward kernel leaves. -/
def savedArr : S4x65x128x128.Idx → EReal := fun j => (((args X Y).bef (j 1).val (j 0) (j 2) (j 3) : ℝ) : EReal)
/-- The gradient the backward kernel leaves. -/
def gradArr : S8320x1536.Idx → EReal := fun j => (((args X Y).grad (j 0).val (j 1) : ℝ) : EReal)

theorem outArr_block (t : ℕ) (y : S640x512.Idx) (j : S8320x512.Idx) (h0 : (j 0).val = 640 * t + (y 0).val) (h1 : (j 1).val = (y 1).val) :
    rowsAt (args X Y).out t y = outArr X Y j := by
  have e : j 1 = y 1 := Fin.ext h1
  show (((args X Y).out (headOf (y 1)) (640 * t + (y 0).val) (inOf (y 1)) : ℝ) : EReal) = (((args X Y).out (headOf (j 1)) (j 0).val (inOf (j 1)) : ℝ) : EReal)
  rw [h0, e]
  rfl

theorem savedArr_block (t : ℕ) (y : S4x5x128x128.Idx) (j : S4x65x128x128.Idx) (h0 : (j 0).val = (y 0).val) (h1 : (j 1).val = 5 * t + (y 1).val)
    (h2 : (j 2).val = (y 2).val) (h3 : (j 3).val = (y 3).val) :
    (args X Y).savedAt t y = savedArr X Y j := by
  have e0 : j 0 = y 0 := Fin.ext h0
  have e2 : j 2 = y 2 := Fin.ext h2
  have e3 : j 3 = y 3 := Fin.ext h3
  show (((args X Y).bef (5 * t + (y 1).val) (y 0) (y 2) (y 3) : ℝ) : EReal) = (((args X Y).bef (j 1).val (j 0) (j 2) (j 3) : ℝ) : EReal)
  rw [h1, e0, e2, e3]

theorem gradArr_block (t : ℕ) (y : S640x1536.Idx) (j : S8320x1536.Idx) (h0 : (j 0).val = 640 * t + (y 0).val) (h1 : (j 1).val = (y 1).val) :
    (((args X Y).grad (640 * t + (y 0).val) (y 1) : ℝ) : EReal) = gradArr X Y j := by
  have e : j 1 = y 1 := Fin.ext h1
  show _ = (((args X Y).grad (j 0).val (j 1) : ℝ) : EReal)
  rw [h0, e]

/-! ## The forward region -/

section

variable (hX : m ((c.tc : Thread nD τ).loc main_arg0) = real2 X)
include hX

theorem fwd_blocks (t : Fin cfg0.N) : fwdAt (V7 m) c t = (args X Y).fwd t.val := by
  have e0 : fwdIn0 (V7 m) c t = rowsAt (args X Y).q t.val := funext fun y =>
    (fwd_read0 (V7 m) c t y (ix2 ⟨640 * t.val + (y 0).val, rowOf_lt (points t) (y 0)⟩ ⟨512 * (0 : Fin 3).val + (y 1).val, colOf_lt 0 (y 1)⟩)
      rfl (by show 512 * 0 + (y 1).val = (y 1).val; omega)).trans (cols_at m c X hX 0 _ (y 1))
  have e1 : fwdIn1 (V7 m) c t = rowsAt (args X Y).k t.val := funext fun y =>
    (fwd_read1 (V7 m) c t y (ix2 ⟨640 * t.val + (y 0).val, rowOf_lt (points t) (y 0)⟩ ⟨512 * (1 : Fin 3).val + (y 1).val, colOf_lt 1 (y 1)⟩)
      rfl rfl).trans (cols_at m c X hX 1 _ (y 1))
  have e2 : fwdIn2 (V7 m) c t = rowsAt (args X Y).v t.val := funext fun y =>
    (fwd_read2 (V7 m) c t y (ix2 ⟨640 * t.val + (y 0).val, rowOf_lt (points t) (y 0)⟩ ⟨512 * (2 : Fin 3).val + (y 1).val, colOf_lt 2 (y 1)⟩)
      rfl rfl).trans (cols_at m c X hX 2 _ (y 1))
  have e3 : fwdBlk (V7 m) c 3 t = tabAt (args X Y).C t.val := funext fun y =>
    (fwd_read3 (V7 m) c t y (ix2 ⟨640 * t.val + (y 0).val, rowOf_lt (points t) (y 0)⟩ (y 1)) rfl rfl).trans
      (by rw [V7_cos]; exact hCos_at _ _)
  have e4 : fwdBlk (V7 m) c 4 t = tabAt (args X Y).S t.val := funext fun y =>
    (fwd_read4 (V7 m) c t y (ix2 ⟨640 * t.val + (y 0).val, rowOf_lt (points t) (y 0)⟩ (y 1)) rfl rfl).trans
      (by rw [V7_sin]; exact hSin_at _ _)
  have e5 : fwdBlk (V7 m) c 5 t = stAt (args X Y).decay := funext fun y => (fwd_read5 (V7 m) c t y).trans (decay_at m c X Y y)
  have e6 : fwdBlk (V7 m) c 6 t = stAt (args X Y).zeta := funext fun y => (fwd_read6 (V7 m) c t y).trans (zeta_at m c X Y y)
  have e7 : fwdBlk (V7 m) c 7 t = stAt (args X Y).xi := funext fun y => (fwd_read7 (V7 m) c t y).trans (xi_at m c X Y y)
  have e8 : fwdBlk (V7 m) c 8 t = (args X Y).gAt := funext fun y => (fwd_read8 (V7 m) c t y).trans (g_at m c X Y y)
  unfold fwdAt
  rw [e0, e1, e2, e3, e4, e5, e6, e7, e8]
  rfl

theorem fwd_state : ∀ n : ℕ, n ≤ 13 → fwdSt (V7 m) c n = stAt ((args X Y).bef (5 * n))
  | 0, _ => by
    funext y
    show Ideal.ofBits .f32 0x00000000#32 = ((before _ _ _ 0 (y 1) (y 2) : ℝ) : EReal)
    rw [c0]
    exact congrArg (fun r : ℝ => (r : EReal)) (before_zero _ _ _ _ _).symm
  | n + 1, hn => by
    have ht : n < cfg0.N := hn
    have h := fwdSt_succ (V7 m) c ⟨n, ht⟩
    rw [show (⟨n, ht⟩ : Fin cfg0.N).val = n from rfl, fwd_blocks m c X Y hX, fwd_state n (by omega)] at h
    rw [h]
    exact fwd_at (args X Y) n 5 (le_refl 5)

theorem fwd_rows : (fwdDat (V7 m) c).arrAt 9 cfg0.N = outArr X Y := by
  refine (fwdDat (V7 m) c).arrAt_eq_of_covers 9 _ (by decide +kernel) fun t hf y => ?_
  blk_simp
  rw [fwd_after9, fwd_blocks m c X Y hX, fwd_state m c X Y hX t.val (Nat.le_of_lt (points t)), fwd_outO _ _ (points t)]
  have e := fwd_idx9 t
  refine outArr_block X Y t.val y _ ?_ ?_
  · (blk_simp [e]) <;> omega
  · (blk_simp [e]) <;> omega

theorem fwd_saved : (fwdDat (V7 m) c).arrAt 10 cfg0.N = savedArr X Y := by
  refine (fwdDat (V7 m) c).arrAt_eq_of_covers 10 _ (by decide +kernel) fun t hf y => ?_
  blk_simp
  rw [fwd_after10, fwd_blocks m c X Y hX, fwd_state m c X Y hX t.val (Nat.le_of_lt (points t)), fwd_outW]
  have e := fwd_idx10 t
  refine savedArr_block X Y t.val y _ ?_ ?_ ?_ ?_
  · (blk_simp [e]) <;> omega
  · (blk_simp [e]) <;> omega
  · (blk_simp [e]) <;> omega
  · (blk_simp [e]) <;> omega

/-! ## The backward region -/

variable (hY : m ((c.tc : Thread nD τ).loc main_arg1) = real2 Y)
include hY

theorem bwd_blocks (t : Fin cfg1.N) : bwdAt (W8 m) c t = (args X Y).bwd (12 - t.val) := by
  have ht : 12 - t.val < 13 := by omega
  have e0 : bwdIn0 (W8 m) c t = rowsAt (args X Y).q (12 - t.val) := funext fun y =>
    (bwd_read0 (W8 m) c t y (ix2 ⟨640 * (12 - t.val) + (y 0).val, rowOf_lt ht (y 0)⟩ ⟨512 * (0 : Fin 3).val + (y 1).val, colOf_lt 0 (y 1)⟩)
      rfl (by show 512 * 0 + (y 1).val = (y 1).val; omega)).trans (by rw [W8_kept m c main_v6 (by decide) (by decide)]; exact cols_at m c X hX 0 _ (y 1))
  have e1 : bwdIn1 (W8 m) c t = rowsAt (args X Y).k (12 - t.val) := funext fun y =>
    (bwd_read1 (W8 m) c t y (ix2 ⟨640 * (12 - t.val) + (y 0).val, rowOf_lt ht (y 0)⟩ ⟨512 * (1 : Fin 3).val + (y 1).val, colOf_lt 1 (y 1)⟩)
      rfl rfl).trans (by rw [W8_kept m c main_v6 (by decide) (by decide)]; exact cols_at m c X hX 1 _ (y 1))
  have e2 : bwdIn2 (W8 m) c t = rowsAt (args X Y).v (12 - t.val) := funext fun y =>
    (bwd_read2 (W8 m) c t y (ix2 ⟨640 * (12 - t.val) + (y 0).val, rowOf_lt ht (y 0)⟩ ⟨512 * (2 : Fin 3).val + (y 1).val, colOf_lt 2 (y 1)⟩)
      rfl rfl).trans (by rw [W8_kept m c main_v6 (by decide) (by decide)]; exact cols_at m c X hX 2 _ (y 1))
  have e3 : bwdBlk (W8 m) c 3 t = rowsAt (args X Y).o (12 - t.val) := funext fun y =>
    (bwd_read3 (W8 m) c t y (ix2 ⟨640 * (12 - t.val) + (y 0).val, rowOf_lt ht (y 0)⟩ (y 1)) rfl rfl).trans
      (by rw [W8_kept m c main_v7 (by decide) (by decide)]; exact cot_at m c Y hY _ (y 1))
  have e4 : bwdBlk (W8 m) c 4 t = (args X Y).savedAt (12 - t.val) := funext fun y =>
    (bwd_read4 (W8 m) c t y (ix4 (y 0) ⟨5 * (12 - t.val) + (y 1).val, by have := (y 1).isLt; have h : (y 1).val < 5 := this; omega⟩ (y 2) (y 3)) rfl rfl rfl rfl).trans
      (by rw [W8_w, fwd_saved m c X Y hX]; exact (savedArr_block X Y _ y _ rfl rfl rfl rfl).symm)
  have e5 : bwdBlk (W8 m) c 5 t = tabAt (args X Y).C (12 - t.val) := funext fun y =>
    (bwd_read5 (W8 m) c t y (ix2 ⟨640 * (12 - t.val) + (y 0).val, rowOf_lt ht (y 0)⟩ (y 1)) rfl rfl).trans
      (by rw [W8_kept m c main_v24 (by decide) (by decide), V7_cos]; exact hCos_at _ _)
  have e6 : bwdBlk (W8 m) c 6 t = tabAt (args X Y).S (12 - t.val) := funext fun y =>
    (bwd_read6 (W8 m) c t y (ix2 ⟨640 * (12 - t.val) + (y 0).val, rowOf_lt ht (y 0)⟩ (y 1)) rfl rfl).trans
      (by rw [W8_kept m c main_v26 (by decide) (by decide), V7_sin]; exact hSin_at _ _)
  have e7 : bwdBlk (W8 m) c 7 t = stAt (args X Y).decay := funext fun y => (bwd_read7 (W8 m) c t y).trans
    (by rw [W8_kept m c main_v51 (by decide) (by decide)]; exact decay_at m c X Y y)
  have e8 : bwdBlk (W8 m) c 8 t = stAt (args X Y).zeta := funext fun y => (bwd_read8 (W8 m) c t y).trans
    (by rw [W8_kept m c main_v72 (by decide) (by decide)]; exact zeta_at m c X Y y)
  have e9 : bwdBlk (W8 m) c 9 t = stAt (args X Y).xi := funext fun y => (bwd_read9 (W8 m) c t y).trans
    (by rw [W8_kept m c main_v74 (by decide) (by decide)]; exact xi_at m c X Y y)
  have e10 : bwdBlk (W8 m) c 10 t = (args X Y).gAt := funext fun y => (bwd_read10 (W8 m) c t y).trans
    (by rw [W8_kept m c main_v76 (by decide) (by decide)]; exact g_at m c X Y y)
  unfold bwdAt
  rw [e0, e1, e2, e3, e4, e5, e6, e7, e8, e9, e10]
  rfl

theorem bwd_state : ∀ n : ℕ, n < 13 → bwdSt (W8 m) c n = stAt ((args X Y).beh (5 * (12 - n) + 4))
  | 0, _ => by
    funext y
    show Ideal.ofBits .f32 0x00000000#32 = ((behind _ _ _ (128 * (64 + 1)) 64 (y 1) (y 2) : ℝ) : EReal)
    rw [c0]
    exact congrArg (fun r : ℝ => (r : EReal)) (behind_last _ _ _ _ _ _).symm
  | n + 1, hn => by
    have ht : n < cfg1.N := show n < 13 by omega
    have h := bwdSt_succ (W8 m) c ⟨n, ht⟩
    rw [show (⟨n, ht⟩ : Fin cfg1.N).val = n from rfl, bwd_blocks m c X Y hX hY, bwd_state n (by omega)] at h
    rw [h]
    refine (bwd_at (args X Y) (12 - n) 5 (by omega) (le_refl 5) (by omega)).trans ?_
    rw [show 5 * (12 - n) + 4 - 5 = 5 * (12 - (n + 1)) + 4 by omega]

theorem bwd_rows : (bwdDat (W8 m) c).arrAt 11 cfg1.N = gradArr X Y := by
  refine (bwdDat (W8 m) c).arrAt_eq_of_covers 11 _ (by decide +kernel) fun t hf y => ?_
  blk_simp
  rw [bwd_after11, bwd_blocks m c X Y hX hY, bwd_state m c X Y hX hY t.val (points' t), bwd_out _ _ (by omega)]
  have e := bwd_idx11 t
  refine gradArr_block X Y (12 - t.val) y _ ?_ ?_
  · (blk_simp [e]) <;> omega
  · (blk_simp [e]) <;> omega

end

end Cert.Ret

end
-- ==== Proof.RefTables.lean ====
/- The reference's tables and turned rows, read at a token, a head and a column, where the arguments are real. -/
module

public import proofs.«01_k».proof.Proof.Args
public import proofs.«01_k».proof.Proof.Gen.ReferenceIdeal.Read

@[expose] public section

noncomputable section

namespace Cert.Ret.Ref

open Idealize.ShloMosaic Idealize.ShloMosaic.ValueIdx Cert.ReferenceIdeal Cert.ReferenceIdeal.Gen Cert.ReferenceIdeal.Read

/-- An array of reals as an argument. -/
def lift {n k : ℕ} (X : Fin n → Fin k → ℝ) : (⟨2, ![n, k]⟩ : Shape).Idx → EReal := fun j => ((X (j 0) (j 1) : ℝ) : EReal)

variable (X : Fin 8208 → Fin 3600 → ℝ) (Y : Fin 8208 → Fin 512 → ℝ)

theorem ext1 {n0 : ℕ} (i : (⟨1, ![n0]⟩ : Shape).Idx) (a : Fin n0) (h0 : (i 0).val = a.val) : i = ix1 a :=
  funext fun b => by match b with
    | ⟨0, _⟩ => exact Fin.ext h0
theorem ext2 {n0 n1 : ℕ} (i : (⟨2, ![n0, n1]⟩ : Shape).Idx) (a : Fin n0) (b : Fin n1) (h0 : (i 0).val = a.val) (h1 : (i 1).val = b.val) :
    i = ix2 a b :=
  funext fun c => by match c with
    | ⟨0, _⟩ => exact Fin.ext h0
    | ⟨1, _⟩ => exact Fin.ext h1
theorem ext3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => by match d with
    | ⟨0, _⟩ => exact Fin.ext h0
    | ⟨1, _⟩ => exact Fin.ext h1
    | ⟨2, _⟩ => exact Fin.ext h2

/-! ## The tables -/

theorem pos_at (i : S8208.Idx) (p : Fin 8208) (h : (i 0).val = p.val) : val_main_v0 (F := Ideal) i = ((p.val : ℝ) : EReal) := by
  unfold val_main_v0
  rw [iota_coe 0 i (by rw [h]; have := p.isLt; omega), h]

theorem logG_ref (i : S4.Idx) (h : Fin 4) (e : (i 0).val = h.val) : val_main_v72 (F := Ideal) i = ((logG h : ℝ) : EReal) := by
  have e5 : val_main_v65 (F := Ideal) i = ((h.val : ℝ) : EReal) := by
    unfold val_main_v65
    rw [iota_coe 0 i (by rw [e]; have := h.isLt; omega), e]
  rw [val_main_v72_apply, val_main_v71_apply, val_main_v70_apply, val_main_cst_6_apply, val_main_v69_apply, val_main_v68_apply,
    val_main_cst_5_apply, val_main_v67_apply, val_main_v66_apply, val_main_cst_4_apply, e5]
  show Ideal.log ((Ideal.ofBits .f32 0x3F800000#32 : EReal) - Ideal.pow (Ideal.ofBits .f32 0x40000000#32) ((Ideal.ofBits .f32 0xC0A00000#32 : EReal) - ((h.val : ℝ) : EReal))) = _
  rw [c1, c2, cm5]
  exact logG_at h

theorem diff_ref (i : S8208x8208.Idx) (p s : Fin 8208) (h0 : (i 0).val = p.val) (h1 : (i 1).val = s.val) :
    val_main_v77 (F := Ideal) i = ((p.val : ℝ) : EReal) - ((s.val : ℝ) : EReal) := by
  rw [val_main_v77_apply, val_main_v75_apply, val_main_v76_apply, val_main_v73_apply, val_main_v74_apply, pos_at _ p h0, pos_at _ s h1]
  rfl

theorem dec_ref (i : S4x8208x8208.Idx) (h : Fin 4) (p s : Fin 8208) (h0 : (i 0).val = h.val) (h1 : (i 1).val = p.val) (h2 : (i 2).val = s.val) :
    val_main_v88 (F := Ideal) i = ((dec (logG h) (48 + p.val) (48 + s.val) : ℝ) : EReal) := by
  rw [val_main_v88_apply, val_main_call0_v1_apply, val_main_v79_apply, diff_ref _ p s h1 h2, val_main_v78_apply, val_main_cst_7_apply,
    val_main_v87_apply, val_main_v86_apply, val_main_v84_apply, val_main_v80_apply, logG_ref _ h h0, val_main_v85_apply, val_main_v83_apply,
    val_main_v82_apply, diff_ref _ p s h1 h2, val_main_v81_apply, val_main_cst_8_apply, val_main_call0_v2_apply]
  show Scalar.select (Ideal.cmp .oge (((p.val : ℝ) : EReal) - ((s.val : ℝ) : EReal)) (Ideal.ofBits .f32 0x00000000#32))
    (Ideal.exp (((logG h : ℝ) : EReal) * max (((p.val : ℝ) : EReal) - ((s.val : ℝ) : EReal)) (Ideal.ofBits .f32 0x00000000#32)))
    (val_main_call0_v0 (F := Ideal) (idx_main_call0_v2 i)) = _
  have ez : ∀ j, val_main_call0_v0 (F := Ideal) j = Ideal.ofBits .f32 0x00000000#32 := fun _ => rfl
  rw [ez, c0, dec_at, dec_shift]

/-! ## The arguments by head -/

theorem q_ref (i : S8208x4x128.Idx) (p : Fin 8208) (h : Fin 4) (d : Fin 128) (h0 : (i 0).val = p.val) (h1 : (i 1).val = h.val) (h2 : (i 2).val = d.val) :
    val_main_v2 (F := Ideal) (lift X) i = (((args X Y).q h (48 + p.val) d : ℝ) : EReal) := by
  rw [val_main_v2_apply, val_main_v1_apply, ext2 (idx_main_v1 (idx_main_v2 i)) p (colAt 0 h d)
    (by show (((i 0).val * 4 + (i 1).val) * 128 + (i 2).val) / 512 = p.val; omega)
    (by show (((i 0).val * 4 + (i 1).val) * 128 + (i 2).val) % 512 = 512 * 0 + (128 * h.val + d.val); omega)]
  show ((X p (colAt 0 h d) : ℝ) : EReal) = ((padRow (fun p => X p (colAt 0 h d)) (48 + p.val) : ℝ) : EReal)
  rw [padRow_in]

theorem k_ref (i : S8208x4x128.Idx) (p : Fin 8208) (h : Fin 4) (d : Fin 128) (h0 : (i 0).val = p.val) (h1 : (i 1).val = h.val) (h2 : (i 2).val = d.val) :
    val_main_v4 (F := Ideal) (lift X) i = (((args X Y).k h (48 + p.val) d : ℝ) : EReal) := by
  rw [val_main_v4_apply, val_main_v3_apply, ext2 (idx_main_v3 (idx_main_v4 i)) p (colAt 1 h d)
    (by show (((i 0).val * 4 + (i 1).val) * 128 + (i 2).val) / 512 = p.val; omega)
    (by show 512 + (((i 0).val * 4 + (i 1).val) * 128 + (i 2).val) % 512 = 512 * 1 + (128 * h.val + d.val); omega)]
  show ((X p (colAt 1 h d) : ℝ) : EReal) = ((padRow (fun p => X p (colAt 1 h d)) (48 + p.val) : ℝ) : EReal)
  rw [padRow_in]

theorem v_ref (i : S8208x4x128.Idx) (p : Fin 8208) (h : Fin 4) (d : Fin 128) (h0 : (i 0).val = p.val) (h1 : (i 1).val = h.val) (h2 : (i 2).val = d.val) :
    val_main_v6 (F := Ideal) (lift X) i = (((args X Y).v h (48 + p.val) d : ℝ) : EReal) := by
  rw [val_main_v6_apply, val_main_v5_apply, ext2 (idx_main_v5 (idx_main_v6 i)) p (colAt 2 h d)
    (by show (((i 0).val * 4 + (i 1).val) * 128 + (i 2).val) / 512 = p.val; omega)
    (by show 1024 + (((i 0).val * 4 + (i 1).val) * 128 + (i 2).val) % 512 = 512 * 2 + (128 * h.val + d.val); omega)]
  show ((X p (colAt 2 h d) : ℝ) : EReal) = ((padRow (fun p => X p (colAt 2 h d)) (48 + p.val) : ℝ) : EReal)
  rw [padRow_in]

theorem o_ref (i : S8208x4x128.Idx) (p : Fin 8208) (h : Fin 4) (d : Fin 128) (h0 : (i 0).val = p.val) (h1 : (i 1).val = h.val) (h2 : (i 2).val = d.val) :
    val_main_v95 (F := Ideal) (lift Y) i = (((args X Y).o h (48 + p.val) d : ℝ) : EReal) := by
  rw [val_main_v95_apply, ext2 (idx_main_v95 i) p (colOf h d)
    (by show (((i 0).val * 4 + (i 1).val) * 128 + (i 2).val) / 512 = p.val; omega)
    (by show (((i 0).val * 4 + (i 1).val) * 128 + (i 2).val) % 512 = 128 * h.val + d.val; omega)]
  show ((Y p (colOf h d) : ℝ) : EReal) = ((padRow (fun p => Y p (colOf h d)) (48 + p.val) : ℝ) : EReal)
  rw [padRow_in]

/-! ## The angles, and the rows turned by them -/

/-- A column of the low half of a head, and of the high half. -/
def lo (d : Fin 64) : Fin 128 := ⟨d.val, by omega⟩
def hi (d : Fin 64) : Fin 128 := ⟨64 + d.val, by omega⟩

theorem flip_lo (d : Fin 64) : flip (lo d) = hi d := Fin.ext (by show (d.val + 64) % 128 = 64 + d.val; omega)
theorem flip_hi (d : Fin 64) : flip (hi d) = lo d := Fin.ext (by show (64 + d.val + 64) % 128 = d.val; omega)

/-- Every column is one or the other. -/
theorem lo_or_hi (d : Fin 128) : (∃ e, d = lo e) ∨ (∃ e, d = hi e) := by
  by_cases h : d.val < 64
  · exact Or.inl ⟨⟨d.val, h⟩, rfl⟩
  · exact Or.inr ⟨⟨d.val - 64, by omega⟩, Fin.ext (by show d.val = 64 + (d.val - 64); omega)⟩

theorem cos_lo (t : ℕ) (d : Fin 64) : cosT t (lo d) = Real.cos (ang t d.val) := by
  show Real.cos (ang t (d.val % 64)) = _
  rw [Nat.mod_eq_of_lt d.isLt]
theorem cos_hi (t : ℕ) (d : Fin 64) : cosT t (hi d) = Real.cos (ang t d.val) := by
  show Real.cos (ang t ((64 + d.val) % 64)) = _
  rw [show (64 + d.val) % 64 = d.val by omega]
theorem sin_lo (t : ℕ) (d : Fin 64) : sinT t (lo d) = -Real.sin (ang t d.val) := by
  show (if d.val < 64 then -Real.sin (ang t (d.val % 64)) else _) = _
  rw [if_pos d.isLt, Nat.mod_eq_of_lt d.isLt]
theorem sin_hi (t : ℕ) (d : Fin 64) : sinT t (hi d) = Real.sin (ang t d.val) := by
  show (if 64 + d.val < 64 then _ else Real.sin (ang t ((64 + d.val) % 64))) = _
  rw [if_neg (by omega), show (64 + d.val) % 64 = d.val by omega]

theorem ang_tok (p : ℕ) (i : ℕ) : (p : ℝ) * freq i = ang (48 + p) i := by
  unfold ang
  rw [Nat.cast_add, Nat.cast_ofNat, add_sub_cancel_left]

theorem ang_q (i : S8208x64.Idx) (p : Fin 8208) (d : Fin 64) (h0 : (i 0).val = p.val) (h1 : (i 1).val = d.val) :
    val_main_v17 (F := Ideal) i = ((ang (48 + p.val) d.val : ℝ) : EReal) := by
  have ef : ∀ j : S64.Idx, (j 0).val = d.val → val_main_v12 (F := Ideal) j = ((freq d.val : ℝ) : EReal) := fun j hj => by
    have ei : val_main_v7 (F := Ideal) j = ((d.val : ℝ) : EReal) := by
      unfold val_main_v7
      rw [iota_coe 0 j (by rw [hj]; have := d.isLt; omega), hj]
    rw [val_main_v12_apply, val_main_v11_apply, val_main_cst_0_apply, val_main_v10_apply, val_main_v9_apply, val_main_cst_apply, val_main_v8_apply, ei]
    show Ideal.pow (Ideal.ofBits .f32 _) (Ideal.div (-_) (Ideal.ofBits .f32 _)) = _
    rw [c10000, c64]
    exact freq_at d.val
  rw [val_main_v17_apply, val_main_v15_apply, val_main_v13_apply, pos_at _ p h0, val_main_v16_apply, val_main_v14_apply, ef _ h1]
  show ((p.val : ℝ) : EReal) * ((freq d.val : ℝ) : EReal) = _
  rw [← EReal.coe_mul, ang_tok]

theorem cos_q (i : S8208x1x64.Idx) (p : Fin 8208) (d : Fin 64) (h0 : (i 0).val = p.val) (h2 : (i 2).val = d.val) :
    val_main_v19 (F := Ideal) i = ((Real.cos (ang (48 + p.val) d.val) : ℝ) : EReal) := by
  rw [val_main_v19_apply, val_main_v18_apply, ang_q _ p d h0 h2]
  rfl

theorem sin_q (i : S8208x1x64.Idx) (p : Fin 8208) (d : Fin 64) (h0 : (i 0).val = p.val) (h2 : (i 2).val = d.val) :
    val_main_v21 (F := Ideal) i = ((Real.sin (ang (48 + p.val) d.val) : ℝ) : EReal) := by
  rw [val_main_v21_apply, val_main_v20_apply, ang_q _ p d h0 h2]
  rfl

theorem ang_k (i : S8208x64.Idx) (p : Fin 8208) (d : Fin 64) (h0 : (i 0).val = p.val) (h1 : (i 1).val = d.val) :
    val_main_v45 (F := Ideal) i = ((ang (48 + p.val) d.val : ℝ) : EReal) := by
  have ef : ∀ j : S64.Idx, (j 0).val = d.val → val_main_v40 (F := Ideal) j = ((freq d.val : ℝ) : EReal) := fun j hj => by
    have ei : val_main_v35 (F := Ideal) j = ((d.val : ℝ) : EReal) := by
      unfold val_main_v35
      rw [iota_coe 0 j (by rw [hj]; have := d.isLt; omega), hj]
    rw [val_main_v40_apply, val_main_v39_apply, val_main_cst_2_apply, val_main_v38_apply, val_main_v37_apply, val_main_cst_1_apply, val_main_v36_apply, ei]
    show Ideal.pow (Ideal.ofBits .f32 _) (Ideal.div (-_) (Ideal.ofBits .f32 _)) = _
    rw [c10000, c64]
    exact freq_at d.val
  rw [val_main_v45_apply, val_main_v43_apply, val_main_v41_apply, pos_at _ p h0, val_main_v44_apply, val_main_v42_apply, ef _ h1]
  show ((p.val : ℝ) : EReal) * ((freq d.val : ℝ) : EReal) = _
  rw [← EReal.coe_mul, ang_tok]

theorem cos_k (i : S8208x1x64.Idx) (p : Fin 8208) (d : Fin 64) (h0 : (i 0).val = p.val) (h2 : (i 2).val = d.val) :
    val_main_v47 (F := Ideal) i = ((Real.cos (ang (48 + p.val) d.val) : ℝ) : EReal) := by
  rw [val_main_v47_apply, val_main_v46_apply, ang_k _ p d h0 h2]
  rfl

theorem sin_k (i : S8208x1x64.Idx) (p : Fin 8208) (d : Fin 64) (h0 : (i 0).val = p.val) (h2 : (i 2).val = d.val) :
    val_main_v49 (F := Ideal) i = ((Real.sin (ang (48 + p.val) d.val) : ℝ) : EReal) := by
  rw [val_main_v49_apply, val_main_v48_apply, ang_k _ p d h0 h2]
  rfl

theorem q_low (i : S8208x4x64.Idx) (p : Fin 8208) (h : Fin 4) (d : Fin 64) (h0 : (i 0).val = p.val) (h1 : (i 1).val = h.val) (h2 : (i 2).val = d.val) :
    val_main_v28 (F := Ideal) (lift X) i = (((args X Y).q h (48 + p.val) (lo d) * cosT (48 + p.val) (lo d)
      + (args X Y).q h (48 + p.val) (flip (lo d)) * sinT (48 + p.val) (lo d) : ℝ) : EReal) := by
  rw [val_main_v28_apply, val_main_v25_apply, val_main_v27_apply, val_main_v22_apply, val_main_v23_apply, val_main_v24_apply, val_main_v26_apply, q_ref X Y _ p h (lo d) h0 h1 h2,
    q_ref X Y _ p h (hi d) h0 h1 (congrArg (64 + ·) h2), cos_q _ p d h0 h2, sin_q _ p d h0 h2, flip_lo, cos_lo, sin_lo, mul_neg, ← sub_eq_add_neg]
  rfl

theorem q_high (i : S8208x4x64.Idx) (p : Fin 8208) (h : Fin 4) (d : Fin 64) (h0 : (i 0).val = p.val) (h1 : (i 1).val = h.val) (h2 : (i 2).val = d.val) :
    val_main_v33 (F := Ideal) (lift X) i = (((args X Y).q h (48 + p.val) (hi d) * cosT (48 + p.val) (hi d)
      + (args X Y).q h (48 + p.val) (flip (hi d)) * sinT (48 + p.val) (hi d) : ℝ) : EReal) := by
  rw [val_main_v33_apply, val_main_v30_apply, val_main_v32_apply, val_main_v22_apply, val_main_v23_apply, val_main_v31_apply, val_main_v29_apply, q_ref X Y _ p h (lo d) h0 h1 h2,
    q_ref X Y _ p h (hi d) h0 h1 (congrArg (64 + ·) h2), cos_q _ p d h0 h2, sin_q _ p d h0 h2, flip_hi, cos_hi, sin_hi, add_comm (_ * Real.cos _)]
  rfl

theorem q_turned (i : S8208x4x128.Idx) (p : Fin 8208) (h : Fin 4) (d : Fin 128) (h0 : (i 0).val = p.val) (h1 : (i 1).val = h.val) (h2 : (i 2).val = d.val) :
    val_main_v34 (F := Ideal) (lift X) i = (((args X Y).q h (48 + p.val) d * cosT (48 + p.val) d
      + (args X Y).q h (48 + p.val) (flip d) * sinT (48 + p.val) d : ℝ) : EReal) := by
  unfold val_main_v34
  rcases lo_or_hi d with ⟨e, rfl⟩ | ⟨e, rfl⟩
  · rw [concatenate_pair_apply_left 2 (val_main_v28 (F := Ideal) (lift X)) (val_main_v33 (F := Ideal) (lift X)) _ i rfl (ix3 p h e) (fun b => match b with
      | ⟨0, _⟩ => h0.symm
      | ⟨1, _⟩ => h1.symm
      | ⟨2, _⟩ => h2.symm)]
    exact q_low X Y _ p h e rfl rfl rfl
  · rw [concatenate_pair_apply_right 2 (val_main_v28 (F := Ideal) (lift X)) (val_main_v33 (F := Ideal) (lift X)) _ i rfl rfl (ix3 p h e) (fun b hb => match b with
      | ⟨0, _⟩ => h0.symm
      | ⟨1, _⟩ => h1.symm
      | ⟨2, _⟩ => absurd rfl hb) (by show e.val + 64 = (i 2).val; rw [h2]; exact Nat.add_comm _ _)]
    exact q_high X Y _ p h e rfl rfl rfl

theorem k_low (i : S8208x4x64.Idx) (p : Fin 8208) (h : Fin 4) (d : Fin 64) (h0 : (i 0).val = p.val) (h1 : (i 1).val = h.val) (h2 : (i 2).val = d.val) :
    val_main_v56 (F := Ideal) (lift X) i = (((args X Y).k h (48 + p.val) (lo d) * cosT (48 + p.val) (lo d)
      + (args X Y).k h (48 + p.val) (flip (lo d)) * sinT (48 + p.val) (lo d) : ℝ) : EReal) := by
  rw [val_main_v56_apply, val_main_v53_apply, val_main_v55_apply, val_main_v50_apply, val_main_v51_apply, val_main_v52_apply, val_main_v54_apply, k_ref X Y _ p h (lo d) h0 h1 h2,
    k_ref X Y _ p h (hi d) h0 h1 (congrArg (64 + ·) h2), cos_k _ p d h0 h2, sin_k _ p d h0 h2, flip_lo, cos_lo, sin_lo, mul_neg, ← sub_eq_add_neg]
  rfl

theorem k_high (i : S8208x4x64.Idx) (p : Fin 8208) (h : Fin 4) (d : Fin 64) (h0 : (i 0).val = p.val) (h1 : (i 1).val = h.val) (h2 : (i 2).val = d.val) :
    val_main_v61 (F := Ideal) (lift X) i = (((args X Y).k h (48 + p.val) (hi d) * cosT (48 + p.val) (hi d)
      + (args X Y).k h (48 + p.val) (flip (hi d)) * sinT (48 + p.val) (hi d) : ℝ) : EReal) := by
  rw [val_main_v61_apply, val_main_v58_apply, val_main_v60_apply, val_main_v50_apply, val_main_v51_apply, val_main_v59_apply, val_main_v57_apply, k_ref X Y _ p h (lo d) h0 h1 h2,
    k_ref X Y _ p h (hi d) h0 h1 (congrArg (64 + ·) h2), cos_k _ p d h0 h2, sin_k _ p d h0 h2, flip_hi, cos_hi, sin_hi, add_comm (_ * Real.cos _)]
  rfl

theorem k_turned (i : S8208x4x128.Idx) (p : Fin 8208) (h : Fin 4) (d : Fin 128) (h0 : (i 0).val = p.val) (h1 : (i 1).val = h.val) (h2 : (i 2).val = d.val) :
    val_main_v62 (F := Ideal) (lift X) i = (((args X Y).k h (48 + p.val) d * cosT (48 + p.val) d
      + (args X Y).k h (48 + p.val) (flip d) * sinT (48 + p.val) d : ℝ) : EReal) := by
  unfold val_main_v62
  rcases lo_or_hi d with ⟨e, rfl⟩ | ⟨e, rfl⟩
  · rw [concatenate_pair_apply_left 2 (val_main_v56 (F := Ideal) (lift X)) (val_main_v61 (F := Ideal) (lift X)) _ i rfl (ix3 p h e) (fun b => match b with
      | ⟨0, _⟩ => h0.symm
      | ⟨1, _⟩ => h1.symm
      | ⟨2, _⟩ => h2.symm)]
    exact k_low X Y _ p h e rfl rfl rfl
  · rw [concatenate_pair_apply_right 2 (val_main_v56 (F := Ideal) (lift X)) (val_main_v61 (F := Ideal) (lift X)) _ i rfl rfl (ix3 p h e) (fun b hb => match b with
      | ⟨0, _⟩ => h0.symm
      | ⟨1, _⟩ => h1.symm
      | ⟨2, _⟩ => absurd rfl hb) (by show e.val + 64 = (i 2).val; rw [h2]; exact Nat.add_comm _ _)]
    exact k_high X Y _ p h e rfl rfl rfl

theorem Q_ref (i : S8208x4x128.Idx) (p : Fin 8208) (h : Fin 4) (d : Fin 128) (h0 : (i 0).val = p.val) (h1 : (i 1).val = h.val) (h2 : (i 2).val = d.val) :
    val_main_v34 (F := Ideal) (lift X) i = (((args X Y).Q h (48 + p.val) d : ℝ) : EReal) := q_turned X Y i p h d h0 h1 h2

theorem K_ref (i : S8208x4x128.Idx) (p : Fin 8208) (h : Fin 4) (d : Fin 128) (h0 : (i 0).val = p.val) (h1 : (i 1).val = h.val) (h2 : (i 2).val = d.val) :
    val_main_v64 (F := Ideal) (lift X) i = (((args X Y).K h (48 + p.val) d : ℝ) : EReal) := by
  rw [val_main_v64_apply, val_main_v63_apply, val_main_cst_3_apply, k_turned X Y i p h d h0 h1 h2]
  refine (congrArg (FloatOps.mulf (F := Ideal) (φ := .f32) _) (show Ideal.ofBits .f32 _ = _ from scl_coe)).trans ?_
  exact (EReal.coe_mul _ _).symm

end Cert.Ret.Ref

end
-- ==== Proof.RefRead.lean ====
/- The reference's results, read at a row and a column, where the arguments are real. -/
module

public import proofs.«01_k».proof.Proof.RefTables
public import Idealize.ShloMosaic.Lib.KernelVsHost

@[expose] public section

noncomputable section

namespace Cert.Ret.Ref

open Idealize.ShloMosaic Idealize.ShloMosaic.ValueIdx Cert.ReferenceIdeal Cert.ReferenceIdeal.Gen Cert.ReferenceIdeal.Read Finset

variable (X : Fin 8208 → Fin 3600 → ℝ) (Y : Fin 8208 → Fin 512 → ℝ)

/-- A sum of products of reals. -/
theorem sum_mul_coe {ι : Type} [Fintype ι] (f g : ι → EReal) (a b : ι → ℝ) (hf : ∀ i, f i = ((a i : ℝ) : EReal)) (hg : ∀ i, g i = ((b i : ℝ) : EReal)) :
    ∑ i, f i * g i = ((∑ i, a i * b i : ℝ) : EReal) := by
  rw [coe_sum]
  exact sum_congr rfl fun i _ => by rw [hf, hg, EReal.coe_mul]

/-! ## The retention -/

theorem scores_ref (i : S4x8208x8208.Idx) (h : Fin 4) (p s : Fin 8208) (h0 : (i 0).val = h.val) (h1 : (i 1).val = p.val) (h2 : (i 2).val = s.val) :
    val_main_v90 (F := Ideal) (lift X) i = ((dotp ((args X Y).Q h (48 + p.val)) ((args X Y).K h (48 + s.val)) * dec (logG h) (48 + p.val) (48 + s.val) : ℝ) : EReal) := by
  rw [val_main_v90_apply, val_main_v89_apply, dec_ref _ h p s h0 h1 h2,
    sum_mul_coe _ _ ((args X Y).Q h (48 + p.val)) ((args X Y).K h (48 + s.val)) (fun d => Q_ref X Y _ p h d h1 h0 rfl) (fun d => K_ref X Y _ s h d h2 h0 rfl)]
  exact (EReal.coe_mul _ _).symm

theorem out_ref (i : S4x128x8208.Idx) (h : Fin 4) (e : Fin 128) (p : Fin 8208) (h0 : (i 0).val = h.val) (h1 : (i 1).val = e.val) (h2 : (i 2).val = p.val) :
    val_main_v91 (F := Ideal) (lift X) i = (((args X Y).out h (48 + p.val) e : ℝ) : EReal) := by
  rw [val_main_v91_apply, out_tokens,
    sum_mul_coe _ _ _ _ (fun s => v_ref X Y _ s h e rfl h0 h1) (fun s => scores_ref X Y _ h p s h0 h2 rfl)]
  exact congrArg _ (sum_congr rfl fun s _ => mul_comm _ _)

theorem heads_val (i : S8208x512.Idx) : (i 0).val < 8208 ∧ (i 1).val < 512 := ⟨(i 0).isLt, (i 1).isLt⟩

theorem o_flat (p : Fin 8208) (r : Fin 512) :
    val_main_v93 (F := Ideal) (lift X) (ix2 p r) = (((args X Y).out (headOf r) (48 + p.val) (inOf r) : ℝ) : EReal) := by
  rw [val_main_v93_apply, val_main_v92_apply]
  have hp := p.isLt
  have hr := r.isLt
  exact out_ref X Y _ (headOf r) (inOf r) p
    (by show (p.val * 512 + r.val) / 128 % 4 = r.val / 128; omega)
    (by show (p.val * 512 + r.val) % 128 = r.val % 128; omega)
    (by show (p.val * 512 + r.val) / 512 = p.val; omega)

theorem zero_pad (j : S_.Idx) : sitofp (F := Ideal) .f32 (constantI S_ 32 0#32) j = ((0 : ℝ) : EReal) := by
  show (((0#32 : BitVec 32).toInt : ℝ) : EReal) = _
  rw [show (0#32 : BitVec 32).toInt = 0 from rfl, Int.cast_zero]

/-- The first result: the retention of every row, zero on the rows of zeros. -/
theorem o_row (a : Fin 8320) (r : Fin 512) :
    val_main_v94 (F := Ideal) (lift X) (ix2 a r) = (((args X Y).out (headOf r) a.val (inOf r) : ℝ) : EReal) := by
  unfold val_main_v94
  have hj := a.isLt
  by_cases hp : isPad a.val
  · rw [pad_apply_of_not_inside _ _ _ (val_main_v93 (F := Ideal) (lift X)) _ _ _ (ix2 a r) 0 (by
      show ¬(48 ≤ a.val ∧ (a.val - 48) % (0 + 1) = 0 ∧ (a.val - 48) / (0 + 1) < 8208)
      rcases hp with h | h <;> omega), out_pad X Y _ _ hp]
    exact zero_pad _
  · have h1 : 48 ≤ a.val ∧ a.val - 48 < 8208 := by unfold isPad at hp; omega
    rw [pad_apply_of_inside _ _ _ (val_main_v93 (F := Ideal) (lift X)) _ _ _ (ix2 a r) (ix2 ⟨a.val - 48, h1.2⟩ r) (fun b => match b with
      | ⟨0, _⟩ => by show a.val = 48 + (a.val - 48) * (0 + 1); omega
      | ⟨1, _⟩ => by show r.val = 0 + r.val * (0 + 1); omega), o_flat X Y]
    rw [show 48 + ((⟨a.val - 48, h1.2⟩ : Fin 8208)).val = a.val by show 48 + (a.val - 48) = a.val; omega]

theorem o_result (j : S8320x512.Idx) :
    val_main_v94 (F := Ideal) (lift X) j = (((args X Y).out (headOf (j 1)) (j 0).val (inOf (j 1)) : ℝ) : EReal) := by
  rw [eq_ix2 j]
  exact o_row X Y (j 0) (j 1)

/-! ## The gradients -/

theorem ot_ref (i : S4x128x8208.Idx) (h : Fin 4) (e : Fin 128) (p : Fin 8208) (h0 : (i 0).val = h.val) (h1 : (i 1).val = e.val) (h2 : (i 2).val = p.val) :
    val_main_v96 (F := Ideal) (lift Y) i = (((args X Y).o h (48 + p.val) e : ℝ) : EReal) := by
  rw [val_main_v96_apply]
  exact o_ref X Y _ p h e h2 h0 h1

theorem dscores_ref (i : S4x8208x8208.Idx) (h : Fin 4) (p s : Fin 8208) (h0 : (i 0).val = h.val) (h1 : (i 1).val = p.val) (h2 : (i 2).val = s.val) :
    val_main_v100 (F := Ideal) (lift X) (lift Y) i = ((dotp ((args X Y).o h (48 + p.val)) ((args X Y).v h (48 + s.val)) * dec (logG h) (48 + p.val) (48 + s.val) : ℝ) : EReal) := by
  rw [val_main_v100_apply, val_main_v97_apply, dec_ref _ h p s h0 h1 h2,
    sum_mul_coe _ _ ((args X Y).o h (48 + p.val)) ((args X Y).v h (48 + s.val)) (fun d => ot_ref X Y _ h d p h0 rfl h1) (fun d => v_ref X Y _ s h d h2 h0 rfl)]
  exact (EReal.coe_mul _ _).symm

theorem dV_ref (i : S8208x4x128.Idx) (s : Fin 8208) (h : Fin 4) (e : Fin 128) (h0 : (i 0).val = s.val) (h1 : (i 1).val = h.val) (h2 : (i 2).val = e.val) :
    val_main_v99 (F := Ideal) (lift X) (lift Y) i = (((args X Y).dV h (48 + s.val) e : ℝ) : EReal) := by
  rw [val_main_v99_apply, val_main_v98_apply, dV_tokens,
    sum_mul_coe _ _ _ _ (fun p => ot_ref X Y _ h e p h1 h2 rfl) (fun p => scores_ref X Y _ h p s h1 rfl h0)]
  exact congrArg _ (sum_congr rfl fun s _ => mul_comm _ _)

theorem dKs_ref (i : S8208x4x128.Idx) (s : Fin 8208) (h : Fin 4) (d : Fin 128) (h0 : (i 0).val = s.val) (h1 : (i 1).val = h.val) (h2 : (i 2).val = d.val) :
    val_main_v102 (F := Ideal) (lift X) (lift Y) i = (((args X Y).dK h (48 + s.val) d : ℝ) : EReal) := by
  rw [val_main_v102_apply, val_main_v101_apply, dK_tokens]
  exact sum_mul_coe _ _ _ _ (fun p => dscores_ref X Y _ h p s h1 rfl h0) (fun p => Q_ref X Y _ p h d rfl h1 h2)

theorem dK_ref (i : S8208x4x128.Idx) (s : Fin 8208) (h : Fin 4) (d : Fin 128) (h0 : (i 0).val = s.val) (h1 : (i 1).val = h.val) (h2 : (i 2).val = d.val) :
    val_main_v106 (F := Ideal) (lift X) (lift Y) i = (((args X Y).dK h (48 + s.val) d * scl : ℝ) : EReal) := by
  rw [val_main_v106_apply, val_main_v105_apply, val_main_cst_10_apply, dKs_ref X Y i s h d h0 h1 h2]
  refine (congrArg (FloatOps.mulf (F := Ideal) (φ := .f32) _) (show Ideal.ofBits .f32 _ = _ from scl_coe)).trans ?_
  exact (EReal.coe_mul _ _).symm

theorem dQ_ref (i : S8208x4x128.Idx) (p : Fin 8208) (h : Fin 4) (d : Fin 128) (h0 : (i 0).val = p.val) (h1 : (i 1).val = h.val) (h2 : (i 2).val = d.val) :
    val_main_v104 (F := Ideal) (lift X) (lift Y) i = (((args X Y).dQ h (48 + p.val) d : ℝ) : EReal) := by
  rw [val_main_v104_apply, val_main_v103_apply, dQ_tokens]
  exact sum_mul_coe _ _ _ _ (fun s => dscores_ref X Y _ h p s h1 h0 rfl) (fun s => K_ref X Y _ s h d rfl h1 h2)

theorem k_back_high (i : S8208x4x64.Idx) (p : Fin 8208) (h : Fin 4) (d : Fin 64) (h0 : (i 0).val = p.val) (h1 : (i 1).val = h.val) (h2 : (i 2).val = d.val) :
    val_main_v116 (F := Ideal) (lift X) (lift Y) i = ((((args X Y).dK h (48 + p.val) (hi d) * scl) * cosT (48 + p.val) (hi d) + ((args X Y).dK h (48 + p.val) (flip (hi d)) * scl) * sinT (48 + p.val) (flip (hi d)) : ℝ) : EReal) := by
  rw [val_main_v116_apply, val_main_v110_apply, val_main_v108_apply, val_main_v109_apply, val_main_v115_apply, val_main_v113_apply, val_main_v107_apply, val_main_v114_apply, dK_ref X Y _ p h (hi d) h0 h1 (congrArg (64 + ·) h2),
    dK_ref X Y _ p h (lo d) h0 h1 h2, cos_k _ p d h0 h2, sin_k _ p d h0 h2, flip_hi, cos_hi, sin_lo, mul_neg, ← neg_mul]
  rfl

theorem k_back_low (i : S8208x4x64.Idx) (p : Fin 8208) (h : Fin 4) (d : Fin 64) (h0 : (i 0).val = p.val) (h1 : (i 1).val = h.val) (h2 : (i 2).val = d.val) :
    val_main_v119 (F := Ideal) (lift X) (lift Y) i = ((((args X Y).dK h (48 + p.val) (lo d) * scl) * cosT (48 + p.val) (lo d) + ((args X Y).dK h (48 + p.val) (flip (lo d)) * scl) * sinT (48 + p.val) (flip (lo d)) : ℝ) : EReal) := by
  rw [val_main_v119_apply, val_main_v112_apply, val_main_v108_apply, val_main_v111_apply, val_main_v118_apply, val_main_v107_apply, val_main_v117_apply, dK_ref X Y _ p h (hi d) h0 h1 (congrArg (64 + ·) h2),
    dK_ref X Y _ p h (lo d) h0 h1 h2, cos_k _ p d h0 h2, sin_k _ p d h0 h2, flip_lo, cos_lo, sin_hi, add_comm (_ * Real.cos _)]
  rfl

theorem gK_ref (i : S8208x4x128.Idx) (p : Fin 8208) (h : Fin 4) (d : Fin 128) (h0 : (i 0).val = p.val) (h1 : (i 1).val = h.val) (h2 : (i 2).val = d.val) :
    val_main_v122 (F := Ideal) (lift X) (lift Y) i = (((args X Y).gK h (48 + p.val) d : ℝ) : EReal) := by
  rw [val_main_v122_apply]
  unfold val_main_v120 val_main_v121
  have ez1 : ∀ j, val_main_cst_11 (F := Ideal) j = ((0 : ℝ) : EReal) := fun j => c0
  have ez2 : ∀ j, val_main_cst_12 (F := Ideal) j = ((0 : ℝ) : EReal) := fun j => c0
  rcases lo_or_hi d with ⟨e, rfl⟩ | ⟨e, rfl⟩
  · have h2' : (i 2).val = e.val := h2
    have he := e.isLt
    rw [pad_apply_of_not_inside _ _ _ (val_main_v116 (F := Ideal) (lift X) (lift Y)) _ _ _ i 2 (by
        show ¬(64 ≤ (i 2).val ∧ ((i 2).val - 64) % (0 + 1) = 0 ∧ ((i 2).val - 64) / (0 + 1) < 64)
        omega), ez1,
      pad_apply_of_inside _ _ _ (val_main_v119 (F := Ideal) (lift X) (lift Y)) _ _ _ i (ix3 p h e) (fun a => match a with
        | ⟨0, _⟩ => by show (i 0).val = 0 + p.val * (0 + 1); omega
        | ⟨1, _⟩ => by show (i 1).val = 0 + h.val * (0 + 1); omega
        | ⟨2, _⟩ => by show (i 2).val = 0 + e.val * (0 + 1); omega), k_back_low X Y _ p h e rfl rfl rfl]
    refine (EReal.coe_add _ _).symm.trans (congrArg _ (zero_add _))
  · have h2' : (i 2).val = 64 + e.val := h2
    have he := e.isLt
    rw [pad_apply_of_inside _ _ _ (val_main_v116 (F := Ideal) (lift X) (lift Y)) _ _ _ i (ix3 p h e) (fun a => match a with
        | ⟨0, _⟩ => by show (i 0).val = 0 + p.val * (0 + 1); omega
        | ⟨1, _⟩ => by show (i 1).val = 0 + h.val * (0 + 1); omega
        | ⟨2, _⟩ => by show (i 2).val = 64 + e.val * (0 + 1); omega), k_back_high X Y _ p h e rfl rfl rfl,
      pad_apply_of_not_inside _ _ _ (val_main_v119 (F := Ideal) (lift X) (lift Y)) _ _ _ i 2 (by
        show ¬(0 ≤ (i 2).val ∧ ((i 2).val - 0) % (0 + 1) = 0 ∧ ((i 2).val - 0) / (0 + 1) < 64)
        omega), ez2]
    refine (EReal.coe_add _ _).symm.trans (congrArg _ (add_zero _))

theorem q_back_high (i : S8208x4x64.Idx) (p : Fin 8208) (h : Fin 4) (d : Fin 64) (h0 : (i 0).val = p.val) (h1 : (i 1).val = h.val) (h2 : (i 2).val = d.val) :
    val_main_v132 (F := Ideal) (lift X) (lift Y) i = ((((args X Y).dQ h (48 + p.val) (hi d)) * cosT (48 + p.val) (hi d) + ((args X Y).dQ h (48 + p.val) (flip (hi d))) * sinT (48 + p.val) (flip (hi d)) : ℝ) : EReal) := by
  rw [val_main_v132_apply, val_main_v126_apply, val_main_v124_apply, val_main_v125_apply, val_main_v131_apply, val_main_v129_apply, val_main_v123_apply, val_main_v130_apply, dQ_ref X Y _ p h (hi d) h0 h1 (congrArg (64 + ·) h2),
    dQ_ref X Y _ p h (lo d) h0 h1 h2, cos_q _ p d h0 h2, sin_q _ p d h0 h2, flip_hi, cos_hi, sin_lo, mul_neg, ← neg_mul]
  rfl

theorem q_back_low (i : S8208x4x64.Idx) (p : Fin 8208) (h : Fin 4) (d : Fin 64) (h0 : (i 0).val = p.val) (h1 : (i 1).val = h.val) (h2 : (i 2).val = d.val) :
    val_main_v135 (F := Ideal) (lift X) (lift Y) i = ((((args X Y).dQ h (48 + p.val) (lo d)) * cosT (48 + p.val) (lo d) + ((args X Y).dQ h (48 + p.val) (flip (lo d))) * sinT (48 + p.val) (flip (lo d)) : ℝ) : EReal) := by
  rw [val_main_v135_apply, val_main_v128_apply, val_main_v124_apply, val_main_v127_apply, val_main_v134_apply, val_main_v123_apply, val_main_v133_apply, dQ_ref X Y _ p h (hi d) h0 h1 (congrArg (64 + ·) h2),
    dQ_ref X Y _ p h (lo d) h0 h1 h2, cos_q _ p d h0 h2, sin_q _ p d h0 h2, flip_lo, cos_lo, sin_hi, add_comm (_ * Real.cos _)]
  rfl

theorem gQ_ref (i : S8208x4x128.Idx) (p : Fin 8208) (h : Fin 4) (d : Fin 128) (h0 : (i 0).val = p.val) (h1 : (i 1).val = h.val) (h2 : (i 2).val = d.val) :
    val_main_v138 (F := Ideal) (lift X) (lift Y) i = (((args X Y).gQ h (48 + p.val) d : ℝ) : EReal) := by
  rw [val_main_v138_apply]
  unfold val_main_v136 val_main_v137
  have ez1 : ∀ j, val_main_cst_13 (F := Ideal) j = ((0 : ℝ) : EReal) := fun j => c0
  have ez2 : ∀ j, val_main_cst_14 (F := Ideal) j = ((0 : ℝ) : EReal) := fun j => c0
  rcases lo_or_hi d with ⟨e, rfl⟩ | ⟨e, rfl⟩
  · have h2' : (i 2).val = e.val := h2
    have he := e.isLt
    rw [pad_apply_of_not_inside _ _ _ (val_main_v132 (F := Ideal) (lift X) (lift Y)) _ _ _ i 2 (by
        show ¬(64 ≤ (i 2).val ∧ ((i 2).val - 64) % (0 + 1) = 0 ∧ ((i 2).val - 64) / (0 + 1) < 64)
        omega), ez1,
      pad_apply_of_inside _ _ _ (val_main_v135 (F := Ideal) (lift X) (lift Y)) _ _ _ i (ix3 p h e) (fun a => match a with
        | ⟨0, _⟩ => by show (i 0).val = 0 + p.val * (0 + 1); omega
        | ⟨1, _⟩ => by show (i 1).val = 0 + h.val * (0 + 1); omega
        | ⟨2, _⟩ => by show (i 2).val = 0 + e.val * (0 + 1); omega), q_back_low X Y _ p h e rfl rfl rfl]
    refine (EReal.coe_add _ _).symm.trans (congrArg _ (zero_add _))
  · have h2' : (i 2).val = 64 + e.val := h2
    have he := e.isLt
    rw [pad_apply_of_inside _ _ _ (val_main_v132 (F := Ideal) (lift X) (lift Y)) _ _ _ i (ix3 p h e) (fun a => match a with
        | ⟨0, _⟩ => by show (i 0).val = 0 + p.val * (0 + 1); omega
        | ⟨1, _⟩ => by show (i 1).val = 0 + h.val * (0 + 1); omega
        | ⟨2, _⟩ => by show (i 2).val = 64 + e.val * (0 + 1); omega), q_back_high X Y _ p h e rfl rfl rfl,
      pad_apply_of_not_inside _ _ _ (val_main_v135 (F := Ideal) (lift X) (lift Y)) _ _ _ i 2 (by
        show ¬(0 ≤ (i 2).val ∧ ((i 2).val - 0) % (0 + 1) = 0 ∧ ((i 2).val - 0) / (0 + 1) < 64)
        omega), ez2]
    refine (EReal.coe_add _ _).symm.trans (congrArg _ (add_zero _))

theorem dv_flat (p : Fin 8208) (r : Fin 512) :
    val_main_v139 (F := Ideal) (lift X) (lift Y) (ix2 p r) = (((args X Y).dV (headOf r) (48 + p.val) (inOf r) : ℝ) : EReal) := by
  rw [val_main_v139_apply]
  have hp := p.isLt
  have hr := r.isLt
  exact dV_ref X Y _ p (headOf r) (inOf r)
    (by show (p.val * 512 + r.val) / 512 = p.val; omega)
    (by show (p.val * 512 + r.val) / 128 % 4 = r.val / 128; omega)
    (by show (p.val * 512 + r.val) % 128 = r.val % 128; omega)

theorem dk_flat (p : Fin 8208) (r : Fin 512) :
    val_main_v141 (F := Ideal) (lift X) (lift Y) (ix2 p r) = (((args X Y).gK (headOf r) (48 + p.val) (inOf r) : ℝ) : EReal) := by
  rw [val_main_v141_apply]
  have hp := p.isLt
  have hr := r.isLt
  exact gK_ref X Y _ p (headOf r) (inOf r)
    (by show (p.val * 512 + r.val) / 512 = p.val; omega)
    (by show (p.val * 512 + r.val) / 128 % 4 = r.val / 128; omega)
    (by show (p.val * 512 + r.val) % 128 = r.val % 128; omega)

theorem dq_flat (p : Fin 8208) (r : Fin 512) :
    val_main_v144 (F := Ideal) (lift X) (lift Y) (ix2 p r) = (((args X Y).gQ (headOf r) (48 + p.val) (inOf r) : ℝ) : EReal) := by
  rw [val_main_v144_apply]
  have hp := p.isLt
  have hr := r.isLt
  exact gQ_ref X Y _ p (headOf r) (inOf r)
    (by show (p.val * 512 + r.val) / 512 = p.val; omega)
    (by show (p.val * 512 + r.val) / 128 % 4 = r.val / 128; omega)
    (by show (p.val * 512 + r.val) % 128 = r.val % 128; omega)

theorem dv_wide_in (i : S8208x3600.Idx) (p : Fin 8208) (r : Fin 512) (h0 : (i 0).val = p.val) (h1 : (i 1).val = 1024 + r.val) :
    val_main_v140 (F := Ideal) (lift X) (lift Y) i = (((args X Y).dV (headOf r) (48 + p.val) (inOf r) : ℝ) : EReal) := by
  unfold val_main_v140
  rw [pad_apply_of_inside _ _ _ _ _ _ _ i (ix2 p r) (fun b => match b with
      | ⟨0, _⟩ => by show (i 0).val = 0 + p.val * (0 + 1); omega
      | ⟨1, _⟩ => by show (i 1).val = 1024 + r.val * (0 + 1); omega), dv_flat]

theorem dv_wide_off (i : S8208x3600.Idx) (h : (i 1).val < 1024 ∨ 1024 + 512 ≤ (i 1).val) :
    val_main_v140 (F := Ideal) (lift X) (lift Y) i = ((0 : ℝ) : EReal) := by
  unfold val_main_v140
  rw [pad_apply_of_not_inside _ _ _ _ _ _ _ i 1 (by
      show ¬(1024 ≤ (i 1).val ∧ ((i 1).val - 1024) % (0 + 1) = 0 ∧ ((i 1).val - 1024) / (0 + 1) < 512)
      omega)]
  exact c0

theorem dk_wide_in (i : S8208x3600.Idx) (p : Fin 8208) (r : Fin 512) (h0 : (i 0).val = p.val) (h1 : (i 1).val = 512 + r.val) :
    val_main_v142 (F := Ideal) (lift X) (lift Y) i = (((args X Y).gK (headOf r) (48 + p.val) (inOf r) : ℝ) : EReal) := by
  unfold val_main_v142
  rw [pad_apply_of_inside _ _ _ _ _ _ _ i (ix2 p r) (fun b => match b with
      | ⟨0, _⟩ => by show (i 0).val = 0 + p.val * (0 + 1); omega
      | ⟨1, _⟩ => by show (i 1).val = 512 + r.val * (0 + 1); omega), dk_flat]

theorem dk_wide_off (i : S8208x3600.Idx) (h : (i 1).val < 512 ∨ 512 + 512 ≤ (i 1).val) :
    val_main_v142 (F := Ideal) (lift X) (lift Y) i = ((0 : ℝ) : EReal) := by
  unfold val_main_v142
  rw [pad_apply_of_not_inside _ _ _ _ _ _ _ i 1 (by
      show ¬(512 ≤ (i 1).val ∧ ((i 1).val - 512) % (0 + 1) = 0 ∧ ((i 1).val - 512) / (0 + 1) < 512)
      omega)]
  exact c0

theorem dq_wide_in (i : S8208x3600.Idx) (p : Fin 8208) (r : Fin 512) (h0 : (i 0).val = p.val) (h1 : (i 1).val = 0 + r.val) :
    val_main_v145 (F := Ideal) (lift X) (lift Y) i = (((args X Y).gQ (headOf r) (48 + p.val) (inOf r) : ℝ) : EReal) := by
  unfold val_main_v145
  rw [pad_apply_of_inside _ _ _ _ _ _ _ i (ix2 p r) (fun b => match b with
      | ⟨0, _⟩ => by show (i 0).val = 0 + p.val * (0 + 1); omega
      | ⟨1, _⟩ => by show (i 1).val = 0 + r.val * (0 + 1); omega), dq_flat]

theorem dq_wide_off (i : S8208x3600.Idx) (h : (i 1).val < 0 ∨ 0 + 512 ≤ (i 1).val) :
    val_main_v145 (F := Ideal) (lift X) (lift Y) i = ((0 : ℝ) : EReal) := by
  unfold val_main_v145
  rw [pad_apply_of_not_inside _ _ _ _ _ _ _ i 1 (by
      show ¬(0 ≤ (i 1).val ∧ ((i 1).val - 0) % (0 + 1) = 0 ∧ ((i 1).val - 0) / (0 + 1) < 512)
      omega)]
  exact c0

theorem grad_ref (p : Fin 8208) (cl : Fin 1536) :
    val_main_v147 (F := Ideal) (lift X) (lift Y) (ix2 p cl) = (((args X Y).grad (48 + p.val) cl : ℝ) : EReal) := by
  rw [val_main_v147_apply, val_main_v146_apply, val_main_v143_apply]
  have hc := cl.isLt
  have hr : (thirdOf cl).val = cl.val % 512 := rfl
  have e1 : (idx_main_v147 (ix2 p cl) 1).val = cl.val := rfl
  have einO : ∀ r : Fin 512, r = thirdOf cl → inOf r = inOf cl := fun r e => Fin.ext (by
    rw [e]; show (cl.val % 512) % 128 = cl.val % 128; omega)
  unfold Data.grad
  by_cases h1 : cl.val < 512
  · rw [if_pos h1, dv_wide_off X Y _ (Or.inl (by omega)), dk_wide_off X Y _ (Or.inl (by omega)),
      dq_wide_in X Y _ p (thirdOf cl) rfl (by omega), einO _ rfl]
    refine (congrArg (FloatOps.addf (F := Ideal) (φ := .f32) · _) ((EReal.coe_add _ _).symm.trans (congrArg _ (add_zero _)))).trans ?_
    exact (EReal.coe_add _ _).symm.trans (congrArg _ (zero_add _))
  · rw [if_neg h1]
    by_cases h2 : cl.val < 1024
    · rw [if_pos h2, dv_wide_off X Y _ (Or.inl (by omega)), dk_wide_in X Y _ p (thirdOf cl) rfl (by omega),
        dq_wide_off X Y _ (Or.inr (by omega)), einO _ rfl]
      refine (congrArg (FloatOps.addf (F := Ideal) (φ := .f32) · _) ((EReal.coe_add _ _).symm.trans (congrArg _ (zero_add _)))).trans ?_
      exact (EReal.coe_add _ _).symm.trans (congrArg _ (add_zero _))
    · rw [if_neg h2, dv_wide_in X Y _ p (thirdOf cl) rfl (by omega), dk_wide_off X Y _ (Or.inr (by omega)),
        dq_wide_off X Y _ (Or.inr (by omega)), einO _ rfl]
      refine (congrArg (FloatOps.addf (F := Ideal) (φ := .f32) · _) ((EReal.coe_add _ _).symm.trans (congrArg _ (add_zero _)))).trans ?_
      exact (EReal.coe_add _ _).symm.trans (congrArg _ (add_zero _))

/-- The second result: the gradients of every row, zero on the rows of zeros. -/
theorem grad_row (a : Fin 8320) (r : Fin 1536) :
    val_main_v149 (F := Ideal) (lift X) (lift Y) (ix2 a r) = (((args X Y).grad a.val r : ℝ) : EReal) := by
  rw [val_main_v149_apply]
  show val_main_v148 (F := Ideal) (lift X) (lift Y) (ix2 a r) = _
  unfold val_main_v148
  have hj := a.isLt
  by_cases hp : isPad a.val
  · rw [pad_apply_of_not_inside _ _ _ (val_main_v147 (F := Ideal) (lift X) (lift Y)) _ _ _ (ix2 a r) 0 (by
      show ¬(48 ≤ a.val ∧ (a.val - 48) % (0 + 1) = 0 ∧ (a.val - 48) / (0 + 1) < 8208)
      rcases hp with h | h <;> omega), grad_pad X Y _ hp]
    exact zero_pad _
  · have h1 : 48 ≤ a.val ∧ a.val - 48 < 8208 := by unfold isPad at hp; omega
    rw [pad_apply_of_inside _ _ _ (val_main_v147 (F := Ideal) (lift X) (lift Y)) _ _ _ (ix2 a r) (ix2 ⟨a.val - 48, h1.2⟩ r) (fun b => match b with
      | ⟨0, _⟩ => by show a.val = 48 + (a.val - 48) * (0 + 1); omega
      | ⟨1, _⟩ => by show r.val = 0 + r.val * (0 + 1); omega), grad_ref X Y]
    rw [show 48 + ((⟨a.val - 48, h1.2⟩ : Fin 8208)).val = a.val by show 48 + (a.val - 48) = a.val; omega]

theorem grad_result (j : S8320x1536.Idx) :
    val_main_v149 (F := Ideal) (lift X) (lift Y) j = (((args X Y).grad (j 0).val (j 1) : ℝ) : EReal) := by
  rw [eq_ix2 j]
  exact grad_row X Y (j 0) (j 1)

end Cert.Ret.Ref

end
-- ==== Proof.Value.lean ====
/- The kernel and the reference leave the same arrays, where no argument is infinite. -/
module

public import proofs.«01_k».proof.Proof.KerRun
public import proofs.«01_k».proof.Proof.RefRead
public import proofs.«01_k».proof.Proof.Frames
public import proofs.«01_k».proof.Proof.Gen.Pre_finite

@[expose] public section

noncomputable section

namespace Cert.Ret

open Idealize.ShloMosaic hiding ix1 ix2 ix3 ix4 eq_ix2 eq_ix3
open Idealize.ShloMosaic.ValueIdx Idealize.ShloMosaic.TcCoe
open Idealize.SL Idealize.SL.Sem

/-! ## The precondition -/

theorem ofBits_infinity : Ideal.ofBits .f32 0x7F800000#32 = ⊤ := by simp [Ideal.ofBits, Ideal.ieee]

/-- A value below infinity in size is a real. -/
theorem real_of_small (x : EReal) (h : Ideal.cmp .olt (max x (-x)) ⊤ = 1#1) : ((x.toReal : ℝ) : EReal) = x := by
  refine EReal.coe_toReal ?_ ?_
  · rintro rfl
    simp [Ideal.cmp] at h
  · rintro rfl
    simp [Ideal.cmp] at h

theorem args_real (x : Cert.Pre_finite.S8208x3600.Idx → EReal) (y : Cert.Pre_finite.S8208x512.Idx → EReal)
    (h : (Cert.Pre_finite.fn (F := Ideal) x y).1 = (fun _ => 1#1) ∧ (Cert.Pre_finite.fn (F := Ideal) x y).2 = (fun _ => 1#1)) :
    x = real2 (fun p r => (x (ix2 p r)).toReal) ∧ y = real2 (fun p r => (y (ix2 p r)).toReal) := by
  constructor
  · funext j
    have hj : Ideal.cmp .olt (max (x j) (-(x j))) (Ideal.ofBits .f32 0x7F800000#32) = 1#1 := congrFun h.1 j
    rw [ofBits_infinity] at hj
    refine (real_of_small (x j) hj).symm.trans ?_
    exact congrArg (fun i => (((x i).toReal : ℝ) : EReal)) (eq_ix2 j)
  · funext j
    have hj : Ideal.cmp .olt (max (y j) (-(y j))) (Ideal.ofBits .f32 0x7F800000#32) = 1#1 := congrFun h.2 j
    rw [ofBits_infinity] at hj
    refine (real_of_small (y j) hj).symm.trans ?_
    exact congrArg (fun i => (((y i).toReal : ℝ) : EReal)) (eq_ix2 j)

/-! ## The two programs -/

/-- The two arguments of a core, as reals. -/
def realX (m : (ℓ : Loc Cert.KernelIdeal.nD Cert.KernelIdeal.τ Cert.KernelIdeal.sig) → Buf (Elt Ideal) ℓ) (c : Dev Cert.KernelIdeal.nD) : Fin 8208 → Fin 3600 → ℝ :=
  fun p r => ((m ((c.tc : Thread Cert.KernelIdeal.nD Cert.KernelIdeal.τ).loc Cert.KernelIdeal.main_arg0) : Cert.Pre_finite.S8208x3600.Idx → EReal) (ix2 p r)).toReal
def realY (m : (ℓ : Loc Cert.KernelIdeal.nD Cert.KernelIdeal.τ Cert.KernelIdeal.sig) → Buf (Elt Ideal) ℓ) (c : Dev Cert.KernelIdeal.nD) : Fin 8208 → Fin 512 → ℝ :=
  fun p r => ((m ((c.tc : Thread Cert.KernelIdeal.nD Cert.KernelIdeal.τ).loc Cert.KernelIdeal.main_arg1) : Cert.Pre_finite.S8208x512.Idx → EReal) (ix2 p r)).toReal

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre harg
  have hx : ∀ c : Dev Cert.KernelIdeal.nD, m ((c.tc : Thread Cert.KernelIdeal.nD Cert.KernelIdeal.τ).loc Cert.KernelIdeal.main_arg0) = real2 (realX m c) :=
    fun c => (args_real _ _ (hpre c)).1
  have hy : ∀ c : Dev Cert.KernelIdeal.nD, m ((c.tc : Thread Cert.KernelIdeal.nD Cert.KernelIdeal.τ).loc Cert.KernelIdeal.main_arg1) = real2 (realY m c) :=
    fun c => (args_real _ _ (hpre c)).2
  refine ⟨fun c => outArr (realX m c) (realY m c), fun c => gradArr (realX m c) (realY m c), ?_, ?_⟩
  rotate_left
  · refine (θ_run (Cert.ReferenceIdeal.defs (F := Ideal)) _ _).mono (fun r h c => ?_) (Cert.ReferenceIdeal.Value.run (F := Ideal) m' g')
    obtain ⟨h0, h1, h2, h3⟩ := h c
    refine ⟨h0.trans ?_, h1.trans ?_, h2, h3⟩
    · rw [Cert.ReferenceIdeal.Read.val_main_v94_eq, (harg c).1]
      exact (congrArg Cert.ReferenceIdeal.Read.val_main_v94 (hx c)).trans (funext fun j => Ref.o_result _ _ j)
    · rw [Cert.ReferenceIdeal.Read.val_main_v149_eq, (harg c).1, (harg c).2]
      exact (congrArg₂ Cert.ReferenceIdeal.Read.val_main_v149 (hx c) (hy c)).trans (funext fun j => Ref.grad_result _ _ j)
  · refine (θ_run (Cert.KernelIdeal.defs (F := Ideal)) _ _).mono (fun r h c => ?_) (run_main (F := Ideal) m g)
    obtain ⟨h0, h1, h2, h3⟩ := h.1 c
    exact ⟨h0.trans (fwd_rows m c _ _ (hx c)), h1.trans (bwd_rows m c _ _ (hx c) (hy c)), h2, h3⟩

end Cert.Ret

end
-- ==== Proof.Products.lean ====
/- What the products over a device's rows share: the rows with zero rows before and after them, sums over the rows cut into
   blocks, and a product with its left matrix turned, read at an entry. Nothing here asks its numbers to be finite. -/
module

public import Idealize.ShloMosaic.PureOps.Ideal
public import Idealize.ShloMosaic.Lib.MatmulPlain
public import Idealize.ShloMosaic.Lib.ValueIdx
public import Idealize.ShloMosaic.Lib.ValueLayout
public import Idealize.ShloMosaic.Lib.KernelVsHost
public import Idealize.ShloMosaic.Lib.Pipeline.ValueKit

@[expose] public section

noncomputable section

namespace Cert.Prod

open Idealize.ShloMosaic hiding ix1 ix2 ix3 ix4 eq_ix2 eq_ix3
open Idealize.ShloMosaic.ValueIdx

/-! ## Rows with zero rows around them -/

/-- Column `k` of the rows at place `t` of the padded rows: the row 48 places before, and zero where there is none. -/
def rowAt {w : ℕ} (x : (⟨2, ![8208, w]⟩ : Shape).Idx → EReal) (t : ℕ) (k : Fin w) : EReal :=
  if h : 48 ≤ t ∧ t - 48 < 8208 then x (ix2 ⟨t - 48, h.2⟩ k) else 0

theorem rowAt_inside {w : ℕ} (x : (⟨2, ![8208, w]⟩ : Shape).Idx → EReal) (p : Fin 8208) (k : Fin w) : rowAt x (48 + p.val) k = x (ix2 p k) := by
  unfold rowAt
  rw [dif_pos (by omega)]
  exact congrArg (fun q => x (ix2 q k)) (Fin.ext (by show 48 + p.val - 48 = p.val; omega))

theorem rowAt_outside {w : ℕ} (x : (⟨2, ![8208, w]⟩ : Shape).Idx → EReal) (t : ℕ) (k : Fin w) (ht : ¬(48 ≤ t ∧ t - 48 < 8208)) : rowAt x t k = 0 := by
  unfold rowAt
  rw [dif_neg ht]

/-- The value the rows are padded with. -/
theorem zero_word {s : Shape} (j : s.Idx) : (sitofp (F := Ideal) .f32 (constantI s 32 0#32) : s.Idx → EReal) j = 0 := by
  show (((0#32 : BitVec 32).toInt : ℝ) : EReal) = _
  rw [show (0#32 : BitVec 32).toInt = 0 from rfl, Int.cast_zero, EReal.coe_zero]

/-- The padded rows, read at an entry. -/
theorem pad_at {w : ℕ} {s : Shape} (x : (⟨2, ![8208, w]⟩ : Shape).Idx → EReal) (z : s.Idx → EReal) (hz : ∀ j, z j = 0)
    (h : (⟨2, ![8208, w]⟩ : Shape).Pads ![48, 0] ![64, 0] ![0, 0] ⟨2, ![8320, w]⟩) (hs : 0 < s.numel) (t : Fin 8320) (k : Fin w) :
    pad ⟨2, ![8320, w]⟩ ![48, 0] ![64, 0] ![0, 0] x z h hs (ix2 t k) = rowAt x t.val k := by
  by_cases ht : 48 ≤ t.val ∧ t.val - 48 < 8208
  · rw [pad_apply_of_inside _ _ _ _ _ _ _ (ix2 t k) (ix2 ⟨t.val - 48, ht.2⟩ k) (fun b => match b with
      | ⟨0, _⟩ => by show t.val = 48 + (t.val - 48) * (0 + 1); omega
      | ⟨1, _⟩ => by show k.val = 0 + k.val * (0 + 1); omega)]
    unfold rowAt
    rw [dif_pos ht]
  · rw [pad_apply_of_not_inside _ _ _ _ _ _ _ (ix2 t k) 0 (by
      show ¬(48 ≤ t.val ∧ (t.val - 48) % (0 + 1) = 0 ∧ (t.val - 48) / (0 + 1) < 8208)
      omega), hz, rowAt_outside _ _ _ ht]

/-! ## Sums over the rows -/

/-- A sum over blocks of `n` of what stands in them is the sum over all places. -/
theorem sum_blocks (f : ℕ → EReal) (n : ℕ) : ∀ b : ℕ, ∑ s ∈ Finset.range b, ∑ r : Fin n, f (n * s + r.val) = ∑ t ∈ Finset.range (n * b), f t
  | 0 => by simp
  | b + 1 => by
    rw [Finset.sum_range_succ, sum_blocks f n b, Nat.mul_succ, Finset.sum_range_add, Finset.sum_range fun r => f (n * b + r)]

/-- The zero rows add nothing. -/
theorem sum_rows {w v : ℕ} (x : (⟨2, ![8208, w]⟩ : Shape).Idx → EReal) (y : (⟨2, ![8208, v]⟩ : Shape).Idx → EReal) (k : Fin w) (l : Fin v) :
    ∑ t ∈ Finset.range 8320, rowAt x t k * rowAt y t l = ∑ p : Fin 8208, x (ix2 p k) * y (ix2 p l) := by
  rw [show 8320 = 48 + (8208 + 64) from rfl, Finset.sum_range_add, Finset.sum_range_add]
  rw [Finset.sum_eq_zero (s := Finset.range 48) fun t ht => by
    have := Finset.mem_range.mp ht
    rw [rowAt_outside x t k (by omega), zero_mul], zero_add]
  rw [Finset.sum_eq_zero (s := Finset.range 64) fun t ht => by
    rw [rowAt_outside x (48 + (8208 + t)) k (by omega), zero_mul], add_zero, Finset.sum_range]
  exact Finset.sum_congr rfl fun p _ => by rw [rowAt_inside, rowAt_inside]

/-! ## Products with a turned left matrix -/

/-- The numbers of a product that sums over the rows of both matrices. -/
abbrev turned (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem turned_at {K M N : ℕ} {φ₁ φ₂ : FTy} (wf : DotDims.WF ⟨2, ![K, M]⟩ ⟨2, ![K, N]⟩ ⟨2, ![M, N]⟩ [0] [0] [1] [1] [] []) (prec : Option ContractPrecision)
    (x : FVec Ideal ⟨2, ![K, M]⟩ φ₁) (y : FVec Ideal ⟨2, ![K, N]⟩ φ₂) (a : FVec Ideal ⟨2, ![M, N]⟩ .f32) (i : Fin M) (j : Fin N) :
    FloatOps.matmul (turned K M N wf) prec x y a (ix2 i j) = a (ix2 i j) + ∑ k : Fin K, x (ix2 k i) * y (ix2 k j) := by
  let D := turned K M N wf
  let E : D.contr.Idx ≃ Fin K := contrEquiv1 D K rfl rfl
  refine (Ideal.matmul_apply D prec _ _ _ (ix2 i j)).trans ?_
  rw [← Equiv.sum_comp E.symm]
  refine congrArg (a (ix2 i j) + ·) (Finset.sum_congr rfl fun k _ => ?_)
  have hk := contrEquiv1_symm_val D K rfl rfl k
  have el : D.lhsIdx (ix2 i j) (E.symm k) = ix2 k i := by
    funext b; apply Fin.ext
    match b with
    | ⟨0, _⟩ => exact hk
    | ⟨1, _⟩ => rfl
  have er : D.rhsIdx (ix2 i j) (E.symm k) = ix2 k j := by
    funext b; apply Fin.ext
    match b with
    | ⟨0, _⟩ => exact hk
    | ⟨1, _⟩ => rfl
  rw [el, er]

/-- A host's product is a kernel's onto zeros. -/
theorem host_product {sl sr so : Shape} {φ₁ φ₂ : FTy} (D : DotDims sl sr so) (prec : Option ContractPrecision) (x : FVec Ideal sl φ₁) (y : FVec Ideal sr φ₂) (j : so.Idx) :
    (Host.dotGeneral (F := Ideal) D prec x y j : EReal) = FloatOps.matmul (F := Ideal) D prec x y (fun _ => (0 : EReal)) j :=
  (Ideal.dotGeneral_apply D prec _ x y j).trans ((zero_add _).symm.trans (Ideal.matmul_apply D prec x y (fun _ => (0 : EReal)) j).symm)

/-- The host's product of the kind above, turned back, reads with its factors exchanged. -/
theorem host_turned {K M N : ℕ} (wf : DotDims.WF ⟨2, ![K, M]⟩ ⟨2, ![K, N]⟩ ⟨2, ![M, N]⟩ [0] [0] [1] [1] [] []) (prec : Option ContractPrecision)
    (x : FVec Ideal ⟨2, ![K, M]⟩ .f32) (y : FVec Ideal ⟨2, ![K, N]⟩ .f32) (h : (⟨2, ![M, N]⟩ : Shape).Transposes [1, 0] ⟨2, ![N, M]⟩) (j : Fin N) (i : Fin M) :
    transpose ⟨2, ![N, M]⟩ [1, 0] (Host.dotGeneral (F := Ideal) (turned K M N wf) prec x y) h (ix2 j i) = ∑ k : Fin K, y (ix2 k j) * x (ix2 k i) := by
  refine (transpose_apply _ _ h (ix2 j i) (ix2 i j) fun b => match b with
    | ⟨0, _⟩ => rfl
    | ⟨1, _⟩ => rfl).trans ?_
  refine (host_product _ prec x y _).trans ((turned_at wf prec x y _ i j).trans ((zero_add _).trans ?_))
  exact Finset.sum_congr rfl fun k _ => mul_comm _ _

/-! ## The kernels' fold -/

/-- A step: the block's product is added to what is there. -/
theorem step_at {K M N : ℕ} {φ₁ φ₂ : FTy} (wf : DotDims.WF ⟨2, ![K, M]⟩ ⟨2, ![K, N]⟩ ⟨2, ![M, N]⟩ [0] [0] [1] [1] [] [])
    (a : FVec Ideal ⟨2, ![M, N]⟩ .f32) (x : FVec Ideal ⟨2, ![K, M]⟩ φ₁) (y : FVec Ideal ⟨2, ![K, N]⟩ φ₂) (k : Fin M) (l : Fin N) :
    addf a (matmul (turned K M N wf) none x y (constant ⟨2, ![M, N]⟩ .f32 0x00000000#32)) (ix2 k l)
      = (a (ix2 k l) : EReal) + ∑ r : Fin K, x (ix2 r k) * y (ix2 r l) := by
  refine congrArg ((a (ix2 k l) : EReal) + ·) ((turned_at wf none x y _ k l).trans ?_)
  rw [constant_apply, Ideal.ofBits_zero_f32, zero_add]

/-- Five blocks of rows: the first's product is added to zeros, each later one's to what the ones before left. -/
theorem fold_rows {N w v W V : ℕ} (P : ((⟨2, ![w, v]⟩ : Shape).Idx → EReal) → ((⟨2, ![1664, w]⟩ : Shape).Idx → EReal) → ((⟨2, ![1664, v]⟩ : Shape).Idx → EReal) → (⟨2, ![w, v]⟩ : Shape).Idx → EReal)
    (hP : ∀ a x y k l, P a x y (ix2 k l) = a (ix2 k l) + ∑ r : Fin 1664, x (ix2 r k) * y (ix2 r l))
    (Z : (⟨2, ![w, v]⟩ : Shape).Idx → EReal) (hZ : ∀ i, Z i = 0)
    (X : (n : ℕ) → n < N → (⟨2, ![1664, w]⟩ : Shape).Idx → EReal) (Y : (n : ℕ) → n < N → (⟨2, ![1664, v]⟩ : Shape).Idx → EReal)
    (x : (⟨2, ![8208, W]⟩ : Shape).Idx → EReal) (y : (⟨2, ![8208, V]⟩ : Shape).Idx → EReal) (b : ℕ) (i : Fin w) (j : Fin v) (I : Fin W) (J : Fin V)
    (hX : ∀ s, s < 5 → ∀ (h : b + s < N) (r : Fin 1664), X (b + s) h (ix2 r i) = rowAt x (1664 * s + r.val) I)
    (hY : ∀ s, s < 5 → ∀ (h : b + s < N) (r : Fin 1664), Y (b + s) h (ix2 r j) = rowAt y (1664 * s + r.val) J) (h : b + 4 < N) :
    Pipeline.accAt (fun n h => P Z (X n h) (Y n h)) (fun n h a => P a (X n h) (Y n h)) b 4 h (ix2 i j) = ∑ p : Fin 8208, x (ix2 p I) * y (ix2 p J) := by
  have H : ∀ s, s < 5 → ∀ h : b + s < N, Pipeline.accAt (fun n h => P Z (X n h) (Y n h)) (fun n h a => P a (X n h) (Y n h)) b s h (ix2 i j)
      = ∑ s ∈ Finset.range (s + 1), ∑ r : Fin 1664, rowAt x (1664 * s + r.val) I * rowAt y (1664 * s + r.val) J := by
    intro s
    induction s with
    | zero =>
      intro hs h
      rw [Finset.sum_range_one, Pipeline.accAt_zero, hP, hZ, zero_add]
      exact Finset.sum_congr rfl fun r _ => congrArg₂ (· * ·) (hX 0 hs h r) (hY 0 hs h r)
    | succ s ih =>
      intro hs h
      rw [Finset.sum_range_succ, ← ih (by omega) (by omega), Pipeline.accAt_succ, hP]
      exact congrArg _ (Finset.sum_congr rfl fun r _ => congrArg₂ (· * ·) (hX (s + 1) hs h r) (hY (s + 1) hs h r))
  rw [H 4 (by decide) h, sum_blocks (fun t => rowAt x t I * rowAt y t J) 1664 5, ← sum_rows x y I J]

end Cert.Prod

end
-- ==== Proof.GradDown.lean ====
/- The gradient of the weights of the feed-forward part's last product: the call's result and the reference's, entry by entry. -/
module

public import proofs.«01_k».proof.Defs
public import proofs.«01_k».proof.Proof.Products
public import proofs.«01_k».proof.Proof.Gen.Kernel2Ideal.Value
public import proofs.«01_k».proof.Proof.Gen.Reference2Ideal.Run

@[expose] public section

noncomputable section

namespace Cert.Down

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel2Ideal Cert.Kernel2Ideal.Gen Cert.Kernel2Ideal.Value Cert.Prod

variable (m : (ℓ : Loc nD τ sig) → Buf (Elt Ideal) ℓ) (c : Dev nD)

/-- The two arguments of a device. -/
abbrev argX : S8208x2816.Idx → EReal := m ((c.tc : Thread nD τ).loc main_arg0)
abbrev argY : S8208x1024.Idx → EReal := m ((c.tc : Thread nD τ).loc main_arg1)

/-! ## The blocks -/

theorem V_x : V m c main_v1 = truncf (F := Ideal) .bf16 (pad S8320x2816 ![48, 0] ![64, 0] ![0, 0] (argX m c) (sitofp (F := Ideal) .f32 (constantI S_ 32 0#32))
    pads_S8208x2816_S8320x2816_48640_000 h_S_) bitsLt_bf16_f32 := by
  unfold V
  simp only [List.flatten_cons, List.flatten_nil, List.append_nil, List.cons_append, List.nil_append]
  after_results_simp <;> rfl

theorem V_y : V m c main_v3 = truncf (F := Ideal) .bf16 (pad S8320x1024 ![48, 0] ![64, 0] ![0, 0] (argY m c) (sitofp (F := Ideal) .f32 (constantI S_ 32 0#32))
    pads_S8208x1024_S8320x1024_48640_000 h_S_) bitsLt_bf16_f32 := by
  unfold V
  simp only [List.flatten_cons, List.flatten_nil, List.append_nil, List.cons_append, List.nil_append]
  after_results_simp <;> rfl

theorem idx_x : ∀ t : Fin cfg0.N, win0_0.index t = ![t.val % 5, 0] :=
  (by decide +kernel : ∀ t : Fin grid0.N, win0_0.index t = ![t.val % 5, 0])
theorem idx_y : ∀ t : Fin cfg0.N, win0_1.index t = ![t.val % 5, t.val / 5] :=
  (by decide +kernel : ∀ t : Fin grid0.N, win0_1.index t = ![t.val % 5, t.val / 5])

theorem cut_x (t : Fin cfg0.N) (y : S1664x2816.Idx) (i : S8320x2816.Idx) (h0 : (i 0).val = 1664 * (t.val % 5) + (y 0).val) (h1 : (i 1).val = (y 1).val) :
    iblk m c 0 t y = V m c main_v1 i := by
  have e := idx_x t
  unfold iblk
  blk_simp
  blk_ext [e]

theorem block_x (t : Fin cfg0.N) (s : ℕ) (hs : t.val % 5 = s) (r : Fin 1664) (k : Fin 2816) :
    (iblk m c 0 t : S1664x2816.Idx → EReal) (ix2 r k) = rowAt (argX m c) (1664 * s + r.val) k := by
  subst hs
  exact (cut_x m c t (ix2 r k) (ix2 ⟨1664 * (t.val % 5) + r.val, by have := r.isLt; omega⟩ k) rfl rfl).trans
    ((congrFun (V_x m c) _).trans (pad_at _ _ zero_word pads_S8208x2816_S8320x2816_48640_000 h_S_ _ _))

theorem cut_y (t : Fin cfg0.N) (y : S1664x512.Idx) (i : S8320x1024.Idx) (h0 : (i 0).val = 1664 * (t.val % 5) + (y 0).val) (h1 : (i 1).val = 512 * (t.val / 5) + (y 1).val) :
    iblk m c 1 t y = V m c main_v3 i := by
  have e := idx_y t
  unfold iblk
  blk_simp
  blk_ext [e]

theorem block_y (t : Fin cfg0.N) (s : ℕ) (hs : t.val % 5 = s) (r : Fin 1664) (l : Fin 512) (L : Fin 1024) (hL : L.val = 512 * (t.val / 5) + l.val) :
    (iblk m c 1 t : S1664x512.Idx → EReal) (ix2 r l) = rowAt (argY m c) (1664 * s + r.val) L := by
  subst hs
  exact (cut_y m c t (ix2 r l) (ix2 ⟨1664 * (t.val % 5) + r.val, by have := r.isLt; omega⟩ L) rfl hL).trans
    ((congrFun (V_y m c) _).trans (pad_at _ _ zero_word pads_S8208x1024_S8320x1024_48640_000 h_S_ _ _))

/-! ## The fold -/

theorem pay_at (a : FVec Ideal S2816x512 .f32) (x : FVec Ideal S1664x2816 .bf16) (y : FVec Ideal S1664x512 .bf16) (k : Fin 2816) (l : Fin 512) :
    (k0_pay2 (F := Ideal) a x y (ix2 k l) : EReal) = a (ix2 k l) + ∑ r : Fin 1664, x (ix2 r k) * y (ix2 r l) := by
  unfold k0_pay2
  simp only [shapeCast_self]
  exact step_at _ a x y k l

/-- What the call leaves: at each entry the sum over the rows. -/
theorem result (k : Fin 2816) (l : Fin 1024) : (G2 m c (ix2 k l) : EReal) = ∑ p : Fin 8208, argX m c (ix2 p k) * argY m c (ix2 p l) := by
  have hN : cfg0.N = 10 := N_0
  have hk := k.isLt
  have hl := l.isLt
  let i : S2816x1024.Idx := ix2 k l
  have hb : run2Of i = l.val / 512 := by show 2 * (k.val / 2816 - 0) + 1 * (l.val / 512 - 0) = _; omega
  let q : Fin 512 := ⟨l.val % 512, Nat.mod_lt _ (by decide)⟩
  have hi : loc2Of i = ix2 k q := by
    funext a; apply Fin.ext
    match a with
    | ⟨0, _⟩ => exact Nat.mod_eq_of_lt hk
    | ⟨1, _⟩ => rfl
  unfold G2
  rw [dif_pos (show 5 * run2Of i + 4 < cfg0.N by rw [hb, hN]; omega), hi]
  exact fold_rows _ pay_at _ (fun _ => Ideal.ofBits_zero_f32) _ _ (argX m c) (argY m c) (5 * run2Of i) k q k l
    (fun s hs h r => block_x m c ⟨_, h⟩ s (by show (5 * run2Of i + s) % 5 = s; omega) r k)
    (fun s hs h r => block_y m c ⟨_, h⟩ s (by show (5 * run2Of i + s) % 5 = s; omega) r q l
      (by show l.val = 512 * ((5 * run2Of i + s) / 5) + l.val % 512; rw [hb]; omega)) _

/-! ## The two programs -/

theorem algebraic : Cert.algebraic_Kernel2Ideal_Reference2Ideal (hKernel2Ideal := Cert.Kernel2Ideal.Gen.facts) (hReference2Ideal := Cert.Reference2Ideal.Gen.facts) := by
  intro m g m' g' _ harg
  refine ⟨fun c => G2 m c, Cert.Kernel2Ideal.Value.run m g, ?_⟩
  refine (θ_run (Cert.Reference2Ideal.defs (F := Ideal)) _ _).mono (fun r h c => ?_) (Cert.Reference2Ideal.Value.run (F := Ideal) m' g')
  obtain ⟨hr, h0, h1⟩ := h c
  refine ⟨hr.trans ?_, h0, h1⟩
  rw [(harg c).1, (harg c).2]
  funext i
  have h : ∀ j : S2816x1024.Idx, j = ix2 (j 0) (j 1) := eq_ix2
  rw [h i]
  exact (host_turned _ _ _ _ _ (i 0) (i 1)).trans (result m c (i 0) (i 1)).symm

end Cert.Down

end
-- ==== Proof.Columns.lean ====
/- The order in which the projection's calls hold their columns, and the sums over them. -/
module

public import proofs.«01_k».proof.Proof.Products

@[expose] public section

noncomputable section

namespace Cert.Prod

open Idealize.ShloMosaic hiding ix1 ix2 ix3 ix4 eq_ix2 eq_ix3
open Idealize.ShloMosaic.ValueIdx

/-- What stands in column `s` of the calls' arrays, given the 3600 columns in the model's order: the first 2048, then 512 from column
    3072, then 1024 from column 2048, then the last 16, then zeros. -/
def colAt (f : Fin 3600 → EReal) (s : ℕ) : EReal :=
  if _ : s < 2048 then f ⟨s, by omega⟩
  else if _ : s < 2560 then f ⟨s + 1024, by omega⟩
  else if _ : s < 3584 then f ⟨s - 512, by omega⟩
  else if _ : s < 3600 then f ⟨s, by omega⟩
  else 0

theorem colAt_zero (s : ℕ) : colAt (fun _ => 0) s = 0 := by
  unfold colAt
  split_ifs <;> rfl

/-- The five pieces side by side. -/
theorem cat_at {n : ℕ} (x : (⟨2, ![n, 3600]⟩ : Shape).Idx → EReal) (z : (⟨2, ![n, 240]⟩ : Shape).Idx → EReal) (hz : ∀ j, z j = 0)
    (h0 : (⟨2, ![n, 3600]⟩ : Shape).Slices ![0, 0] ⟨2, ![n, 2048]⟩) (h1 : (⟨2, ![n, 3600]⟩ : Shape).Slices ![0, 3072] ⟨2, ![n, 512]⟩)
    (h2 : (⟨2, ![n, 3600]⟩ : Shape).Slices ![0, 2048] ⟨2, ![n, 1024]⟩) (h3 : (⟨2, ![n, 3600]⟩ : Shape).Slices ![0, 3584] ⟨2, ![n, 16]⟩)
    (hc) (t : Fin n) (s : Fin 3840) :
    concatenate ⟨2, ![n, 3840]⟩ 1 [⟨⟨2, ![n, 2048]⟩, extractStridedSlice ⟨2, ![n, 2048]⟩ ![0, 0] x h0⟩, ⟨⟨2, ![n, 512]⟩, extractStridedSlice ⟨2, ![n, 512]⟩ ![0, 3072] x h1⟩,
      ⟨⟨2, ![n, 1024]⟩, extractStridedSlice ⟨2, ![n, 1024]⟩ ![0, 2048] x h2⟩, ⟨⟨2, ![n, 16]⟩, extractStridedSlice ⟨2, ![n, 16]⟩ ![0, 3584] x h3⟩, ⟨⟨2, ![n, 240]⟩, z⟩] hc (ix2 t s)
      = colAt (fun k => x (ix2 t k)) s.val := by
  have hs := s.isLt
  unfold colAt
  split_ifs with c0 c1 c2 c3
  · rw [concatenate_apply_piece 1 _ hc (ix2 t s) 0 (by simp) ⟨2, ![n, 2048]⟩ (extractStridedSlice ⟨2, ![n, 2048]⟩ ![0, 0] x h0) rfl rfl 0 rfl (ix2 t ⟨s.val, c0⟩)
      (fun b hb => match b with
        | ⟨0, _⟩ => rfl
        | ⟨1, _⟩ => absurd rfl hb) (by show 0 + s.val = s.val; omega)]
    exact extractStridedSlice_apply _ _ _ _ _ fun b => match b with
      | ⟨0, _⟩ => by show t.val = 0 + t.val; omega
      | ⟨1, _⟩ => by show s.val = 0 + s.val; omega
  · rw [concatenate_apply_piece 1 _ hc (ix2 t s) 1 (by simp) ⟨2, ![n, 512]⟩ (extractStridedSlice ⟨2, ![n, 512]⟩ ![0, 3072] x h1) rfl rfl 2048 rfl (ix2 t ⟨s.val - 2048, by omega⟩)
      (fun b hb => match b with
        | ⟨0, _⟩ => rfl
        | ⟨1, _⟩ => absurd rfl hb) (by show 2048 + (s.val - 2048) = s.val; omega)]
    exact extractStridedSlice_apply _ _ _ _ _ fun b => match b with
      | ⟨0, _⟩ => by show t.val = 0 + t.val; omega
      | ⟨1, _⟩ => by show s.val + 1024 = 3072 + (s.val - 2048); omega
  · rw [concatenate_apply_piece 1 _ hc (ix2 t s) 2 (by simp) ⟨2, ![n, 1024]⟩ (extractStridedSlice ⟨2, ![n, 1024]⟩ ![0, 2048] x h2) rfl rfl 2560 rfl (ix2 t ⟨s.val - 2560, by omega⟩)
      (fun b hb => match b with
        | ⟨0, _⟩ => rfl
        | ⟨1, _⟩ => absurd rfl hb) (by show 2560 + (s.val - 2560) = s.val; omega)]
    exact extractStridedSlice_apply _ _ _ _ _ fun b => match b with
      | ⟨0, _⟩ => by show t.val = 0 + t.val; omega
      | ⟨1, _⟩ => by show s.val - 512 = 2048 + (s.val - 2560); omega
  · rw [concatenate_apply_piece 1 _ hc (ix2 t s) 3 (by simp) ⟨2, ![n, 16]⟩ (extractStridedSlice ⟨2, ![n, 16]⟩ ![0, 3584] x h3) rfl rfl 3584 rfl (ix2 t ⟨s.val - 3584, by omega⟩)
      (fun b hb => match b with
        | ⟨0, _⟩ => rfl
        | ⟨1, _⟩ => absurd rfl hb) (by show 3584 + (s.val - 3584) = s.val; omega)]
    exact extractStridedSlice_apply _ _ _ _ _ fun b => match b with
      | ⟨0, _⟩ => by show t.val = 0 + t.val; omega
      | ⟨1, _⟩ => by show s.val = 3584 + (s.val - 3584); omega
  · rw [concatenate_apply_piece 1 _ hc (ix2 t s) 4 (by simp) ⟨2, ![n, 240]⟩ z rfl rfl 3600 rfl (ix2 t ⟨s.val - 3600, by omega⟩)
      (fun b hb => match b with
        | ⟨0, _⟩ => rfl
        | ⟨1, _⟩ => absurd rfl hb) (by show 3600 + (s.val - 3600) = s.val; omega)]
    exact hz _

/-- A sum over the calls' columns is a sum over the model's. -/
theorem sum_cols (f g : Fin 3600 → EReal) : ∑ s ∈ Finset.range 3840, colAt f s * colAt g s = ∑ k : Fin 3600, f k * g k := by
  let F : ℕ → EReal := fun k => if h : k < 3600 then f ⟨k, h⟩ * g ⟨k, h⟩ else 0
  have hF : ∑ k : Fin 3600, f k * g k = ∑ k ∈ Finset.range 3600, F k := by
    rw [Finset.sum_range]
    exact Finset.sum_congr rfl fun k _ => by show _ = dite _ _ _; rw [dif_pos k.isLt]
  have e0 : ∀ s, s < 2048 → colAt f s * colAt g s = F s := by
    intro s hs
    show _ = dite _ _ _
    unfold colAt
    rw [dif_pos hs, dif_pos hs, dif_pos (by omega)]
  have e1 : ∀ s, s < 512 → colAt f (2048 + s) * colAt g (2048 + s) = F (3072 + s) := by
    intro s hs
    show _ = dite _ _ _
    unfold colAt
    rw [dif_neg (by omega), dif_pos (by omega), dif_neg (by omega), dif_pos (by omega), dif_pos (by omega)]
    congr 2 <;> (apply Fin.ext; show 2048 + s + 1024 = 3072 + s; omega)
  have e2 : ∀ s, s < 1024 → colAt f (2048 + (512 + s)) * colAt g (2048 + (512 + s)) = F (2048 + s) := by
    intro s hs
    show _ = dite _ _ _
    unfold colAt
    rw [dif_neg (by omega), dif_neg (by omega), dif_pos (by omega), dif_neg (by omega), dif_neg (by omega), dif_pos (by omega), dif_pos (by omega)]
    congr 2 <;> (apply Fin.ext; show 2048 + (512 + s) - 512 = 2048 + s; omega)
  have e3 : ∀ s, s < 16 → colAt f (2048 + (512 + (1024 + s))) * colAt g (2048 + (512 + (1024 + s))) = F (2048 + (1024 + (512 + s))) := by
    intro s hs
    show _ = dite _ _ _
    unfold colAt
    rw [dif_neg (by omega), dif_neg (by omega), dif_neg (by omega), dif_pos (by omega), dif_neg (by omega), dif_neg (by omega), dif_neg (by omega), dif_pos (by omega), dif_pos (by omega)]
    congr 2 <;> (apply Fin.ext; show 2048 + (512 + (1024 + s)) = 2048 + (1024 + (512 + s)); omega)
  have e4 : ∀ s, colAt f (2048 + (512 + (1024 + (16 + s)))) * colAt g (2048 + (512 + (1024 + (16 + s)))) = 0 := by
    intro s
    unfold colAt
    rw [dif_neg (by omega), dif_neg (by omega), dif_neg (by omega), dif_neg (by omega), zero_mul]
  rw [hF, show 3840 = 2048 + (512 + (1024 + (16 + 240))) from rfl, show 3600 = 2048 + (1024 + (512 + 16)) from rfl]
  simp only [Finset.sum_range_add]
  rw [Finset.sum_congr rfl fun s hs => e0 s (Finset.mem_range.mp hs), Finset.sum_congr rfl fun s hs => e1 s (Finset.mem_range.mp hs),
    Finset.sum_congr rfl fun s hs => e2 s (Finset.mem_range.mp hs), Finset.sum_congr rfl fun s hs => e3 s (Finset.mem_range.mp hs),
    Finset.sum_eq_zero fun s _ => e4 s, add_zero]
  rw [show ∑ s ∈ Finset.range 512, F (2048 + (1024 + s)) = ∑ s ∈ Finset.range 512, F (3072 + s) from
    Finset.sum_congr rfl fun s _ => congrArg F (by omega)]
  exact congrArg _ (add_left_comm _ _ _)

end Cert.Prod

end
-- ==== Proof.GradRows.lean ====
/- The gradient of the projection's input: the call's result and the reference's, entry by entry. -/
module

public import proofs.«01_k».proof.Defs
public import proofs.«01_k».proof.Proof.Columns
public import proofs.«01_k».proof.Proof.Gen.Kernel4Ideal.Value
public import proofs.«01_k».proof.Proof.Gen.Reference4Ideal.Run

@[expose] public section

noncomputable section

namespace Cert.Rows

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel4Ideal Cert.Kernel4Ideal.Gen Cert.Kernel4Ideal.Value Cert.Prod

variable (m : (ℓ : Loc nD τ sig) → Buf (Elt Ideal) ℓ) (c : Dev nD)

/-- The two arguments of a device. -/
abbrev argD : S8208x3600.Idx → EReal := m ((c.tc : Thread nD τ).loc main_arg0)
abbrev argW : S1024x3600.Idx → EReal := m ((c.tc : Thread nD τ).loc main_arg1)

/-! ## What the host hands the call -/

/-- The padded rows, and the weights, with their columns in the call's order. -/
def colsD (x : S8208x3600.Idx → EReal) : S8320x3840.Idx → EReal :=
  let y : S8320x3600.Idx → EReal := pad S8320x3600 ![48, 0] ![64, 0] ![0, 0] x (sitofp (F := Ideal) .f32 (constantI S_ 32 0#32)) pads_S8208x3600_S8320x3600_48640_000 h_S_
  concatenate S8320x3840 1 [⟨S8320x2048, extractStridedSlice S8320x2048 ![0, 0] y slices_S8320x3600_S8320x2048_0_0⟩, ⟨S8320x512, extractStridedSlice S8320x512 ![0, 3072] y slices_S8320x3600_S8320x512_0_3072⟩,
    ⟨S8320x1024, extractStridedSlice S8320x1024 ![0, 2048] y slices_S8320x3600_S8320x1024_0_2048⟩, ⟨S8320x16, extractStridedSlice S8320x16 ![0, 3584] y slices_S8320x3600_S8320x16_0_3584⟩,
    ⟨S8320x240, (broadcastInDim S8320x240 ![] bcast_S_S8320x240 (constant (F := Ideal) S_ .f32 0x00000000#32) : S8320x240.Idx → EReal)⟩] concatenates_S8320x2048_S8320x512_S8320x1024_S8320x16_S8320x240_S8320x3840_d1
def colsW (w : S1024x3600.Idx → EReal) : S1024x3840.Idx → EReal :=
  concatenate S1024x3840 1 [⟨S1024x2048, extractStridedSlice S1024x2048 ![0, 0] w slices_S1024x3600_S1024x2048_0_0⟩, ⟨S1024x512, extractStridedSlice S1024x512 ![0, 3072] w slices_S1024x3600_S1024x512_0_3072⟩,
    ⟨S1024x1024, extractStridedSlice S1024x1024 ![0, 2048] w slices_S1024x3600_S1024x1024_0_2048⟩, ⟨S1024x16, extractStridedSlice S1024x16 ![0, 3584] w slices_S1024x3600_S1024x16_0_3584⟩,
    ⟨S1024x240, (broadcastInDim S1024x240 ![] bcast_S_S1024x240 (constant (F := Ideal) S_ .f32 0x00000000#32) : S1024x240.Idx → EReal)⟩] concatenates_S1024x2048_S1024x512_S1024x1024_S1024x16_S1024x240_S1024x3840_d1

theorem colsD_at (x : S8208x3600.Idx → EReal) (t : Fin 8320) (s : Fin 3840) : colsD x (ix2 t s) = colAt (fun k => rowAt x t.val k) s.val := by
  unfold colsD
  refine (cat_at _ _ (fun j => ?_) _ _ _ _ _ t s).trans (congrArg (fun f => colAt f s.val) (funext fun k => ?_))
  · exact (broadcastInDim_scalar_apply _ _ _).trans Ideal.ofBits_zero_f32
  · exact pad_at x _ zero_word pads_S8208x3600_S8320x3600_48640_000 h_S_ t k
theorem colsW_at (w : S1024x3600.Idx → EReal) (e : Fin 1024) (s : Fin 3840) : colsW w (ix2 e s) = colAt (fun k => w (ix2 e k)) s.val := by
  unfold colsW
  exact cat_at _ _ (fun j => (broadcastInDim_scalar_apply _ _ _).trans Ideal.ofBits_zero_f32) _ _ _ _ _ e s

theorem V_d0 : (V m c main_v15 : S8320x1536.Idx → EReal) = extractStridedSlice S8320x1536 ![0, 0] (colsD (argD m c)) slices_S8320x3840_S8320x1536_0_0 := by
  unfold V colsD
  simp only [List.flatten_cons, List.flatten_nil, List.append_nil, List.cons_append, List.nil_append]
  after_results_simp <;> rfl
theorem V_w0 : (V m c main_v18 : S1024x1536.Idx → EReal) = extractStridedSlice S1024x1536 ![0, 0] (colsW (argW m c)) slices_S1024x3840_S1024x1536_0_0 := by
  unfold V colsW
  simp only [List.flatten_cons, List.flatten_nil, List.append_nil, List.cons_append, List.nil_append]
  after_results_simp <;> rfl
theorem V_d1 : (V m c main_v16 : S8320x1024.Idx → EReal) = extractStridedSlice S8320x1024 ![0, 1536] (colsD (argD m c)) slices_S8320x3840_S8320x1024_0_1536 := by
  unfold V colsD
  simp only [List.flatten_cons, List.flatten_nil, List.append_nil, List.cons_append, List.nil_append]
  after_results_simp <;> rfl
theorem V_w1 : (V m c main_v19 : S1024x1024.Idx → EReal) = extractStridedSlice S1024x1024 ![0, 1536] (colsW (argW m c)) slices_S1024x3840_S1024x1024_0_1536 := by
  unfold V colsW
  simp only [List.flatten_cons, List.flatten_nil, List.append_nil, List.cons_append, List.nil_append]
  after_results_simp <;> rfl
theorem V_d2 : (V m c main_v17 : S8320x1280.Idx → EReal) = extractStridedSlice S8320x1280 ![0, 2560] (colsD (argD m c)) slices_S8320x3840_S8320x1280_0_2560 := by
  unfold V colsD
  simp only [List.flatten_cons, List.flatten_nil, List.append_nil, List.cons_append, List.nil_append]
  after_results_simp <;> rfl
theorem V_w2 : (V m c main_v20 : S1024x1280.Idx → EReal) = extractStridedSlice S1024x1280 ![0, 2560] (colsW (argW m c)) slices_S1024x3840_S1024x1280_0_2560 := by
  unfold V colsW
  simp only [List.flatten_cons, List.flatten_nil, List.append_nil, List.cons_append, List.nil_append]
  after_results_simp <;> rfl

/-! ## The blocks of a point -/

theorem idx_d0 : ∀ t : Fin cfg0.N, win0_0.index t = ![t.val, 0] :=
  (by decide +kernel : ∀ t : Fin grid0.N, win0_0.index t = ![t.val, 0])
theorem cut_d0 (t : Fin cfg0.N) (y : S640x1536.Idx) (i : S8320x1536.Idx) (h0 : (i 0).val = 640 * t.val + (y 0).val) (h1 : (i 1).val = (y 1).val) :
    iblk m c 0 t y = V m c main_v15 i := by
  have e := idx_d0 t
  unfold iblk
  blk_simp
  blk_ext [e]
theorem block_d0 (t : Fin cfg0.N) (r : Fin 640) (T : Fin 8320) (hT : T.val = 640 * t.val + r.val) (s : Fin 1536) :
    (iblk m c 0 t : S640x1536.Idx → EReal) (ix2 r s) = colAt (fun k => rowAt (argD m c) T.val k) (0 + s.val) :=
  (cut_d0 m c t (ix2 r s) (ix2 T s) hT rfl).trans ((congrFun (V_d0 m c) (ix2 T s)).trans
    ((extractStridedSlice_apply _ _ _ (ix2 T s) (ix2 T (⟨0 + s.val, by have := s.isLt; omega⟩ : Fin 3840)) (fun a => by match a with | ⟨0, _⟩ => exact (Nat.zero_add _).symm | ⟨1, _⟩ => rfl)).trans (colsD_at _ _ _)))
theorem idx_w0 : ∀ t : Fin cfg0.N, win0_3.index t = ![0, 0] :=
  (by decide +kernel : ∀ t : Fin grid0.N, win0_3.index t = ![0, 0])
theorem cut_w0 (t : Fin cfg0.N) (y : S1024x1536.Idx) (i : S1024x1536.Idx) (h0 : (i 0).val = (y 0).val) (h1 : (i 1).val = (y 1).val) :
    iblk m c 3 t y = V m c main_v18 i := by
  have e := idx_w0 t
  unfold iblk
  blk_simp
  blk_ext [e]
theorem block_w0 (t : Fin cfg0.N) (e : Fin 1024) (s : Fin 1536) :
    (iblk m c 3 t : S1024x1536.Idx → EReal) (ix2 e s) = colAt (fun k => argW m c (ix2 e k)) (0 + s.val) :=
  (cut_w0 m c t (ix2 e s) (ix2 e s) rfl rfl).trans ((congrFun (V_w0 m c) (ix2 e s)).trans
    ((extractStridedSlice_apply _ _ _ (ix2 e s) (ix2 e (⟨0 + s.val, by have := s.isLt; omega⟩ : Fin 3840)) (fun a => by match a with | ⟨0, _⟩ => exact (Nat.zero_add _).symm | ⟨1, _⟩ => rfl)).trans (colsW_at _ _ _)))

theorem idx_d1 : ∀ t : Fin cfg0.N, win0_1.index t = ![t.val, 0] :=
  (by decide +kernel : ∀ t : Fin grid0.N, win0_1.index t = ![t.val, 0])
theorem cut_d1 (t : Fin cfg0.N) (y : S640x1024.Idx) (i : S8320x1024.Idx) (h0 : (i 0).val = 640 * t.val + (y 0).val) (h1 : (i 1).val = (y 1).val) :
    iblk m c 1 t y = V m c main_v16 i := by
  have e := idx_d1 t
  unfold iblk
  blk_simp
  blk_ext [e]
theorem block_d1 (t : Fin cfg0.N) (r : Fin 640) (T : Fin 8320) (hT : T.val = 640 * t.val + r.val) (s : Fin 1024) :
    (iblk m c 1 t : S640x1024.Idx → EReal) (ix2 r s) = colAt (fun k => rowAt (argD m c) T.val k) (1536 + s.val) :=
  (cut_d1 m c t (ix2 r s) (ix2 T s) hT rfl).trans ((congrFun (V_d1 m c) (ix2 T s)).trans
    ((extractStridedSlice_apply _ _ _ (ix2 T s) (ix2 T (⟨1536 + s.val, by have := s.isLt; omega⟩ : Fin 3840)) (fun a => by match a with | ⟨0, _⟩ => exact (Nat.zero_add _).symm | ⟨1, _⟩ => rfl)).trans (colsD_at _ _ _)))
theorem idx_w1 : ∀ t : Fin cfg0.N, win0_4.index t = ![0, 0] :=
  (by decide +kernel : ∀ t : Fin grid0.N, win0_4.index t = ![0, 0])
theorem cut_w1 (t : Fin cfg0.N) (y : S1024x1024.Idx) (i : S1024x1024.Idx) (h0 : (i 0).val = (y 0).val) (h1 : (i 1).val = (y 1).val) :
    iblk m c 4 t y = V m c main_v19 i := by
  have e := idx_w1 t
  unfold iblk
  blk_simp
  blk_ext [e]
theorem block_w1 (t : Fin cfg0.N) (e : Fin 1024) (s : Fin 1024) :
    (iblk m c 4 t : S1024x1024.Idx → EReal) (ix2 e s) = colAt (fun k => argW m c (ix2 e k)) (1536 + s.val) :=
  (cut_w1 m c t (ix2 e s) (ix2 e s) rfl rfl).trans ((congrFun (V_w1 m c) (ix2 e s)).trans
    ((extractStridedSlice_apply _ _ _ (ix2 e s) (ix2 e (⟨1536 + s.val, by have := s.isLt; omega⟩ : Fin 3840)) (fun a => by match a with | ⟨0, _⟩ => exact (Nat.zero_add _).symm | ⟨1, _⟩ => rfl)).trans (colsW_at _ _ _)))

theorem idx_d2 : ∀ t : Fin cfg0.N, win0_2.index t = ![t.val, 0] :=
  (by decide +kernel : ∀ t : Fin grid0.N, win0_2.index t = ![t.val, 0])
theorem cut_d2 (t : Fin cfg0.N) (y : S640x1280.Idx) (i : S8320x1280.Idx) (h0 : (i 0).val = 640 * t.val + (y 0).val) (h1 : (i 1).val = (y 1).val) :
    iblk m c 2 t y = V m c main_v17 i := by
  have e := idx_d2 t
  unfold iblk
  blk_simp
  blk_ext [e]
theorem block_d2 (t : Fin cfg0.N) (r : Fin 640) (T : Fin 8320) (hT : T.val = 640 * t.val + r.val) (s : Fin 1280) :
    (iblk m c 2 t : S640x1280.Idx → EReal) (ix2 r s) = colAt (fun k => rowAt (argD m c) T.val k) (2560 + s.val) :=
  (cut_d2 m c t (ix2 r s) (ix2 T s) hT rfl).trans ((congrFun (V_d2 m c) (ix2 T s)).trans
    ((extractStridedSlice_apply _ _ _ (ix2 T s) (ix2 T (⟨2560 + s.val, by have := s.isLt; omega⟩ : Fin 3840)) (fun a => by match a with | ⟨0, _⟩ => exact (Nat.zero_add _).symm | ⟨1, _⟩ => rfl)).trans (colsD_at _ _ _)))
theorem idx_w2 : ∀ t : Fin cfg0.N, win0_5.index t = ![0, 0] :=
  (by decide +kernel : ∀ t : Fin grid0.N, win0_5.index t = ![0, 0])
theorem cut_w2 (t : Fin cfg0.N) (y : S1024x1280.Idx) (i : S1024x1280.Idx) (h0 : (i 0).val = (y 0).val) (h1 : (i 1).val = (y 1).val) :
    iblk m c 5 t y = V m c main_v20 i := by
  have e := idx_w2 t
  unfold iblk
  blk_simp
  blk_ext [e]
theorem block_w2 (t : Fin cfg0.N) (e : Fin 1024) (s : Fin 1280) :
    (iblk m c 5 t : S1024x1280.Idx → EReal) (ix2 e s) = colAt (fun k => argW m c (ix2 e k)) (2560 + s.val) :=
  (cut_w2 m c t (ix2 e s) (ix2 e s) rfl rfl).trans ((congrFun (V_w2 m c) (ix2 e s)).trans
    ((extractStridedSlice_apply _ _ _ (ix2 e s) (ix2 e (⟨2560 + s.val, by have := s.isLt; omega⟩ : Fin 3840)) (fun a => by match a with | ⟨0, _⟩ => exact (Nat.zero_add _).symm | ⟨1, _⟩ => rfl)).trans (colsW_at _ _ _)))

/-! ## The call's result -/

/-- A product with the weights' rows, onto zeros. -/
theorem product_at {K M N : ℕ} (D : DotDims ⟨2, ![M, K]⟩ ⟨2, ![N, K]⟩ ⟨2, ![M, N]⟩) (hD : D = DotDims.transposedRhs M K N) (x : FVec Ideal ⟨2, ![M, K]⟩ .bf16) (y : FVec Ideal ⟨2, ![N, K]⟩ .bf16)
    (r : Fin M) (e : Fin N) : (matmul (F := Ideal) D none x y (constant (F := Ideal) ⟨2, ![M, N]⟩ .f32 0x00000000#32) (ix2 r e) : EReal) = ∑ s : Fin K, x (ix2 r s) * y (ix2 e s) := by
  subst hD
  refine (Ideal.matmul_transposedRhs_apply ..).trans ?_
  exact (congrArg (· + _) Ideal.ofBits_zero_f32).trans (zero_add _)

theorem pay_at (a : FVec Ideal S640x1536 .bf16) (x : FVec Ideal S1024x1536 .bf16) (b : FVec Ideal S640x1024 .bf16) (y : FVec Ideal S1024x1024 .bf16) (d : FVec Ideal S640x1280 .bf16) (z : FVec Ideal S1024x1280 .bf16)
    (r : Fin 640) (e : Fin 1024) : (k0_pay1 (F := Ideal) a x b y d z (ix2 r e) : EReal)
      = (∑ s : Fin 1536, a (ix2 r s) * x (ix2 e s)) + (∑ s : Fin 1024, b (ix2 r s) * y (ix2 e s)) + ∑ s : Fin 1280, d (ix2 r s) * z (ix2 e s) := by
  unfold k0_pay1
  simp only [shapeCast_self]
  exact congrArg₂ (· + ·) (congrArg₂ (· + ·) (product_at _ rfl a x r e) (product_at _ rfl b y r e)) (product_at _ rfl d z r e)

/-- The three runs of columns one after another. -/
theorem three_runs (f : ℕ → EReal) : (∑ s : Fin 1536, f (0 + s.val)) + (∑ s : Fin 1024, f (1536 + s.val)) + (∑ s : Fin 1280, f (2560 + s.val)) = ∑ s ∈ Finset.range 3840, f s := by
  rw [show 3840 = 1536 + 1024 + 1280 from rfl, Finset.sum_range_add, Finset.sum_range_add, Finset.sum_range, Finset.sum_range fun s => f (1536 + s), Finset.sum_range fun s => f (1536 + 1024 + s)]
  simp only [Nat.zero_add]

/-- What the call leaves at a row and a column. -/
def left (x : S8208x3600.Idx → EReal) (w : S1024x3600.Idx → EReal) : S8320x1024.Idx → EReal :=
  fun i => ∑ k : Fin 3600, rowAt x (i 0).val k * w (ix2 (i 1) k)

theorem pay_runs (a : FVec Ideal S640x1536 .bf16) (x : FVec Ideal S1024x1536 .bf16) (b : FVec Ideal S640x1024 .bf16) (y : FVec Ideal S1024x1024 .bf16) (d : FVec Ideal S640x1280 .bf16) (z : FVec Ideal S1024x1280 .bf16)
    (r : Fin 640) (e : Fin 1024) (f g : ℕ → EReal) (ha : ∀ s, (a (ix2 r s) : EReal) = f (0 + s.val)) (hx : ∀ s, (x (ix2 e s) : EReal) = g (0 + s.val))
    (hb : ∀ s, (b (ix2 r s) : EReal) = f (1536 + s.val)) (hy : ∀ s, (y (ix2 e s) : EReal) = g (1536 + s.val))
    (hd : ∀ s, (d (ix2 r s) : EReal) = f (2560 + s.val)) (hz : ∀ s, (z (ix2 e s) : EReal) = g (2560 + s.val)) :
    (k0_pay1 (F := Ideal) a x b y d z (ix2 r e) : EReal) = ∑ s ∈ Finset.range 3840, f s * g s := by
  refine (pay_at a x b y d z r e).trans ((congrArg₂ (· + ·) (congrArg₂ (· + ·) (Finset.sum_congr rfl fun s _ => ?_) (Finset.sum_congr rfl fun s _ => ?_)) (Finset.sum_congr rfl fun s _ => ?_)).trans (three_runs fun s => f s * g s))
  · exact congrArg₂ (· * ·) (ha s) (hx s)
  · exact congrArg₂ (· * ·) (hb s) (hy s)
  · exact congrArg₂ (· * ·) (hd s) (hz s)

theorem point (t : Fin cfg0.N) (r : Fin 640) (e : Fin 1024) (T : Fin 8320) (hT : T.val = 640 * t.val + r.val) :
    (k0_pay1 (F := Ideal) (iblk m c 0 t) (iblk m c 3 t) (iblk m c 1 t) (iblk m c 4 t) (iblk m c 2 t) (iblk m c 5 t) (ix2 r e) : EReal) = left (argD m c) (argW m c) (ix2 T e) :=
  (pay_runs _ _ _ _ _ _ r e (colAt fun k => rowAt (argD m c) T.val k) (colAt fun k => argW m c (ix2 e k))
    (block_d0 m c t r T hT) (block_w0 m c t e) (block_d1 m c t r T hT) (block_w1 m c t e) (block_d2 m c t r T hT) (block_w2 m c t e)).trans (sum_cols _ _)

/-- The reference's rows: the product at a token's row, zero at the others. -/
theorem reference_at (D : DotDims ⟨2, ![8208, 3600]⟩ ⟨2, ![1024, 3600]⟩ ⟨2, ![8208, 1024]⟩) (hD : D = DotDims.transposedRhs 8208 3600 1024) (x : FVec Ideal ⟨2, ![8208, 3600]⟩ .f32) (w : FVec Ideal ⟨2, ![1024, 3600]⟩ .f32)
    (hp : (⟨2, ![8208, 1024]⟩ : Shape).Pads ![48, 0] ![64, 0] ![0, 0] ⟨2, ![8320, 1024]⟩) (hs : 0 < S_.numel) (t : Fin 8320) (e : Fin 1024) :
    (pad ⟨2, ![8320, 1024]⟩ ![48, 0] ![64, 0] ![0, 0] (Host.dotGeneral (F := Ideal) D none x w) (sitofp (F := Ideal) .f32 (constantI S_ 32 0#32)) hp hs (ix2 t e) : EReal)
      = left x w (ix2 t e) := by
  subst hD
  refine (pad_at _ _ zero_word hp hs t e).trans ?_
  show _ = ∑ k : Fin 3600, rowAt x t.val k * w (ix2 e k)
  unfold rowAt
  split
  · exact (host_product _ none x w _).trans ((Ideal.matmul_transposedRhs_apply ..).trans (zero_add _))
  · exact (Finset.sum_eq_zero fun k _ => zero_mul _).symm

theorem idx_out : ∀ t : Fin cfg0.N, win0_6.index t = ![t.val, 0] :=
  (by decide +kernel : ∀ t : Fin grid0.N, win0_6.index t = ![t.val, 0])

theorem point_at (t : Fin cfg0.N) (y : S640x1024.Idx) (i : S8320x1024.Idx) (h0 : (i 0).val = 640 * t.val + (y 0).val) (h1 : (i 1).val = (y 1).val) :
    (k0_pay1 (F := Ideal) (iblk m c 0 t) (iblk m c 3 t) (iblk m c 1 t) (iblk m c 4 t) (iblk m c 2 t) (iblk m c 5 t) y : EReal) = left (argD m c) (argW m c) i := by
  have hy : ∀ j : S640x1024.Idx, j = ix2 (j 0) (j 1) := eq_ix2
  have hi : i = ix2 (i 0) (y 1) := (eq_ix2 i).trans (congrArg (ix2 (i 0)) (Fin.ext h1))
  rw [hy y, hi]
  exact point m c t (y 0) (y 1) (i 0) h0

theorem result : (dats m 0 c).arrAt 6 cfg0.N = left (argD m c) (argW m c) := by
  refine (dats m 0 c).arrAt_eq_of_covers 6 (left (argD m c) (argW m c)) (by decide +kernel) fun t hf y => ?_
  blk_simp
  rw [after0_6]
  frame_out
  refine point_at m c t y _ ?_ ?_
  · show win0_6.index t 0 * 640 + 1 * (y 0).val = _
    rw [idx_out t]
    show t.val * 640 + 1 * (y 0).val = _
    omega
  · show win0_6.index t 1 * 1024 + 1 * (y 1).val = _
    rw [idx_out t]
    show 0 * 1024 + 1 * (y 1).val = _
    omega

/-! ## The two programs -/

theorem algebraic : Cert.algebraic_Kernel4Ideal_Reference4Ideal (hKernel4Ideal := Cert.Kernel4Ideal.Gen.facts) (hReference4Ideal := Cert.Reference4Ideal.Gen.facts) := by
  intro m g m' g' _ harg
  refine ⟨fun c => left (argD m c) (argW m c), (θ_run (Cert.Kernel4Ideal.defs (F := Ideal)) _ _).mono (fun r h c => ?_) (Cert.Kernel4Ideal.Value.run_blocks m g), ?_⟩
  · obtain ⟨hr, h0, h1⟩ := h c
    exact ⟨hr.trans (result m c), h0, h1⟩
  refine (θ_run (Cert.Reference4Ideal.defs (F := Ideal)) _ _).mono (fun r h c => ?_) (Cert.Reference4Ideal.Value.run (F := Ideal) m' g')
  obtain ⟨hr, h0, h1⟩ := h c
  refine ⟨hr.trans ?_, h0, h1⟩
  rw [(harg c).1, (harg c).2]
  funext i
  have h : ∀ j : S8320x1024.Idx, j = ix2 (j 0) (j 1) := eq_ix2
  rw [h i]
  exact reference_at _ rfl (argD m c) (argW m c) _ _ (i 0) (i 1)

end Cert.Rows

end
-- ==== Proof.GradProj0.lean ====
/- The gradient of the projection's first columns (the queries, keys and values of the retention): the call's result and the reference's, entry by entry. -/
module

public import proofs.«01_k».proof.Defs
public import proofs.«01_k».proof.Proof.Products
public import proofs.«01_k».proof.Proof.Gen.Kernel6Ideal.Value
public import proofs.«01_k».proof.Proof.Gen.Reference6Ideal.Run

@[expose] public section

noncomputable section

namespace Cert.Proj0

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel6Ideal Cert.Kernel6Ideal.Gen Cert.Kernel6Ideal.Value Cert.Prod

variable (m : (ℓ : Loc nD τ sig) → Buf (Elt Ideal) ℓ) (c : Dev nD)

/-- The two arguments of a device. -/
abbrev argX : S8208x1024.Idx → EReal := m ((c.tc : Thread nD τ).loc main_arg0)
abbrev argY : S8208x1536.Idx → EReal := m ((c.tc : Thread nD τ).loc main_arg1)

/-! ## The blocks -/

theorem V_x : V m c main_v1 = truncf (F := Ideal) .bf16 (pad S8320x1024 ![48, 0] ![64, 0] ![0, 0] (argX m c) (sitofp (F := Ideal) .f32 (constantI S_ 32 0#32))
    pads_S8208x1024_S8320x1024_48640_000 h_S_) bitsLt_bf16_f32 := by
  unfold V
  simp only [List.flatten_cons, List.flatten_nil, List.append_nil, List.cons_append, List.nil_append]
  after_results_simp <;> rfl

theorem V_y : V m c main_v3 = truncf (F := Ideal) .bf16 (pad S8320x1536 ![48, 0] ![64, 0] ![0, 0] (argY m c) (sitofp (F := Ideal) .f32 (constantI S_ 32 0#32))
    pads_S8208x1536_S8320x1536_48640_000 h_S_) bitsLt_bf16_f32 := by
  unfold V
  simp only [List.flatten_cons, List.flatten_nil, List.append_nil, List.cons_append, List.nil_append]
  after_results_simp <;> rfl

theorem idx_x : ∀ t : Fin cfg0.N, win0_0.index t = ![t.val % 5, 0] :=
  (by decide +kernel : ∀ t : Fin grid0.N, win0_0.index t = ![t.val % 5, 0])
theorem idx_y : ∀ t : Fin cfg0.N, win0_1.index t = ![t.val % 5, 0] :=
  (by decide +kernel : ∀ t : Fin grid0.N, win0_1.index t = ![t.val % 5, 0])

theorem cut_x (t : Fin cfg0.N) (y : S1664x1024.Idx) (i : S8320x1024.Idx) (h0 : (i 0).val = 1664 * (t.val % 5) + (y 0).val) (h1 : (i 1).val = (y 1).val) :
    iblk m c 0 t y = V m c main_v1 i := by
  have e := idx_x t
  unfold iblk
  blk_simp
  blk_ext [e]

theorem block_x (t : Fin cfg0.N) (s : ℕ) (hs : t.val % 5 = s) (r : Fin 1664) (k : Fin 1024) :
    (iblk m c 0 t : S1664x1024.Idx → EReal) (ix2 r k) = rowAt (argX m c) (1664 * s + r.val) k := by
  subst hs
  exact (cut_x m c t (ix2 r k) (ix2 ⟨1664 * (t.val % 5) + r.val, by have := r.isLt; omega⟩ k) rfl rfl).trans
    ((congrFun (V_x m c) _).trans (pad_at _ _ zero_word pads_S8208x1024_S8320x1024_48640_000 h_S_ _ _))

theorem cut_y (t : Fin cfg0.N) (y : S1664x1536.Idx) (i : S8320x1536.Idx) (h0 : (i 0).val = 1664 * (t.val % 5) + (y 0).val) (h1 : (i 1).val = (y 1).val) :
    iblk m c 1 t y = V m c main_v3 i := by
  have e := idx_y t
  unfold iblk
  blk_simp
  blk_ext [e]

theorem block_y (t : Fin cfg0.N) (s : ℕ) (hs : t.val % 5 = s) (r : Fin 1664) (l : Fin 1536) (L : Fin 1536) (hL : L.val = l.val) :
    (iblk m c 1 t : S1664x1536.Idx → EReal) (ix2 r l) = rowAt (argY m c) (1664 * s + r.val) L := by
  subst hs
  exact (cut_y m c t (ix2 r l) (ix2 ⟨1664 * (t.val % 5) + r.val, by have := r.isLt; omega⟩ L) rfl hL).trans
    ((congrFun (V_y m c) _).trans (pad_at _ _ zero_word pads_S8208x1536_S8320x1536_48640_000 h_S_ _ _))

/-! ## The fold -/

theorem pay_at (a : FVec Ideal S1024x1536 .f32) (x : FVec Ideal S1664x1024 .bf16) (y : FVec Ideal S1664x1536 .bf16) (k : Fin 1024) (l : Fin 1536) :
    (k0_pay2 (F := Ideal) a x y (ix2 k l) : EReal) = a (ix2 k l) + ∑ r : Fin 1664, x (ix2 r k) * y (ix2 r l) := by
  unfold k0_pay2
  simp only [shapeCast_self]
  exact step_at _ a x y k l

/-- What the call leaves: at each entry the sum over the rows. -/
theorem result (k : Fin 1024) (l : Fin 1536) : (G2 m c (ix2 k l) : EReal) = ∑ p : Fin 8208, argX m c (ix2 p k) * argY m c (ix2 p l) := by
  have hN : cfg0.N = 5 := N_0
  have hk := k.isLt
  have hl := l.isLt
  let i : S1024x1536.Idx := ix2 k l
  have hb : run2Of i = 0 := by show 1 * (k.val / 1024 - 0) + 1 * (l.val / 1536 - 0) = _; omega
  have hi : loc2Of i = ix2 k l := by
    funext a; apply Fin.ext
    match a with
    | ⟨0, _⟩ => exact Nat.mod_eq_of_lt hk
    | ⟨1, _⟩ => exact Nat.mod_eq_of_lt hl
  unfold G2
  rw [dif_pos (show 5 * run2Of i + 4 < cfg0.N by rw [hb, hN]; omega), hi]
  exact fold_rows _ pay_at _ (fun _ => Ideal.ofBits_zero_f32) _ _ (argX m c) (argY m c) (5 * run2Of i) k l k l
    (fun s hs h r => block_x m c ⟨_, h⟩ s (by show (5 * run2Of i + s) % 5 = s; omega) r k)
    (fun s hs h r => block_y m c ⟨_, h⟩ s (by show (5 * run2Of i + s) % 5 = s; omega) r l l rfl) _

/-! ## The two programs -/

theorem algebraic : Cert.algebraic_Kernel6Ideal_Reference6Ideal (hKernel6Ideal := Cert.Kernel6Ideal.Gen.facts) (hReference6Ideal := Cert.Reference6Ideal.Gen.facts) := by
  intro m g m' g' _ harg
  refine ⟨fun c => G2 m c, Cert.Kernel6Ideal.Value.run m g, ?_⟩
  refine (θ_run (Cert.Reference6Ideal.defs (F := Ideal)) _ _).mono (fun r h c => ?_) (Cert.Reference6Ideal.Value.run (F := Ideal) m' g')
  obtain ⟨hr, h0, h1⟩ := h c
  refine ⟨hr.trans ?_, h0, h1⟩
  rw [(harg c).1, (harg c).2]
  funext i
  have h : ∀ j : S1024x1536.Idx, j = ix2 (j 0) (j 1) := eq_ix2
  rw [h i]
  exact (host_turned _ _ _ _ _ (i 0) (i 1)).trans (result m c (i 0) (i 1)).symm

end Cert.Proj0

end
-- ==== Proof.GradProj1.lean ====
/- The gradient of a square part of the projection's columns: the call's result and the reference's, entry by entry. -/
module

public import proofs.«01_k».proof.Defs
public import proofs.«01_k».proof.Proof.Products
public import proofs.«01_k».proof.Proof.Gen.Kernel7Ideal.Value
public import proofs.«01_k».proof.Proof.Gen.Reference7Ideal.Run

@[expose] public section

noncomputable section

namespace Cert.Proj1

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel7Ideal Cert.Kernel7Ideal.Gen Cert.Kernel7Ideal.Value Cert.Prod

variable (m : (ℓ : Loc nD τ sig) → Buf (Elt Ideal) ℓ) (c : Dev nD)

/-- The two arguments of a device. -/
abbrev argX : S8208x1024.Idx → EReal := m ((c.tc : Thread nD τ).loc main_arg0)
abbrev argY : S8208x1024.Idx → EReal := m ((c.tc : Thread nD τ).loc main_arg1)

/-! ## The blocks -/

theorem V_x : V m c main_v1 = truncf (F := Ideal) .bf16 (pad S8320x1024 ![48, 0] ![64, 0] ![0, 0] (argX m c) (sitofp (F := Ideal) .f32 (constantI S_ 32 0#32))
    pads_S8208x1024_S8320x1024_48640_000 h_S_) bitsLt_bf16_f32 := by
  unfold V
  simp only [List.flatten_cons, List.flatten_nil, List.append_nil, List.cons_append, List.nil_append]
  after_results_simp <;> rfl

theorem V_y : V m c main_v3 = truncf (F := Ideal) .bf16 (pad S8320x1024 ![48, 0] ![64, 0] ![0, 0] (argY m c) (sitofp (F := Ideal) .f32 (constantI S_ 32 0#32))
    pads_S8208x1024_S8320x1024_48640_000 h_S_) bitsLt_bf16_f32 := by
  unfold V
  simp only [List.flatten_cons, List.flatten_nil, List.append_nil, List.cons_append, List.nil_append]
  after_results_simp <;> rfl

theorem idx_x : ∀ t : Fin cfg0.N, win0_0.index t = ![t.val % 5, 0] :=
  (by decide +kernel : ∀ t : Fin grid0.N, win0_0.index t = ![t.val % 5, 0])
theorem idx_y : ∀ t : Fin cfg0.N, win0_1.index t = ![t.val % 5, 0] :=
  (by decide +kernel : ∀ t : Fin grid0.N, win0_1.index t = ![t.val % 5, 0])

theorem cut_x (t : Fin cfg0.N) (y : S1664x1024.Idx) (i : S8320x1024.Idx) (h0 : (i 0).val = 1664 * (t.val % 5) + (y 0).val) (h1 : (i 1).val = (y 1).val) :
    iblk m c 0 t y = V m c main_v1 i := by
  have e := idx_x t
  unfold iblk
  blk_simp
  blk_ext [e]

theorem block_x (t : Fin cfg0.N) (s : ℕ) (hs : t.val % 5 = s) (r : Fin 1664) (k : Fin 1024) :
    (iblk m c 0 t : S1664x1024.Idx → EReal) (ix2 r k) = rowAt (argX m c) (1664 * s + r.val) k := by
  subst hs
  exact (cut_x m c t (ix2 r k) (ix2 ⟨1664 * (t.val % 5) + r.val, by have := r.isLt; omega⟩ k) rfl rfl).trans
    ((congrFun (V_x m c) _).trans (pad_at _ _ zero_word pads_S8208x1024_S8320x1024_48640_000 h_S_ _ _))

theorem cut_y (t : Fin cfg0.N) (y : S1664x1024.Idx) (i : S8320x1024.Idx) (h0 : (i 0).val = 1664 * (t.val % 5) + (y 0).val) (h1 : (i 1).val = (y 1).val) :
    iblk m c 1 t y = V m c main_v3 i := by
  have e := idx_y t
  unfold iblk
  blk_simp
  blk_ext [e]

theorem block_y (t : Fin cfg0.N) (s : ℕ) (hs : t.val % 5 = s) (r : Fin 1664) (l : Fin 1024) (L : Fin 1024) (hL : L.val = l.val) :
    (iblk m c 1 t : S1664x1024.Idx → EReal) (ix2 r l) = rowAt (argY m c) (1664 * s + r.val) L := by
  subst hs
  exact (cut_y m c t (ix2 r l) (ix2 ⟨1664 * (t.val % 5) + r.val, by have := r.isLt; omega⟩ L) rfl hL).trans
    ((congrFun (V_y m c) _).trans (pad_at _ _ zero_word pads_S8208x1024_S8320x1024_48640_000 h_S_ _ _))

/-! ## The fold -/

theorem pay_at (a : FVec Ideal S1024x1024 .f32) (x : FVec Ideal S1664x1024 .bf16) (y : FVec Ideal S1664x1024 .bf16) (k : Fin 1024) (l : Fin 1024) :
    (k0_pay2 (F := Ideal) a x y (ix2 k l) : EReal) = a (ix2 k l) + ∑ r : Fin 1664, x (ix2 r k) * y (ix2 r l) := by
  unfold k0_pay2
  simp only [shapeCast_self]
  exact step_at _ a x y k l

/-- What the call leaves: at each entry the sum over the rows. -/
theorem result (k : Fin 1024) (l : Fin 1024) : (G2 m c (ix2 k l) : EReal) = ∑ p : Fin 8208, argX m c (ix2 p k) * argY m c (ix2 p l) := by
  have hN : cfg0.N = 5 := N_0
  have hk := k.isLt
  have hl := l.isLt
  let i : S1024x1024.Idx := ix2 k l
  have hb : run2Of i = 0 := by show 1 * (k.val / 1024 - 0) + 1 * (l.val / 1024 - 0) = _; omega
  have hi : loc2Of i = ix2 k l := by
    funext a; apply Fin.ext
    match a with
    | ⟨0, _⟩ => exact Nat.mod_eq_of_lt hk
    | ⟨1, _⟩ => exact Nat.mod_eq_of_lt hl
  unfold G2
  rw [dif_pos (show 5 * run2Of i + 4 < cfg0.N by rw [hb, hN]; omega), hi]
  exact fold_rows _ pay_at _ (fun _ => Ideal.ofBits_zero_f32) _ _ (argX m c) (argY m c) (5 * run2Of i) k l k l
    (fun s hs h r => block_x m c ⟨_, h⟩ s (by show (5 * run2Of i + s) % 5 = s; omega) r k)
    (fun s hs h r => block_y m c ⟨_, h⟩ s (by show (5 * run2Of i + s) % 5 = s; omega) r l l rfl) _

/-! ## The two programs -/

theorem algebraic : Cert.algebraic_Kernel7Ideal_Reference7Ideal (hKernel7Ideal := Cert.Kernel7Ideal.Gen.facts) (hReference7Ideal := Cert.Reference7Ideal.Gen.facts) := by
  intro m g m' g' _ harg
  refine ⟨fun c => G2 m c, Cert.Kernel7Ideal.Value.run m g, ?_⟩
  refine (θ_run (Cert.Reference7Ideal.defs (F := Ideal)) _ _).mono (fun r h c => ?_) (Cert.Reference7Ideal.Value.run (F := Ideal) m' g')
  obtain ⟨hr, h0, h1⟩ := h c
  refine ⟨hr.trans ?_, h0, h1⟩
  rw [(harg c).1, (harg c).2]
  funext i
  have h : ∀ j : S1024x1024.Idx, j = ix2 (j 0) (j 1) := eq_ix2
  rw [h i]
  exact (host_turned _ _ _ _ _ (i 0) (i 1)).trans (result m c (i 0) (i 1)).symm

end Cert.Proj1

end
-- ==== Proof.GradProj2.lean ====
/- The gradient of the projection's last columns: the call's result and the reference's, entry by entry. -/
module

public import proofs.«01_k».proof.Defs
public import proofs.«01_k».proof.Proof.Products
public import proofs.«01_k».proof.Proof.Gen.Kernel8Ideal.Value
public import proofs.«01_k».proof.Proof.Gen.Reference8Ideal.Run

@[expose] public section

noncomputable section

namespace Cert.Proj2

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel8Ideal Cert.Kernel8Ideal.Gen Cert.Kernel8Ideal.Value Cert.Prod

variable (m : (ℓ : Loc nD τ sig) → Buf (Elt Ideal) ℓ) (c : Dev nD)

/-- The two arguments of a device. -/
abbrev argX : S8208x1024.Idx → EReal := m ((c.tc : Thread nD τ).loc main_arg0)
abbrev argY : S8208x1280.Idx → EReal := m ((c.tc : Thread nD τ).loc main_arg1)

/-! ## The blocks -/

theorem V_x : V m c main_v1 = truncf (F := Ideal) .bf16 (pad S8320x1024 ![48, 0] ![64, 0] ![0, 0] (argX m c) (sitofp (F := Ideal) .f32 (constantI S_ 32 0#32))
    pads_S8208x1024_S8320x1024_48640_000 h_S_) bitsLt_bf16_f32 := by
  unfold V
  simp only [List.flatten_cons, List.flatten_nil, List.append_nil, List.cons_append, List.nil_append]
  after_results_simp <;> rfl

theorem V_y : V m c main_v3 = truncf (F := Ideal) .bf16 (pad S8320x1280 ![48, 0] ![64, 0] ![0, 0] (argY m c) (sitofp (F := Ideal) .f32 (constantI S_ 32 0#32))
    pads_S8208x1280_S8320x1280_48640_000 h_S_) bitsLt_bf16_f32 := by
  unfold V
  simp only [List.flatten_cons, List.flatten_nil, List.append_nil, List.cons_append, List.nil_append]
  after_results_simp <;> rfl

theorem idx_x : ∀ t : Fin cfg0.N, win0_0.index t = ![t.val % 5, 0] :=
  (by decide +kernel : ∀ t : Fin grid0.N, win0_0.index t = ![t.val % 5, 0])
theorem idx_y : ∀ t : Fin cfg0.N, win0_1.index t = ![t.val % 5, 0] :=
  (by decide +kernel : ∀ t : Fin grid0.N, win0_1.index t = ![t.val % 5, 0])

theorem cut_x (t : Fin cfg0.N) (y : S1664x1024.Idx) (i : S8320x1024.Idx) (h0 : (i 0).val = 1664 * (t.val % 5) + (y 0).val) (h1 : (i 1).val = (y 1).val) :
    iblk m c 0 t y = V m c main_v1 i := by
  have e := idx_x t
  unfold iblk
  blk_simp
  blk_ext [e]

theorem block_x (t : Fin cfg0.N) (s : ℕ) (hs : t.val % 5 = s) (r : Fin 1664) (k : Fin 1024) :
    (iblk m c 0 t : S1664x1024.Idx → EReal) (ix2 r k) = rowAt (argX m c) (1664 * s + r.val) k := by
  subst hs
  exact (cut_x m c t (ix2 r k) (ix2 ⟨1664 * (t.val % 5) + r.val, by have := r.isLt; omega⟩ k) rfl rfl).trans
    ((congrFun (V_x m c) _).trans (pad_at _ _ zero_word pads_S8208x1024_S8320x1024_48640_000 h_S_ _ _))

theorem cut_y (t : Fin cfg0.N) (y : S1664x1280.Idx) (i : S8320x1280.Idx) (h0 : (i 0).val = 1664 * (t.val % 5) + (y 0).val) (h1 : (i 1).val = (y 1).val) :
    iblk m c 1 t y = V m c main_v3 i := by
  have e := idx_y t
  unfold iblk
  blk_simp
  blk_ext [e]

theorem block_y (t : Fin cfg0.N) (s : ℕ) (hs : t.val % 5 = s) (r : Fin 1664) (l : Fin 1280) (L : Fin 1280) (hL : L.val = l.val) :
    (iblk m c 1 t : S1664x1280.Idx → EReal) (ix2 r l) = rowAt (argY m c) (1664 * s + r.val) L := by
  subst hs
  exact (cut_y m c t (ix2 r l) (ix2 ⟨1664 * (t.val % 5) + r.val, by have := r.isLt; omega⟩ L) rfl hL).trans
    ((congrFun (V_y m c) _).trans (pad_at _ _ zero_word pads_S8208x1280_S8320x1280_48640_000 h_S_ _ _))

/-! ## The fold -/

theorem pay_at (a : FVec Ideal S1024x1280 .f32) (x : FVec Ideal S1664x1024 .bf16) (y : FVec Ideal S1664x1280 .bf16) (k : Fin 1024) (l : Fin 1280) :
    (k0_pay2 (F := Ideal) a x y (ix2 k l) : EReal) = a (ix2 k l) + ∑ r : Fin 1664, x (ix2 r k) * y (ix2 r l) := by
  unfold k0_pay2
  simp only [shapeCast_self]
  exact step_at _ a x y k l

/-- What the call leaves: at each entry the sum over the rows. -/
theorem result (k : Fin 1024) (l : Fin 1280) : (G2 m c (ix2 k l) : EReal) = ∑ p : Fin 8208, argX m c (ix2 p k) * argY m c (ix2 p l) := by
  have hN : cfg0.N = 5 := N_0
  have hk := k.isLt
  have hl := l.isLt
  let i : S1024x1280.Idx := ix2 k l
  have hb : run2Of i = 0 := by show 1 * (k.val / 1024 - 0) + 1 * (l.val / 1280 - 0) = _; omega
  have hi : loc2Of i = ix2 k l := by
    funext a; apply Fin.ext
    match a with
    | ⟨0, _⟩ => exact Nat.mod_eq_of_lt hk
    | ⟨1, _⟩ => exact Nat.mod_eq_of_lt hl
  unfold G2
  rw [dif_pos (show 5 * run2Of i + 4 < cfg0.N by rw [hb, hN]; omega), hi]
  exact fold_rows _ pay_at _ (fun _ => Ideal.ofBits_zero_f32) _ _ (argX m c) (argY m c) (5 * run2Of i) k l k l
    (fun s hs h r => block_x m c ⟨_, h⟩ s (by show (5 * run2Of i + s) % 5 = s; omega) r k)
    (fun s hs h r => block_y m c ⟨_, h⟩ s (by show (5 * run2Of i + s) % 5 = s; omega) r l l rfl) _

/-! ## The two programs -/

theorem algebraic : Cert.algebraic_Kernel8Ideal_Reference8Ideal (hKernel8Ideal := Cert.Kernel8Ideal.Gen.facts) (hReference8Ideal := Cert.Reference8Ideal.Gen.facts) := by
  intro m g m' g' _ harg
  refine ⟨fun c => G2 m c, Cert.Kernel8Ideal.Value.run m g, ?_⟩
  refine (θ_run (Cert.Reference8Ideal.defs (F := Ideal)) _ _).mono (fun r h c => ?_) (Cert.Reference8Ideal.Value.run (F := Ideal) m' g')
  obtain ⟨hr, h0, h1⟩ := h c
  refine ⟨hr.trans ?_, h0, h1⟩
  rw [(harg c).1, (harg c).2]
  funext i
  have h : ∀ j : S1024x1280.Idx, j = ix2 (j 0) (j 1) := eq_ix2
  rw [h i]
  exact (host_turned _ _ _ _ _ (i 0) (i 1)).trans (result m c (i 0) (i 1)).symm

end Cert.Proj2

end
-- ==== Proof.ProjRows.lean ====
/- The projection: the call's result and the reference's, entry by entry. -/
module

public import proofs.«01_k».proof.Defs
public import proofs.«01_k».proof.Proof.Columns
public import proofs.«01_k».proof.Proof.Gen.Kernel9Ideal.Value
public import proofs.«01_k».proof.Proof.Gen.Reference9Ideal.Run

@[expose] public section

noncomputable section

namespace Cert.Proj

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel9Ideal Cert.Kernel9Ideal.Gen Cert.Kernel9Ideal.Value Cert.Prod

/-! ## The reference's columns -/

/-- A slice of columns, read in the array it is cut from. -/
theorem slice_at {n v w : ℕ} (o : ℕ) (x : (⟨2, ![n, v]⟩ : Shape).Idx → EReal) (h : (⟨2, ![n, v]⟩ : Shape).Slices ![0, o] ⟨2, ![n, w]⟩) (t : Fin n) (s : Fin w) (k : Fin v) (hk : k.val = o + s.val) :
    extractStridedSlice ⟨2, ![n, w]⟩ ![0, o] x h (ix2 t s) = x (ix2 t k) :=
  extractStridedSlice_apply _ _ _ _ _ fun b => match b with
    | ⟨0, _⟩ => (Nat.zero_add _).symm
    | ⟨1, _⟩ => hk

/-- The four pieces side by side, the last with the zero columns. -/
theorem cat4_at {n : ℕ} (x : (⟨2, ![n, 3840]⟩ : Shape).Idx → EReal) (t : Fin n) (f : Fin 3600 → EReal) (hf : ∀ k : Fin 3600, x (ix2 t (⟨k.val, by have := k.isLt; omega⟩ : Fin 3840)) = f k)
    (hz : ∀ k : Fin 3840, 3600 ≤ k.val → x (ix2 t k) = 0)
    (h0 : (⟨2, ![n, 3840]⟩ : Shape).Slices ![0, 0] ⟨2, ![n, 2048]⟩) (h1 : (⟨2, ![n, 3840]⟩ : Shape).Slices ![0, 3072] ⟨2, ![n, 512]⟩)
    (h2 : (⟨2, ![n, 3840]⟩ : Shape).Slices ![0, 2048] ⟨2, ![n, 1024]⟩) (h3 : (⟨2, ![n, 3840]⟩ : Shape).Slices ![0, 3584] ⟨2, ![n, 256]⟩)
    (hc) (s : Fin 3840) :
    concatenate ⟨2, ![n, 3840]⟩ 1 [⟨⟨2, ![n, 2048]⟩, extractStridedSlice ⟨2, ![n, 2048]⟩ ![0, 0] x h0⟩, ⟨⟨2, ![n, 512]⟩, extractStridedSlice ⟨2, ![n, 512]⟩ ![0, 3072] x h1⟩,
      ⟨⟨2, ![n, 1024]⟩, extractStridedSlice ⟨2, ![n, 1024]⟩ ![0, 2048] x h2⟩, ⟨⟨2, ![n, 256]⟩, extractStridedSlice ⟨2, ![n, 256]⟩ ![0, 3584] x h3⟩] hc (ix2 t s)
      = colAt f s.val := by
  have hs := s.isLt
  have put : ∀ (q : ℕ) (hq) (w o p : ℕ) (h : (⟨2, ![n, 3840]⟩ : Shape).Slices ![0, o] ⟨2, ![n, w]⟩) (e) (hp) (lo : p ≤ s.val) (hi : s.val - p < w) (ho : o + (s.val - p) < 3840),
      concatenate ⟨2, ![n, 3840]⟩ 1 [⟨⟨2, ![n, 2048]⟩, extractStridedSlice ⟨2, ![n, 2048]⟩ ![0, 0] x h0⟩, ⟨⟨2, ![n, 512]⟩, extractStridedSlice ⟨2, ![n, 512]⟩ ![0, 3072] x h1⟩,
        ⟨⟨2, ![n, 1024]⟩, extractStridedSlice ⟨2, ![n, 1024]⟩ ![0, 2048] x h2⟩, ⟨⟨2, ![n, 256]⟩, extractStridedSlice ⟨2, ![n, 256]⟩ ![0, 3584] x h3⟩] hc (ix2 t s) = x (ix2 t ⟨o + (s.val - p), ho⟩) :=
    fun q hq w o p h e hp lo hi ho => (concatenate_apply_piece 1 _ hc (ix2 t s) q hq ⟨2, ![n, w]⟩ (extractStridedSlice ⟨2, ![n, w]⟩ ![0, o] x h) e rfl p hp (ix2 t ⟨s.val - p, hi⟩)
      (fun b hb => match b with
        | ⟨0, _⟩ => rfl
        | ⟨1, _⟩ => absurd rfl hb) (by show p + (s.val - p) = s.val; omega)).trans (slice_at o x h t _ _ rfl)
  unfold colAt
  split_ifs with c0 c1 c2 c3
  · exact (put 0 (by simp) 2048 0 0 h0 rfl rfl (by omega) (by omega) (by omega)).trans ((congrArg (fun k => x (ix2 t k)) (Fin.ext (by show 0 + (s.val - 0) = s.val; omega))).trans (hf ⟨s.val, by omega⟩))
  · exact (put 1 (by simp) 512 3072 2048 h1 rfl rfl (by omega) (by omega) (by omega)).trans ((congrArg (fun k => x (ix2 t k)) (Fin.ext (by show 3072 + (s.val - 2048) = s.val + 1024; omega))).trans (hf ⟨s.val + 1024, by omega⟩))
  · exact (put 2 (by simp) 1024 2048 2560 h2 rfl rfl (by omega) (by omega) (by omega)).trans ((congrArg (fun k => x (ix2 t k)) (Fin.ext (by show 2048 + (s.val - 2560) = s.val - 512; omega))).trans (hf ⟨s.val - 512, by omega⟩))
  · exact (put 3 (by simp) 256 3584 3584 h3 rfl rfl (by omega) (by omega) (by omega)).trans ((congrArg (fun k => x (ix2 t k)) (Fin.ext (by show 3584 + (s.val - 3584) = s.val; omega))).trans (hf ⟨s.val, by omega⟩))
  · exact (put 3 (by simp) 256 3584 3584 h3 rfl rfl (by omega) (by omega) (by omega)).trans (hz _ (by show 3600 ≤ 3584 + (s.val - 3584); omega))

/-- The padded rows and columns, at a column of the array and at a column past it. -/
theorem wide_at {s : Shape} (x : (⟨2, ![8208, 3600]⟩ : Shape).Idx → EReal) (z : s.Idx → EReal) (hz : ∀ j, z j = 0)
    (h : (⟨2, ![8208, 3600]⟩ : Shape).Pads ![48, 0] ![64, 240] ![0, 0] ⟨2, ![8320, 3840]⟩) (hs : 0 < s.numel) (t : Fin 8320) (k : Fin 3600) (K : Fin 3840) (hK : K.val = k.val) :
    pad ⟨2, ![8320, 3840]⟩ ![48, 0] ![64, 240] ![0, 0] x z h hs (ix2 t K) = rowAt x t.val k := by
  by_cases ht : 48 ≤ t.val ∧ t.val - 48 < 8208
  · rw [pad_apply_of_inside _ _ _ _ _ _ _ (ix2 t K) (ix2 ⟨t.val - 48, ht.2⟩ k) (fun b => match b with
      | ⟨0, _⟩ => by show t.val = 48 + (t.val - 48) * (0 + 1); omega
      | ⟨1, _⟩ => by show K.val = 0 + k.val * (0 + 1); omega)]
    unfold rowAt
    rw [dif_pos ht]
  · rw [pad_apply_of_not_inside _ _ _ _ _ _ _ (ix2 t K) 0 (by
      show ¬(48 ≤ t.val ∧ (t.val - 48) % (0 + 1) = 0 ∧ (t.val - 48) / (0 + 1) < 8208)
      omega), hz, rowAt_outside _ _ _ ht]
theorem wide_past {s : Shape} (x : (⟨2, ![8208, 3600]⟩ : Shape).Idx → EReal) (z : s.Idx → EReal) (hz : ∀ j, z j = 0)
    (h : (⟨2, ![8208, 3600]⟩ : Shape).Pads ![48, 0] ![64, 240] ![0, 0] ⟨2, ![8320, 3840]⟩) (hs : 0 < s.numel) (t : Fin 8320) (K : Fin 3840) (hK : 3600 ≤ K.val) :
    pad ⟨2, ![8320, 3840]⟩ ![48, 0] ![64, 240] ![0, 0] x z h hs (ix2 t K) = 0 := by
  rw [pad_apply_of_not_inside _ _ _ _ _ _ _ (ix2 t K) 1 (by
    show ¬(0 ≤ K.val ∧ (K.val - 0) % (0 + 1) = 0 ∧ (K.val - 0) / (0 + 1) < 3600)
    omega), hz]

variable (m : (ℓ : Loc nD τ sig) → Buf (Elt Ideal) ℓ) (c : Dev nD)

/-- The two arguments of a device. -/
abbrev argH : S8208x1024.Idx → EReal := m ((c.tc : Thread nD τ).loc main_arg0)
abbrev argW : S1024x3600.Idx → EReal := m ((c.tc : Thread nD τ).loc main_arg1)

/-- An entry of the result: a row's product with the weights, the columns in the call's order. -/
def left (x : S8208x1024.Idx → EReal) (w : S1024x3600.Idx → EReal) : S8320x3840.Idx → EReal :=
  fun i => colAt (fun k => ∑ e : Fin 1024, rowAt x (i 0).val e * w (ix2 e k)) (i 1).val

/-! ## What the host hands the call -/

/-- The weights with their columns in the call's order. -/
def colsW (w : S1024x3600.Idx → EReal) : S1024x3840.Idx → EReal :=
  concatenate S1024x3840 1 [⟨S1024x2048, extractStridedSlice S1024x2048 ![0, 0] w slices_S1024x3600_S1024x2048_0_0⟩, ⟨S1024x512, extractStridedSlice S1024x512 ![0, 3072] w slices_S1024x3600_S1024x512_0_3072⟩,
    ⟨S1024x1024, extractStridedSlice S1024x1024 ![0, 2048] w slices_S1024x3600_S1024x1024_0_2048⟩, ⟨S1024x16, extractStridedSlice S1024x16 ![0, 3584] w slices_S1024x3600_S1024x16_0_3584⟩,
    ⟨S1024x240, (broadcastInDim S1024x240 ![] bcast_S_S1024x240 (constant (F := Ideal) S_ .f32 0x00000000#32) : S1024x240.Idx → EReal)⟩] concatenates_S1024x2048_S1024x512_S1024x1024_S1024x16_S1024x240_S1024x3840_d1

theorem colsW_at (w : S1024x3600.Idx → EReal) (e : Fin 1024) (s : Fin 3840) : colsW w (ix2 e s) = colAt (fun k => w (ix2 e k)) s.val := by
  unfold colsW
  exact cat_at _ _ (fun j => (broadcastInDim_scalar_apply _ _ _).trans Ideal.ofBits_zero_f32) _ _ _ _ _ e s

theorem V_h : V m c main_v1 = truncf (F := Ideal) .bf16 (pad S8320x1024 ![48, 0] ![64, 0] ![0, 0] (argH m c) (sitofp (F := Ideal) .f32 (constantI S_ 32 0#32))
    pads_S8208x1024_S8320x1024_48640_000 h_S_) bitsLt_bf16_f32 := by
  unfold V
  simp only [List.flatten_cons, List.flatten_nil, List.append_nil, List.cons_append, List.nil_append]
  after_results_simp <;> rfl
theorem V_w : (V m c main_v8 : S1024x3840.Idx → EReal) = colsW (argW m c) := by
  unfold V colsW
  simp only [List.flatten_cons, List.flatten_nil, List.append_nil, List.cons_append, List.nil_append]
  after_results_simp <;> rfl

/-! ## The blocks of a point -/

theorem idx_h : ∀ t : Fin cfg0.N, win0_0.index t = ![t.val, 0] :=
  (by decide +kernel : ∀ t : Fin grid0.N, win0_0.index t = ![t.val, 0])
theorem cut_h (t : Fin cfg0.N) (y : S640x1024.Idx) (i : S8320x1024.Idx) (h0 : (i 0).val = 640 * t.val + (y 0).val) (h1 : (i 1).val = (y 1).val) :
    iblk m c 0 t y = V m c main_v1 i := by
  have e := idx_h t
  unfold iblk
  blk_simp
  blk_ext [e]
theorem block_h (t : Fin cfg0.N) (r : Fin 640) (T : Fin 8320) (hT : T.val = 640 * t.val + r.val) (e : Fin 1024) :
    (iblk m c 0 t : S640x1024.Idx → EReal) (ix2 r e) = rowAt (argH m c) T.val e :=
  (cut_h m c t (ix2 r e) (ix2 T e) hT rfl).trans ((congrFun (V_h m c) _).trans (pad_at _ _ zero_word pads_S8208x1024_S8320x1024_48640_000 h_S_ _ _))
theorem idx_w : ∀ t : Fin cfg0.N, win0_1.index t = ![0, 0] :=
  (by decide +kernel : ∀ t : Fin grid0.N, win0_1.index t = ![0, 0])
theorem cut_w (t : Fin cfg0.N) (y : S1024x3840.Idx) (i : S1024x3840.Idx) (h0 : (i 0).val = (y 0).val) (h1 : (i 1).val = (y 1).val) :
    iblk m c 1 t y = V m c main_v8 i := by
  have e := idx_w t
  unfold iblk
  blk_simp
  blk_ext [e]
theorem block_w (t : Fin cfg0.N) (e : Fin 1024) (s : Fin 3840) :
    (iblk m c 1 t : S1024x3840.Idx → EReal) (ix2 e s) = colAt (fun k => argW m c (ix2 e k)) s.val :=
  (cut_w m c t (ix2 e s) (ix2 e s) rfl rfl).trans ((congrFun (V_w m c) (ix2 e s)).trans (colsW_at _ _ _))

/-! ## The call's result -/

theorem pay_at (x : FVec Ideal S640x1024 .bf16) (y : FVec Ideal S1024x3840 .bf16) (r : Fin 640) (s : Fin 3840) :
    (k0_pay1 (F := Ideal) x y (ix2 r s) : EReal) = ∑ e : Fin 1024, x (ix2 r e) * y (ix2 e s) := by
  unfold k0_pay1
  simp only [shapeCast_self]
  refine (Ideal.matmul_plain_apply (M := 640) (K := 1024) (N := 3840) ..).trans ?_
  exact (congrArg (· + _) Ideal.ofBits_zero_f32).trans (zero_add _)

/-- A sum of products with a row's column is the column of the sums. -/
theorem sum_colAt (f : Fin 1024 → EReal) (g : Fin 1024 → Fin 3600 → EReal) (s : ℕ) : ∑ e : Fin 1024, f e * colAt (g e) s = colAt (fun k => ∑ e : Fin 1024, f e * g e k) s := by
  unfold colAt
  split_ifs
  · rfl
  · rfl
  · rfl
  · rfl
  · exact Finset.sum_eq_zero fun e _ => mul_zero _

theorem pay_cols (x : FVec Ideal S640x1024 .bf16) (y : FVec Ideal S1024x3840 .bf16) (r : Fin 640) (s : Fin 3840) (f : Fin 1024 → EReal) (g : Fin 1024 → Fin 3600 → EReal)
    (hx : ∀ e, (x (ix2 r e) : EReal) = f e) (hy : ∀ e, (y (ix2 e s) : EReal) = colAt (g e) s.val) :
    (k0_pay1 (F := Ideal) x y (ix2 r s) : EReal) = colAt (fun k => ∑ e : Fin 1024, f e * g e k) s.val :=
  (pay_at x y r s).trans ((Finset.sum_congr rfl fun e _ => congrArg₂ (· * ·) (hx e) (hy e)).trans (sum_colAt f g s.val))

theorem point (t : Fin cfg0.N) (y : S640x3840.Idx) (i : S8320x3840.Idx) (h0 : (i 0).val = 640 * t.val + (y 0).val) (h1 : (i 1).val = (y 1).val) :
    (k0_pay1 (F := Ideal) (iblk m c 0 t) (iblk m c 1 t) y : EReal) = left (argH m c) (argW m c) i := by
  have hy : ∀ j : S640x3840.Idx, j = ix2 (j 0) (j 1) := eq_ix2
  have hi : i = ix2 (i 0) (y 1) := (eq_ix2 i).trans (congrArg (ix2 (i 0)) (Fin.ext h1))
  rw [hy y, hi]
  exact pay_cols _ _ (y 0) (y 1) (fun e => rowAt (argH m c) (i 0).val e) (fun e k => argW m c (ix2 e k)) (block_h m c t (y 0) (i 0) h0) fun e => block_w m c t e (y 1)

theorem idx_out : ∀ t : Fin cfg0.N, win0_2.index t = ![t.val, 0] :=
  (by decide +kernel : ∀ t : Fin grid0.N, win0_2.index t = ![t.val, 0])

theorem result : (dats m 0 c).arrAt 2 cfg0.N = left (argH m c) (argW m c) := by
  refine (dats m 0 c).arrAt_eq_of_covers 2 (left (argH m c) (argW m c)) (by decide +kernel) fun t hf y => ?_
  blk_simp
  rw [after0_2]
  frame_out
  refine point m c t y _ ?_ ?_
  · show win0_2.index t 0 * 640 + 1 * (y 0).val = _
    rw [idx_out t]
    show t.val * 640 + 1 * (y 0).val = _
    omega
  · show win0_2.index t 1 * 3840 + 1 * (y 1).val = _
    rw [idx_out t]
    show 0 * 3840 + 1 * (y 1).val = _
    omega

/-! ## The two programs -/

/-- The reference's product at a row: zero at the padding's rows. -/
theorem product_row (D : DotDims ⟨2, ![8208, 1024]⟩ ⟨2, ![1024, 3600]⟩ ⟨2, ![8208, 3600]⟩) (hD : D = DotDims.plain 8208 1024 3600) (x : FVec Ideal ⟨2, ![8208, 1024]⟩ .f32) (w : FVec Ideal ⟨2, ![1024, 3600]⟩ .f32)
    (t : ℕ) (k : Fin 3600) : rowAt (Host.dotGeneral (F := Ideal) D none x w : (⟨2, ![8208, 3600]⟩ : Shape).Idx → EReal) t k = ∑ e : Fin 1024, rowAt x t e * w (ix2 e k) := by
  subst hD
  unfold rowAt
  split
  · exact (host_product _ none x w _).trans ((Ideal.matmul_plain_apply ..).trans (zero_add _))
  · exact (Finset.sum_eq_zero fun e _ => zero_mul _).symm

theorem algebraic : Cert.algebraic_Kernel9Ideal_Reference9Ideal (hKernel9Ideal := Cert.Kernel9Ideal.Gen.facts) (hReference9Ideal := Cert.Reference9Ideal.Gen.facts) := by
  intro m g m' g' _ harg
  refine ⟨fun c => left (argH m c) (argW m c), (θ_run (Cert.Kernel9Ideal.defs (F := Ideal)) _ _).mono (fun r h c => ?_) (Cert.Kernel9Ideal.Value.run_blocks m g), ?_⟩
  · obtain ⟨hr, h0, h1⟩ := h c
    exact ⟨hr.trans (result m c), h0, h1⟩
  refine (θ_run (Cert.Reference9Ideal.defs (F := Ideal)) _ _).mono (fun r h c => ?_) (Cert.Reference9Ideal.Value.run (F := Ideal) m' g')
  obtain ⟨hr, h0, h1⟩ := h c
  refine ⟨hr.trans ?_, h0, h1⟩
  rw [(harg c).1, (harg c).2]
  funext i
  have h : ∀ j : S8320x3840.Idx, j = ix2 (j 0) (j 1) := eq_ix2
  rw [h i]
  exact cat4_at _ (i 0) (fun k => ∑ e : Fin 1024, rowAt (argH m c) (i 0).val e * argW m c (ix2 e k))
    (fun k => (wide_at _ _ zero_word _ _ (i 0) k _ rfl).trans (product_row _ rfl (argH m c) (argW m c) _ k))
    (fun k hk => wide_past _ _ zero_word _ _ (i 0) k hk) _ _ _ _ _ (i 1)

end Cert.Proj

end
-- ==== Proof.GradUp.lean ====
/- The gradient of the weights of the feed-forward part's first product, in its two calls: what they leave and the reference's, entry by entry. -/
module

public import proofs.«01_k».proof.Defs
public import proofs.«01_k».proof.Proof.Products
public import proofs.«01_k».proof.Proof.Gen.Kernel3Ideal.Frame
public import proofs.«01_k».proof.Proof.Gen.Reference3Ideal.Run

@[expose] public section

noncomputable section

namespace Cert.Up

open Idealize.ShloMosaic hiding ix1 ix2 ix3 ix4 eq_ix2 eq_ix3
open Idealize.ShloMosaic.ValueIdx Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen Cert.Prod
open Idealize.ShloMosaic.Pipeline (Dat)
open Idealize.ShloMosaic.Rounds

/-! ## A point's work -/

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem first0 (c : Dev nD) (i : grid0.Coords) (a2 h2 a3 h3 a4 h4 hc) (x : Vec Ideal S1664x1024 .bf16) (y : Vec Ideal S1664x1408 .bf16) :
    out0_A_2 (F := Ideal) c i a2 h2 a3 h3 a4 h4 hc x y = k0_pay2 (k0_pay1 (F := Ideal)) x y := by
  unfold out0_A_2
  rw [View.read_writes_eq_canon _ _ _ (cover0_A_2 c i a2 h2 a3 h3 a4 h4 hc x y)]
  unfold kernelRun0_A
  dsimp only
  try sl_unfold_words
  rw [View.canon_cons_unit_zero (S := S1x1024x1408) zeros3, View.readCov_unit_zero (S := S1x1024x1408) _ zeros3]
  simp only [View.readAt_eq_ld, h2.read_unread, h3.read_unread, h4.read_unread, View.ld_unit_zero (S := S1664x1024) zeros2, View.ld_unit_zero (S := S1664x1408) zeros2, View.ld_unit_zero (S := S1x1024x1408) zeros3, shapeCast_self]

theorem later0 (c : Dev nD) (i : grid0.Coords) (a2 h2 a3 h3 a4 h4 hc) (x : Vec Ideal S1664x1024 .bf16) (y : Vec Ideal S1664x1408 .bf16) (o : Vec Ideal S1x1024x1408 .f32) :
    out0_B_2 (F := Ideal) c i a2 h2 a3 h3 a4 h4 hc x y o = k0_pay2 o x y := by
  unfold out0_B_2
  rw [View.read_writes_eq_canon _ _ _ (cover0_B_2 c i a2 h2 a3 h3 a4 h4 hc x y o)]
  unfold kernelRun0_B
  dsimp only
  try sl_unfold_words
  rw [View.canon_unit_zero zeros3]
  simp only [View.readAt_eq_ld, h2.read_unread, h3.read_unread, h4.read_unread, View.ld_unit_zero (S := S1664x1024) zeros2, View.ld_unit_zero (S := S1664x1408) zeros2, View.ld_unit_zero (S := S1x1024x1408) zeros3, shapeCast_self]

theorem first1 (c : Dev nD) (i : grid1.Coords) (a2 h2 a3 h3 a5 h5 hc) (x : Vec Ideal S1664x1024 .bf16) (y : Vec Ideal S1664x1408 .bf16) :
    out1_A_2 (F := Ideal) c i a2 h2 a3 h3 a5 h5 hc x y = k0_pay2 (k0_pay1 (F := Ideal)) x y := by
  unfold out1_A_2
  rw [View.read_writes_eq_canon _ _ _ (cover1_A_2 c i a2 h2 a3 h3 a5 h5 hc x y)]
  unfold kernelRun1_A
  dsimp only
  try sl_unfold_words
  rw [View.canon_cons_unit_zero (S := S1x1024x1408) zeros3, View.readCov_unit_zero (S := S1x1024x1408) _ zeros3]
  simp only [View.readAt_eq_ld, h2.read_unread, h3.read_unread, h5.read_unread, View.ld_unit_zero (S := S1664x1024) zeros2, View.ld_unit_zero (S := S1664x1408) zeros2, View.ld_unit_zero (S := S1x1024x1408) zeros3, shapeCast_self]
  rfl

theorem later1 (c : Dev nD) (i : grid1.Coords) (a2 h2 a3 h3 a5 h5 hc) (x : Vec Ideal S1664x1024 .bf16) (y : Vec Ideal S1664x1408 .bf16) (o : Vec Ideal S1x1024x1408 .f32) :
    out1_B_2 (F := Ideal) c i a2 h2 a3 h3 a5 h5 hc x y o = k0_pay2 o x y := by
  unfold out1_B_2
  rw [View.read_writes_eq_canon _ _ _ (cover1_B_2 c i a2 h2 a3 h3 a5 h5 hc x y o)]
  unfold kernelRun1_B
  dsimp only
  try sl_unfold_words
  rw [View.canon_unit_zero zeros3]
  simp only [View.readAt_eq_ld, h2.read_unread, h3.read_unread, h5.read_unread, View.ld_unit_zero (S := S1664x1024) zeros2, View.ld_unit_zero (S := S1664x1408) zeros2, View.ld_unit_zero (S := S1x1024x1408) zeros3, shapeCast_self]
  rfl

theorem pay_at (a : FVec Ideal S1x1024x1408 .f32) (x : FVec Ideal S1664x1024 .bf16) (y : FVec Ideal S1664x1408 .bf16) (z : Fin 1) (k : Fin 1024) (l : Fin 1408) :
    (k0_pay2 (F := Ideal) a x y (ix3 z k l) : EReal) = a (ix3 0 k l) + ∑ r : Fin 1664, x (ix2 r k) * y (ix2 r l) := by
  unfold k0_pay2
  refine (shapeCast_apply _ _ (ix3 z k l) (ix2 k l) (by
    rw [Shape.rowMajor_val_two, Shape.rowMajor_val_three]
    have := z.isLt
    show k.val * 1408 + l.val = (z.val * 1024 + k.val) * 1408 + l.val
    omega)).trans ?_
  refine (step_at _ _ _ _ k l).trans ?_
  simp only [shapeCast_self]
  rw [shapeCast_1ab_ab_apply]

theorem zero_at (i : S1x1024x1408.Idx) : (k0_pay1 (F := Ideal) i : EReal) = 0 := Ideal.ofBits_zero_f32

/-- Five points one after another: the first starts from zeros, each adds its block's product to what the ones before left. -/
theorem fold {N : ℕ} (out : (n : ℕ) → n < N → S1x1024x1408.Idx → EReal) (X : (n : ℕ) → n < N → S1664x1024.Idx → EReal) (Y : (n : ℕ) → n < N → S1664x1408.Idx → EReal)
    (h0 : ∀ n (h : n < N), n % 5 = 0 → out n h = k0_pay2 (F := Ideal) (k0_pay1 (F := Ideal)) (X n h) (Y n h))
    (h1 : ∀ n (h : n < N) (h' : n - 1 < N), ¬n % 5 = 0 → out n h = k0_pay2 (F := Ideal) (out (n - 1) h') (X n h) (Y n h))
    {w v : ℕ} (x : (⟨2, ![8208, w]⟩ : Shape).Idx → EReal) (y : (⟨2, ![8208, v]⟩ : Shape).Idx → EReal) (b : ℕ) (k : Fin 1024) (l : Fin 1408) (K : Fin w) (L : Fin v)
    (hX : ∀ s, s < 5 → ∀ (h : 5 * b + s < N) (r : Fin 1664), X (5 * b + s) h (ix2 r k) = rowAt x (1664 * s + r.val) K)
    (hY : ∀ s, s < 5 → ∀ (h : 5 * b + s < N) (r : Fin 1664), Y (5 * b + s) h (ix2 r l) = rowAt y (1664 * s + r.val) L) (z : Fin 1) (h : 5 * b + 4 < N) :
    out (5 * b + 4) h (ix3 z k l) = ∑ p : Fin 8208, x (ix2 p K) * y (ix2 p L) := by
  have H : ∀ s, s < 5 → ∀ (h : 5 * b + s < N) (z : Fin 1), out (5 * b + s) h (ix3 z k l)
      = ∑ s ∈ Finset.range (s + 1), ∑ r : Fin 1664, rowAt x (1664 * s + r.val) K * rowAt y (1664 * s + r.val) L := by
    intro s
    induction s with
    | zero =>
      intro hs h z
      rw [h0 _ h (by omega), pay_at, zero_at, zero_add, Finset.sum_range_one]
      exact Finset.sum_congr rfl fun r _ => congrArg₂ (· * ·) (hX 0 hs h r) (hY 0 hs h r)
    | succ s ih =>
      intro hs h z
      rw [h1 _ h (by omega) (by omega), pay_at, Finset.sum_range_succ, ← ih (by omega) (by omega) 0]
      exact congrArg _ (Finset.sum_congr rfl fun r _ => congrArg₂ (· * ·) (hX (s + 1) hs h r) (hY (s + 1) hs h r))
  rw [H 4 (by decide) h z, sum_blocks (fun t => rowAt x t K * rowAt y t L) 1664 5, ← sum_rows x y K L]

/-! ## What the calls leave -/

variable (m : (ℓ : Loc nD τ sig) → Buf (Elt Ideal) ℓ) (ρ : Dev nD → PrngReg) (c : Dev nD)

/-- The three arguments of a device. -/
abbrev argH : S8208x1024.Idx → EReal := m ((c.tc : Thread nD τ).loc main_arg0)
abbrev argA : S8208x2816.Idx → EReal := m ((c.tc : Thread nD τ).loc main_arg1)
abbrev argG : S8208x2816.Idx → EReal := m ((c.tc : Thread nD τ).loc main_arg2)

/-- The gradient in four blocks of columns: two from the first half's cotangent, two from the second's. -/
def want (i : S4x1024x1408.Idx) : EReal :=
  if h : (i 0).val < 2 then ∑ p : Fin 8208, argH m c (ix2 p (i 1)) * argA m c (ix2 p ⟨1408 * (i 0).val + (i 2).val, by have := (i 2).isLt; simp at this; omega⟩)
  else ∑ p : Fin 8208, argH m c (ix2 p (i 1)) * argG m c (ix2 p ⟨1408 * ((i 0).val - 2) + (i 2).val, by have := (i 2).isLt; have := (i 0).isLt; simp at *; omega⟩)

theorem W5_h : W5 m ρ c main_v1 = truncf (F := Ideal) .bf16 (pad S8320x1024 ![48, 0] ![64, 0] ![0, 0] (argH m c) (sitofp (F := Ideal) .f32 (constantI S_ 32 0#32))
    pads_S8208x1024_S8320x1024_48640_000 h_S_) bitsLt_bf16_f32 := by
  unfold W5 W4 W3 W2 W1
  after_results_simp <;> rfl

theorem W5_a : W5 m ρ c main_v3 = truncf (F := Ideal) .bf16 (pad S8320x2816 ![48, 0] ![64, 0] ![0, 0] (argA m c) (sitofp (F := Ideal) .f32 (constantI S_ 32 0#32))
    pads_S8208x2816_S8320x2816_48640_000 h_S_) bitsLt_bf16_f32 := by
  unfold W5 W4 W3 W2 W1
  after_results_simp <;> rfl

theorem W9_h : W9 m ρ c main_v1 = W5 m ρ c main_v1 :=
  (W9_of m ρ c main_v1 (by decide)).trans <| (W8_of m ρ c main_v1 (by decide)).trans <| (W7_of m ρ c main_v1 (by decide)).trans <| W6_of m ρ c main_v1 (by decide)

theorem W9_g : W9 m ρ c main_v6 = truncf (F := Ideal) .bf16 (pad S8320x2816 ![48, 0] ![64, 0] ![0, 0] (argG m c) (sitofp (F := Ideal) .f32 (constantI S_ 32 0#32))
    pads_S8208x2816_S8320x2816_48640_000 h_S_) bitsLt_bf16_f32 := by
  have e : W6 m ρ c (Proc.devRef .tc main_arg2) = argG m c := W6_args m ρ c main_arg2 (by decide)
  rw [← e]
  unfold W9 W8 W7
  after_results_simp <;> rfl

theorem W9_o : W9 m ρ c main_v7 = W6 m ρ c main_v4 := by
  unfold W9 W8 W7
  after_results_simp <;> rfl

theorem idx_h : ∀ t : Fin cfg0.N, win0_0.index t = ![t.val % 5, 0] := (by decide +kernel : ∀ t : Fin grid0.N, win0_0.index t = ![t.val % 5, 0])
theorem idx_a : ∀ t : Fin cfg0.N, win0_1.index t = ![t.val % 5, t.val / 5] := (by decide +kernel : ∀ t : Fin grid0.N, win0_1.index t = ![t.val % 5, t.val / 5])
theorem idx_o : ∀ t : Fin cfg0.N, win0_2.index t = ![t.val / 5, 0, 0] := (by decide +kernel : ∀ t : Fin grid0.N, win0_2.index t = ![t.val / 5, 0, 0])
theorem idx_h' : ∀ t : Fin cfg1.N, win1_0.index t = ![t.val % 5, 0] := (by decide +kernel : ∀ t : Fin grid1.N, win1_0.index t = ![t.val % 5, 0])
theorem idx_g : ∀ t : Fin cfg1.N, win1_1.index t = ![t.val % 5, t.val / 5] := (by decide +kernel : ∀ t : Fin grid1.N, win1_1.index t = ![t.val % 5, t.val / 5])
theorem idx_o' : ∀ t : Fin cfg1.N, win1_2.index t = ![2 + t.val / 5, 0, 0] := (by decide +kernel : ∀ t : Fin grid1.N, win1_2.index t = ![2 + t.val / 5, 0, 0])

section Cuts

variable (V : (c : Dev nD) → (b : Ref sig .tc) → Buf (Elt Ideal) ((c : Thread nD τ).loc b))

theorem cut_h (t : Fin cfg0.N) (y : S1664x1024.Idx) (i : S8320x1024.Idx) (h0 : (i 0).val = 1664 * (t.val % 5) + (y 0).val) (h1 : (i 1).val = (y 1).val) :
    iblk0 V c 0 t y = V c main_v1 i := by
  have e := idx_h t
  unfold iblk0
  blk_simp
  blk_ext [e]

theorem cut_a (t : Fin cfg0.N) (y : S1664x1408.Idx) (i : S8320x2816.Idx) (h0 : (i 0).val = 1664 * (t.val % 5) + (y 0).val) (h1 : (i 1).val = 1408 * (t.val / 5) + (y 1).val) :
    iblk0 V c 1 t y = V c main_v3 i := by
  have e := idx_a t
  unfold iblk0
  blk_simp
  blk_ext [e]

theorem cut_h' (t : Fin cfg1.N) (y : S1664x1024.Idx) (i : S8320x1024.Idx) (h0 : (i 0).val = 1664 * (t.val % 5) + (y 0).val) (h1 : (i 1).val = (y 1).val) :
    iblk1 V c 0 t y = V c main_v1 i := by
  have e := idx_h' t
  unfold iblk1
  blk_simp
  blk_ext [e]

theorem cut_g (t : Fin cfg1.N) (y : S1664x1408.Idx) (i : S8320x2816.Idx) (h0 : (i 0).val = 1664 * (t.val % 5) + (y 0).val) (h1 : (i 1).val = 1408 * (t.val / 5) + (y 1).val) :
    iblk1 V c 1 t y = V c main_v6 i := by
  have e := idx_g t
  unfold iblk1
  blk_simp
  blk_ext [e]

end Cuts

theorem block_h (t : Fin cfg0.N) (s : ℕ) (hs : t.val % 5 = s) (r : Fin 1664) (k : Fin 1024) :
    (iblk0 (V5 m ρ) c 0 t : S1664x1024.Idx → EReal) (ix2 r k) = rowAt (argH m c) (1664 * s + r.val) k := by
  subst hs
  exact (cut_h c (V5 m ρ) t (ix2 r k) (ix2 ⟨1664 * (t.val % 5) + r.val, by have := r.isLt; omega⟩ k) rfl rfl).trans
    ((congrFun (W5_h m ρ c) _).trans (pad_at _ _ zero_word pads_S8208x1024_S8320x1024_48640_000 h_S_ _ _))

theorem block_a (t : Fin cfg0.N) (s : ℕ) (hs : t.val % 5 = s) (r : Fin 1664) (l : Fin 1408) (L : Fin 2816) (hL : L.val = 1408 * (t.val / 5) + l.val) :
    (iblk0 (V5 m ρ) c 1 t : S1664x1408.Idx → EReal) (ix2 r l) = rowAt (argA m c) (1664 * s + r.val) L := by
  subst hs
  exact (cut_a c (V5 m ρ) t (ix2 r l) (ix2 ⟨1664 * (t.val % 5) + r.val, by have := r.isLt; omega⟩ L) rfl hL).trans
    ((congrFun (W5_a m ρ c) _).trans (pad_at _ _ zero_word pads_S8208x2816_S8320x2816_48640_000 h_S_ _ _))

theorem block_h' (t : Fin cfg1.N) (s : ℕ) (hs : t.val % 5 = s) (r : Fin 1664) (k : Fin 1024) :
    (iblk1 (V9 m ρ) c 0 t : S1664x1024.Idx → EReal) (ix2 r k) = rowAt (argH m c) (1664 * s + r.val) k := by
  subst hs
  exact (cut_h' c (V9 m ρ) t (ix2 r k) (ix2 ⟨1664 * (t.val % 5) + r.val, by have := r.isLt; omega⟩ k) rfl rfl).trans
    ((congrFun ((W9_h m ρ c).trans (W5_h m ρ c)) _).trans (pad_at _ _ zero_word pads_S8208x1024_S8320x1024_48640_000 h_S_ _ _))

theorem block_g (t : Fin cfg1.N) (s : ℕ) (hs : t.val % 5 = s) (r : Fin 1664) (l : Fin 1408) (L : Fin 2816) (hL : L.val = 1408 * (t.val / 5) + l.val) :
    (iblk1 (V9 m ρ) c 1 t : S1664x1408.Idx → EReal) (ix2 r l) = rowAt (argG m c) (1664 * s + r.val) L := by
  subst hs
  exact (cut_g c (V9 m ρ) t (ix2 r l) (ix2 ⟨1664 * (t.val % 5) + r.val, by have := r.isLt; omega⟩ L) rfl hL).trans
    ((congrFun (W9_g m ρ c) _).trans (pad_at _ _ zero_word pads_S8208x2816_S8320x2816_48640_000 h_S_ _ _))

/-- A flushing point of the first call leaves its block of the gradient. -/
theorem point0 (t : Fin cfg0.N) (ht : t.val % 5 = 4) (y : S1x1024x1408.Idx) (i : S4x1024x1408.Idx)
    (h0 : (i 0).val = t.val / 5) (h1 : (i 1).val = (y 1).val) (h2 : (i 2).val = (y 2).val) :
    outsAt0 (V5 m ρ) c t.val t.isLt y = want m c i := by
  have hN : t.val < 10 := lt_of_lt_of_eq t.isLt (show cfg0.N = 10 from N_0)
  obtain ⟨z, k, l, rfl⟩ : ∃ (z : Fin 1) (k : Fin 1024) (l : Fin 1408), y = ix3 z k l := ⟨y 0, y 1, y 2, eq_ix3 y⟩
  have e : (i 1 : Fin 1024) = k := Fin.ext h1
  unfold want
  rw [dif_pos (by omega)]
  have H := fold (fun n h => outsAt0 (V5 m ρ) c n h) (fun n h => iblk0 (V5 m ρ) c 0 ⟨n, h⟩) (fun n h => iblk0 (V5 m ρ) c 1 ⟨n, h⟩)
    (fun n h hm => (outsAt0_A (V5 m ρ) c ⟨n, h⟩ hm).trans (first0 ..))
    (fun n h h' hm => (outsAt0_B (V5 m ρ) c ⟨n, h⟩ hm).trans (later0 ..))
    (argH m c) (argA m c) (t.val / 5) k l (i 1) ⟨1408 * (i 0).val + (i 2).val, by have := l.isLt; have : (i 2).val = l.val := h2; omega⟩
    (fun s hs h r => (block_h m ρ c ⟨_, h⟩ s (by show (5 * (t.val / 5) + s) % 5 = s; omega) r k).trans (by rw [e]))
    (fun s hs h r => block_a m ρ c ⟨_, h⟩ s (by show (5 * (t.val / 5) + s) % 5 = s; omega) r l _
      (by show 1408 * (i 0).val + (i 2).val = 1408 * ((5 * (t.val / 5) + s) / 5) + l.val; have : (i 2).val = l.val := h2; omega)) z
    (lt_of_lt_of_eq (show 5 * (t.val / 5) + 4 < 10 by omega) (show 10 = cfg0.N from N_0.symm))
  have hn : 5 * (t.val / 5) + 4 = t.val := by omega
  simp only [hn] at H
  exact H

/-- A flushing point of the second call leaves its block of the gradient. -/
theorem point1 (t : Fin cfg1.N) (ht : t.val % 5 = 4) (y : S1x1024x1408.Idx) (i : S4x1024x1408.Idx)
    (h0 : (i 0).val = 2 + t.val / 5) (h1 : (i 1).val = (y 1).val) (h2 : (i 2).val = (y 2).val) :
    outsAt1 (V9 m ρ) c t.val t.isLt y = want m c i := by
  have hN : t.val < 10 := lt_of_lt_of_eq t.isLt (show cfg1.N = 10 from N_1)
  obtain ⟨z, k, l, rfl⟩ : ∃ (z : Fin 1) (k : Fin 1024) (l : Fin 1408), y = ix3 z k l := ⟨y 0, y 1, y 2, eq_ix3 y⟩
  have e : (i 1 : Fin 1024) = k := Fin.ext h1
  unfold want
  rw [dif_neg (by omega)]
  have H := fold (fun n h => outsAt1 (V9 m ρ) c n h) (fun n h => iblk1 (V9 m ρ) c 0 ⟨n, h⟩) (fun n h => iblk1 (V9 m ρ) c 1 ⟨n, h⟩)
    (fun n h hm => (outsAt1_A (V9 m ρ) c ⟨n, h⟩ hm).trans (first1 ..))
    (fun n h h' hm => (outsAt1_B (V9 m ρ) c ⟨n, h⟩ hm).trans (later1 ..))
    (argH m c) (argG m c) (t.val / 5) k l (i 1) ⟨1408 * ((i 0).val - 2) + (i 2).val, by have := l.isLt; have : (i 2).val = l.val := h2; omega⟩
    (fun s hs h r => (block_h' m ρ c ⟨_, h⟩ s (by show (5 * (t.val / 5) + s) % 5 = s; omega) r k).trans (by rw [e]))
    (fun s hs h r => block_g m ρ c ⟨_, h⟩ s (by show (5 * (t.val / 5) + s) % 5 = s; omega) r l _
      (by show 1408 * ((i 0).val - 2) + (i 2).val = 1408 * ((5 * (t.val / 5) + s) / 5) + l.val; have : (i 2).val = l.val := h2; omega)) z
    (lt_of_lt_of_eq (show 5 * (t.val / 5) + 4 < 10 by omega) (show 10 = cfg1.N from N_1.symm))
  have hn : 5 * (t.val / 5) + 4 = t.val := by omega
  simp only [hn] at H
  exact H

/-- The first call fills the first two blocks. -/
theorem half : (dat0 (V5 m ρ) c).arrAt 2 cfg0.N = fun i : S4x1024x1408.Idx => if (i 0).val / 1 < 2 then want m c i else (dat0 (V5 m ρ) c).A 2 i := by
  refine (dat0 (V5 m ρ) c).arrAt_eq_of_coversWhere 2 (want m c) (fun β => β (0 : Fin 3) < 2) (by decide +kernel) (fun t hf y => ?_) (fun j => Iff.rfl)
  have hm := (flush0_2 t).mp hf
  blk_simp
  rw [after0_2]
  frame_out
  refine point0 m ρ c t hm y _ ?_ ?_ ?_
  · show win0_2.index t 0 * 1 + 1 * (y 0).val = _
    rw [idx_o t]
    have : (y 0).val < 1 := (y 0).isLt
    show t.val / 5 * 1 + 1 * (y 0).val = _
    omega
  · show win0_2.index t 1 * 1024 + 1 * (y 1).val = _
    rw [idx_o t]
    show 0 * 1024 + 1 * (y 1).val = _
    omega
  · show win0_2.index t 2 * 1408 + 1 * (y 2).val = _
    rw [idx_o t]
    show 0 * 1408 + 1 * (y 2).val = _
    omega

/-- The second call fills the other two and leaves the first. -/
theorem whole : (dat1 (V9 m ρ) c).arrAt 2 cfg1.N = want m c := by
  refine (dat1 (V9 m ρ) c).arrAt_eq_of_coversWhere_of_agree 2 (want m c) (fun β => 2 ≤ β (0 : Fin 3)) (by decide +kernel) (fun t hf y => ?_) (fun j hj => ?_)
  · have hm := (flush1_2 t).mp hf
    blk_simp
    rw [after1_2]
    frame_out
    refine point1 m ρ c t hm y _ ?_ ?_ ?_
    · show win1_2.index t 0 * 1 + 1 * (y 0).val = _
      rw [idx_o' t]
      have : (y 0).val < 1 := (y 0).isLt
      show (2 + t.val / 5) * 1 + 1 * (y 0).val = _
      omega
    · show win1_2.index t 1 * 1024 + 1 * (y 1).val = _
      rw [idx_o' t]
      show 0 * 1024 + 1 * (y 1).val = _
      omega
    · show win1_2.index t 2 * 1408 + 1 * (y 2).val = _
      rw [idx_o' t]
      show 0 * 1408 + 1 * (y 2).val = _
      omega
  · have e : (dat1 (V9 m ρ) c).A 2 = (dat0 (V5 m ρ) c).arrAt 2 cfg0.N :=
      (A_eq1 (V9 m ρ) c 2).trans ((W9_o m ρ c).trans (W6_arr m ρ c 2))
    rw [e, half]
    exact if_pos (by have h : ¬2 ≤ (j 0).val / 1 := hj; show (j 0).val / 1 < 2; omega)

/-! ## The run -/

-- the run theorem's implicit arguments are found by unifying its conclusion with this one, which takes unfolding
-- plain definitions in a metavariable's type
set_option backward.isDefEq.respectTransparency.types false in
/-- Every execution of the two calls ends, with the result as the second leaves it and the arguments as launched. -/
theorem run_result : θ_run defs (onTc (τ := τ) (main (F := Ideal))) ⟨m, fun _ => 0, ρ⟩ (fun r => ∀ c : Dev nD,
      r.2.mem ((c.tc : Thread nD τ).loc main_v7) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := ?_)
    (QY := fun c s => ∀ b ∈ Pipeline.ucRefs τ sig, s.mem (((c : Thread nD τ)).1, b) = W10 m ρ c b)
    (hfin := fun c s' => ?_)
    (hQ := fun s h _ c => ⟨((h c _ (mem_uc main_v7 (by decide))).trans (W10_arr m ρ c 2)).trans (whole m ρ c),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c)⟩)
  · iintro Hu; imodintro
    isplitl [Hu]
    · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W10 m ρ c) s')
    isplitl [Hh] <;> iassumption

/-! ## The two programs -/

/-- The two cotangents side by side, read in the first or in the second. -/
theorem cat_left (x y : S8208x2816.Idx → EReal) (p : Fin 8208) (q : Fin 5632) (k : Fin 2816) (hq : q.val = k.val) :
    concatenate Cert.Reference3Ideal.S8208x5632 1 [⟨Cert.Reference3Ideal.S8208x2816, x⟩, ⟨Cert.Reference3Ideal.S8208x2816, y⟩] Cert.Reference3Ideal.Gen.concatenates_S8208x2816_S8208x2816_S8208x5632_d1 (ix2 p q) = x (ix2 p k) :=
  concatenate_apply_piece 1 _ _ (ix2 p q) 0 (by simp) _ x rfl rfl 0 rfl (ix2 p k)
    (fun b hb => match b with
      | ⟨0, _⟩ => rfl
      | ⟨1, _⟩ => absurd rfl hb) (by show 0 + k.val = q.val; omega)

theorem cat_right (x y : S8208x2816.Idx → EReal) (p : Fin 8208) (q : Fin 5632) (k : Fin 2816) (hq : q.val = 2816 + k.val) :
    concatenate Cert.Reference3Ideal.S8208x5632 1 [⟨Cert.Reference3Ideal.S8208x2816, x⟩, ⟨Cert.Reference3Ideal.S8208x2816, y⟩] Cert.Reference3Ideal.Gen.concatenates_S8208x2816_S8208x2816_S8208x5632_d1 (ix2 p q) = y (ix2 p k) :=
  concatenate_apply_piece 1 _ _ (ix2 p q) 1 (by simp) _ y rfl rfl 2816 rfl (ix2 p k)
    (fun b hb => match b with
      | ⟨0, _⟩ => rfl
      | ⟨1, _⟩ => absurd rfl hb) (by show 2816 + k.val = q.val; omega)

theorem algebraic : Cert.algebraic_Kernel3Ideal_Reference3Ideal (hKernel3Ideal := Cert.Kernel3Ideal.Gen.facts) (hReference3Ideal := Cert.Reference3Ideal.Gen.facts) := by
  intro m g m' g' _ harg
  refine ⟨fun c => want m c, run_result m g, ?_⟩
  refine (θ_run (Cert.Reference3Ideal.defs (F := Ideal)) _ _).mono (fun r h c => ?_) (Cert.Reference3Ideal.Value.run (F := Ideal) m' g')
  obtain ⟨hr, h0, h1, h2⟩ := h c
  refine ⟨hr.trans ?_, h0, h1, h2⟩
  rw [(harg c).1, (harg c).2.1, (harg c).2.2]
  funext i
  obtain ⟨b, k, l, rfl⟩ : ∃ (b : Fin 4) (k : Fin 1024) (l : Fin 1408), i = ix3 b k l := ⟨i 0, i 1, i 2, eq_ix3 i⟩
  have hb := b.isLt
  have hl := l.isLt
  refine (transpose_apply _ _ _ (ix3 b k l) (ix3 k b l) fun a => match a with
    | ⟨0, _⟩ => rfl
    | ⟨1, _⟩ => rfl
    | ⟨2, _⟩ => rfl).trans ?_
  refine (shapeCast_apply _ _ (ix3 k b l) (ix2 k (⟨1408 * b.val + l.val, by omega⟩ : Fin 5632)) (by
    rw [Shape.rowMajor_val_two, Shape.rowMajor_val_three]
    show k.val * 5632 + (1408 * b.val + l.val) = (k.val * 4 + b.val) * 1408 + l.val
    omega)).trans ?_
  refine (host_turned _ _ _ _ _ k ⟨1408 * b.val + l.val, by omega⟩).trans ?_
  by_cases h : b.val < 2
  · refine Eq.trans ?_ (dif_pos (c := (ix3 b k l 0).val < 2) h).symm
    exact Finset.sum_congr rfl fun p _ => congrArg _ (cat_left _ _ p _ ⟨1408 * b.val + l.val, by omega⟩ rfl)
  · refine Eq.trans ?_ (dif_neg (c := (ix3 b k l 0).val < 2) h).symm
    exact Finset.sum_congr rfl fun p _ => congrArg _ (cat_right _ _ p _ ⟨1408 * (b.val - 2) + l.val, by omega⟩
      (by show 1408 * b.val + l.val = 2816 + (1408 * (b.val - 2) + l.val); omega))

end Cert.Up

end
-- ==== Proof.ConvChunk.lean ====
/-
  The feed-forward's backward call, one block of 320 rows by one chunk of 256 columns: what the body computes from the
  pieces of its operands.
-/
module

public import proofs.«01_k».proof.Proof.Products
public import proofs.«01_k».proof.Proof.Gen.Kernel5Ideal.Launch

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

variable {F : FTy → Type} [FloatOps F] [Named F]

/-! ## One chunk -/

/-- The rows of one half of `u` with the eight before and the eight after. -/
def tall (p : Vec F S8x256 .f32) (x : Vec F S320x256 .f32) (n : Vec F S8x256 .f32) : FVec F S336x256 .f32 :=
  concatenate S336x256 0 [⟨S8x256, shapeCast S8x256 p shapeCasts_S8x256_S8x256⟩,
    ⟨S320x256, shapeCast S320x256 x shapeCasts_S320x256_S320x256⟩,
    ⟨S8x256, shapeCast S8x256 n shapeCasts_S8x256_S8x256⟩] concatenates_S8x256_S320x256_S8x256_S336x256_d0

/-- The block's rows and eight after them. -/
def rows0 (T : FVec F S336x256 .f32) : FVec F S328x256 .f32 :=
  extractStridedSlice S328x256 ![8, 0] T slices_S336x256_o8_0_S328x256

/-- The same, `k` rows earlier. -/
def rowsBack (k : BitVec 32) (T : FVec F S336x256 .f32) : FVec F S328x256 .f32 :=
  extractStridedSlice S328x256 ![8, 0] (dynamicRotate 0 k none T rotates_S336x256_d0) slices_S336x256_o8_0_S328x256

/-- Row `o` of the weights at every row of the extended block. -/
def w328 (o : Fin 2 → Nat) (h : S3x256.Slices o S1x256) (w : Vec F S3x256 .f32) : FVec F S328x256 .f32 :=
  broadcastTo S328x256 (extractStridedSlice S1x256 o (shapeCast S3x256 w shapeCasts_S3x256_S3x256) h) broadcasts_S1x256_S328x256

/-- Row `o` of the weights at every row of the block. -/
def w320 (o : Fin 2 → Nat) (h : S3x256.Slices o S1x256) (w : Vec F S3x256 .f32) : FVec F S320x256 .f32 :=
  broadcastTo S320x256 (extractStridedSlice S1x256 o (shapeCast S3x256 w shapeCasts_S3x256_S3x256) h) broadcasts_S1x256_S320x256

/-- The convolution: three rows, each by its weight, and the bias. -/
def convOf (T : FVec F S336x256 .f32) (w : Vec F S3x256 .f32) (b : Vec F S1x256 .f32) : FVec F S328x256 .f32 :=
  addf (addf (addf (broadcastTo S328x256 (shapeCast S1x256 b shapeCasts_S1x256_S1x256) broadcasts_S1x256_S328x256)
    (mulf (rows0 T) (w328 ![2, 0] slices_S3x256_o2_0_S1x256 w))) (mulf (rowsBack 1#32 T) (w328 ![1, 0] slices_S3x256_o1_0_S1x256 w))) (mulf (rowsBack 2#32 T) (w328 ![0, 0] slices_S3x256_o0_0_S1x256 w))

/-- The gradient that comes in, `df · downᵀ`, zero at the rows that no token has. -/
def dactOf (ok : IVec S328x1 1) (d : Vec F S320x1024 .bf16) (dn : Vec F S16x1024 .bf16) (w : Vec F S256x1024 .bf16) :
    FVec F S328x256 .f32 :=
  select (broadcastTo S328x256 (shapeCast S328x1 ok shapeCasts_S328x1_S328x1) broadcasts_S328x1_S328x256)
    (extractStridedSlice S328x256 ![0, 0] (matmul dot_S336x1024_S256x1024_S336x256_1_1_0_0_n_n none
      (concatenate S336x1024 0 [⟨S320x1024, shapeCast S320x1024 d shapeCasts_S320x1024_S320x1024⟩,
        ⟨S16x1024, shapeCast S16x1024 dn shapeCasts_S16x1024_S16x1024⟩] concatenates_S320x1024_S16x1024_S336x1024_d0)
      (shapeCast S256x1024 w shapeCasts_S256x1024_S256x1024) (constant S336x256 .f32 0x00000000#32)) slices_S336x256_o0_0_S328x256)
    (broadcast S328x256 (Scalar.ofBits .f32 0x00000000#32))

/-- The hyperbolic tangent inside the activation. -/
def tanhOf (a : FVec F S328x256 .f32) : FVec F S328x256 .f32 :=
  tanh (mulf a (addf (broadcast S328x256 (Scalar.ofBits .f32 0x3F4C422A#32))
    (mulf (broadcast S328x256 (Named.named κ "gelu_ck" 0x3D122279#32)) (mulf a a))))

/-- `½ + ½ t`. -/
def h1Of (a : FVec F S328x256 .f32) : FVec F S328x256 .f32 :=
  addf (broadcast S328x256 (Scalar.ofBits .f32 0x3F000000#32))
    (mulf (broadcast S328x256 (Scalar.ofBits .f32 0x3F000000#32)) (tanhOf a))

/-- The activation's derivative. -/
def geldOf (a : FVec F S328x256 .f32) : FVec F S328x256 .f32 :=
  addf (h1Of a) (mulf (mulf (mulf (broadcast S328x256 (Scalar.ofBits .f32 0x3F000000#32)) a)
      (subf (broadcast S328x256 (Scalar.ofBits .f32 0x3F800000#32)) (mulf (tanhOf a) (tanhOf a))))
    (addf (broadcast S328x256 (Scalar.ofBits .f32 0x3F4C422A#32))
      (mulf (broadcast S328x256 (Named.named κ "gelu_3ck" 0x3DDB33B6#32)) (mulf a a))))

/-- The block's rows of a gradient. -/
def head320 (v : FVec F S328x256 .f32) : FVec F S320x256 .f32 :=
  extractStridedSlice S320x256 ![0, 0] v slices_S328x256_o0_0_S320x256

/-- The convolution's gradient carried back to its input. -/
def backOf (dc : FVec F S328x256 .f32) (w : Vec F S3x256 .f32) : FVec F S320x256 .bf16 :=
  truncf .bf16 (addf (addf (mulf (head320 dc) (w320 ![2, 0] slices_S3x256_o2_0_S1x256 w))
    (mulf (head320 (dynamicRotate 0 327#32 none dc rotates_S328x256_d0)) (w320 ![1, 0] slices_S3x256_o1_0_S1x256 w)))
    (mulf (head320 (dynamicRotate 0 326#32 none dc rotates_S328x256_d0)) (w320 ![0, 0] slices_S3x256_o0_0_S1x256 w))) bitsLt_bf16_f32

/-- The pieces of the operands that one chunk takes. -/
structure Slices (F : FTy → Type) where
  ok : IVec S328x1 1
  pa : Vec F S8x256 .f32
  xa : Vec F S320x256 .f32
  na : Vec F S8x256 .f32
  pg : Vec F S8x256 .f32
  xg : Vec F S320x256 .f32
  ng : Vec F S8x256 .f32
  d : Vec F S320x1024 .bf16
  dn : Vec F S16x1024 .bf16
  down : Vec F S256x1024 .bf16
  wa : Vec F S3x256 .f32
  wg : Vec F S3x256 .f32
  ba : Vec F S1x256 .f32
  bg : Vec F S1x256 .f32
  upa : Vec F S1024x256 .bf16
  upg : Vec F S1024x256 .bf16

namespace Slices

variable (s : Slices F)

def ca : FVec F S328x256 .f32 := convOf (tall s.pa s.xa s.na) s.wa s.ba
def cg : FVec F S328x256 .f32 := convOf (tall s.pg s.xg s.ng) s.wg s.bg
def dact : FVec F S328x256 .f32 := dactOf s.ok s.d s.dn s.down
def dca : FVec F S328x256 .f32 := mulf (mulf s.dact s.cg) (geldOf s.ca)
def dcg : FVec F S328x256 .f32 := mulf s.dact (mulf s.ca (h1Of s.ca))
def dua : FVec F S320x256 .bf16 := backOf s.dca s.wa
def dug : FVec F S320x256 .bf16 := backOf s.dcg s.wg
def part : FVec F S320x1024 .f32 := addf
  (matmul dot_S320x256_S1024x256_S320x1024_1_1_0_0_n_n none s.dua (shapeCast S1024x256 s.upa shapeCasts_S1024x256_S1024x256) (constant S320x1024 .f32 0x00000000#32))
  (matmul dot_S320x256_S1024x256_S320x1024_1_1_0_0_n_n none s.dug (shapeCast S1024x256 s.upg shapeCasts_S1024x256_S1024x256) (constant S320x1024 .f32 0x00000000#32))

end Slices

/-- The chunks after the first. -/
def later : List (Fin 11) := [1, 2, 3, 4, 5, 6, 7, 8, 9, 10]

/-- The block's product with the up projection's weights, summed over the chunks. -/
def dhnOf (s : Fin 11 → Slices F) : FVec F S320x1024 .f32 := later.foldl (fun a j => addf a (s j).part) (s 0).part

end Cert.Conv

end
-- ==== Proof.ConvPoint.lean ====
/-
  The feed-forward's backward call, one chunk read at an entry: the convolution's three rows, the gradient that comes in, and
  the rows carried back.
-/
module

public import proofs.«01_k».proof.Proof.ConvChunk

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

/-! ## The activation at one number -/

def root : EReal := Scalar.ofBits (F := Ideal) .f32 0x3F4C422A#32
def half : EReal := Scalar.ofBits (F := Ideal) .f32 0x3F000000#32
def one : EReal := Scalar.ofBits (F := Ideal) .f32 0x3F800000#32
def cubic : EReal := Named.named (F := Ideal) κ (φ := .f32) "gelu_ck" 0x3D122279#32
def cubic3 : EReal := Named.named (F := Ideal) κ (φ := .f32) "gelu_3ck" 0x3DDB33B6#32

/-- The hyperbolic tangent inside the activation. -/
def tanh1 (a : EReal) : EReal := Ideal.tanh (a * (root + cubic * (a * a)))
/-- `½ + ½ t`. -/
def gate1 (a : EReal) : EReal := half + half * tanh1 a
/-- The activation's derivative. -/
def slope1 (a : EReal) : EReal := gate1 a + ((half * a) * (one - tanh1 a * tanh1 a)) * (root + cubic3 * (a * a))

theorem gate_at (a : FVec Ideal S328x256 .f32) (i : S328x256.Idx) : h1Of a i = gate1 (a i) := rfl
theorem slope_at (a : FVec Ideal S328x256 .f32) (i : S328x256.Idx) : geldOf a i = slope1 (a i) := rfl

/-! ## The rows around a block -/

theorem tall_at (p : Vec Ideal S8x256 .f32) (x : Vec Ideal S320x256 .f32) (n : Vec Ideal S8x256 .f32) (f : ℕ → Fin 256 → EReal)
    (hp : ∀ (r : Fin 8) q, p (ix2 r q) = f r.val q) (hx : ∀ (r : Fin 320) q, x (ix2 r q) = f (8 + r.val) q)
    (hn : ∀ (r : Fin 8) q, n (ix2 r q) = f (328 + r.val) q) (r : Fin 336) (q : Fin 256) : tall p x n (ix2 r q) = f r.val q := by
  have hr := r.isLt
  unfold tall
  simp only [shapeCast_self]
  by_cases c0 : r.val < 8
  · rw [concatenate_apply_piece 0 _ _ (ix2 r q) 0 (by simp) S8x256 p rfl rfl 0 rfl (ix2 ⟨r.val, c0⟩ q)
      (fun b hb => match b with
        | ⟨0, _⟩ => absurd rfl hb
        | ⟨1, _⟩ => rfl) (by show 0 + r.val = r.val; omega)]
    exact hp _ _
  by_cases c1 : r.val < 328
  · rw [concatenate_apply_piece 0 _ _ (ix2 r q) 1 (by simp) S320x256 x rfl rfl 8 rfl (ix2 ⟨r.val - 8, by omega⟩ q)
      (fun b hb => match b with
        | ⟨0, _⟩ => absurd rfl hb
        | ⟨1, _⟩ => rfl) (by show 8 + (r.val - 8) = r.val; omega), hx]
    exact congrArg (f · q) (by show 8 + (r.val - 8) = r.val; omega)
  · rw [concatenate_apply_piece 0 _ _ (ix2 r q) 2 (by simp) S8x256 n rfl rfl 328 rfl (ix2 ⟨r.val - 328, by omega⟩ q)
      (fun b hb => match b with
        | ⟨0, _⟩ => absurd rfl hb
        | ⟨1, _⟩ => rfl) (by show 328 + (r.val - 328) = r.val; omega), hn]
    exact congrArg (f · q) (by show 328 + (r.val - 328) = r.val; omega)

theorem rows0_at (T : FVec Ideal S336x256 .f32) (r : Fin 328) (q : Fin 256) :
    rows0 T (ix2 r q) = T (ix2 (⟨8 + r.val, by have := r.isLt; omega⟩ : Fin 336) q) :=
  extractStridedSlice_apply _ _ _ _ _ fun a => match a with
    | ⟨0, _⟩ => rfl
    | ⟨1, _⟩ => (Nat.zero_add _).symm

theorem rowsBack_at (k : BitVec 32) (n : ℕ) (hk : k.toNat = n) (hn : n ≤ 8) (T : FVec Ideal S336x256 .f32) (r : Fin 328) (q : Fin 256) :
    rowsBack k T (ix2 r q) = T (ix2 (⟨8 + r.val - n, by have := r.isLt; omega⟩ : Fin 336) q) := by
  have hr := r.isLt
  refine (extractStridedSlice_apply _ _ _ (ix2 r q) (ix2 (⟨8 + r.val, by omega⟩ : Fin 336) q) fun a => match a with
    | ⟨0, _⟩ => rfl
    | ⟨1, _⟩ => (Nat.zero_add _).symm).trans ?_
  refine dynamicRotate_apply 0 k T _ _ _ fun b => match b with
    | ⟨0, _⟩ => ?_
    | ⟨1, _⟩ => rfl
  show 8 + r.val - n = (8 + r.val + 336 - k.toNat % 336) % 336
  rw [hk]
  omega

theorem ahead_at (k : BitVec 32) (n : ℕ) (hk : k.toNat = 328 - n) (hn : 1 ≤ n ∧ n ≤ 8) (v : FVec Ideal S328x256 .f32) (r : Fin 320) (q : Fin 256) :
    head320 (dynamicRotate 0 k none v rotates_S328x256_d0) (ix2 r q) = v (ix2 (⟨r.val + n, by have := r.isLt; omega⟩ : Fin 328) q) := by
  have hr := r.isLt
  refine (extractStridedSlice_apply _ _ _ (ix2 r q) (ix2 (⟨r.val, by omega⟩ : Fin 328) q) fun a => match a with
    | ⟨0, _⟩ => (Nat.zero_add _).symm
    | ⟨1, _⟩ => (Nat.zero_add _).symm).trans ?_
  refine dynamicRotate_apply 0 k v _ _ _ fun b => match b with
    | ⟨0, _⟩ => ?_
    | ⟨1, _⟩ => rfl
  show r.val + n = (r.val + 328 - k.toNat % 328) % 328
  rw [hk]
  omega

theorem head_at (v : FVec Ideal S328x256 .f32) (r : Fin 320) (q : Fin 256) :
    head320 v (ix2 r q) = v (ix2 (⟨r.val, by have := r.isLt; omega⟩ : Fin 328) q) :=
  extractStridedSlice_apply _ _ _ _ _ fun a => match a with
    | ⟨0, _⟩ => (Nat.zero_add _).symm
    | ⟨1, _⟩ => (Nat.zero_add _).symm

theorem w328_at (o : ℕ) (ho : o < 3) (h : S3x256.Slices ![o, 0] S1x256) (w : Vec Ideal S3x256 .f32) (r : Fin 328) (q : Fin 256) :
    w328 ![o, 0] h w (ix2 r q) = w (ix2 (⟨o, ho⟩ : Fin 3) q) := by
  unfold w328
  rw [shapeCast_self]
  refine (broadcastTo_apply _ _ (ix2 r q) (ix2 (0 : Fin 1) q) fun a => match a with
    | ⟨0, _⟩ => rfl
    | ⟨1, _⟩ => rfl).trans ?_
  exact extractStridedSlice_apply _ _ _ _ _ fun a => match a with
    | ⟨0, _⟩ => rfl
    | ⟨1, _⟩ => (Nat.zero_add _).symm

theorem w320_at (o : ℕ) (ho : o < 3) (h : S3x256.Slices ![o, 0] S1x256) (w : Vec Ideal S3x256 .f32) (r : Fin 320) (q : Fin 256) :
    w320 ![o, 0] h w (ix2 r q) = w (ix2 (⟨o, ho⟩ : Fin 3) q) := by
  unfold w320
  rw [shapeCast_self]
  refine (broadcastTo_apply _ _ (ix2 r q) (ix2 (0 : Fin 1) q) fun a => match a with
    | ⟨0, _⟩ => rfl
    | ⟨1, _⟩ => rfl).trans ?_
  exact extractStridedSlice_apply _ _ _ _ _ fun a => match a with
    | ⟨0, _⟩ => rfl
    | ⟨1, _⟩ => (Nat.zero_add _).symm

theorem conv_at (T : FVec Ideal S336x256 .f32) (w : Vec Ideal S3x256 .f32) (b : Vec Ideal S1x256 .f32) (f : ℕ → Fin 256 → EReal)
    (hT : ∀ (r : Fin 336) q, T (ix2 r q) = f r.val q) (r : Fin 328) (q : Fin 256) :
    convOf T w b (ix2 r q) = ((b (ix2 (0 : Fin 1) q) + f (8 + r.val) q * w (ix2 (2 : Fin 3) q)) + f (8 + r.val - 1) q * w (ix2 (1 : Fin 3) q))
      + f (8 + r.val - 2) q * w (ix2 (0 : Fin 3) q) := by
  have hb : broadcastTo S328x256 (shapeCast S1x256 b shapeCasts_S1x256_S1x256) broadcasts_S1x256_S328x256 (ix2 r q) = b (ix2 (0 : Fin 1) q) := by
    rw [shapeCast_self]
    exact broadcastTo_apply _ _ (ix2 r q) (ix2 (0 : Fin 1) q) fun a => match a with
      | ⟨0, _⟩ => rfl
      | ⟨1, _⟩ => rfl
  have h0 := (rows0_at T r q).trans (hT _ q)
  have h1 := (rowsBack_at 1#32 1 rfl (by omega) T r q).trans (hT _ q)
  have h2 := (rowsBack_at 2#32 2 rfl (by omega) T r q).trans (hT _ q)
  exact congrArg₂ (· + ·) (congrArg₂ (· + ·) (congrArg₂ (· + ·) hb (congrArg₂ (· * ·) h0 (w328_at 2 (by omega) _ w r q)))
    (congrArg₂ (· * ·) h1 (w328_at 1 (by omega) _ w r q))) (congrArg₂ (· * ·) h2 (w328_at 0 (by omega) _ w r q))

theorem back_at (v : FVec Ideal S328x256 .f32) (w : Vec Ideal S3x256 .f32) (g : ℕ → Fin 256 → EReal) (hv : ∀ (r : Fin 328) q, v (ix2 r q) = g r.val q)
    (r : Fin 320) (q : Fin 256) :
    (backOf v w (ix2 r q) : EReal) = (g r.val q * w (ix2 (2 : Fin 3) q) + g (r.val + 1) q * w (ix2 (1 : Fin 3) q)) + g (r.val + 2) q * w (ix2 (0 : Fin 3) q) := by
  have h0 := (head_at v r q).trans (hv _ q)
  have h1 := (ahead_at 327#32 1 rfl (by omega) v r q).trans (hv _ q)
  have h2 := (ahead_at 326#32 2 rfl (by omega) v r q).trans (hv _ q)
  exact congrArg₂ (· + ·) (congrArg₂ (· + ·) (congrArg₂ (· * ·) h0 (w320_at 2 (by omega) _ w r q))
    (congrArg₂ (· * ·) h1 (w320_at 1 (by omega) _ w r q))) (congrArg₂ (· * ·) h2 (w320_at 0 (by omega) _ w r q))

/-! ## The gradient that comes in -/

theorem product_at {K M N : ℕ} (D : DotDims ⟨2, ![M, K]⟩ ⟨2, ![N, K]⟩ ⟨2, ![M, N]⟩) (hD : D = DotDims.transposedRhs M K N) (x : FVec Ideal ⟨2, ![M, K]⟩ .bf16) (y : FVec Ideal ⟨2, ![N, K]⟩ .bf16)
    (r : Fin M) (e : Fin N) : (matmul (F := Ideal) D none x y (constant (F := Ideal) ⟨2, ![M, N]⟩ .f32 0x00000000#32) (ix2 r e) : EReal) = ∑ s : Fin K, x (ix2 r s) * y (ix2 e s) := by
  subst hD
  refine (Ideal.matmul_transposedRhs_apply ..).trans ?_
  exact (congrArg (· + _) Ideal.ofBits_zero_f32).trans (zero_add _)

theorem dact_at (ok : IVec S328x1 1) (d : Vec Ideal S320x1024 .bf16) (dn : Vec Ideal S16x1024 .bf16) (w : Vec Ideal S256x1024 .bf16)
    (f : ℕ → Fin 1024 → EReal) (P : ℕ → Prop) [DecidablePred P]
    (hd : ∀ (r : Fin 320) e, d (ix2 r e) = f r.val e) (hn : ∀ (r : Fin 16) e, dn (ix2 r e) = f (320 + r.val) e)
    (hok : ∀ r : Fin 328, ok (ix2 r (0 : Fin 1)) = if P r.val then 1#1 else 0#1) (r : Fin 328) (q : Fin 256) :
    (dactOf ok d dn w (ix2 r q) : EReal) = if P r.val then ∑ e : Fin 1024, f r.val e * w (ix2 q e) else 0 := by
  have hr := r.isLt
  have hsel : broadcastTo S328x256 (shapeCast S328x1 ok shapeCasts_S328x1_S328x1) broadcasts_S328x1_S328x256 (ix2 r q) = ok (ix2 r (0 : Fin 1)) := by
    rw [shapeCast_self]
    exact broadcastTo_apply _ _ (ix2 r q) (ix2 r (0 : Fin 1)) fun a => match a with
      | ⟨0, _⟩ => rfl
      | ⟨1, _⟩ => rfl
  have hsl : ∀ V : FVec Ideal S336x256 .f32, extractStridedSlice S328x256 ![0, 0] V slices_S336x256_o0_0_S328x256 (ix2 r q) = V (ix2 (⟨r.val, by omega⟩ : Fin 336) q) := fun V =>
    extractStridedSlice_apply _ _ _ (ix2 r q) (ix2 (⟨r.val, by omega⟩ : Fin 336) q) fun a => match a with
      | ⟨0, _⟩ => (Nat.zero_add _).symm
      | ⟨1, _⟩ => (Nat.zero_add _).symm
  unfold dactOf
  simp only [select_apply]
  rw [hsel, hok]
  by_cases hp : P r.val
  · rw [if_pos hp, if_pos hp]
    refine (if_pos rfl).trans ((hsl _).trans ?_)
    refine (product_at dot_S336x1024_S256x1024_S336x256_1_1_0_0_n_n rfl _ _ _ _).trans (Finset.sum_congr rfl fun e _ => ?_)
    simp only [shapeCast_self]
    refine congrArg (· * _) ?_
    by_cases c0 : r.val < 320
    · exact (concatenate_apply_piece 0 _ _ (ix2 (⟨r.val, by omega⟩ : Fin 336) e) 0 (by simp) S320x1024 d rfl rfl 0 rfl (ix2 ⟨r.val, c0⟩ e)
        (fun b hb => match b with
          | ⟨0, _⟩ => absurd rfl hb
          | ⟨1, _⟩ => rfl) (by show 0 + r.val = r.val; omega)).trans (hd _ e)
    · refine (concatenate_apply_piece 0 _ _ (ix2 (⟨r.val, by omega⟩ : Fin 336) e) 1 (by simp) S16x1024 dn rfl rfl 320 rfl (ix2 ⟨r.val - 320, by omega⟩ e)
        (fun b hb => match b with
          | ⟨0, _⟩ => absurd rfl hb
          | ⟨1, _⟩ => rfl) (by show 320 + (r.val - 320) = r.val; omega)).trans ((hn _ e).trans ?_)
      exact congrArg (f · e) (by show 320 + (r.val - 320) = r.val; omega)
  · rw [if_neg hp, if_neg hp]
    exact (if_neg (by decide)).trans Ideal.ofBits_zero_f32

end Cert.Conv

end
-- ==== Proof.ConvMath.lean ====
/-
  The feed-forward's backward call, what it leaves: the gradient of the up projection's rows and its product with the weights,
  as sums over the model's columns, and that one chunk of one block computes its part of them.
-/
module

public import proofs.«01_k».proof.Proof.Products
public import proofs.«01_k».proof.Proof.ConvPoint

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Prod
open Cert.Kernel5Ideal Cert.Kernel5Ideal.Gen

/-! ## The arguments, and what is computed from them at a padded row -/

structure Args where
  u : (⟨2, ![8208, 5632]⟩ : Shape).Idx → EReal
  up : (⟨2, ![1024, 5632]⟩ : Shape).Idx → EReal
  w : (⟨2, ![3, 5632]⟩ : Shape).Idx → EReal
  b : (⟨1, ![5632]⟩ : Shape).Idx → EReal
  down : (⟨2, ![2816, 1024]⟩ : Shape).Idx → EReal
  df : (⟨2, ![8208, 1024]⟩ : Shape).Idx → EReal

/-- Column `k` of the half that the activation takes, and of the half that it gates. -/
def colA (k : Fin 2816) : Fin 5632 := ⟨k.val, by have := k.isLt; omega⟩
def colG (k : Fin 2816) : Fin 5632 := ⟨2816 + k.val, by have := k.isLt; omega⟩

/-- The rows of the padded array that are a token's. -/
def inside (R : ℕ) : Prop := 48 ≤ R ∧ R - 48 < 8208
instance : DecidablePred inside := fun R => inferInstanceAs (Decidable (48 ≤ R ∧ R - 48 < 8208))

namespace Args

variable (A : Args)

/-- The convolution. -/
def conv (R : ℕ) (q : Fin 5632) : EReal :=
  ((A.b (ix1 q) + rowAt A.u R q * A.w (ix2 (2 : Fin 3) q)) + rowAt A.u (R - 1) q * A.w (ix2 (1 : Fin 3) q)) + rowAt A.u (R - 2) q * A.w (ix2 (0 : Fin 3) q)
/-- The gradient that comes in, at a token's row. -/
def dact (R : ℕ) (k : Fin 2816) : EReal := if inside R then ∑ e : Fin 1024, rowAt A.df R e * A.down (ix2 k e) else 0
/-- The gradients of the convolution's two halves. -/
def dca (R : ℕ) (k : Fin 2816) : EReal := (A.dact R k * A.conv R (colG k)) * slope1 (A.conv R (colA k))
def dcg (R : ℕ) (k : Fin 2816) : EReal := A.dact R k * (A.conv R (colA k) * gate1 (A.conv R (colA k)))
/-- A gradient of the convolution carried back to its input, at column `q`. -/
def back (dc : ℕ → EReal) (q : Fin 5632) (R : ℕ) : EReal :=
  (dc R * A.w (ix2 (2 : Fin 3) q) + dc (R + 1) * A.w (ix2 (1 : Fin 3) q)) + dc (R + 2) * A.w (ix2 (0 : Fin 3) q)
def dua (R : ℕ) (k : Fin 2816) : EReal := A.back (A.dca · k) (colA k) R
def dug (R : ℕ) (k : Fin 2816) : EReal := A.back (A.dcg · k) (colG k) R
/-- The product with the up projection's weights. -/
def dh (R : ℕ) (e : Fin 1024) : EReal :=
  ∑ k : Fin 2816, (A.dua R k * A.up (ix2 e (colA k)) + A.dug R k * A.up (ix2 e (colG k)))

end Args

/-! ## One chunk of one block -/

/-- Column `q` of chunk `j`. -/
def chunkCol (j : Fin 11) (q : Fin 256) : Fin 2816 := ⟨256 * j.val + q.val, by have := j.isLt; have := q.isLt; omega⟩

/-- That the pieces are those of chunk `j` of the block that begins at row `S`. -/
structure Fits (A : Args) (S : ℕ) (j : Fin 11) (s : Slices Ideal) : Prop where
  ok : ∀ r : Fin 328, s.ok (ix2 r (0 : Fin 1)) = if inside (S + r.val) then 1#1 else 0#1
  pa : ∀ (r : Fin 8) q, s.pa (ix2 r q) = rowAt A.u (S + r.val - 8) (colA (chunkCol j q))
  xa : ∀ (r : Fin 320) q, s.xa (ix2 r q) = rowAt A.u (S + r.val) (colA (chunkCol j q))
  na : ∀ (r : Fin 8) q, s.na (ix2 r q) = rowAt A.u (S + 320 + r.val) (colA (chunkCol j q))
  pg : ∀ (r : Fin 8) q, s.pg (ix2 r q) = rowAt A.u (S + r.val - 8) (colG (chunkCol j q))
  xg : ∀ (r : Fin 320) q, s.xg (ix2 r q) = rowAt A.u (S + r.val) (colG (chunkCol j q))
  ng : ∀ (r : Fin 8) q, s.ng (ix2 r q) = rowAt A.u (S + 320 + r.val) (colG (chunkCol j q))
  d : ∀ (r : Fin 320) e, s.d (ix2 r e) = rowAt A.df (S + r.val) e
  dn : ∀ (r : Fin 16) e, s.dn (ix2 r e) = rowAt A.df (S + 320 + r.val) e
  down : ∀ (q : Fin 256) e, s.down (ix2 q e) = A.down (ix2 (chunkCol j q) e)
  wa : ∀ (o : Fin 3) q, s.wa (ix2 o q) = A.w (ix2 o (colA (chunkCol j q)))
  wg : ∀ (o : Fin 3) q, s.wg (ix2 o q) = A.w (ix2 o (colG (chunkCol j q)))
  ba : ∀ q : Fin 256, s.ba (ix2 (0 : Fin 1) q) = A.b (ix1 (colA (chunkCol j q)))
  bg : ∀ q : Fin 256, s.bg (ix2 (0 : Fin 1) q) = A.b (ix1 (colG (chunkCol j q)))
  upa : ∀ (e : Fin 1024) q, s.upa (ix2 e q) = A.up (ix2 e (colA (chunkCol j q)))
  upg : ∀ (e : Fin 1024) q, s.upg (ix2 e q) = A.up (ix2 e (colG (chunkCol j q)))

theorem conv_rows (A : Args) (S : ℕ) (col : Fin 256 → Fin 5632) (p : Vec Ideal S8x256 .f32) (x : Vec Ideal S320x256 .f32) (n : Vec Ideal S8x256 .f32)
    (w : Vec Ideal S3x256 .f32) (b : Vec Ideal S1x256 .f32)
    (hp : ∀ (r : Fin 8) q, p (ix2 r q) = rowAt A.u (S + r.val - 8) (col q)) (hx : ∀ (r : Fin 320) q, x (ix2 r q) = rowAt A.u (S + r.val) (col q))
    (hn : ∀ (r : Fin 8) q, n (ix2 r q) = rowAt A.u (S + 320 + r.val) (col q)) (hw : ∀ (o : Fin 3) q, w (ix2 o q) = A.w (ix2 o (col q)))
    (hb : ∀ q : Fin 256, b (ix2 (0 : Fin 1) q) = A.b (ix1 (col q))) (r : Fin 328) (q : Fin 256) :
    convOf (tall p x n) w b (ix2 r q) = A.conv (S + r.val) (col q) := by
  rw [conv_at (tall p x n) w b (fun i q => rowAt A.u (S + i - 8) (col q)) (fun r q => tall_at p x n (fun i q => rowAt A.u (S + i - 8) (col q)) hp
    (fun r q => (hx r q).trans (congrArg (rowAt A.u · (col q)) (by show S + r.val = S + (8 + r.val) - 8; omega)))
    (fun r q => (hn r q).trans (congrArg (rowAt A.u · (col q)) (by show S + 320 + r.val = S + (328 + r.val) - 8; omega))) r q) r q, hb, hw, hw, hw]
  unfold Args.conv
  rw [show S + (8 + r.val) - 8 = S + r.val by omega, show S + (8 + r.val - 1) - 8 = S + r.val - 1 by omega, show S + (8 + r.val - 2) - 8 = S + r.val - 2 by omega]

section Chunk

variable {A : Args} {S : ℕ} {j : Fin 11} {s : Slices Ideal} (h : Fits A S j s)

include h

theorem Fits.ca (r : Fin 328) (q : Fin 256) : s.ca (ix2 r q) = A.conv (S + r.val) (colA (chunkCol j q)) :=
  conv_rows A S (fun q => colA (chunkCol j q)) _ _ _ _ _ h.pa h.xa h.na h.wa h.ba r q
theorem Fits.cg (r : Fin 328) (q : Fin 256) : s.cg (ix2 r q) = A.conv (S + r.val) (colG (chunkCol j q)) :=
  conv_rows A S (fun q => colG (chunkCol j q)) _ _ _ _ _ h.pg h.xg h.ng h.wg h.bg r q
theorem Fits.dact (r : Fin 328) (q : Fin 256) : (s.dact (ix2 r q) : EReal) = A.dact (S + r.val) (chunkCol j q) := by
  refine (dact_at s.ok s.d s.dn s.down (fun i e => rowAt A.df (S + i) e) (fun i => inside (S + i)) h.d
    (fun r e => (h.dn r e).trans (congrArg (rowAt A.df · e) (by omega))) h.ok r q).trans ?_
  unfold Args.dact
  exact if_congr Iff.rfl (Finset.sum_congr rfl fun e _ => congrArg (_ * ·) (h.down q e)) rfl
theorem Fits.dca (r : Fin 328) (q : Fin 256) : (s.dca (ix2 r q) : EReal) = A.dca (S + r.val) (chunkCol j q) :=
  congrArg₂ (· * ·) (congrArg₂ (· * ·) (h.dact r q) (h.cg r q)) ((slope_at s.ca _).trans (congrArg slope1 (h.ca r q)))
theorem Fits.dcg (r : Fin 328) (q : Fin 256) : (s.dcg (ix2 r q) : EReal) = A.dcg (S + r.val) (chunkCol j q) :=
  congrArg₂ (· * ·) (h.dact r q) (congrArg₂ (· * ·) (h.ca r q) ((gate_at s.ca _).trans (congrArg gate1 (h.ca r q))))
theorem Fits.dua (r : Fin 320) (q : Fin 256) : (s.dua (ix2 r q) : EReal) = A.dua (S + r.val) (chunkCol j q) := by
  refine (back_at s.dca s.wa (fun i q => A.dca (S + i) (chunkCol j q)) h.dca r q).trans ?_
  rw [h.wa, h.wa, h.wa]
  rfl
theorem Fits.dug (r : Fin 320) (q : Fin 256) : (s.dug (ix2 r q) : EReal) = A.dug (S + r.val) (chunkCol j q) := by
  refine (back_at s.dcg s.wg (fun i q => A.dcg (S + i) (chunkCol j q)) h.dcg r q).trans ?_
  rw [h.wg, h.wg, h.wg]
  rfl
theorem Fits.part (r : Fin 320) (e : Fin 1024) : (s.part (ix2 r e) : EReal)
    = ∑ q : Fin 256, (A.dua (S + r.val) (chunkCol j q) * A.up (ix2 e (colA (chunkCol j q))) + A.dug (S + r.val) (chunkCol j q) * A.up (ix2 e (colG (chunkCol j q)))) := by
  refine (congrArg₂ (· + ·) (product_at dot_S320x256_S1024x256_S320x1024_1_1_0_0_n_n rfl s.dua (shapeCast S1024x256 s.upa shapeCasts_S1024x256_S1024x256) r e)
    (product_at dot_S320x256_S1024x256_S320x1024_1_1_0_0_n_n rfl s.dug (shapeCast S1024x256 s.upg shapeCasts_S1024x256_S1024x256) r e)).trans ?_
  refine Finset.sum_add_distrib.symm.trans (Finset.sum_congr rfl fun q _ => ?_)
  simp only [shapeCast_self]
  rw [h.dua, h.dug, h.upa, h.upg]

end Chunk

/-- The chunks' sums make the sum over the model's columns. -/
theorem sum_chunks (f : Fin 2816 → EReal) : ∑ j : Fin 11, ∑ q : Fin 256, f (chunkCol j q) = ∑ k : Fin 2816, f k := by
  rw [← Fintype.sum_prod_type']
  exact Fintype.sum_equiv (finProdFinEquiv (m := 11) (n := 256)) _ _ fun p => congrArg f (Fin.ext (by
    show 256 * p.1.val + p.2.val = p.2.val + 256 * p.1.val; omega))

theorem dh_block (A : Args) (S : ℕ) (s : Fin 11 → Slices Ideal) (h : ∀ j, Fits A S j (s j)) (r : Fin 320) (e : Fin 1024) :
    (dhnOf s (ix2 r e) : EReal) = A.dh (S + r.val) e := by
  refine Eq.trans (b := ∑ j : Fin 11, ((s j).part (ix2 r e) : EReal)) ?_ ?_
  · rw [Fin.sum_univ_eq_sum_range (fun j => if h : j < 11 then ((s ⟨j, h⟩).part (ix2 r e) : EReal) else 0) 11 |>.symm.trans (Finset.sum_congr rfl fun j _ => dif_pos j.isLt) |>.symm]
    simp only [Finset.sum_range_succ, Finset.sum_range_zero, zero_add]
    rfl
  · refine (Finset.sum_congr rfl fun j _ => (h j).part r e).trans ?_
    exact sum_chunks fun k => A.dua (S + r.val) k * A.up (ix2 e (colA k)) + A.dug (S + r.val) k * A.up (ix2 e (colG k))

/-! ## The arithmetic of the activation, at reals -/

theorem root_real : root = ((6693141 / 8388608 : ℝ) : EReal) := by
  show Ideal.ofBits .f32 0x3F4C422A#32 = _
  simp [Ideal.ofBits, Ideal.ieee, -EReal.coe_mul]; norm_num
theorem cubic_word : Ideal.ofBits .f32 0x3D372713#32 = ((12003091 / 268435456 : ℝ) : EReal) := by
  simp [Ideal.ofBits, Ideal.ieee, -EReal.coe_mul]; norm_num
theorem half_real : half = ((1 / 2 : ℝ) : EReal) := by
  show Ideal.ofBits .f32 0x3F000000#32 = _
  simp [Ideal.ofBits, Ideal.ieee, -EReal.coe_mul]; norm_num
theorem one_real : one = ((1 : ℝ) : EReal) := by
  show Ideal.ofBits .f32 0x3F800000#32 = _
  rw [Ideal.ofBits_one_f32]; rfl
theorem three_word : Ideal.ofBits .f32 0x40400000#32 = ((3 : ℝ) : EReal) := by
  simp [Ideal.ofBits, Ideal.ieee, -EReal.coe_mul]; norm_num
theorem cubic_real : cubic = ((6693141 / 8388608 * (12003091 / 268435456) : ℝ) : EReal) := by
  refine (IdealRules.named_const.ideal_named_scalar (φ := .f32) κ "gelu_ck" 0x3D122279#32 ((80338380498831 / 2251799813685248 : ℝ) : EReal) rfl).trans ?_
  norm_num
theorem cubic3_real : cubic3 = ((3 * (6693141 / 8388608 * (12003091 / 268435456)) : ℝ) : EReal) := by
  refine (IdealRules.named_const.ideal_named_scalar (φ := .f32) κ "gelu_3ck" 0x3DDB33B6#32 ((241015141496493 / 2251799813685248 : ℝ) : EReal) rfl).trans ?_
  norm_num

/-- The gradient of the activation's half as the reference computes it, at one entry: `d` comes in, `g` gates, `a` is activated. -/
def refA (d g a : EReal) : EReal :=
  let C := Ideal.ofBits .f32 0x3F4C422A#32
  let K := Ideal.ofBits .f32 0x3D372713#32
  let H := Ideal.ofBits .f32 0x3F000000#32
  let I := Ideal.ofBits .f32 0x3F800000#32
  let t := Ideal.tanh (C * (a + K * ((a * a) * a)))
  let z := C * ((H * (a * (d * g))) * ((I + t) * (I - t)))
  ((d * g) * (H * (I + t)) + z) + (K * z) * (Ideal.ofBits .f32 0x40400000#32 * (a * a))
/-- The same of the gate's half. -/
def refG (d a : EReal) : EReal :=
  (a * (Ideal.ofBits .f32 0x3F000000#32 * (Ideal.ofBits .f32 0x3F800000#32
    + Ideal.tanh (Ideal.ofBits .f32 0x3F4C422A#32 * (a + Ideal.ofBits .f32 0x3D372713#32 * ((a * a) * a)))))) * d

theorem tanh1_real (a : ℝ) : tanh1 a = ((Real.tanh (6693141 / 8388608 * (a + 12003091 / 268435456 * ((a * a) * a))) : ℝ) : EReal) := by
  unfold tanh1
  rw [root_real, cubic_real]
  simp only [← EReal.coe_mul, ← EReal.coe_add]
  show ((Real.tanh _ : ℝ) : EReal) = _
  congr 2
  ring

theorem refTanh_real (a : ℝ) : Ideal.tanh (Ideal.ofBits .f32 0x3F4C422A#32 * (a + Ideal.ofBits .f32 0x3D372713#32 * (((a : EReal) * a) * a)))
    = ((Real.tanh (6693141 / 8388608 * (a + 12003091 / 268435456 * ((a * a) * a))) : ℝ) : EReal) := by
  rw [show Ideal.ofBits .f32 0x3F4C422A#32 = _ from root_real, cubic_word]
  simp only [← EReal.coe_mul, ← EReal.coe_add]
  rfl

theorem refA_eq (d g a : ℝ) : refA d g a = ((d : EReal) * g) * slope1 a := by
  unfold refA slope1 gate1
  simp only []
  rw [refTanh_real, tanh1_real, root_real, cubic_word, cubic3_real, half_real, one_real, three_word]
  rw [show Ideal.ofBits .f32 0x3F4C422A#32 = _ from root_real, show Ideal.ofBits .f32 0x3F000000#32 = _ from half_real, show Ideal.ofBits .f32 0x3F800000#32 = _ from one_real]
  simp only [← EReal.coe_mul, ← EReal.coe_add, ← EReal.coe_sub]
  congr 1
  ring

theorem refG_eq (d a : ℝ) : refG d a = (d : EReal) * (a * gate1 a) := by
  unfold refG gate1
  rw [refTanh_real, tanh1_real, half_real]
  rw [show Ideal.ofBits .f32 0x3F000000#32 = _ from half_real, show Ideal.ofBits .f32 0x3F800000#32 = _ from one_real]
  simp only [← EReal.coe_mul, ← EReal.coe_add]
  congr 1
  ring

/-! ## Reals among the values -/

/-- That a value is a real. -/
def IsReal (x : EReal) : Prop := ∃ r : ℝ, x = r
theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i
theorem IsReal.row {w : ℕ} (x : (⟨2, ![8208, w]⟩ : Shape).Idx → EReal) (h : ∀ i, IsReal (x i)) (R : ℕ) (q : Fin w) : IsReal (rowAt x R q) := by
  unfold rowAt
  split
  · exact h _
  · exact ⟨0, rfl⟩

/-- That no argument is infinite, the up projection's weights apart. -/
structure Args.Real (A : Args) : Prop where
  u : ∀ i, IsReal (A.u i)
  w : ∀ i, IsReal (A.w i)
  b : ∀ i, IsReal (A.b i)
  down : ∀ i, IsReal (A.down i)
  df : ∀ i, IsReal (A.df i)

theorem conv_real {A : Args} (h : A.Real) (R : ℕ) (q : Fin 5632) : IsReal (A.conv R q) :=
  (((h.b _).add ((IsReal.row _ h.u _ _).mul (h.w _))).add ((IsReal.row _ h.u _ _).mul (h.w _))).add ((IsReal.row _ h.u _ _).mul (h.w _))

theorem refA_at {A : Args} (h : A.Real) (R : ℕ) (k : Fin 2816) (hR : inside R) :
    refA (∑ e : Fin 1024, rowAt A.df R e * A.down (ix2 k e)) (A.conv R (colG k)) (A.conv R (colA k)) = A.dca R k := by
  unfold Args.dca Args.dact
  rw [if_pos hR]
  obtain ⟨d, hd⟩ := IsReal.sum Finset.univ (fun e => rowAt A.df R e * A.down (ix2 k e)) fun e => (IsReal.row _ h.df R e).mul (h.down _)
  obtain ⟨g, hg⟩ := conv_real h R (colG k)
  obtain ⟨a, ha⟩ := conv_real h R (colA k)
  rw [hd, hg, ha]
  exact refA_eq d g a

theorem refG_at {A : Args} (h : A.Real) (R : ℕ) (k : Fin 2816) (hR : inside R) :
    refG (∑ e : Fin 1024, rowAt A.df R e * A.down (ix2 k e)) (A.conv R (colA k)) = A.dcg R k := by
  unfold Args.dcg Args.dact
  rw [if_pos hR]
  obtain ⟨d, hd⟩ := IsReal.sum Finset.univ (fun e => rowAt A.df R e * A.down (ix2 k e)) fun e => (IsReal.row _ h.df R e).mul (h.down _)
  obtain ⟨a, ha⟩ := conv_real h R (colA k)
  rw [hd, ha]
  exact refG_eq d a

theorem dca_outside (A : Args) (R : ℕ) (k : Fin 2816) (hR : ¬inside R) : A.dca R k = 0 := by
  unfold Args.dca Args.dact
  rw [if_neg hR, zero_mul, zero_mul]
theorem dcg_outside (A : Args) (R : ℕ) (k : Fin 2816) (hR : ¬inside R) : A.dcg R k = 0 := by
  unfold Args.dcg Args.dact
  rw [if_neg hR, zero_mul]

end Cert.Conv

end
-- ==== Proof.ConvLoads.lean ====
/-
  The feed-forward's backward call: the body's buffers, and the pieces of them that one chunk loads.
-/
module

public import proofs.«01_k».proof.Proof.ConvChunk
public import proofs.«01_k».proof.Proof.Gen.Kernel5Ideal.Skeleton

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

variable {F : FTy → Type} [FloatOps F] [Named F]

/-! ## The body's buffers and what they hold -/

/-- The operands' buffers. -/
structure Mem where
  a1 : Memref sig .tc .vmem S320x2816 .f32
  h1 : a1.IsWhole
  a2 : Memref sig .tc .vmem S8x2816 .f32
  h2 : a2.IsWhole
  a3 : Memref sig .tc .vmem S8x2816 .f32
  h3 : a3.IsWhole
  a4 : Memref sig .tc .vmem S320x2816 .f32
  h4 : a4.IsWhole
  a5 : Memref sig .tc .vmem S8x2816 .f32
  h5 : a5.IsWhole
  a6 : Memref sig .tc .vmem S8x2816 .f32
  h6 : a6.IsWhole
  a7 : Memref sig .tc .vmem S320x1024 .bf16
  h7 : a7.IsWhole
  a8 : Memref sig .tc .vmem S16x1024 .bf16
  h8 : a8.IsWhole
  a9 : Memref sig .tc .vmem S2816x1024 .bf16
  h9 : a9.IsWhole
  a10 : Memref sig .tc .vmem S3x2816 .f32
  h10 : a10.IsWhole
  a11 : Memref sig .tc .vmem S3x2816 .f32
  h11 : a11.IsWhole
  a12 : Memref sig .tc .vmem S1x2816 .f32
  h12 : a12.IsWhole
  a13 : Memref sig .tc .vmem S1x2816 .f32
  h13 : a13.IsWhole
  a14 : Memref sig .tc .vmem S1024x2816 .bf16
  h14 : a14.IsWhole
  a15 : Memref sig .tc .vmem S1024x2816 .bf16
  h15 : a15.IsWhole
  a16 : Memref sig .tc .vmem S320x2816 .bf16
  h16 : a16.IsWhole
  a17 : Memref sig .tc .vmem S320x2816 .bf16
  h17 : a17.IsWhole
  a18 : Memref sig .tc .vmem S3x2816 .f32
  h18 : a18.IsWhole
  a19 : Memref sig .tc .vmem S3x2816 .f32
  h19 : a19.IsWhole
  a20 : Memref sig .tc .vmem S1x2816 .f32
  h20 : a20.IsWhole
  a21 : Memref sig .tc .vmem S1x2816 .f32
  h21 : a21.IsWhole
  a22 : Memref sig .tc .vmem S320x1024 .f32
  h22 : a22.IsWhole

/-- What the operands' buffers hold. -/
structure Ops (F : FTy → Type) where
  x0 : Vec F S320x2816 .f32
  x1 : Vec F S8x2816 .f32
  x2 : Vec F S8x2816 .f32
  x3 : Vec F S320x2816 .f32
  x4 : Vec F S8x2816 .f32
  x5 : Vec F S8x2816 .f32
  x6 : Vec F S320x1024 .bf16
  x7 : Vec F S16x1024 .bf16
  x8 : Vec F S2816x1024 .bf16
  x9 : Vec F S3x2816 .f32
  x10 : Vec F S3x2816 .f32
  x11 : Vec F S1x2816 .f32
  x12 : Vec F S1x2816 .f32
  x13 : Vec F S1024x2816 .bf16
  x14 : Vec F S1024x2816 .bf16

theorem inb_cols (n : Nat) (j : Fin 11) : ∀ a : Fin 2, (![0, 256 * j.val] : Fin 2 → Nat) a + (⟨2, ![n, 256]⟩ : Shape).size a ≤ (⟨2, ![n, 2816]⟩ : Shape).size a := by
  intro a
  match a with
  | 0 => show 0 + n ≤ n; omega
  | 1 => show 256 * j.val + 256 ≤ 2816; omega

theorem inb_rows (n : Nat) (j : Fin 11) : ∀ a : Fin 2, (![256 * j.val, 0] : Fin 2 → Nat) a + (⟨2, ![256, n]⟩ : Shape).size a ≤ (⟨2, ![2816, n]⟩ : Shape).size a := by
  intro a
  match a with
  | 0 => show 256 * j.val + 256 ≤ 2816; omega
  | 1 => show 0 + n ≤ n; omega

theorem inb_all (n n' : Nat) : ∀ a : Fin 2, (![0, 0] : Fin 2 → Nat) a + (⟨2, ![n, n']⟩ : Shape).size a ≤ (⟨2, ![n, n']⟩ : Shape).size a := by
  intro a
  match a with
  | 0 => show 0 + n ≤ n; omega
  | 1 => show 0 + n' ≤ n'; omega

/-- The columns of chunk `j` of an array of `n` rows. -/
abbrev cols (n : Nat) (j : Fin 11) : Rect ⟨2, ![n, 2816]⟩ := Rect.unit ![0, 256 * j.val] (⟨2, ![n, 256]⟩ : Shape).size (inb_cols n j)
abbrev whole (n n' : Nat) : Rect ⟨2, ![n, n']⟩ := Rect.unit ![0, 0] (⟨2, ![n, n']⟩ : Shape).size (inb_all n n')

/-- The pieces that chunk `j` loads. -/
def loads (M : Mem) (X : Ops F) (i : grid0.Coords) (j : Fin 11) : Slices F where
  ok := k0_pay7 i
  pa := View.readAt (Elt F) M.a2.view (cols 8 j).toLoadRect (M.h2.unread X.x1)
  xa := View.readAt (Elt F) M.a1.view (cols 320 j).toLoadRect (M.h1.unread X.x0)
  na := View.readAt (Elt F) M.a3.view (cols 8 j).toLoadRect (M.h3.unread X.x2)
  pg := View.readAt (Elt F) M.a5.view (cols 8 j).toLoadRect (M.h5.unread X.x4)
  xg := View.readAt (Elt F) M.a4.view (cols 320 j).toLoadRect (M.h4.unread X.x3)
  ng := View.readAt (Elt F) M.a6.view (cols 8 j).toLoadRect (M.h6.unread X.x5)
  d := View.readAt (Elt F) M.a7.view (whole 320 1024).toLoadRect (M.h7.unread X.x6)
  dn := View.readAt (Elt F) M.a8.view (whole 16 1024).toLoadRect (M.h8.unread X.x7)
  down := View.readAt (Elt F) M.a9.view (Rect.unit (s := S2816x1024) ![256 * j.val, 0] S256x1024.size (inb_rows 1024 j)).toLoadRect (M.h9.unread X.x8)
  wa := View.readAt (Elt F) M.a10.view (cols 3 j).toLoadRect (M.h10.unread X.x9)
  wg := View.readAt (Elt F) M.a11.view (cols 3 j).toLoadRect (M.h11.unread X.x10)
  ba := View.readAt (Elt F) M.a12.view (cols 1 j).toLoadRect (M.h12.unread X.x11)
  bg := View.readAt (Elt F) M.a13.view (cols 1 j).toLoadRect (M.h13.unread X.x12)
  upa := View.readAt (Elt F) M.a14.view (cols 1024 j).toLoadRect (M.h14.unread X.x13)
  upg := View.readAt (Elt F) M.a15.view (cols 1024 j).toLoadRect (M.h15.unread X.x14)

/-- The chunks, last first. -/
def chunks : List (Fin 11) := [10, 9, 8, 7, 6, 5, 4, 3, 2, 1, 0]
end Cert.Conv

end
-- ==== Proof.ConvFit.lean ====
/-
  The feed-forward's backward call: the rows of a block that are a token's, and that the pieces which a chunk loads are those of the
  arguments.
-/
module

public import proofs.«01_k».proof.Proof.ConvMath
public import proofs.«01_k».proof.Proof.ConvLoads

@[expose] public section

noncomputable section

namespace Cert.Conv

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Prod
open Cert.Kernel5Ideal Cert.Kernel5Ideal.Gen

/-! ## The mask -/

theorem mask_words : ∀ t : Fin 26, ∀ r : Fin 328,
    IntOp.andi (IntOp.cmpi .sge (IntOp.addi (IntOp.muli (BitVec.ofNat 32 t.val) 320#32) (BitVec.ofNat 32 (0 * 328 + r.val))) 48#32)
      (IntOp.cmpi .slt (IntOp.addi (IntOp.muli (BitVec.ofNat 32 t.val) 320#32) (BitVec.ofNat 32 (0 * 328 + r.val))) 8256#32)
      = if inside (320 * t.val + r.val) then 1#1 else 0#1 := by
  decide +kernel

theorem mask_at (i : grid0.Coords) (t : Fin 26) (ht : (i 0).val = t.val) (r : Fin 328) : k0_pay7 i (ix2 r (0 : Fin 1)) = if inside (320 * t.val + r.val) then 1#1 else 0#1 := by
  refine Eq.trans ?_ (mask_words t r)
  rw [← ht]
  rfl

/-! ## The loads -/

section Load

variable {n w : ℕ} {e : EltTy} (a : Memref sig .tc .vmem ⟨2, ![n, w]⟩ e) (h : a.IsWhole) (X : Vec Ideal ⟨2, ![n, w]⟩ e)

/-- A load from a buffer that holds `X`, at an entry. -/
theorem load_at (off size : Fin 2 → ℕ) (inb : ∀ b, off b + size b ≤ (⟨2, ![n, w]⟩ : Shape).size b) (y : (⟨2, size⟩ : Shape).Idx) (i : (⟨2, ![n, w]⟩ : Shape).Idx) (hi : ∀ b, (i b : ℕ) = off b + y b) :
    View.readAt (Elt Ideal) a.view (Rect.unit (s := ⟨2, ![n, w]⟩) off size inb).toLoadRect (h.unread X) y = X i := by
  rw [View.readAt_eq_ld, h.read_unread X]
  exact View.ld_unit_apply_of X off size inb y i hi

end Load

theorem cols_at {n : ℕ} {e : EltTy} (a : Memref sig .tc .vmem ⟨2, ![n, 2816]⟩ e) (h : a.IsWhole) (X : Vec Ideal ⟨2, ![n, 2816]⟩ e) (j : Fin 11) (r : Fin n) (q : Fin 256) :
    View.readAt (Elt Ideal) a.view (cols n j).toLoadRect (h.unread X) (ix2 r q) = X (ix2 r (chunkCol j q)) :=
  load_at a h X _ _ _ (ix2 r q) (ix2 r (chunkCol j q)) fun b => match b with
    | ⟨0, _⟩ => (Nat.zero_add _).symm
    | ⟨1, _⟩ => rfl
theorem whole_at {n w : ℕ} {e : EltTy} (a : Memref sig .tc .vmem ⟨2, ![n, w]⟩ e) (h : a.IsWhole) (X : Vec Ideal ⟨2, ![n, w]⟩ e) (r : Fin n) (q : Fin w) :
    View.readAt (Elt Ideal) a.view (whole n w).toLoadRect (h.unread X) (ix2 r q) = X (ix2 r q) :=
  load_at a h X _ _ _ (ix2 r q) (ix2 r q) fun b => match b with
    | ⟨0, _⟩ => (Nat.zero_add _).symm
    | ⟨1, _⟩ => (Nat.zero_add _).symm
theorem rows_at {e : EltTy} (a : Memref sig .tc .vmem S2816x1024 e) (h : a.IsWhole) (X : Vec Ideal S2816x1024 e) (j : Fin 11) (q : Fin 256) (k : Fin 1024) :
    View.readAt (Elt Ideal) a.view (Rect.unit (s := S2816x1024) ![256 * j.val, 0] S256x1024.size (inb_rows 1024 j)).toLoadRect (h.unread X) (ix2 q k) = X (ix2 (chunkCol j q) k) :=
  load_at a h X _ _ _ (ix2 q k) (ix2 (chunkCol j q) k) fun b => match b with
    | ⟨0, _⟩ => rfl
    | ⟨1, _⟩ => (Nat.zero_add _).symm

/-- That the operands are those of the block at row `S`. -/
structure OpsFit (A : Args) (S : ℕ) (X : Ops Ideal) : Prop where
  x0 : ∀ (r : Fin 320) k, X.x0 (ix2 r k) = rowAt A.u (S + r.val) (colA k)
  x1 : ∀ (r : Fin 8) k, X.x1 (ix2 r k) = rowAt A.u (S + r.val - 8) (colA k)
  x2 : ∀ (r : Fin 8) k, X.x2 (ix2 r k) = rowAt A.u (S + 320 + r.val) (colA k)
  x3 : ∀ (r : Fin 320) k, X.x3 (ix2 r k) = rowAt A.u (S + r.val) (colG k)
  x4 : ∀ (r : Fin 8) k, X.x4 (ix2 r k) = rowAt A.u (S + r.val - 8) (colG k)
  x5 : ∀ (r : Fin 8) k, X.x5 (ix2 r k) = rowAt A.u (S + 320 + r.val) (colG k)
  x6 : ∀ (r : Fin 320) e, X.x6 (ix2 r e) = rowAt A.df (S + r.val) e
  x7 : ∀ (r : Fin 16) e, X.x7 (ix2 r e) = rowAt A.df (S + 320 + r.val) e
  x8 : ∀ (k : Fin 2816) e, X.x8 (ix2 k e) = A.down (ix2 k e)
  x9 : ∀ (o : Fin 3) k, X.x9 (ix2 o k) = A.w (ix2 o (colA k))
  x10 : ∀ (o : Fin 3) k, X.x10 (ix2 o k) = A.w (ix2 o (colG k))
  x11 : ∀ k : Fin 2816, X.x11 (ix2 (0 : Fin 1) k) = A.b (ix1 (colA k))
  x12 : ∀ k : Fin 2816, X.x12 (ix2 (0 : Fin 1) k) = A.b (ix1 (colG k))
  x13 : ∀ (e : Fin 1024) k, X.x13 (ix2 e k) = A.up (ix2 e (colA k))
  x14 : ∀ (e : Fin 1024) k, X.x14 (ix2 e k) = A.up (ix2 e (colG k))

set_option maxHeartbeats 0 in
theorem loads_fit {A : Args} (t : Fin 26) {X : Ops Ideal} (h : OpsFit A (320 * t.val) X) (M : Mem) (i : grid0.Coords) (ht : (i 0).val = t.val) (j : Fin 11) :
    Fits A (320 * t.val) j (loads M X i j) where
  ok := mask_at i t ht
  pa r q := (cols_at M.a2 M.h2 X.x1 j r q).trans (h.x1 _ _)
  xa r q := (cols_at M.a1 M.h1 X.x0 j r q).trans (h.x0 _ _)
  na r q := (cols_at M.a3 M.h3 X.x2 j r q).trans (h.x2 _ _)
  pg r q := (cols_at M.a5 M.h5 X.x4 j r q).trans (h.x4 _ _)
  xg r q := (cols_at M.a4 M.h4 X.x3 j r q).trans (h.x3 _ _)
  ng r q := (cols_at M.a6 M.h6 X.x5 j r q).trans (h.x5 _ _)
  d r e := (whole_at M.a7 M.h7 X.x6 r e).trans (h.x6 _ _)
  dn r e := (whole_at M.a8 M.h8 X.x7 r e).trans (h.x7 _ _)
  down q e := (rows_at M.a9 M.h9 X.x8 j q e).trans (h.x8 _ _)
  wa o q := (cols_at M.a10 M.h10 X.x9 j o q).trans (h.x9 _ _)
  wg o q := (cols_at M.a11 M.h11 X.x10 j o q).trans (h.x10 _ _)
  ba q := (cols_at M.a12 M.h12 X.x11 j 0 q).trans (h.x11 _)
  bg q := (cols_at M.a13 M.h13 X.x12 j 0 q).trans (h.x12 _)
  upa e q := (cols_at M.a14 M.h14 X.x13 j e q).trans (h.x13 _ _)
  upg e q := (cols_at M.a15 M.h15 X.x14 j e q).trans (h.x14 _ _)

/-! ## The pieces stored -/

/-- Pieces stored chunk by chunk, read at an entry. -/
theorem tiles_at (f : Fin 11 → Vec Ideal S320x256 .bf16) (G : Fin 320 → Fin 2816 → EReal) (hf : ∀ j r q, (f j (ix2 r q) : EReal) = G r (chunkCol j q)) (r : Fin 320) (k : Fin 2816)
    (hc : ∃ p ∈ (chunks.map fun j => (⟨cols 320 j, f j⟩ : View.Piece (Elt Ideal) S320x2816 .bf16)), ix2 r k ∈ p.1.set) :
    (View.canon (chunks.map fun j => (⟨cols 320 j, f j⟩ : View.Piece (Elt Ideal) S320x2816 .bf16)) (ix2 r k) : EReal) = G r k := by
  refine View.canon_eq_of_allAt _ _ _ hc fun p hp x hx => ?_
  obtain ⟨j, -, rfl⟩ := List.mem_map.mp hp
  have e : ∀ y : S320x256.Idx, y = ix2 (y 0) (y 1) := eq_ix2
  have h0 : 0 + 1 * (x 0).val = r.val := congrArg (fun y : S320x2816.Idx => (y 0).val) hx
  have h1 : 256 * j.val + 1 * (x 1).val = k.val := congrArg (fun y : S320x2816.Idx => (y 1).val) hx
  refine (congrArg (f j) (e x)).trans ((hf j (x 0) (x 1)).trans (congrArg₂ G (Fin.ext ?_) (Fin.ext ?_)))
  · show (x 0).val = r.val
    omega
  · show 256 * j.val + (x 1).val = k.val
    omega

end Cert.Conv

end
-- ==== Proof.ConvRunA.lean ====
/-
  The feed-forward's backward call, the body at the first point: the pieces of the two gradients that it stores are, chunk by chunk,
  what `ConvChunk` names.
-/
module

public import proofs.«01_k».proof.Proof.ConvLoads
public import proofs.«01_k».proof.Proof.Gen.Kernel5Ideal.Frame.RunA

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

variable {F : FTy → Type} [FloatOps F] [Named F]

/-- The run of the body at the first point. -/
abbrev runA (c : Dev nD) (i : grid0.Coords) (M : Mem) (hc : cond0_0 i) (X : Ops F) :=
  kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14

set_option maxHeartbeats 0 in
set_option maxRecDepth 100000 in
theorem runA_15 (c : Dev nD) (i : grid0.Coords) (M : Mem) (hc : cond0_0 i) (X : Ops F) :
    (runA c i M hc X).1 = chunks.map fun j => ⟨cols 320 j, (loads M X i j).dua⟩ := by
  unfold runA kernelRun0_A
  dsimp only [chunks, List.map_cons, List.map_nil]
  rfl

set_option maxHeartbeats 0 in
set_option maxRecDepth 100000 in
theorem runA_16 (c : Dev nD) (i : grid0.Coords) (M : Mem) (hc : cond0_0 i) (X : Ops F) :
    (runA c i M hc X).2.1 = chunks.map fun j => ⟨cols 320 j, (loads M X i j).dug⟩ := by
  unfold runA kernelRun0_A
  dsimp only [chunks, List.map_cons, List.map_nil]
  rfl

end Cert.Conv

end
-- ==== Proof.ConvRunB.lean ====
/-
  The feed-forward's backward call, the body at the points after the first: the pieces of the two gradients that it stores are, chunk by chunk,
  what `ConvChunk` names.
-/
module

public import proofs.«01_k».proof.Proof.ConvLoads
public import proofs.«01_k».proof.Proof.Gen.Kernel5Ideal.Frame.RunB

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

variable {F : FTy → Type} [FloatOps F] [Named F]

/-- The run of the body at the points after the first. -/
abbrev runB (c : Dev nD) (i : grid0.Coords) (M : Mem) (hc : ¬cond0_0 i) (X : Ops F) (y17 y18 : Vec F S3x2816 .f32) (y19 y20 : Vec F S1x2816 .f32) :=
  kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20

set_option maxHeartbeats 0 in
set_option maxRecDepth 100000 in
theorem runB_15 (c : Dev nD) (i : grid0.Coords) (M : Mem) (hc : ¬cond0_0 i) (X : Ops F) (y17 y18 : Vec F S3x2816 .f32) (y19 y20 : Vec F S1x2816 .f32) :
    (runB c i M hc X y17 y18 y19 y20).1 = chunks.map fun j => ⟨cols 320 j, (loads M X i j).dua⟩ := by
  unfold runB kernelRun0_B
  dsimp only [chunks, List.map_cons, List.map_nil]
  rfl

set_option maxHeartbeats 0 in
set_option maxRecDepth 100000 in
theorem runB_16 (c : Dev nD) (i : grid0.Coords) (M : Mem) (hc : ¬cond0_0 i) (X : Ops F) (y17 y18 : Vec F S3x2816 .f32) (y19 y20 : Vec F S1x2816 .f32) :
    (runB c i M hc X y17 y18 y19 y20).2.1 = chunks.map fun j => ⟨cols 320 j, (loads M X i j).dug⟩ := by
  unfold runB kernelRun0_B
  dsimp only [chunks, List.map_cons, List.map_nil]
  rfl

end Cert.Conv

end
-- ==== Proof.ConvSumA.lean ====
/-
  The feed-forward's backward call, the body at the first point: the block of the product that it stores is the sum that
  `ConvChunk` names.
-/
module

public import proofs.«01_k».proof.Proof.ConvLoads
public import proofs.«01_k».proof.Proof.Gen.Kernel5Ideal.Frame.RunA

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

variable {F : FTy → Type} [FloatOps F] [Named F]

/-- The run of the body at the first point. -/
abbrev sumA (c : Dev nD) (i : grid0.Coords) (M : Mem) (hc : cond0_0 i) (X : Ops F) :=
  kernelRun0_A c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14

set_option maxHeartbeats 0 in
set_option maxRecDepth 100000 in
theorem sumA_21 (c : Dev nD) (i : grid0.Coords) (M : Mem) (hc : cond0_0 i) (X : Ops F) :
    (sumA c i M hc X).2.2.2.2.2.2.1 = [⟨whole 320 1024, dhnOf (loads M X i)⟩] := by
  unfold sumA kernelRun0_A
  dsimp only [chunks, List.map_cons, List.map_nil]
  rfl

end Cert.Conv

end
-- ==== Proof.ConvSumB.lean ====
/-
  The feed-forward's backward call, the body at the points after the first: the block of the product that it stores is the sum that
  `ConvChunk` names.
-/
module

public import proofs.«01_k».proof.Proof.ConvLoads
public import proofs.«01_k».proof.Proof.Gen.Kernel5Ideal.Frame.RunB

@[expose] public section

noncomputable section

namespace Cert.Conv

open Idealize.ShloMosaic hiding ix1 ix2 ix3 ix4 eq_ix2 eq_ix3
open Idealize.ShloMosaic.ValueIdx Idealize.ShloMosaic.TcCoe
open Idealize.SL.Sem
open Cert.Kernel5Ideal Cert.Kernel5Ideal.Gen

variable {F : FTy → Type} [FloatOps F] [Named F]

/-- The run of the body at the points after the first. -/
abbrev sumB (c : Dev nD) (i : grid0.Coords) (M : Mem) (hc : ¬cond0_0 i) (X : Ops F) (y17 y18 : Vec F S3x2816 .f32) (y19 y20 : Vec F S1x2816 .f32) :=
  kernelRun0_B c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20

set_option maxHeartbeats 0 in
set_option maxRecDepth 100000 in
theorem sumB_21 (c : Dev nD) (i : grid0.Coords) (M : Mem) (hc : ¬cond0_0 i) (X : Ops F) (y17 y18 : Vec F S3x2816 .f32) (y19 y20 : Vec F S1x2816 .f32) :
    (sumB c i M hc X y17 y18 y19 y20).2.2.2.2.2.2.1 = [⟨whole 320 1024, dhnOf (loads M X i)⟩] := by
  unfold sumB kernelRun0_B
  dsimp only [chunks, List.map_cons, List.map_nil]
  rfl

end Cert.Conv

end
-- ==== Proof.ConvBody.lean ====
/-
  The feed-forward's backward call: what the body leaves in a block of each gradient, entry by entry, at the first point and at the
  others.
-/
module

public import proofs.«01_k».proof.Proof.ConvFit
public import proofs.«01_k».proof.Proof.ConvRunA
public import proofs.«01_k».proof.Proof.ConvRunB
public import proofs.«01_k».proof.Proof.ConvSumA
public import proofs.«01_k».proof.Proof.ConvSumB
public import proofs.«01_k».proof.Proof.Gen.Kernel5Ideal.Frame

@[expose] public section

noncomputable section

namespace Cert.Conv

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Prod
open Cert.Kernel5Ideal Cert.Kernel5Ideal.Gen

variable (c : Dev nD) (i : grid0.Coords) (M : Mem) (X : Ops Ideal)

/-! ## The pieces of a run, read back -/

theorem read_tiles (v : View sig .tc .vmem S320x2816 .bf16) (L : List (View.Piece (Elt Ideal) S320x2816 .bf16)) (f : Fin 11 → Vec Ideal S320x256 .bf16)
    (hL : L = chunks.map fun j => ⟨cols 320 j, f j⟩) (hc : ∀ y, ∃ p ∈ L, y ∈ p.1.set) (G : Fin 320 → Fin 2816 → EReal) (hf : ∀ j r q, (f j (ix2 r q) : EReal) = G r (chunkCol j q))
    (r : Fin 320) (k : Fin 2816) : (v.read (Elt Ideal) (v.writes (Elt Ideal) v.junk L) (ix2 r k) : EReal) = G r k := by
  subst hL
  exact (congrFun (View.read_writes_eq_canon v _ _ hc) (ix2 r k)).trans (tiles_at f G hf r k (hc _))

theorem read_whole (v : View sig .tc .vmem S320x1024 .f32) (L : List (View.Piece (Elt Ideal) S320x1024 .f32)) (f : Vec Ideal S320x1024 .f32)
    (hL : L = [⟨whole 320 1024, f⟩]) (hc : ∀ y, ∃ p ∈ L, y ∈ p.1.set) : v.read (Elt Ideal) (v.writes (Elt Ideal) v.junk L) = f := by
  subst hL
  refine (View.read_writes_eq_canon v _ _ hc).trans ?_
  exact View.canon_cons_unit_lit _ f [] fun a => match a with
    | ⟨0, _⟩ => rfl
    | ⟨1, _⟩ => rfl

variable {A : Args} (t : Fin 26) (h : OpsFit A (320 * t.val) X) (ht : (i 0).val = t.val)
include h ht

/-! ## The first point -/

theorem outA_15 (hc : cond0_0 i) (r : Fin 320) (k : Fin 2816) :
    (out0_A_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 (ix2 r k) : EReal) = A.dua (320 * t.val + r.val) k :=
  read_tiles _ _ (fun j => (loads M X i j).dua) (runA_15 c i M hc X) (cover0_A_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14)
    (fun r k => A.dua (320 * t.val + r.val) k) (fun j r q => (loads_fit t h M i ht j).dua r q) r k
theorem outA_16 (hc : cond0_0 i) (r : Fin 320) (k : Fin 2816) :
    (out0_A_16 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 (ix2 r k) : EReal) = A.dug (320 * t.val + r.val) k :=
  read_tiles _ _ (fun j => (loads M X i j).dug) (runA_16 c i M hc X) (cover0_A_16 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14)
    (fun r k => A.dug (320 * t.val + r.val) k) (fun j r q => (loads_fit t h M i ht j).dug r q) r k
theorem outA_21 (hc : cond0_0 i) (r : Fin 320) (e : Fin 1024) :
    (out0_A_21 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 (ix2 r e) : EReal) = A.dh (320 * t.val + r.val) e :=
  (congrFun (read_whole _ _ (dhnOf (loads M X i)) (sumA_21 c i M hc X) (cover0_A_21 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14)) (ix2 r e)).trans
    (dh_block A (320 * t.val) (loads M X i) (fun j => loads_fit t h M i ht j) r e)

/-! ## The other points -/

theorem outB_15 (hc : ¬cond0_0 i) (y17 y18 : Vec Ideal S3x2816 .f32) (y19 y20 : Vec Ideal S1x2816 .f32) (r : Fin 320) (k : Fin 2816) :
    (out0_B_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20 (ix2 r k) : EReal) = A.dua (320 * t.val + r.val) k :=
  read_tiles _ _ (fun j => (loads M X i j).dua) (runB_15 c i M hc X y17 y18 y19 y20) (cover0_B_15 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20)
    (fun r k => A.dua (320 * t.val + r.val) k) (fun j r q => (loads_fit t h M i ht j).dua r q) r k
theorem outB_16 (hc : ¬cond0_0 i) (y17 y18 : Vec Ideal S3x2816 .f32) (y19 y20 : Vec Ideal S1x2816 .f32) (r : Fin 320) (k : Fin 2816) :
    (out0_B_16 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20 (ix2 r k) : EReal) = A.dug (320 * t.val + r.val) k :=
  read_tiles _ _ (fun j => (loads M X i j).dug) (runB_16 c i M hc X y17 y18 y19 y20) (cover0_B_16 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20)
    (fun r k => A.dug (320 * t.val + r.val) k) (fun j r q => (loads_fit t h M i ht j).dug r q) r k
theorem outB_21 (hc : ¬cond0_0 i) (y17 y18 : Vec Ideal S3x2816 .f32) (y19 y20 : Vec Ideal S1x2816 .f32) (r : Fin 320) (e : Fin 1024) :
    (out0_B_21 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20 (ix2 r e) : EReal) = A.dh (320 * t.val + r.val) e :=
  (congrFun (read_whole _ _ (dhnOf (loads M X i)) (sumB_21 c i M hc X y17 y18 y19 y20) (cover0_B_21 c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 hc X.x0 X.x1 X.x2 X.x3 X.x4 X.x5 X.x6 X.x7 X.x8 X.x9 X.x10 X.x11 X.x12 X.x13 X.x14 y17 y18 y19 y20)) (ix2 r e)).trans
    (dh_block A (320 * t.val) (loads M X i) (fun j => loads_fit t h M i ht j) r e)

end Cert.Conv

end
-- ==== Proof.ConvHost.lean ====
/-
  The feed-forward's backward call: what the host hands it, and the blocks of a grid point, entry by entry.
-/
module

public import proofs.«01_k».proof.Proof.ConvMath
public import proofs.«01_k».proof.Proof.Gen.Kernel5Ideal.Value

@[expose] public section

noncomputable section

namespace Cert.Conv

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Prod
open Cert.Kernel5Ideal Cert.Kernel5Ideal.Gen Cert.Kernel5Ideal.Value

variable (m : (ℓ : Loc nD τ sig) → Buf (Elt Ideal) ℓ) (c : Dev nD)

/-- A device's arguments. -/
def args : Args where
  u := m ((c.tc : Thread nD τ).loc main_arg0)
  up := m ((c.tc : Thread nD τ).loc main_arg1)
  w := m ((c.tc : Thread nD τ).loc main_arg2)
  b := m ((c.tc : Thread nD τ).loc main_arg3)
  down := m ((c.tc : Thread nD τ).loc main_arg4)
  df := m ((c.tc : Thread nD τ).loc main_arg5)

/-! ## What the host hands the call -/

/-- The rows, padded, and the bias as a row. -/
def padU (x : S8208x5632.Idx → EReal) : S8320x5632.Idx → EReal :=
  pad S8320x5632 ![48, 0] ![64, 0] ![0, 0] x (sitofp (F := Ideal) .f32 (constantI S_ 32 0#32)) pads_S8208x5632_S8320x5632_48640_000 h_S_
def padD (x : S8208x1024.Idx → EReal) : S8320x1024.Idx → EReal :=
  pad S8320x1024 ![48, 0] ![64, 0] ![0, 0] x (sitofp (F := Ideal) .f32 (constantI S_ 32 0#32)) pads_S8208x1024_S8320x1024_48640_000 h_S_
def rowB (b : S5632.Idx → EReal) : S1x5632.Idx → EReal := broadcastInDim S1x5632 ![1] bcast_S5632_S1x5632_1 b

theorem padU_at (x : S8208x5632.Idx → EReal) (t : Fin 8320) (q : Fin 5632) : padU x (ix2 t q) = rowAt x t.val q :=
  pad_at x _ zero_word pads_S8208x5632_S8320x5632_48640_000 h_S_ t q
theorem padD_at (x : S8208x1024.Idx → EReal) (t : Fin 8320) (e : Fin 1024) : padD x (ix2 t e) = rowAt x t.val e :=
  pad_at x _ zero_word pads_S8208x1024_S8320x1024_48640_000 h_S_ t e
theorem rowB_at (b : S5632.Idx → EReal) (q : Fin 5632) : rowB b (ix2 (0 : Fin 1) q) = b (ix1 q) :=
  broadcastInDim_apply _ _ _ (ix2 (0 : Fin 1) q) (ix1 q) fun a => match a with | ⟨0, _⟩ => rfl

/-- The two halves of the columns. -/
theorem half_at {n : ℕ} (x : (⟨2, ![n, 5632]⟩ : Shape).Idx → EReal) (h : (⟨2, ![n, 5632]⟩ : Shape).Slices ![0, 0] ⟨2, ![n, 2816]⟩) (r : Fin n) (k : Fin 2816) :
    extractStridedSlice ⟨2, ![n, 2816]⟩ ![0, 0] x h (ix2 r k) = x (ix2 r (colA k)) :=
  extractStridedSlice_apply _ _ _ _ _ fun a => match a with
    | ⟨0, _⟩ => (Nat.zero_add _).symm
    | ⟨1, _⟩ => (Nat.zero_add _).symm
theorem half_at' {n : ℕ} (x : (⟨2, ![n, 5632]⟩ : Shape).Idx → EReal) (h : (⟨2, ![n, 5632]⟩ : Shape).Slices ![0, 2816] ⟨2, ![n, 2816]⟩) (r : Fin n) (k : Fin 2816) :
    extractStridedSlice ⟨2, ![n, 2816]⟩ ![0, 2816] x h (ix2 r k) = x (ix2 r (colG k)) :=
  extractStridedSlice_apply _ _ _ _ _ fun a => match a with
    | ⟨0, _⟩ => (Nat.zero_add _).symm
    | ⟨1, _⟩ => rfl

theorem V_ua : (V m c main_v5 : S8320x2816.Idx → EReal) = extractStridedSlice S8320x2816 ![0, 0] (padU (args m c).u) slices_S8320x5632_S8320x2816_0_0 := by
  unfold V padU args
  simp only [List.flatten_cons, List.flatten_nil, List.append_nil, List.cons_append, List.nil_append]
  after_results_simp <;> rfl
theorem V_ug : (V m c main_v6 : S8320x2816.Idx → EReal) = extractStridedSlice S8320x2816 ![0, 2816] (padU (args m c).u) slices_S8320x5632_S8320x2816_0_2816 := by
  unfold V padU args
  simp only [List.flatten_cons, List.flatten_nil, List.append_nil, List.cons_append, List.nil_append]
  after_results_simp <;> rfl
theorem V_df : (V m c main_v2 : S8320x1024.Idx → EReal) = padD (args m c).df := by
  unfold V padD args
  simp only [List.flatten_cons, List.flatten_nil, List.append_nil, List.cons_append, List.nil_append]
  after_results_simp <;> rfl
theorem V_down : (V m c main_v7 : S2816x1024.Idx → EReal) = (args m c).down := by
  unfold V args
  simp only [List.flatten_cons, List.flatten_nil, List.append_nil, List.cons_append, List.nil_append]
  after_results_simp <;> rfl
theorem V_wa : (V m c main_v8 : S3x2816.Idx → EReal) = extractStridedSlice S3x2816 ![0, 0] (args m c).w slices_S3x5632_S3x2816_0_0 := by
  unfold V args
  simp only [List.flatten_cons, List.flatten_nil, List.append_nil, List.cons_append, List.nil_append]
  after_results_simp <;> rfl
theorem V_wg : (V m c main_v9 : S3x2816.Idx → EReal) = extractStridedSlice S3x2816 ![0, 2816] (args m c).w slices_S3x5632_S3x2816_0_2816 := by
  unfold V args
  simp only [List.flatten_cons, List.flatten_nil, List.append_nil, List.cons_append, List.nil_append]
  after_results_simp <;> rfl
theorem V_ba : (V m c main_v10 : S1x2816.Idx → EReal) = extractStridedSlice S1x2816 ![0, 0] (rowB (args m c).b) slices_S1x5632_S1x2816_0_0 := by
  unfold V rowB args
  simp only [List.flatten_cons, List.flatten_nil, List.append_nil, List.cons_append, List.nil_append]
  after_results_simp <;> rfl
theorem V_bg : (V m c main_v11 : S1x2816.Idx → EReal) = extractStridedSlice S1x2816 ![0, 2816] (rowB (args m c).b) slices_S1x5632_S1x2816_0_2816 := by
  unfold V rowB args
  simp only [List.flatten_cons, List.flatten_nil, List.append_nil, List.cons_append, List.nil_append]
  after_results_simp <;> rfl
theorem V_upa : (V m c main_v12 : S1024x2816.Idx → EReal) = extractStridedSlice S1024x2816 ![0, 0] (args m c).up slices_S1024x5632_S1024x2816_0_0 := by
  unfold V args
  simp only [List.flatten_cons, List.flatten_nil, List.append_nil, List.cons_append, List.nil_append]
  after_results_simp <;> rfl
theorem V_upg : (V m c main_v13 : S1024x2816.Idx → EReal) = extractStridedSlice S1024x2816 ![0, 2816] (args m c).up slices_S1024x5632_S1024x2816_0_2816 := by
  unfold V args
  simp only [List.flatten_cons, List.flatten_nil, List.append_nil, List.cons_append, List.nil_append]
  after_results_simp <;> rfl

theorem ua_at (T : Fin 8320) (k : Fin 2816) : (V m c main_v5 : S8320x2816.Idx → EReal) (ix2 T k) = rowAt (args m c).u T.val (colA k) :=
  (congrFun (V_ua m c) _).trans ((half_at _ _ T k).trans (padU_at _ T _))
theorem ug_at (T : Fin 8320) (k : Fin 2816) : (V m c main_v6 : S8320x2816.Idx → EReal) (ix2 T k) = rowAt (args m c).u T.val (colG k) :=
  (congrFun (V_ug m c) _).trans ((half_at' _ _ T k).trans (padU_at _ T _))
theorem df_at (T : Fin 8320) (e : Fin 1024) : (V m c main_v2 : S8320x1024.Idx → EReal) (ix2 T e) = rowAt (args m c).df T.val e :=
  (congrFun (V_df m c) _).trans (padD_at _ T e)

/-! ## The blocks of a point -/

/-- The rows before a block and after it: where the array has none the rows given are zero ones. -/
theorem before {w : ℕ} (x : (⟨2, ![8208, w]⟩ : Shape).Idx → EReal) (q : Fin w) (t : ℕ) (r : ℕ) (hr : r < 8) : rowAt x (8 * (40 * t - 1) + r) q = rowAt x (320 * t + r - 8) q := by
  by_cases h : t = 0
  · rw [rowAt_outside _ _ _ (by omega), rowAt_outside _ _ _ (by omega)]
  · exact congrArg (rowAt x · q) (by show 8 * (40 * t - 1) + r = 320 * t + r - 8; omega)
theorem after {w : ℕ} (x : (⟨2, ![8208, w]⟩ : Shape).Idx → EReal) (q : Fin w) (t : ℕ) (r : ℕ) (hr : r < 8) (ht : t < 26) : rowAt x (8 * min (40 * (t + 1)) 1039 + r) q = rowAt x (320 * t + 320 + r) q := by
  by_cases h : t = 25
  · rw [rowAt_outside _ _ _ (by omega), rowAt_outside _ _ _ (by omega)]
  · exact congrArg (rowAt x · q) (by show 8 * min (40 * (t + 1)) 1039 + r = 320 * t + 320 + r; omega)
theorem after' {w : ℕ} (x : (⟨2, ![8208, w]⟩ : Shape).Idx → EReal) (q : Fin w) (t : ℕ) (r : ℕ) (hr : r < 16) (ht : t < 26) : rowAt x (16 * min (20 * (t + 1)) 519 + r) q = rowAt x (320 * t + 320 + r) q := by
  by_cases h : t = 25
  · rw [rowAt_outside _ _ _ (by omega), rowAt_outside _ _ _ (by omega)]
  · exact congrArg (rowAt x · q) (by show 16 * min (20 * (t + 1)) 519 + r = 320 * t + 320 + r; omega)

theorem point_lt (t : Fin cfg0.N) : t.val < 26 := t.isLt

theorem idx_0 : ∀ t : Fin cfg0.N, win0_0.index t = ![t.val, 0] :=
  (by decide +kernel : ∀ t : Fin grid0.N, win0_0.index t = ![t.val, 0])
theorem cut_0 (t : Fin cfg0.N) (y : S320x2816.Idx) (i : S8320x2816.Idx) (h0 : (i 0).val = 320 * t.val + (y 0).val) (h1 : (i 1).val = (y 1).val) :
    iblk m c 0 t y = V m c main_v5 i := by
  have e := idx_0 t
  unfold iblk
  blk_simp
  blk_ext [e]
theorem block_0 (t : Fin cfg0.N) (r : Fin 320) (k : Fin 2816) : (iblk m c 0 t : S320x2816.Idx → EReal) (ix2 r k) = rowAt (args m c).u (320 * t.val + r.val) (colA k) :=
  (cut_0 m c t (ix2 r k) (ix2 (⟨320 * t.val + r.val, by have := point_lt t; omega⟩ : Fin 8320) k) rfl rfl).trans ((ua_at m c _ _).trans (rfl))
theorem idx_1 : ∀ t : Fin cfg0.N, win0_1.index t = ![40 * t.val - 1, 0] :=
  (by decide +kernel : ∀ t : Fin grid0.N, win0_1.index t = ![40 * t.val - 1, 0])
theorem cut_1 (t : Fin cfg0.N) (y : S8x2816.Idx) (i : S8320x2816.Idx) (h0 : (i 0).val = 8 * (40 * t.val - 1) + (y 0).val) (h1 : (i 1).val = (y 1).val) :
    iblk m c 1 t y = V m c main_v5 i := by
  have e := idx_1 t
  unfold iblk
  blk_simp
  blk_ext [e]
theorem block_1 (t : Fin cfg0.N) (r : Fin 8) (k : Fin 2816) : (iblk m c 1 t : S8x2816.Idx → EReal) (ix2 r k) = rowAt (args m c).u (320 * t.val + r.val - 8) (colA k) :=
  (cut_1 m c t (ix2 r k) (ix2 (⟨8 * (40 * t.val - 1) + r.val, by have := point_lt t; omega⟩ : Fin 8320) k) rfl rfl).trans ((ua_at m c _ _).trans (before _ _ _ _ r.isLt))
theorem idx_2 : ∀ t : Fin cfg0.N, win0_2.index t = ![min (40 * (t.val + 1)) 1039, 0] :=
  (by decide +kernel : ∀ t : Fin grid0.N, win0_2.index t = ![min (40 * (t.val + 1)) 1039, 0])
theorem cut_2 (t : Fin cfg0.N) (y : S8x2816.Idx) (i : S8320x2816.Idx) (h0 : (i 0).val = 8 * min (40 * (t.val + 1)) 1039 + (y 0).val) (h1 : (i 1).val = (y 1).val) :
    iblk m c 2 t y = V m c main_v5 i := by
  have e := idx_2 t
  unfold iblk
  blk_simp
  blk_ext [e]
theorem block_2 (t : Fin cfg0.N) (r : Fin 8) (k : Fin 2816) : (iblk m c 2 t : S8x2816.Idx → EReal) (ix2 r k) = rowAt (args m c).u (320 * t.val + 320 + r.val) (colA k) :=
  (cut_2 m c t (ix2 r k) (ix2 (⟨8 * min (40 * (t.val + 1)) 1039 + r.val, by have := point_lt t; omega⟩ : Fin 8320) k) rfl rfl).trans ((ua_at m c _ _).trans (after _ _ _ _ r.isLt (point_lt t)))
theorem idx_3 : ∀ t : Fin cfg0.N, win0_3.index t = ![t.val, 0] :=
  (by decide +kernel : ∀ t : Fin grid0.N, win0_3.index t = ![t.val, 0])
theorem cut_3 (t : Fin cfg0.N) (y : S320x2816.Idx) (i : S8320x2816.Idx) (h0 : (i 0).val = 320 * t.val + (y 0).val) (h1 : (i 1).val = (y 1).val) :
    iblk m c 3 t y = V m c main_v6 i := by
  have e := idx_3 t
  unfold iblk
  blk_simp
  blk_ext [e]
theorem block_3 (t : Fin cfg0.N) (r : Fin 320) (k : Fin 2816) : (iblk m c 3 t : S320x2816.Idx → EReal) (ix2 r k) = rowAt (args m c).u (320 * t.val + r.val) (colG k) :=
  (cut_3 m c t (ix2 r k) (ix2 (⟨320 * t.val + r.val, by have := point_lt t; omega⟩ : Fin 8320) k) rfl rfl).trans ((ug_at m c _ _).trans (rfl))
theorem idx_4 : ∀ t : Fin cfg0.N, win0_4.index t = ![40 * t.val - 1, 0] :=
  (by decide +kernel : ∀ t : Fin grid0.N, win0_4.index t = ![40 * t.val - 1, 0])
theorem cut_4 (t : Fin cfg0.N) (y : S8x2816.Idx) (i : S8320x2816.Idx) (h0 : (i 0).val = 8 * (40 * t.val - 1) + (y 0).val) (h1 : (i 1).val = (y 1).val) :
    iblk m c 4 t y = V m c main_v6 i := by
  have e := idx_4 t
  unfold iblk
  blk_simp
  blk_ext [e]
theorem block_4 (t : Fin cfg0.N) (r : Fin 8) (k : Fin 2816) : (iblk m c 4 t : S8x2816.Idx → EReal) (ix2 r k) = rowAt (args m c).u (320 * t.val + r.val - 8) (colG k) :=
  (cut_4 m c t (ix2 r k) (ix2 (⟨8 * (40 * t.val - 1) + r.val, by have := point_lt t; omega⟩ : Fin 8320) k) rfl rfl).trans ((ug_at m c _ _).trans (before _ _ _ _ r.isLt))
theorem idx_5 : ∀ t : Fin cfg0.N, win0_5.index t = ![min (40 * (t.val + 1)) 1039, 0] :=
  (by decide +kernel : ∀ t : Fin grid0.N, win0_5.index t = ![min (40 * (t.val + 1)) 1039, 0])
theorem cut_5 (t : Fin cfg0.N) (y : S8x2816.Idx) (i : S8320x2816.Idx) (h0 : (i 0).val = 8 * min (40 * (t.val + 1)) 1039 + (y 0).val) (h1 : (i 1).val = (y 1).val) :
    iblk m c 5 t y = V m c main_v6 i := by
  have e := idx_5 t
  unfold iblk
  blk_simp
  blk_ext [e]
theorem block_5 (t : Fin cfg0.N) (r : Fin 8) (k : Fin 2816) : (iblk m c 5 t : S8x2816.Idx → EReal) (ix2 r k) = rowAt (args m c).u (320 * t.val + 320 + r.val) (colG k) :=
  (cut_5 m c t (ix2 r k) (ix2 (⟨8 * min (40 * (t.val + 1)) 1039 + r.val, by have := point_lt t; omega⟩ : Fin 8320) k) rfl rfl).trans ((ug_at m c _ _).trans (after _ _ _ _ r.isLt (point_lt t)))
theorem idx_6 : ∀ t : Fin cfg0.N, win0_6.index t = ![t.val, 0] :=
  (by decide +kernel : ∀ t : Fin grid0.N, win0_6.index t = ![t.val, 0])
theorem cut_6 (t : Fin cfg0.N) (y : S320x1024.Idx) (i : S8320x1024.Idx) (h0 : (i 0).val = 320 * t.val + (y 0).val) (h1 : (i 1).val = (y 1).val) :
    iblk m c 6 t y = V m c main_v2 i := by
  have e := idx_6 t
  unfold iblk
  blk_simp
  blk_ext [e]
theorem block_6 (t : Fin cfg0.N) (r : Fin 320) (k : Fin 1024) : (iblk m c 6 t : S320x1024.Idx → EReal) (ix2 r k) = rowAt (args m c).df (320 * t.val + r.val) (k) :=
  (cut_6 m c t (ix2 r k) (ix2 (⟨320 * t.val + r.val, by have := point_lt t; omega⟩ : Fin 8320) k) rfl rfl).trans ((df_at m c _ _).trans (rfl))
theorem idx_7 : ∀ t : Fin cfg0.N, win0_7.index t = ![min (20 * (t.val + 1)) 519, 0] :=
  (by decide +kernel : ∀ t : Fin grid0.N, win0_7.index t = ![min (20 * (t.val + 1)) 519, 0])
theorem cut_7 (t : Fin cfg0.N) (y : S16x1024.Idx) (i : S8320x1024.Idx) (h0 : (i 0).val = 16 * min (20 * (t.val + 1)) 519 + (y 0).val) (h1 : (i 1).val = (y 1).val) :
    iblk m c 7 t y = V m c main_v2 i := by
  have e := idx_7 t
  unfold iblk
  blk_simp
  blk_ext [e]
theorem block_7 (t : Fin cfg0.N) (r : Fin 16) (k : Fin 1024) : (iblk m c 7 t : S16x1024.Idx → EReal) (ix2 r k) = rowAt (args m c).df (320 * t.val + 320 + r.val) (k) :=
  (cut_7 m c t (ix2 r k) (ix2 (⟨16 * min (20 * (t.val + 1)) 519 + r.val, by have := point_lt t; omega⟩ : Fin 8320) k) rfl rfl).trans ((df_at m c _ _).trans (after' _ _ _ _ r.isLt (point_lt t)))
theorem idx_8 : ∀ t : Fin cfg0.N, win0_8.index t = ![0, 0] :=
  (by decide +kernel : ∀ t : Fin grid0.N, win0_8.index t = ![0, 0])
theorem cut_8 (t : Fin cfg0.N) (y : S2816x1024.Idx) (i : S2816x1024.Idx) (h0 : (i 0).val = (y 0).val) (h1 : (i 1).val = (y 1).val) :
    iblk m c 8 t y = V m c main_v7 i := by
  have e := idx_8 t
  unfold iblk
  blk_simp
  blk_ext [e]
theorem block_8 (t : Fin cfg0.N) (r : Fin 2816) (k : Fin 1024) : (iblk m c 8 t : S2816x1024.Idx → EReal) (ix2 r k) = (args m c).down (ix2 r k) :=
  (cut_8 m c t (ix2 r k) (ix2 r k) rfl rfl).trans ((congrFun (V_down m c) _))
theorem idx_9 : ∀ t : Fin cfg0.N, win0_9.index t = ![0, 0] :=
  (by decide +kernel : ∀ t : Fin grid0.N, win0_9.index t = ![0, 0])
theorem cut_9 (t : Fin cfg0.N) (y : S3x2816.Idx) (i : S3x2816.Idx) (h0 : (i 0).val = (y 0).val) (h1 : (i 1).val = (y 1).val) :
    iblk m c 9 t y = V m c main_v8 i := by
  have e := idx_9 t
  unfold iblk
  blk_simp
  blk_ext [e]
theorem block_9 (t : Fin cfg0.N) (r : Fin 3) (k : Fin 2816) : (iblk m c 9 t : S3x2816.Idx → EReal) (ix2 r k) = (args m c).w (ix2 r (colA k)) :=
  (cut_9 m c t (ix2 r k) (ix2 r k) rfl rfl).trans ((congrFun (V_wa m c) _).trans (half_at _ _ r k))
theorem idx_10 : ∀ t : Fin cfg0.N, win0_10.index t = ![0, 0] :=
  (by decide +kernel : ∀ t : Fin grid0.N, win0_10.index t = ![0, 0])
theorem cut_10 (t : Fin cfg0.N) (y : S3x2816.Idx) (i : S3x2816.Idx) (h0 : (i 0).val = (y 0).val) (h1 : (i 1).val = (y 1).val) :
    iblk m c 10 t y = V m c main_v9 i := by
  have e := idx_10 t
  unfold iblk
  blk_simp
  blk_ext [e]
theorem block_10 (t : Fin cfg0.N) (r : Fin 3) (k : Fin 2816) : (iblk m c 10 t : S3x2816.Idx → EReal) (ix2 r k) = (args m c).w (ix2 r (colG k)) :=
  (cut_10 m c t (ix2 r k) (ix2 r k) rfl rfl).trans ((congrFun (V_wg m c) _).trans (half_at' _ _ r k))
theorem idx_13 : ∀ t : Fin cfg0.N, win0_13.index t = ![0, 0] :=
  (by decide +kernel : ∀ t : Fin grid0.N, win0_13.index t = ![0, 0])
theorem cut_13 (t : Fin cfg0.N) (y : S1024x2816.Idx) (i : S1024x2816.Idx) (h0 : (i 0).val = (y 0).val) (h1 : (i 1).val = (y 1).val) :
    iblk m c 13 t y = V m c main_v12 i := by
  have e := idx_13 t
  unfold iblk
  blk_simp
  blk_ext [e]
theorem block_13 (t : Fin cfg0.N) (r : Fin 1024) (k : Fin 2816) : (iblk m c 13 t : S1024x2816.Idx → EReal) (ix2 r k) = (args m c).up (ix2 r (colA k)) :=
  (cut_13 m c t (ix2 r k) (ix2 r k) rfl rfl).trans ((congrFun (V_upa m c) _).trans (half_at _ _ r k))
theorem idx_14 : ∀ t : Fin cfg0.N, win0_14.index t = ![0, 0] :=
  (by decide +kernel : ∀ t : Fin grid0.N, win0_14.index t = ![0, 0])
theorem cut_14 (t : Fin cfg0.N) (y : S1024x2816.Idx) (i : S1024x2816.Idx) (h0 : (i 0).val = (y 0).val) (h1 : (i 1).val = (y 1).val) :
    iblk m c 14 t y = V m c main_v13 i := by
  have e := idx_14 t
  unfold iblk
  blk_simp
  blk_ext [e]
theorem block_14 (t : Fin cfg0.N) (r : Fin 1024) (k : Fin 2816) : (iblk m c 14 t : S1024x2816.Idx → EReal) (ix2 r k) = (args m c).up (ix2 r (colG k)) :=
  (cut_14 m c t (ix2 r k) (ix2 r k) rfl rfl).trans ((congrFun (V_upg m c) _).trans (half_at' _ _ r k))
theorem idx_11 : ∀ t : Fin cfg0.N, win0_11.index t = ![0, 0] :=
  (by decide +kernel : ∀ t : Fin grid0.N, win0_11.index t = ![0, 0])
theorem cut_11 (t : Fin cfg0.N) (y : S1x2816.Idx) (i : S1x2816.Idx) (h0 : (i 0).val = (y 0).val) (h1 : (i 1).val = (y 1).val) :
    iblk m c 11 t y = V m c main_v10 i := by
  have e := idx_11 t
  unfold iblk
  blk_simp
  blk_ext [e]
theorem block_11 (t : Fin cfg0.N) (k : Fin 2816) : (iblk m c 11 t : S1x2816.Idx → EReal) (ix2 (0 : Fin 1) k) = (args m c).b (ix1 (colA k)) :=
  (cut_11 m c t (ix2 0 k) (ix2 0 k) rfl rfl).trans ((congrFun (V_ba m c) _).trans ((half_at _ _ 0 k).trans (rowB_at _ _)))
theorem idx_12 : ∀ t : Fin cfg0.N, win0_12.index t = ![0, 0] :=
  (by decide +kernel : ∀ t : Fin grid0.N, win0_12.index t = ![0, 0])
theorem cut_12 (t : Fin cfg0.N) (y : S1x2816.Idx) (i : S1x2816.Idx) (h0 : (i 0).val = (y 0).val) (h1 : (i 1).val = (y 1).val) :
    iblk m c 12 t y = V m c main_v11 i := by
  have e := idx_12 t
  unfold iblk
  blk_simp
  blk_ext [e]
theorem block_12 (t : Fin cfg0.N) (k : Fin 2816) : (iblk m c 12 t : S1x2816.Idx → EReal) (ix2 (0 : Fin 1) k) = (args m c).b (ix1 (colG k)) :=
  (cut_12 m c t (ix2 0 k) (ix2 0 k) rfl rfl).trans ((congrFun (V_bg m c) _).trans ((half_at' _ _ 0 k).trans (rowB_at _ _)))

end Cert.Conv

end
-- ==== Proof.ConvLeft.lean ====
/-
  The feed-forward's backward call: what each grid point leaves in its block of each gradient.
-/
module

public import proofs.«01_k».proof.Proof.ConvBody
public import proofs.«01_k».proof.Proof.ConvHost

@[expose] public section

noncomputable section

namespace Cert.Conv

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Prod
open Cert.Kernel5Ideal Cert.Kernel5Ideal.Gen Cert.Kernel5Ideal.Value

/-! ## The body's blocks, buffer by buffer -/

section Body

variable {c : Dev nD} {i : grid0.Coords}
  {a1 : Memref sig .tc .vmem S320x2816 .f32} {h1 : a1.IsWhole} {a2 : Memref sig .tc .vmem S8x2816 .f32} {h2 : a2.IsWhole} {a3 : Memref sig .tc .vmem S8x2816 .f32} {h3 : a3.IsWhole} {a4 : Memref sig .tc .vmem S320x2816 .f32} {h4 : a4.IsWhole} {a5 : Memref sig .tc .vmem S8x2816 .f32} {h5 : a5.IsWhole} {a6 : Memref sig .tc .vmem S8x2816 .f32} {h6 : a6.IsWhole} {a7 : Memref sig .tc .vmem S320x1024 .bf16} {h7 : a7.IsWhole} {a8 : Memref sig .tc .vmem S16x1024 .bf16} {h8 : a8.IsWhole} {a9 : Memref sig .tc .vmem S2816x1024 .bf16} {h9 : a9.IsWhole} {a10 : Memref sig .tc .vmem S3x2816 .f32} {h10 : a10.IsWhole} {a11 : Memref sig .tc .vmem S3x2816 .f32} {h11 : a11.IsWhole} {a12 : Memref sig .tc .vmem S1x2816 .f32} {h12 : a12.IsWhole} {a13 : Memref sig .tc .vmem S1x2816 .f32} {h13 : a13.IsWhole} {a14 : Memref sig .tc .vmem S1024x2816 .bf16} {h14 : a14.IsWhole} {a15 : Memref sig .tc .vmem S1024x2816 .bf16} {h15 : a15.IsWhole} {a16 : Memref sig .tc .vmem S320x2816 .bf16} {h16 : a16.IsWhole} {a17 : Memref sig .tc .vmem S320x2816 .bf16} {h17 : a17.IsWhole} {a18 : Memref sig .tc .vmem S3x2816 .f32} {h18 : a18.IsWhole} {a19 : Memref sig .tc .vmem S3x2816 .f32} {h19 : a19.IsWhole} {a20 : Memref sig .tc .vmem S1x2816 .f32} {h20 : a20.IsWhole} {a21 : Memref sig .tc .vmem S1x2816 .f32} {h21 : a21.IsWhole} {a22 : Memref sig .tc .vmem S320x1024 .f32} {h22 : a22.IsWhole}
  {x0 : Vec Ideal S320x2816 .f32} {x1 : Vec Ideal S8x2816 .f32} {x2 : Vec Ideal S8x2816 .f32} {x3 : Vec Ideal S320x2816 .f32} {x4 : Vec Ideal S8x2816 .f32} {x5 : Vec Ideal S8x2816 .f32} {x6 : Vec Ideal S320x1024 .bf16} {x7 : Vec Ideal S16x1024 .bf16} {x8 : Vec Ideal S2816x1024 .bf16} {x9 : Vec Ideal S3x2816 .f32} {x10 : Vec Ideal S3x2816 .f32} {x11 : Vec Ideal S1x2816 .f32} {x12 : Vec Ideal S1x2816 .f32} {x13 : Vec Ideal S1024x2816 .bf16} {x14 : Vec Ideal S1024x2816 .bf16}
  {A : Args} (t : Fin 26) (h : OpsFit A (320 * t.val) ⟨x0, x1, x2, x3, x4, x5, x6, x7, x8, x9, x10, x11, x12, x13, x14⟩) (ht : (i 0).val = t.val)
include h ht

theorem blockA_15 {hc : cond0_0 i} (r : Fin 320) (k : Fin 2816) :
    (out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 x13 x14 (ix2 r k) : EReal) = A.dua (320 * t.val + r.val) k :=
  outA_15 c i ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22⟩ ⟨x0, x1, x2, x3, x4, x5, x6, x7, x8, x9, x10, x11, x12, x13, x14⟩ t h ht hc r k
theorem blockA_16 {hc : cond0_0 i} (r : Fin 320) (k : Fin 2816) :
    (out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 x13 x14 (ix2 r k) : EReal) = A.dug (320 * t.val + r.val) k :=
  outA_16 c i ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22⟩ ⟨x0, x1, x2, x3, x4, x5, x6, x7, x8, x9, x10, x11, x12, x13, x14⟩ t h ht hc r k
theorem blockA_21 {hc : cond0_0 i} (r : Fin 320) (k : Fin 1024) :
    (out0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 x13 x14 (ix2 r k) : EReal) = A.dh (320 * t.val + r.val) k :=
  outA_21 c i ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22⟩ ⟨x0, x1, x2, x3, x4, x5, x6, x7, x8, x9, x10, x11, x12, x13, x14⟩ t h ht hc r k
theorem blockB_15 {hc : ¬cond0_0 i} {y17 y18 : Vec Ideal S3x2816 .f32} {y19 y20 : Vec Ideal S1x2816 .f32} (r : Fin 320) (k : Fin 2816) :
    (out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 x13 x14 y17 y18 y19 y20 (ix2 r k) : EReal) = A.dua (320 * t.val + r.val) k :=
  outB_15 c i ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22⟩ ⟨x0, x1, x2, x3, x4, x5, x6, x7, x8, x9, x10, x11, x12, x13, x14⟩ t h ht hc y17 y18 y19 y20 r k
theorem blockB_16 {hc : ¬cond0_0 i} {y17 y18 : Vec Ideal S3x2816 .f32} {y19 y20 : Vec Ideal S1x2816 .f32} (r : Fin 320) (k : Fin 2816) :
    (out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 x13 x14 y17 y18 y19 y20 (ix2 r k) : EReal) = A.dug (320 * t.val + r.val) k :=
  outB_16 c i ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22⟩ ⟨x0, x1, x2, x3, x4, x5, x6, x7, x8, x9, x10, x11, x12, x13, x14⟩ t h ht hc y17 y18 y19 y20 r k
theorem blockB_21 {hc : ¬cond0_0 i} {y17 y18 : Vec Ideal S3x2816 .f32} {y19 y20 : Vec Ideal S1x2816 .f32} (r : Fin 320) (k : Fin 1024) :
    (out0_B_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 x13 x14 y17 y18 y19 y20 (ix2 r k) : EReal) = A.dh (320 * t.val + r.val) k :=
  outB_21 c i ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22⟩ ⟨x0, x1, x2, x3, x4, x5, x6, x7, x8, x9, x10, x11, x12, x13, x14⟩ t h ht hc y17 y18 y19 y20 r k

end Body

/-! ## The blocks of a grid point -/

variable (m : (ℓ : Loc nD τ sig) → Buf (Elt Ideal) ℓ) (c : Dev nD)

theorem ops_of {A : Args} {S : ℕ} {x0 : Vec Ideal S320x2816 .f32} {x1 : Vec Ideal S8x2816 .f32} {x2 : Vec Ideal S8x2816 .f32} {x3 : Vec Ideal S320x2816 .f32} {x4 : Vec Ideal S8x2816 .f32} {x5 : Vec Ideal S8x2816 .f32} {x6 : Vec Ideal S320x1024 .bf16} {x7 : Vec Ideal S16x1024 .bf16} {x8 : Vec Ideal S2816x1024 .bf16} {x9 : Vec Ideal S3x2816 .f32} {x10 : Vec Ideal S3x2816 .f32} {x11 : Vec Ideal S1x2816 .f32} {x12 : Vec Ideal S1x2816 .f32} {x13 : Vec Ideal S1024x2816 .bf16} {x14 : Vec Ideal S1024x2816 .bf16}
    (e0 : ∀ (r : Fin 320) k, x0 (ix2 r k) = rowAt A.u (S + r.val) (colA k))
    (e1 : ∀ (r : Fin 8) k, x1 (ix2 r k) = rowAt A.u (S + r.val - 8) (colA k))
    (e2 : ∀ (r : Fin 8) k, x2 (ix2 r k) = rowAt A.u (S + 320 + r.val) (colA k))
    (e3 : ∀ (r : Fin 320) k, x3 (ix2 r k) = rowAt A.u (S + r.val) (colG k))
    (e4 : ∀ (r : Fin 8) k, x4 (ix2 r k) = rowAt A.u (S + r.val - 8) (colG k))
    (e5 : ∀ (r : Fin 8) k, x5 (ix2 r k) = rowAt A.u (S + 320 + r.val) (colG k))
    (e6 : ∀ (r : Fin 320) e, x6 (ix2 r e) = rowAt A.df (S + r.val) e)
    (e7 : ∀ (r : Fin 16) e, x7 (ix2 r e) = rowAt A.df (S + 320 + r.val) e)
    (e8 : ∀ (k : Fin 2816) e, x8 (ix2 k e) = A.down (ix2 k e))
    (e9 : ∀ (o : Fin 3) k, x9 (ix2 o k) = A.w (ix2 o (colA k)))
    (e10 : ∀ (o : Fin 3) k, x10 (ix2 o k) = A.w (ix2 o (colG k)))
    (e11 : ∀ k : Fin 2816, x11 (ix2 (0 : Fin 1) k) = A.b (ix1 (colA k)))
    (e12 : ∀ k : Fin 2816, x12 (ix2 (0 : Fin 1) k) = A.b (ix1 (colG k)))
    (e13 : ∀ (e : Fin 1024) k, x13 (ix2 e k) = A.up (ix2 e (colA k)))
    (e14 : ∀ (e : Fin 1024) k, x14 (ix2 e k) = A.up (ix2 e (colG k)))
    : OpsFit A S ⟨x0, x1, x2, x3, x4, x5, x6, x7, x8, x9, x10, x11, x12, x13, x14⟩ := ⟨e0, e1, e2, e3, e4, e5, e6, e7, e8, e9, e10, e11, e12, e13, e14⟩

theorem ops_fit (t : Fin cfg0.N) : OpsFit (args m c) (320 * t.val) ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩ :=
  ops_of (block_0 m c t) (block_1 m c t) (block_2 m c t) (block_3 m c t) (block_4 m c t) (block_5 m c t) (block_6 m c t) (block_7 m c t) (block_8 m c t) (block_9 m c t) (block_10 m c t) (block_11 m c t) (block_12 m c t) (block_13 m c t) (block_14 m c t)

theorem coord : ∀ t : Fin cfg0.N, (grid0.coords t 0).val = t.val :=
  (by decide +kernel : ∀ t : Fin grid0.N, (grid0.coords t 0).val = t.val)

theorem fst_of {α β : Type} {p : α × β} {a : α} {b : β} (h : p = (a, b)) : p.1 = a := congrArg Prod.fst h
theorem snd_of {α β : Type} {p : α × β} {a : α} {b : β} (h : p = (a, b)) : p.2 = b := congrArg Prod.snd h

theorem left_15 (t : Fin cfg0.N) (r : Fin 320) (k : Fin 2816) : ((outsAt0 m c t.val t.isLt).1 (ix2 r k) : EReal) = (args m c).dua (320 * t.val + r.val) k := by
  by_cases h0 : t.val % 26 = 0
  · exact (congrFun (fst_of (outsAt0_A m c t h0)) (ix2 r k)).trans (blockA_15 t (ops_fit m c t) (coord t) r k)
  · exact (congrFun (fst_of (outsAt0_B m c t h0)) (ix2 r k)).trans (blockB_15 t (ops_fit m c t) (coord t) r k)
theorem left_16 (t : Fin cfg0.N) (r : Fin 320) (k : Fin 2816) : ((outsAt0 m c t.val t.isLt).2.1 (ix2 r k) : EReal) = (args m c).dug (320 * t.val + r.val) k := by
  by_cases h0 : t.val % 26 = 0
  · exact (congrFun (fst_of (snd_of (outsAt0_A m c t h0))) (ix2 r k)).trans (blockA_16 t (ops_fit m c t) (coord t) r k)
  · exact (congrFun (fst_of (snd_of (outsAt0_B m c t h0))) (ix2 r k)).trans (blockB_16 t (ops_fit m c t) (coord t) r k)
theorem left_21 (t : Fin cfg0.N) (r : Fin 320) (k : Fin 1024) : ((outsAt0 m c t.val t.isLt).2.2.2.2.2.2 (ix2 r k) : EReal) = (args m c).dh (320 * t.val + r.val) k := by
  by_cases h0 : t.val % 26 = 0
  · exact (congrFun (snd_of (snd_of (snd_of (snd_of (snd_of (snd_of (outsAt0_A m c t h0))))))) (ix2 r k)).trans (blockA_21 t (ops_fit m c t) (coord t) r k)
  · exact (congrFun (snd_of (snd_of (snd_of (snd_of (snd_of (snd_of (outsAt0_B m c t h0))))))) (ix2 r k)).trans (blockB_21 t (ops_fit m c t) (coord t) r k)

end Cert.Conv

end
-- ==== Proof.ConvRef.lean ====
/-
  The feed-forward's backward call, the reference read at an entry: where no argument is infinite it leaves the gradients that
  `ConvMath` names.
-/
module

public import proofs.«01_k».proof.Proof.ConvMath
public import proofs.«01_k».proof.Proof.Gen.Reference5Ideal.Run

@[expose] public section

noncomputable section

namespace Cert.ConvRef

open Idealize.ShloMosaic hiding ix1 ix2 ix3 ix4 eq_ix2 eq_ix3
open Idealize.ShloMosaic.ValueIdx Idealize.ShloMosaic.TcCoe
open Idealize.SL.Sem
open Cert.Prod Cert.Conv
open Cert.Reference5Ideal Cert.Reference5Ideal.Gen Cert.Reference5Ideal.Value

variable (V0 : Valuation τ sig (Elt Ideal))

/-- The reference's arguments. -/
def args : Args where
  u := V0 (Proc.devRef .tc main_arg0)
  up := V0 (Proc.devRef .tc main_arg1)
  w := V0 (Proc.devRef .tc main_arg2)
  b := V0 (Proc.devRef .tc main_arg3)
  down := V0 (Proc.devRef .tc main_arg4)
  df := V0 (Proc.devRef .tc main_arg5)

/-! ## The convolution -/

/-- Rows padded to begin at place `c`. -/
theorem pad_from {w : ℕ} {s : Shape} (c d : ℕ) (hc : c ≤ 48) (x : (⟨2, ![8208, w]⟩ : Shape).Idx → EReal) (z : s.Idx → EReal) (hz : ∀ j, z j = 0)
    (h : (⟨2, ![8208, w]⟩ : Shape).Pads ![c, 0] ![d, 0] ![0, 0] ⟨2, ![8320, w]⟩) (hs : 0 < s.numel) (t : Fin 8320) (k : Fin w) :
    pad ⟨2, ![8320, w]⟩ ![c, 0] ![d, 0] ![0, 0] x z h hs (ix2 t k) = rowAt x (t.val + (48 - c)) k := by
  by_cases ht : c ≤ t.val ∧ t.val - c < 8208
  · rw [pad_apply_of_inside _ _ _ _ _ _ _ (ix2 t k) (ix2 ⟨t.val - c, ht.2⟩ k) (fun b => match b with
      | ⟨0, _⟩ => by show t.val = c + (t.val - c) * (0 + 1); omega
      | ⟨1, _⟩ => by show k.val = 0 + k.val * (0 + 1); omega)]
    unfold rowAt
    rw [dif_pos (by omega)]
    exact congrArg (fun q => x (ix2 q k)) (Fin.ext (by show t.val - c = t.val + (48 - c) - 48; omega))
  · rw [pad_apply_of_not_inside _ _ _ _ _ _ _ (ix2 t k) 0 (by
      show ¬(c ≤ t.val ∧ (t.val - c) % (0 + 1) = 0 ∧ (t.val - c) / (0 + 1) < 8208)
      omega), hz, rowAt_outside _ _ _ (by omega)]

theorem row_at (o : ℕ) (ho : o < 3) (w : FVec Ideal S3x5632 .f32) (h : S3x5632.Slices ![o, 0] S1x5632) (q : Fin 5632) :
    broadcastInDim S1x5632 ![1] bcast_S5632_S1x5632_1 (shapeCast S5632 (extractStridedSlice S1x5632 ![o, 0] w h) shapeCasts_S1x5632_S5632) (ix2 (0 : Fin 1) q)
      = w (ix2 (⟨o, ho⟩ : Fin 3) q) := by
  refine (broadcastInDim_apply _ _ _ (ix2 (0 : Fin 1) q) (ix1 q) fun a => match a with | ⟨0, _⟩ => rfl).trans ?_
  refine (shapeCast_dropUnit_apply ![5632] (extractStridedSlice S1x5632 ![o, 0] w h) shapeCasts_S1x5632_S5632 (ix1 q)).trans ?_
  exact extractStridedSlice_apply _ _ _ _ _ fun a => match a with
    | ⟨0, _⟩ => rfl
    | ⟨1, _⟩ => (Nat.zero_add _).symm

theorem rows_at (o : ℕ) (ho : o < 3) (w : FVec Ideal S3x5632 .f32) (h : S3x5632.Slices ![o, 0] S1x5632) (p : Fin 8208) (q : Fin 5632) :
    broadcastInDim S8208x5632 ![0, 1] bcast_S1x5632_S8208x5632_0_1 (broadcastInDim S1x5632 ![1] bcast_S5632_S1x5632_1 (shapeCast S5632 (extractStridedSlice S1x5632 ![o, 0] w h) shapeCasts_S1x5632_S5632)) (ix2 p q)
      = w (ix2 (⟨o, ho⟩ : Fin 3) q) :=
  (broadcastInDim_oneRow_apply _ _ p q).trans (row_at o ho w h q)

theorem slab_at (o : ℕ) (ho : o ≤ 48) (x : FVec Ideal S8320x5632 .f32) (h : S8320x5632.Slices ![o, 0] S8208x5632) (p : Fin 8208) (q : Fin 5632) :
    extractStridedSlice S8208x5632 ![o, 0] x h (ix2 p q) = x (ix2 (⟨o + p.val, by have := p.isLt; omega⟩ : Fin 8320) q) :=
  extractStridedSlice_apply _ _ _ _ _ fun a => match a with
    | ⟨0, _⟩ => rfl
    | ⟨1, _⟩ => (Nat.zero_add _).symm

theorem padded_at (t : Fin 8320) (q : Fin 5632) : (res_main_v0 V0 : S8320x5632.Idx → EReal) (ix2 t q) = rowAt (args V0).u t.val q :=
  pad_at _ _ zero_word _ _ t q

theorem bias_at (b : FVec Ideal S5632 .f32) (p : Fin 8208) (q : Fin 5632) :
    broadcastInDim S8208x5632 ![0, 1] bcast_S1x5632_S8208x5632_0_1 (broadcastInDim S1x5632 ![1] bcast_S5632_S1x5632_1 b) (ix2 p q) = b (ix1 q) :=
  (broadcastInDim_oneRow_apply _ _ p q).trans (broadcastInDim_apply _ _ _ (ix2 (0 : Fin 1) q) (ix1 q) fun a => match a with | ⟨0, _⟩ => rfl)

theorem conv_at (p : Fin 8208) (q : Fin 5632) : (res_main_v25 V0 : S8208x5632.Idx → EReal) (ix2 p q) = (args V0).conv (48 + p.val) q := by
  have hp := p.isLt
  have e : ∀ (o : ℕ) (ho : o ≤ 48) (R : ℕ) (h : S8320x5632.Slices ![o, 0] S8208x5632), R = o + p.val →
      (extractStridedSlice S8208x5632 ![o, 0] (res_main_v0 V0) h (ix2 p q) : EReal) = rowAt (args V0).u R q := fun o ho R h hR =>
    (slab_at o ho _ h p q).trans ((padded_at V0 _ q).trans (congrArg (rowAt (args V0).u · q) hR.symm))
  have h0 := congrArg₂ (· * ·) (e 46 (by omega) (48 + p.val - 2) slices_S8320x5632_S8208x5632_46_0 (by omega)) (rows_at 0 (by omega) (V0 (Proc.devRef .tc main_arg2)) slices_S3x5632_S1x5632_0_0 p q)
  have h1 := congrArg₂ (· * ·) (e 47 (by omega) (48 + p.val - 1) slices_S8320x5632_S8208x5632_47_0 (by omega)) (rows_at 1 (by omega) (V0 (Proc.devRef .tc main_arg2)) slices_S3x5632_S1x5632_1_0 p q)
  have h2 := congrArg₂ (· * ·) (e 48 (by omega) (48 + p.val) slices_S8320x5632_S8208x5632_48_0 (by omega)) (rows_at 2 (by omega) (V0 (Proc.devRef .tc main_arg2)) slices_S3x5632_S1x5632_2_0 p q)
  have hz : (broadcastInDim S8208x5632 ![] bcast_S_S8208x5632 (constant (F := Ideal) S_ .f32 0x00000000#32) (ix2 p q) : EReal) = 0 :=
    (broadcastInDim_scalar_apply _ _ _).trans Ideal.ofBits_zero_f32
  refine (congrArg₂ (· + ·) (bias_at (V0 (Proc.devRef .tc main_arg3)) p q) (congrArg₂ (· + ·) (congrArg₂ (· + ·) (congrArg₂ (· + ·) hz h0) h1) h2)).trans ?_
  show (args V0).b (ix1 q) + (((0 + rowAt (args V0).u (48 + p.val - 2) q * (args V0).w (ix2 (0 : Fin 3) q)) + rowAt (args V0).u (48 + p.val - 1) q * (args V0).w (ix2 (1 : Fin 3) q))
    + rowAt (args V0).u (48 + p.val) q * (args V0).w (ix2 (2 : Fin 3) q)) = _
  unfold Args.conv
  abel

/-! ## The activation's gradient -/

theorem actA_at (p : Fin 8208) (k : Fin 2816) : (res_main_v26 V0 : S8208x2816.Idx → EReal) (ix2 p k) = (args V0).conv (48 + p.val) (colA k) :=
  (extractStridedSlice_apply _ _ _ (ix2 p k) (ix2 p (colA k)) fun a => match a with
    | ⟨0, _⟩ => (Nat.zero_add _).symm
    | ⟨1, _⟩ => (Nat.zero_add _).symm).trans (conv_at V0 p (colA k))
theorem actG_at (p : Fin 8208) (k : Fin 2816) : (res_main_v27 V0 : S8208x2816.Idx → EReal) (ix2 p k) = (args V0).conv (48 + p.val) (colG k) :=
  (extractStridedSlice_apply _ _ _ (ix2 p k) (ix2 p (colG k)) fun a => match a with
    | ⟨0, _⟩ => (Nat.zero_add _).symm
    | ⟨1, _⟩ => rfl).trans (conv_at V0 p (colG k))

theorem down_at (D : DotDims ⟨2, ![8208, 1024]⟩ ⟨2, ![2816, 1024]⟩ ⟨2, ![8208, 2816]⟩) (hD : D = DotDims.transposedRhs 8208 1024 2816)
    (x : FVec Ideal ⟨2, ![8208, 1024]⟩ .f32) (w : FVec Ideal ⟨2, ![2816, 1024]⟩ .f32) (p : Fin 8208) (k : Fin 2816) :
    (Host.dotGeneral (F := Ideal) D none x w (ix2 p k) : EReal) = ∑ e : Fin 1024, x (ix2 p e) * w (ix2 k e) := by
  subst hD
  exact (host_product _ none x w _).trans ((Ideal.matmul_transposedRhs_apply ..).trans (zero_add _))

theorem come_at (p : Fin 8208) (k : Fin 2816) : (res_main_v51 V0 : S8208x2816.Idx → EReal) (ix2 p k)
    = ∑ e : Fin 1024, rowAt (args V0).df (48 + p.val) e * (args V0).down (ix2 k e) :=
  (down_at _ rfl _ _ p k).trans (Finset.sum_congr rfl fun e _ => congrArg (· * _) (rowAt_inside (args V0).df p e).symm)

/-- The gradient of the activation's half, and of the gate's. -/
def gradA : FVec Ideal S8208x2816 .f32 :=
  addf (addf (mulf (res_main_v53 V0) (res_main_v47 V0)) (res_main_v60 V0)) (mulf (mulf (broadcastInDim S8208x2816 ![] bcast_S_S8208x2816 (constant S_ .f32 0x3D372713#32)) (res_main_v60 V0)) (mulf (broadcastInDim S8208x2816 ![] bcast_S_S8208x2816 (constant S_ .f32 0x40400000#32)) (mulf (res_main_v26 V0) (res_main_v26 V0))))
def gradG : FVec Ideal S8208x2816 .f32 := mulf (res_main_v48 V0) (res_main_v51 V0)

theorem gradA_at (p : Fin 8208) (k : Fin 2816) : (gradA V0 (ix2 p k) : EReal)
    = refA ((res_main_v51 V0 : S8208x2816.Idx → EReal) (ix2 p k)) ((res_main_v27 V0 : S8208x2816.Idx → EReal) (ix2 p k)) ((res_main_v26 V0 : S8208x2816.Idx → EReal) (ix2 p k)) := rfl
theorem gradG_at (p : Fin 8208) (k : Fin 2816) : (gradG V0 (ix2 p k) : EReal)
    = refG ((res_main_v51 V0 : S8208x2816.Idx → EReal) (ix2 p k)) ((res_main_v26 V0 : S8208x2816.Idx → EReal) (ix2 p k)) := rfl

theorem inside_token (p : Fin 8208) : inside (48 + p.val) := ⟨by omega, by have := p.isLt; omega⟩

variable (hA : (args V0).Real)

include hA

theorem gradA_eq (p : Fin 8208) (k : Fin 2816) : (res_main_v66 V0 : S8208x5632.Idx → EReal) (ix2 p (colA k)) = (args V0).dca (48 + p.val) k := by
  refine (concatenate_apply_piece 1 [⟨S8208x2816, gradA V0⟩, ⟨S8208x2816, gradG V0⟩] concatenates_S8208x2816_S8208x2816_S8208x5632_d1 (ix2 p (colA k)) 0 (by simp) S8208x2816 (gradA V0) rfl rfl 0 rfl (ix2 p k)
    (fun b hb => match b with
      | ⟨0, _⟩ => rfl
      | ⟨1, _⟩ => absurd rfl hb) (by show 0 + k.val = k.val; omega)).trans ?_
  rw [gradA_at, come_at, actA_at, actG_at]
  exact refA_at hA _ k (inside_token p)
theorem gradG_eq (p : Fin 8208) (k : Fin 2816) : (res_main_v66 V0 : S8208x5632.Idx → EReal) (ix2 p (colG k)) = (args V0).dcg (48 + p.val) k := by
  refine (concatenate_apply_piece 1 [⟨S8208x2816, gradA V0⟩, ⟨S8208x2816, gradG V0⟩] concatenates_S8208x2816_S8208x2816_S8208x5632_d1 (ix2 p (colG k)) 1 (by simp) S8208x2816 (gradG V0) rfl rfl 2816 rfl (ix2 p k)
    (fun b hb => match b with
      | ⟨0, _⟩ => rfl
      | ⟨1, _⟩ => absurd rfl hb) (by show 2816 + k.val = 2816 + k.val; omega)).trans ?_
  rw [gradG_at, come_at, actA_at]
  exact refG_at hA _ k (inside_token p)

omit hA in
/-- The rows carried back, from the gradient of the convolution at one column. -/
theorem back_at (q : Fin 5632) (dc : ℕ → EReal) (hin : ∀ p : Fin 8208, (res_main_v66 V0 : S8208x5632.Idx → EReal) (ix2 p q) = dc (48 + p.val))
    (hout : ∀ R, ¬inside R → dc R = 0) (t : Fin 8320) : (res_main_v77 V0 : S8320x5632.Idx → EReal) (ix2 t q) = (args V0).back dc q t.val := by
  have hz : ∀ j : S_.Idx, (constant (F := Ideal) S_ .f32 0x00000000#32 : S_.Idx → EReal) j = 0 := fun _ => Ideal.ofBits_zero_f32
  have e : ∀ (o : ℕ) (ho : o < 3) (h : S3x5632.Slices ![o, 0] S1x5632) (R : ℕ),
      rowAt (mulf (F := Ideal) (φ := .f32) (res_main_v66 V0) (broadcastInDim S8208x5632 ![0, 1] bcast_S1x5632_S8208x5632_0_1 (broadcastInDim S1x5632 ![1] bcast_S5632_S1x5632_1 (shapeCast S5632 (extractStridedSlice S1x5632 ![o, 0] (V0 (Proc.devRef .tc main_arg2)) h) shapeCasts_S1x5632_S5632)))) R q
        = dc R * (args V0).w (ix2 (⟨o, ho⟩ : Fin 3) q) := by
    intro o ho h R
    by_cases hR : inside R
    · obtain ⟨p, rfl⟩ : ∃ p : Fin 8208, R = 48 + p.val := ⟨⟨R - 48, hR.2⟩, by have := hR.1; show R = 48 + (R - 48); omega⟩
      exact (rowAt_inside _ p q).trans (congrArg₂ (· * ·) (hin p) (rows_at o ho _ h p q))
    · rw [rowAt_outside _ _ _ hR, hout R hR, zero_mul]
  have h2 := (pad_from 48 64 (by omega) _ _ hz pads_S8208x5632_S8320x5632_48640_000 h_S_ t q).trans (e 2 (by omega) slices_S3x5632_S1x5632_2_0 (t.val + 0))
  have h1 := (pad_from 47 65 (by omega) _ _ hz pads_S8208x5632_S8320x5632_47650_000 h_S_ t q).trans (e 1 (by omega) slices_S3x5632_S1x5632_1_0 (t.val + 1))
  have h0 := (pad_from 46 66 (by omega) _ _ hz pads_S8208x5632_S8320x5632_46660_000 h_S_ t q).trans (e 0 (by omega) slices_S3x5632_S1x5632_0_0 (t.val + 2))
  exact congrArg₂ (· + ·) (congrArg₂ (· + ·) h2 h1) h0

theorem backA_at (t : Fin 8320) (k : Fin 2816) : (res_main_v77 V0 : S8320x5632.Idx → EReal) (ix2 t (colA k)) = (args V0).dua t.val k :=
  back_at V0 (colA k) ((args V0).dca · k) (fun p => gradA_eq V0 hA p k) (fun R hR => dca_outside _ R k hR) t
theorem backG_at (t : Fin 8320) (k : Fin 2816) : (res_main_v77 V0 : S8320x5632.Idx → EReal) (ix2 t (colG k)) = (args V0).dug t.val k :=
  back_at V0 (colG k) ((args V0).dcg · k) (fun p => gradG_eq V0 hA p k) (fun R hR => dcg_outside _ R k hR) t

/-! ## The results -/

/-- The three results, at an entry. -/
theorem dua_at (t : Fin 8320) (k : Fin 2816) :
    ((truncf .bf16 (extractStridedSlice S8320x2816 ![0, 0] (res_main_v77 V0) slices_S8320x5632_S8320x2816_0_0) bitsLt_bf16_f32 : FVec Ideal S8320x2816 .bf16) (ix2 t k) : EReal)
      = (args V0).dua t.val k :=
  (extractStridedSlice_apply _ (res_main_v77 V0 : S8320x5632.Idx → EReal) slices_S8320x5632_S8320x2816_0_0 (ix2 t k) (ix2 t (colA k)) fun a => match a with
    | ⟨0, _⟩ => (Nat.zero_add _).symm
    | ⟨1, _⟩ => (Nat.zero_add _).symm).trans (backA_at V0 hA t k)
theorem dug_at (t : Fin 8320) (k : Fin 2816) :
    ((truncf .bf16 (extractStridedSlice S8320x2816 ![0, 2816] (res_main_v77 V0) slices_S8320x5632_S8320x2816_0_2816) bitsLt_bf16_f32 : FVec Ideal S8320x2816 .bf16) (ix2 t k) : EReal)
      = (args V0).dug t.val k :=
  (extractStridedSlice_apply _ (res_main_v77 V0 : S8320x5632.Idx → EReal) slices_S8320x5632_S8320x2816_0_2816 (ix2 t k) (ix2 t (colG k)) fun a => match a with
    | ⟨0, _⟩ => (Nat.zero_add _).symm
    | ⟨1, _⟩ => rfl).trans (backG_at V0 hA t k)

omit hA in
theorem sum_halves (f : Fin 5632 → EReal) : ∑ q : Fin 5632, f q = ∑ k : Fin 2816, (f (colA k) + f (colG k)) := by
  rw [Finset.sum_add_distrib]
  exact Fin.sum_univ_add (a := 2816) (b := 2816) f

omit hA in
theorem up_at (D : DotDims ⟨2, ![8320, 5632]⟩ ⟨2, ![1024, 5632]⟩ ⟨2, ![8320, 1024]⟩) (hD : D = DotDims.transposedRhs 8320 5632 1024)
    (x : FVec Ideal ⟨2, ![8320, 5632]⟩ .f32) (w : FVec Ideal ⟨2, ![1024, 5632]⟩ .f32) (t : Fin 8320) (e : Fin 1024) :
    (Host.dotGeneral (F := Ideal) D none x w (ix2 t e) : EReal) = ∑ q : Fin 5632, x (ix2 t q) * w (ix2 e q) := by
  subst hD
  exact (host_product _ none x w _).trans ((Ideal.matmul_transposedRhs_apply ..).trans (zero_add _))

theorem dh_at (t : Fin 8320) (e : Fin 1024) :
    (Host.dotGeneral (F := Ideal) (φ₁ := .f32) (φ₂ := .f32) dot_S8320x5632_S1024x5632_S8320x1024_1_1_0_0_n_n none (res_main_v77 V0 : FVec Ideal S8320x5632 .f32) (V0 (Proc.devRef .tc main_arg1) : FVec Ideal S1024x5632 .f32) (ix2 t e) : EReal)
      = (args V0).dh t.val e := by
  refine (up_at dot_S8320x5632_S1024x5632_S8320x1024_1_1_0_0_n_n rfl (res_main_v77 V0) (V0 (Proc.devRef .tc main_arg1)) t e).trans ((sum_halves _).trans (Finset.sum_congr rfl fun k _ => ?_))
  rw [backA_at V0 hA t k, backG_at V0 hA t k]
  rfl

end Cert.ConvRef

end
-- ==== Proof.GradConv.lean ====
/-
  The feed-forward's backward call: the three gradients that it leaves, and that the reference leaves the same ones where no argument
  is infinite.
-/
module

public import proofs.«01_k».proof.Defs
public import proofs.«01_k».proof.Proof.Value
public import proofs.«01_k».proof.Proof.ConvLeft
public import proofs.«01_k».proof.Proof.ConvRef

@[expose] public section

noncomputable section

namespace Cert.GradConv

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Prod
open Cert.Kernel5Ideal Cert.Kernel5Ideal.Gen Cert.Kernel5Ideal.Value Cert.Conv

variable (m : (ℓ : Loc nD τ sig) → Buf (Elt Ideal) ℓ) (c : Dev nD)

/-! ## The call's results -/

def dua (A : Args) : S8320x2816.Idx → EReal := fun i => A.dua (i 0).val (i 1)
def dug (A : Args) : S8320x2816.Idx → EReal := fun i => A.dug (i 0).val (i 1)
def dh (A : Args) : S8320x1024.Idx → EReal := fun i => A.dh (i 0).val (i 1)

theorem idx_15 : ∀ t : Fin cfg0.N, win0_15.index t = ![t.val, 0] :=
  (by decide +kernel : ∀ t : Fin grid0.N, win0_15.index t = ![t.val, 0])
theorem left_at_15 (t : Fin cfg0.N) (y : S320x2816.Idx) (i : S8320x2816.Idx) (h0 : (i 0).val = 320 * t.val + (y 0).val) (h1 : (i 1).val = (y 1).val) :
    ((outsAt0 m c t.val t.isLt).1 y : EReal) = dua (args m c) i := by
  have hy : ∀ j : S320x2816.Idx, j = ix2 (j 0) (j 1) := eq_ix2
  rw [hy y]
  refine (left_15 m c t (y 0) (y 1)).trans ?_
  show _ = (args m c).dua (i 0).val (i 1)
  rw [h0, show i 1 = y 1 from Fin.ext h1]
theorem result_15 : (dats m 0 c).arrAt 15 cfg0.N = dua (args m c) := by
  refine (dats m 0 c).arrAt_eq_of_covers 15 (dua (args m c)) (by decide +kernel) fun t hf y => ?_
  blk_simp
  rw [after0_15]
  refine left_at_15 m c t y _ ?_ ?_
  · show win0_15.index t 0 * 320 + 1 * (y 0).val = _
    rw [idx_15 t]
    show t.val * 320 + 1 * (y 0).val = _
    omega
  · show win0_15.index t 1 * 2816 + 1 * (y 1).val = _
    rw [idx_15 t]
    show 0 * 2816 + 1 * (y 1).val = _
    omega

theorem idx_16 : ∀ t : Fin cfg0.N, win0_16.index t = ![t.val, 0] :=
  (by decide +kernel : ∀ t : Fin grid0.N, win0_16.index t = ![t.val, 0])
theorem left_at_16 (t : Fin cfg0.N) (y : S320x2816.Idx) (i : S8320x2816.Idx) (h0 : (i 0).val = 320 * t.val + (y 0).val) (h1 : (i 1).val = (y 1).val) :
    ((outsAt0 m c t.val t.isLt).2.1 y : EReal) = dug (args m c) i := by
  have hy : ∀ j : S320x2816.Idx, j = ix2 (j 0) (j 1) := eq_ix2
  rw [hy y]
  refine (left_16 m c t (y 0) (y 1)).trans ?_
  show _ = (args m c).dug (i 0).val (i 1)
  rw [h0, show i 1 = y 1 from Fin.ext h1]
theorem result_16 : (dats m 0 c).arrAt 16 cfg0.N = dug (args m c) := by
  refine (dats m 0 c).arrAt_eq_of_covers 16 (dug (args m c)) (by decide +kernel) fun t hf y => ?_
  blk_simp
  rw [after0_16]
  refine left_at_16 m c t y _ ?_ ?_
  · show win0_16.index t 0 * 320 + 1 * (y 0).val = _
    rw [idx_16 t]
    show t.val * 320 + 1 * (y 0).val = _
    omega
  · show win0_16.index t 1 * 2816 + 1 * (y 1).val = _
    rw [idx_16 t]
    show 0 * 2816 + 1 * (y 1).val = _
    omega

theorem idx_21 : ∀ t : Fin cfg0.N, win0_21.index t = ![t.val, 0] :=
  (by decide +kernel : ∀ t : Fin grid0.N, win0_21.index t = ![t.val, 0])
theorem left_at_21 (t : Fin cfg0.N) (y : S320x1024.Idx) (i : S8320x1024.Idx) (h0 : (i 0).val = 320 * t.val + (y 0).val) (h1 : (i 1).val = (y 1).val) :
    ((outsAt0 m c t.val t.isLt).2.2.2.2.2.2 y : EReal) = dh (args m c) i := by
  have hy : ∀ j : S320x1024.Idx, j = ix2 (j 0) (j 1) := eq_ix2
  rw [hy y]
  refine (left_21 m c t (y 0) (y 1)).trans ?_
  show _ = (args m c).dh (i 0).val (i 1)
  rw [h0, show i 1 = y 1 from Fin.ext h1]
theorem result_21 : (dats m 0 c).arrAt 21 cfg0.N = dh (args m c) := by
  refine (dats m 0 c).arrAt_eq_of_covers 21 (dh (args m c)) (by decide +kernel) fun t hf y => ?_
  blk_simp
  rw [after0_21]
  refine left_at_21 m c t y _ ?_ ?_
  · show win0_21.index t 0 * 320 + 1 * (y 0).val = _
    rw [idx_21 t]
    show t.val * 320 + 1 * (y 0).val = _
    omega
  · show win0_21.index t 1 * 1024 + 1 * (y 1).val = _
    rw [idx_21 t]
    show 0 * 1024 + 1 * (y 1).val = _
    omega

/-! ## The two programs -/

/-- The shapes' side conditions of the precondition. -/
theorem pre_facts : Cert.Pre_finite5.Facts where
  bcast_S_S8208x5632 := by decide
  bcast_S_S3x5632 := by decide
  bcast_S_S5632 := by decide
  bcast_S_S2816x1024 := by decide
  bcast_S_S8208x1024 := by decide

theorem real_entry {x : EReal} (h : Ideal.cmp .olt (max x (-x)) (Ideal.ofBits .f32 0x7F800000#32) = 1#1) : IsReal x :=
  ⟨x.toReal, (Cert.Ret.real_of_small x (by rw [Cert.Ret.ofBits_infinity] at h; exact h)).symm⟩

theorem args_real (h : Cert.Pre_Kernel5Ideal_finite5 m (hPre_finite5 := pre_facts)) : (args m c).Real where
  u i := real_entry (congrFun (h c).1 i)
  w i := real_entry (congrFun (h c).2.1 i)
  b i := real_entry (congrFun (h c).2.2.1 i)
  down i := real_entry (congrFun (h c).2.2.2.1 i)
  df i := real_entry (congrFun (h c).2.2.2.2 i)

theorem algebraic : Cert.algebraic_Kernel5Ideal_Reference5Ideal_pre_finite5 (hKernel5Ideal := Cert.Kernel5Ideal.Gen.facts) (hReference5Ideal := Cert.Reference5Ideal.Gen.facts)
    (hPre_finite5 := pre_facts) := by
  intro m g m' g' hpre harg
  refine ⟨fun c => dua (args m c), fun c => dug (args m c), fun c => dh (args m c), (θ_run (Cert.Kernel5Ideal.defs (F := Ideal)) _ _).mono (fun r h c => ?_) (Cert.Kernel5Ideal.Value.run_blocks m g), ?_⟩
  · obtain ⟨h15, h16, -, -, -, -, h21, h0, h1, h2, h3, h4, h5⟩ := h c
    exact ⟨h15.trans (result_15 m c), h16.trans (result_16 m c), h21.trans (result_21 m c), h0, h1, h2, h3, h4, h5⟩
  refine (θ_run (Cert.Reference5Ideal.defs (F := Ideal)) _ _).mono (fun r h c => ?_) (Cert.Reference5Ideal.Value.run (F := Ideal) m' g')
  obtain ⟨h15, h16, h21, h0, h1, h2, h3, h4, h5⟩ := h c
  obtain ⟨e0, e1, e2, e3, e4, e5⟩ := harg c
  have hA : Cert.ConvRef.args (launchContents m' c) = args m c := by
    unfold Cert.ConvRef.args args
    exact congr (congr (congr (congr (congr (congrArg Args.mk e0) e1) e2) e3) e4) e5
  have hR : (Cert.ConvRef.args (launchContents m' c)).Real := hA ▸ args_real m c hpre
  refine ⟨h15.trans ?_, h16.trans ?_, h21.trans ?_, h0, h1, h2, h3, h4, h5⟩
  · funext i
    have hi : ∀ j : S8320x2816.Idx, j = ix2 (j 0) (j 1) := eq_ix2
    rw [hi i]
    exact (Cert.ConvRef.dua_at (launchContents m' c) hR (i 0) (i 1)).trans (congrArg (fun A : Args => A.dua (i 0).val (i 1)) hA)
  · funext i
    have hi : ∀ j : S8320x2816.Idx, j = ix2 (j 0) (j 1) := eq_ix2
    rw [hi i]
    exact (Cert.ConvRef.dug_at (launchContents m' c) hR (i 0) (i 1)).trans (congrArg (fun A : Args => A.dug (i 0).val (i 1)) hA)
  · funext i
    have hi : ∀ j : S8320x1024.Idx, j = ix2 (j 0) (j 1) := eq_ix2
    rw [hi i]
    exact (Cert.ConvRef.dh_at (launchContents m' c) hR (i 0) (i 1)).trans (congrArg (fun A : Args => A.dh (i 0).val (i 1)) hA)

end Cert.GradConv

end
-- ==== Proof.Adam.lean ====
/- The optimiser's step on the packed small weights: the call's results and the reference's. -/
module

public import proofs.«01_k».proof.Defs
public import proofs.«01_k».proof.Proof.Gen.Kernel10Ideal.Value
public import proofs.«01_k».proof.Proof.Gen.Reference10Ideal.Run

@[expose] public section

noncomputable section

namespace Cert.Adam

open Idealize.ShloMosaic Idealize.SL Idealize.SL.Sem Idealize.ShloMosaic.TcCoe
open Cert.Kernel10Ideal Cert.Kernel10Ideal.Value

variable (m : (ℓ : Loc nD τ sig) → Buf (Elt Ideal) ℓ) (c : Dev nD)

/-- The arguments of a device: the weights, their gradient and the two moments. -/
abbrev argW : S288x128.Idx → EReal := m ((c.tc : Thread nD τ).loc main_arg0)
abbrev argG : S288x128.Idx → EReal := m ((c.tc : Thread nD τ).loc main_arg1)
abbrev argM : S288x128.Idx → EReal := m ((c.tc : Thread nD τ).loc main_arg2)
abbrev argV : S288x128.Idx → EReal := m ((c.tc : Thread nD τ).loc main_arg3)

/-- Kernel and reference leave the same change of the weights and the same moments. -/
theorem algebraic : Cert.algebraic_Kernel10Ideal_Reference10Ideal (hKernel10Ideal := Cert.Kernel10Ideal.Gen.facts) (hReference10Ideal := Cert.Reference10Ideal.Gen.facts) := by
  intro m g m' g' _ harg
  refine ⟨fun c => G4 (F := Ideal) (argW m c) (argG m c) (argM m c) (argV m c), fun c => G5 (F := Ideal) (argG m c) (argM m c), fun c => G6 (F := Ideal) (argG m c) (argV m c),
    Cert.Kernel10Ideal.Value.run m g, ?_⟩
  refine (θ_run (Cert.Reference10Ideal.defs (F := Ideal)) _ _).mono (fun r h c => ?_) (Cert.Reference10Ideal.Value.run (F := Ideal) m' g')
  obtain ⟨h0, h1, h2, hk⟩ := h c
  obtain ⟨a0, a1, a2, a3⟩ := harg c
  refine ⟨h0.trans ?_, h1.trans ?_, h2.trans ?_, hk⟩
  · rw [a0, a1, a2, a3]; rfl
  · rw [a1, a2]; rfl
  · rw [a1, a3]; rfl

end Cert.Adam

end
-- ==== Proof.Norm.lean ====
/- The first norm of the rows: the call's result and the reference's, entry by entry. -/
module

public import proofs.«01_k».proof.Defs
public import proofs.«01_k».proof.Proof.Products
public import proofs.«01_k».proof.Proof.Gen.Kernel11Ideal.Value
public import proofs.«01_k».proof.Proof.Gen.Reference11Ideal.Run

@[expose] public section

noncomputable section

namespace Cert.Norm

open Idealize.ShloMosaic hiding ix1 ix2 ix3 ix4 eq_ix2 eq_ix3
open Idealize.ShloMosaic.ValueIdx Idealize.ShloMosaic.TcCoe Idealize.ShloMosaic.StableHlo
open Idealize.SL Idealize.SL.Sem
open Cert.Kernel11Ideal Cert.Kernel11Ideal.Gen Cert.Kernel11Ideal.Value Cert.Prod

/-- A row divided by the root of its mean square, at one column, by the column's weight. -/
def normed (f : Fin 1024 → EReal) (w : EReal) (e : Fin 1024) : EReal :=
  (f e * Ideal.rsqrt (Ideal.div (∑ k : Fin 1024, f k * f k) (Ideal.ofBits .f32 0x44800000#32) + Ideal.ofBits .f32 0x358637BD#32)) * w

variable (m : (ℓ : Loc nD τ sig) → Buf (Elt Ideal) ℓ) (c : Dev nD)

/-- The two arguments of a device. -/
abbrev argH : S8208x1024.Idx → EReal := m ((c.tc : Thread nD τ).loc main_arg0)
abbrev argW : S1024.Idx → EReal := m ((c.tc : Thread nD τ).loc main_arg1)

/-- An entry of the result. -/
def left (x : S8208x1024.Idx → EReal) (w : S1024.Idx → EReal) : S8320x1024.Idx → EReal :=
  fun i => normed (fun k => rowAt x (i 0).val k) (w (ix1 (i 1))) (i 1)

/-! ## The blocks -/

theorem V_h : (V m c main_v0 : S8320x1024.Idx → EReal) = pad S8320x1024 ![48, 0] ![64, 0] ![0, 0] (argH m c) (sitofp (F := Ideal) .f32 (constantI S_ 32 0#32))
    pads_S8208x1024_S8320x1024_48640_000 h_S_ := by
  unfold V
  simp only [List.flatten_cons, List.flatten_nil, List.append_nil, List.cons_append, List.nil_append]
  after_results_simp <;> rfl
theorem V_w : (V m c main_v1 : S1x1024.Idx → EReal) = broadcastInDim S1x1024 ![1] bcast_S1024_S1x1024_1 (argW m c) := by
  unfold V
  simp only [List.flatten_cons, List.flatten_nil, List.append_nil, List.cons_append, List.nil_append]
  after_results_simp <;> rfl

theorem idx_h : ∀ t : Fin cfg0.N, win0_0.index t = ![t.val, 0] :=
  (by decide +kernel : ∀ t : Fin grid0.N, win0_0.index t = ![t.val, 0])
theorem cut_h (t : Fin cfg0.N) (y : S640x1024.Idx) (i : S8320x1024.Idx) (h0 : (i 0).val = 640 * t.val + (y 0).val) (h1 : (i 1).val = (y 1).val) :
    iblk m c 0 t y = V m c main_v0 i := by
  have e := idx_h t
  unfold iblk
  blk_simp
  blk_ext [e]
theorem block_h (t : Fin cfg0.N) (r : Fin 640) (T : Fin 8320) (hT : T.val = 640 * t.val + r.val) (e : Fin 1024) :
    (iblk m c 0 t : S640x1024.Idx → EReal) (ix2 r e) = rowAt (argH m c) T.val e :=
  (cut_h m c t (ix2 r e) (ix2 T e) hT rfl).trans ((congrFun (V_h m c) _).trans (pad_at _ _ zero_word pads_S8208x1024_S8320x1024_48640_000 h_S_ _ _))

theorem idx_w : ∀ t : Fin cfg0.N, win0_1.index t = ![0, 0] :=
  (by decide +kernel : ∀ t : Fin grid0.N, win0_1.index t = ![0, 0])
theorem cut_w (t : Fin cfg0.N) (y : S1x1024.Idx) (i : S1x1024.Idx) (h0 : (i 0).val = (y 0).val) (h1 : (i 1).val = (y 1).val) :
    iblk m c 1 t y = V m c main_v1 i := by
  have e := idx_w t
  unfold iblk
  blk_simp
  blk_ext [e]
theorem block_w (t : Fin cfg0.N) (e : Fin 1024) : (iblk m c 1 t : S1x1024.Idx → EReal) (ix2 (0 : Fin 1) e) = argW m c (ix1 e) :=
  (cut_w m c t (ix2 0 e) (ix2 0 e) rfl rfl).trans ((congrFun (V_w m c) _).trans
    (broadcastInDim_apply _ _ _ (ix2 (0 : Fin 1) e) (ix1 e) fun a => match a with | ⟨0, _⟩ => rfl))

/-! ## The body at an entry -/

theorem pay_at (x : FVec Ideal S640x1024 .f32) (w : FVec Ideal S1x1024 .f32) (r : Fin 640) (e : Fin 1024) :
    (k0_pay1 (F := Ideal) x w (ix2 r e) : EReal) = normed (fun k => x (ix2 r k)) (w (ix2 (0 : Fin 1) e)) e := by
  have hs : (multiReduction (F := Ideal) .add [1] S640 (mulf (F := Ideal) (φ := .f32) (shapeCast S640x1024 x shapeCasts_S640x1024_S640x1024) (shapeCast S640x1024 x shapeCasts_S640x1024_S640x1024)) 0x00000000#32
      reduces_S640x1024_S640 (.inl rfl) rfl (ix1 r) : EReal) = ∑ k : Fin 1024, x (ix2 r k) * x (ix2 r k) := by
    simp only [shapeCast_self]
    exact Ideal.reduceAdd_r2_a1 _ _ _
  have hi : r0_0.idx (ix2 r e) = ix2 r e := funext fun a => match a with
    | ⟨0, _⟩ => Fin.ext (by show 0 + 1 * r.val = r.val; omega)
    | ⟨1, _⟩ => Fin.ext (by show 0 + 1 * e.val = e.val; omega)
  have h0 : ix2_0 (ix2 r e) = ix2 r e := funext fun a => match a with | ⟨0, _⟩ => rfl | ⟨1, _⟩ => rfl
  have h1 : ix2_1 (ix2 r e) = ix1 r := funext fun a => match a with | ⟨0, _⟩ => rfl
  have h2 : ix2_2 (ix2 r e) = ix2 (0 : Fin 1) e := funext fun a => match a with | ⟨0, _⟩ => rfl | ⟨1, _⟩ => rfl
  refine (piece2_0 (F := Ideal) x w (ix2 r e)).trans ?_
  rw [hi]
  unfold E2
  rw [h0, h1, h2, hs]
  rfl

theorem point (t : Fin cfg0.N) (y : S640x1024.Idx) (i : S8320x1024.Idx) (h0 : (i 0).val = 640 * t.val + (y 0).val) (h1 : (i 1).val = (y 1).val) :
    (k0_pay1 (F := Ideal) (iblk m c 0 t) (iblk m c 1 t) y : EReal) = left (argH m c) (argW m c) i := by
  have hy : ∀ j : S640x1024.Idx, j = ix2 (j 0) (j 1) := eq_ix2
  have hi : i = ix2 (i 0) (y 1) := (eq_ix2 i).trans (congrArg (ix2 (i 0)) (Fin.ext h1))
  rw [hy y, hi]
  refine (pay_at _ _ (y 0) (y 1)).trans ?_
  show _ = normed (fun k => rowAt (argH m c) (i 0).val k) (argW m c (ix1 (y 1))) (y 1)
  exact congrArg₂ (fun f w => normed f w (y 1)) (funext fun k => block_h m c t (y 0) (i 0) h0 k) (block_w m c t (y 1))

theorem idx_out : ∀ t : Fin cfg0.N, win0_2.index t = ![t.val, 0] :=
  (by decide +kernel : ∀ t : Fin grid0.N, win0_2.index t = ![t.val, 0])

theorem result : (dats m 0 c).arrAt 2 cfg0.N = left (argH m c) (argW m c) := by
  refine (dats m 0 c).arrAt_eq_of_covers 2 (left (argH m c) (argW m c)) (by decide +kernel) fun t hf y => ?_
  blk_simp
  rw [after0_2]
  frame_out
  refine point m c t y _ ?_ ?_
  · show win0_2.index t 0 * 640 + 1 * (y 0).val = _
    rw [idx_out t]
    show t.val * 640 + 1 * (y 0).val = _
    omega
  · show win0_2.index t 1 * 1024 + 1 * (y 1).val = _
    rw [idx_out t]
    show 0 * 1024 + 1 * (y 1).val = _
    omega

/-! ## The reference -/

/-- The reference's rows before the padding. -/
def rows (x : FVec Ideal S8208x1024 .f32) (w : FVec Ideal S1024 .f32) : FVec Ideal S8208x1024 .f32 :=
  mulf (mulf x (broadcastInDim S8208x1024 ![0, 1] Cert.Reference11Ideal.Gen.bcast_S8208x1_S8208x1024_0_1 (Host.rsqrt (addf (Host.divf (broadcastInDim Cert.Reference11Ideal.S8208x1 ![0] Cert.Reference11Ideal.Gen.bcast_S8208_S8208x1_0
    (Host.reduceAdd (mulf x x) (constant (F := Ideal) S_ .f32 0x00000000#32) Cert.Reference11Ideal.Gen.reducesTo_S8208x1024_S8208_d1 Cert.Reference11Ideal.Gen.h_S_))
    (broadcastInDim Cert.Reference11Ideal.S8208x1 ![] Cert.Reference11Ideal.Gen.bcast_S_S8208x1 (constant (F := Ideal) S_ .f32 0x44800000#32))) (broadcastInDim Cert.Reference11Ideal.S8208x1 ![] Cert.Reference11Ideal.Gen.bcast_S_S8208x1 (constant (F := Ideal) S_ .f32 0x358637BD#32))))))
    (broadcastInDim S8208x1024 ![0, 1] Cert.Reference11Ideal.Gen.bcast_S1x1024_S8208x1024_0_1 (broadcastInDim S1x1024 ![1] Cert.Reference11Ideal.Gen.bcast_S1024_S1x1024_1 w))

theorem rows_at (x : FVec Ideal S8208x1024 .f32) (w : FVec Ideal S1024 .f32) (p : Fin 8208) (e : Fin 1024) :
    (rows x w (ix2 p e) : EReal) = normed (fun k => x (ix2 p k)) (w (ix1 e)) e := by
  have hs : (Host.reduceAdd (F := Ideal) (φ := .f32) (mulf x x) (constant (F := Ideal) S_ .f32 0x00000000#32) Cert.Reference11Ideal.Gen.reducesTo_S8208x1024_S8208_d1 Cert.Reference11Ideal.Gen.h_S_ (ix1 p) : EReal)
      = ∑ k : Fin 1024, x (ix2 p k) * x (ix2 p k) := by
    refine (Ideal.hostReduceAdd_r2_a1 Cert.Reference11Ideal.Gen.reducesTo_S8208x1024_S8208_d1 (mulf x x : S8208x1024.Idx → EReal) (Ideal.ofBits .f32 0x00000000#32) (ix1 p)).trans ?_
    rw [Ideal.ofBits_zero, zero_add]
    rfl
  have hb : ∀ v : Cert.Reference11Ideal.S8208x1.Idx → EReal, broadcastInDim S8208x1024 ![0, 1] Cert.Reference11Ideal.Gen.bcast_S8208x1_S8208x1024_0_1 v (ix2 p e) = v (ix2 p (0 : Fin 1)) := fun v =>
    broadcastInDim_apply _ _ v (ix2 p e) (ix2 p (0 : Fin 1)) fun a => match a with | ⟨0, _⟩ => rfl | ⟨1, _⟩ => rfl
  have hc : ∀ v : Cert.Reference11Ideal.S8208.Idx → EReal, broadcastInDim Cert.Reference11Ideal.S8208x1 ![0] Cert.Reference11Ideal.Gen.bcast_S8208_S8208x1_0 v (ix2 p (0 : Fin 1)) = v (ix1 p) := fun v =>
    broadcastInDim_apply _ _ v (ix2 p (0 : Fin 1)) (ix1 p) fun a => match a with | ⟨0, _⟩ => rfl
  have hw : broadcastInDim S8208x1024 ![0, 1] Cert.Reference11Ideal.Gen.bcast_S1x1024_S8208x1024_0_1 (broadcastInDim S1x1024 ![1] Cert.Reference11Ideal.Gen.bcast_S1024_S1x1024_1 w) (ix2 p e) = w (ix1 e) :=
    (broadcastInDim_oneRow_apply _ _ p e).trans (broadcastInDim_apply _ _ _ (ix2 (0 : Fin 1) e) (ix1 e) fun a => match a with | ⟨0, _⟩ => rfl)
  refine congrArg₂ (fun a b : EReal => a * b) (congrArg (fun a : EReal => x (ix2 p e) * a) ((hb _).trans ?_)) hw
  exact congrArg (fun s : EReal => Ideal.rsqrt (Ideal.div s (Ideal.ofBits .f32 0x44800000#32) + Ideal.ofBits .f32 0x358637BD#32)) ((hc _).trans hs)

/-- A row of zeros stays one. -/
theorem normed_zero (w : EReal) (e : Fin 1024) : normed (fun _ => 0) w e = 0 := by
  unfold normed
  rw [zero_mul, zero_mul]

theorem rowAt_rows (x : FVec Ideal S8208x1024 .f32) (w : FVec Ideal S1024 .f32) (t : ℕ) (e : Fin 1024) :
    rowAt (rows x w : S8208x1024.Idx → EReal) t e = normed (fun k => rowAt x t k) (w (ix1 e)) e := by
  unfold rowAt
  split
  · exact rows_at x w _ e
  · exact (normed_zero _ e).symm

/-! ## The two programs -/

theorem algebraic : Cert.algebraic_Kernel11Ideal_Reference11Ideal (hKernel11Ideal := Cert.Kernel11Ideal.Gen.facts) (hReference11Ideal := Cert.Reference11Ideal.Gen.facts) := by
  intro m g m' g' _ harg
  refine ⟨fun c => left (argH m c) (argW m c), (θ_run (Cert.Kernel11Ideal.defs (F := Ideal)) _ _).mono (fun r h c => ?_) (Cert.Kernel11Ideal.Value.run_blocks m g), ?_⟩
  · obtain ⟨hr, h0, h1⟩ := h c
    exact ⟨hr.trans (result m c), h0, h1⟩
  refine (θ_run (Cert.Reference11Ideal.defs (F := Ideal)) _ _).mono (fun r h c => ?_) (Cert.Reference11Ideal.Value.run (F := Ideal) m' g')
  obtain ⟨hr, h0, h1⟩ := h c
  refine ⟨hr.trans ?_, h0, h1⟩
  rw [(harg c).1, (harg c).2]
  funext i
  have h : ∀ j : S8320x1024.Idx, j = ix2 (j 0) (j 1) := eq_ix2
  rw [h i]
  exact (pad_at (rows (argH m c) (argW m c)) _ zero_word Cert.Reference11Ideal.Gen.pads_S8208x1024_S8320x1024_48640_000 Cert.Reference11Ideal.Gen.h_S_ (i 0) (i 1)).trans (rowAt_rows (argH m c) (argW m c) (i 0).val (i 1))

end Cert.Norm

end
-- ==== Proof.lean ====
/- The proof of the claim: the frames of the programs and their values. -/
module

public import proofs.«01_k».proof.Defs
public import proofs.«01_k».proof.Proof.Frames
public import proofs.«01_k».proof.Proof.Value
public import proofs.«01_k».proof.Proof.Gen.Kernel2.Frame
public import proofs.«01_k».proof.Proof.Gen.Kernel2Ideal.Value
public import proofs.«01_k».proof.Proof.Gen.Reference2Ideal.Run
public import proofs.«01_k».proof.Proof.GradDown
public import proofs.«01_k».proof.Proof.Gen.Kernel4.Frame
public import proofs.«01_k».proof.Proof.Gen.Kernel4Ideal.Value
public import proofs.«01_k».proof.Proof.Gen.Reference4Ideal.Run
public import proofs.«01_k».proof.Proof.GradRows
public import proofs.«01_k».proof.Proof.Gen.Kernel6.Frame
public import proofs.«01_k».proof.Proof.Gen.Kernel6Ideal.Value
public import proofs.«01_k».proof.Proof.Gen.Reference6Ideal.Run
public import proofs.«01_k».proof.Proof.GradProj0
public import proofs.«01_k».proof.Proof.Gen.Kernel7.Frame
public import proofs.«01_k».proof.Proof.Gen.Kernel7Ideal.Value
public import proofs.«01_k».proof.Proof.Gen.Reference7Ideal.Run
public import proofs.«01_k».proof.Proof.GradProj1
public import proofs.«01_k».proof.Proof.Gen.Kernel8.Frame
public import proofs.«01_k».proof.Proof.Gen.Kernel8Ideal.Value
public import proofs.«01_k».proof.Proof.Gen.Reference8Ideal.Run
public import proofs.«01_k».proof.Proof.GradProj2
public import proofs.«01_k».proof.Proof.Gen.Kernel9.Frame
public import proofs.«01_k».proof.Proof.Gen.Kernel9Ideal.Value
public import proofs.«01_k».proof.Proof.Gen.Reference9Ideal.Run
public import proofs.«01_k».proof.Proof.ProjRows
public import proofs.«01_k».proof.Proof.Gen.Kernel3.Frame
public import proofs.«01_k».proof.Proof.Gen.Kernel3Ideal.Frame
public import proofs.«01_k».proof.Proof.Gen.Reference3Ideal.Run
public import proofs.«01_k».proof.Proof.GradUp
public import proofs.«01_k».proof.Proof.Gen.Kernel5.Frame
public import proofs.«01_k».proof.Proof.Gen.Kernel5Ideal.Value
public import proofs.«01_k».proof.Proof.Gen.Reference5Ideal.Run
public import proofs.«01_k».proof.Proof.GradConv
public import proofs.«01_k».proof.Proof.Gen.Kernel10.Frame
public import proofs.«01_k».proof.Proof.Gen.Kernel10Ideal.Value
public import proofs.«01_k».proof.Proof.Gen.Reference10Ideal.Run
public import proofs.«01_k».proof.Proof.Adam
public import proofs.«01_k».proof.Proof.Gen.Kernel11.Frame
public import proofs.«01_k».proof.Proof.Gen.Kernel11Ideal.Value
public import proofs.«01_k».proof.Proof.Gen.Reference11Ideal.Run
public import proofs.«01_k».proof.Proof.Norm

@[expose] public section

noncomputable section

namespace Cert.Proof

open Idealize.ShloMosaic Idealize.SL.Sem Cert.Kernel

/-- The frame of program 2's reference, which declares no semaphore. -/
theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)
/-- The frame of program 4's reference, which declares no semaphore. -/
theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)
/-- The frame of program 6's reference, which declares no semaphore. -/
theorem frame_reference6 : Cert.quiescent_Reference6Ideal (hReference6Ideal := Cert.Reference6Ideal.Gen.facts) := fun m ρ _ =>
  (θ_run (Cert.Reference6Ideal.defs (F := Ideal)) _ _).mono (fun r h => ⟨fun c => (h c).2, sem_eq_zero_of_no_sems (by decide) r.2⟩)
    (Cert.Reference6Ideal.Value.run (F := Ideal) m ρ)
/-- The frame of program 7's reference, which declares no semaphore. -/
theorem frame_reference7 : Cert.quiescent_Reference7Ideal (hReference7Ideal := Cert.Reference7Ideal.Gen.facts) := fun m ρ _ =>
  (θ_run (Cert.Reference7Ideal.defs (F := Ideal)) _ _).mono (fun r h => ⟨fun c => (h c).2, sem_eq_zero_of_no_sems (by decide) r.2⟩)
    (Cert.Reference7Ideal.Value.run (F := Ideal) m ρ)
/-- The frame of program 8's reference, which declares no semaphore. -/
theorem frame_reference8 : Cert.quiescent_Reference8Ideal (hReference8Ideal := Cert.Reference8Ideal.Gen.facts) := fun m ρ _ =>
  (θ_run (Cert.Reference8Ideal.defs (F := Ideal)) _ _).mono (fun r h => ⟨fun c => (h c).2, sem_eq_zero_of_no_sems (by decide) r.2⟩)
    (Cert.Reference8Ideal.Value.run (F := Ideal) m ρ)
/-- The frame of program 9's reference, which declares no semaphore. -/
theorem frame_reference9 : Cert.quiescent_Reference9Ideal (hReference9Ideal := Cert.Reference9Ideal.Gen.facts) := fun m ρ _ =>
  (θ_run (Cert.Reference9Ideal.defs (F := Ideal)) _ _).mono (fun r h => ⟨fun c => (h c).2, sem_eq_zero_of_no_sems (by decide) r.2⟩)
    (Cert.Reference9Ideal.Value.run (F := Ideal) m ρ)
/-- The frame of program 3's reference, which declares no semaphore. -/
theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Cert.Reference3Ideal.Value.run (F := Ideal) m ρ)
/-- The frame of program 5's reference, which declares no semaphore. -/
theorem frame_reference5 : Cert.quiescent_Reference5Ideal (hReference5Ideal := Cert.Reference5Ideal.Gen.facts) := fun m ρ _ =>
  (θ_run (Cert.Reference5Ideal.defs (F := Ideal)) _ _).mono (fun r h => ⟨fun c => (h c).2.2.2, sem_eq_zero_of_no_sems (by decide) r.2⟩)
    (Cert.Reference5Ideal.Value.run (F := Ideal) m ρ)
/-- The frame of program 10's reference, which declares no semaphore. -/
theorem frame_reference10 : Cert.quiescent_Reference10Ideal (hReference10Ideal := Cert.Reference10Ideal.Gen.facts) := fun m ρ _ =>
  (θ_run (Cert.Reference10Ideal.defs (F := Ideal)) _ _).mono (fun r h => ⟨fun c => (h c).2.2.2, sem_eq_zero_of_no_sems (by decide) r.2⟩)
    (Cert.Reference10Ideal.Value.run (F := Ideal) m ρ)
/-- The frame of program 11's reference, which declares no semaphore. -/
theorem frame_reference11 : Cert.quiescent_Reference11Ideal (hReference11Ideal := Cert.Reference11Ideal.Gen.facts) := fun m ρ _ =>
  (θ_run (Cert.Reference11Ideal.defs (F := Ideal)) _ _).mono (fun r h => ⟨fun c => (h c).2, sem_eq_zero_of_no_sems (by decide) r.2⟩)
    (Cert.Reference11Ideal.Value.run (F := Ideal) m ρ)
/-- The two constants of program 5 that are read as the products of the reference's. -/
theorem preserves5 : Cert.preserves_Kernel5_Kernel5Ideal :=
  ⟨IdealRules.named_const.statement Cert.Kernel5Ideal.κ "gelu_ck" .f32 0x3D122279#32 ((80338380498831 / 2251799813685248 : ℝ) : EReal) rfl,
    IdealRules.named_const.statement Cert.Kernel5Ideal.κ "gelu_3ck" .f32 0x3DDB33B6#32 ((241015141496493 / 2251799813685248 : ℝ) : EReal) rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, Cert.GradConv.pre_facts,
  Cert.Ret.frame_kernel,
  Cert.Ret.frame_kernel_ideal,
  fun m ρ _ => Cert.Ret.frame_kernel_ideal m ρ trivial,
  Cert.Ret.frame_reference,
  fun m ρ _ => Cert.Ret.frame_reference m ρ trivial,
  fun m ρ _ => Cert.Kernel2.Gen.frame m ρ,
  fun m ρ _ => Cert.Kernel2Ideal.Gen.frame m ρ,
  frame_reference2,
  fun m ρ _ => Cert.Kernel4.Gen.frame m ρ,
  fun m ρ _ => Cert.Kernel4Ideal.Gen.frame m ρ,
  frame_reference4,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel3.Gen.frame m ρ,
  fun m ρ _ => Cert.Kernel3Ideal.Gen.frame m ρ,
  frame_reference3,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  trivial,
  Cert.Ret.algebraic,
  trivial,
  Cert.Down.algebraic,
  trivial,
  Cert.Rows.algebraic,
  trivial,
  Cert.Proj0.algebraic,
  trivial,
  Cert.Proj1.algebraic,
  trivial,
  Cert.Proj2.algebraic,
  trivial,
  Cert.Proj.algebraic,
  trivial,
  Cert.Up.algebraic,
  preserves5,
  Cert.GradConv.algebraic,
  trivial,
  Cert.Adam.algebraic,
  trivial,
  Cert.Norm.algebraic⟩

end Cert.Proof

end
